-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite3 [hPre_finite3 : Cert.Pre_finite3.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite3 [hPre_finite3 : Cert.Pre_finite3.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ r.2.sem = fun _ => 0)

def quiescent_Kernel3Ideal_pre_finite3 [hKernel3Ideal : Cert.Kernel3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite3 m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0)

def quiescent_Reference3Ideal_pre_finite3 [hReference3Ideal : Cert.Reference3Ideal.Facts] [hPre_finite3 : Cert.Pre_finite3.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite3 m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v46)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v46) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v75) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v6)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v6) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v56) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal_pre_finite3 [hKernel3Ideal : Cert.Kernel3Ideal.Facts] [hReference3Ideal : Cert.Reference3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite3 m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)) →
    ∃ (v0 : (c : Dev Cert.Kernel3Ideal.nD) → Buf (Elt Ideal) ((c.tc : Thread Cert.Kernel3Ideal.nD Cert.Kernel3Ideal.τ).loc Cert.Kernel3Ideal.main_v10)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v10) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v116) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)) →
    ∃ (v0 : (c : Dev Cert.Kernel4Ideal.nD) → Buf (Elt Ideal) ((c.tc : Thread Cert.Kernel4Ideal.nD Cert.Kernel4Ideal.τ).loc Cert.Kernel4Ideal.main_v8)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v8) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v57) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)) →
    ∃ (v0 : (c : Dev Cert.Kernel5Ideal.nD) → Buf (Elt Ideal) ((c.tc : Thread Cert.Kernel5Ideal.nD Cert.Kernel5Ideal.τ).loc Cert.Kernel5Ideal.main_v118_2)) (v1 : (c : Dev Cert.Kernel5Ideal.nD) → Buf (Elt Ideal) ((c.tc : Thread Cert.Kernel5Ideal.nD Cert.Kernel5Ideal.τ).loc Cert.Kernel5Ideal.main_v118_3)) (v2 : (c : Dev Cert.Kernel5Ideal.nD) → Buf (Elt Ideal) ((c.tc : Thread Cert.Kernel5Ideal.nD Cert.Kernel5Ideal.τ).loc Cert.Kernel5Ideal.main_v118_4)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v118_2) = v0 c
          ∧ r.2.mem ((c.tc : Thread Cert.Kernel5Ideal.nD Cert.Kernel5Ideal.τ).loc Cert.Kernel5Ideal.main_v118_3) = v1 c
          ∧ r.2.mem ((c.tc : Thread Cert.Kernel5Ideal.nD Cert.Kernel5Ideal.τ).loc Cert.Kernel5Ideal.main_v118_4) = v2 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v60) = v0 c
          ∧ r.2.mem ((c.tc : Thread Cert.Reference5Ideal.nD Cert.Reference5Ideal.τ).loc Cert.Reference5Ideal.main_v65) = v1 c
          ∧ r.2.mem ((c.tc : Thread Cert.Reference5Ideal.nD Cert.Reference5Ideal.τ).loc Cert.Reference5Ideal.main_v70) = v2 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_finite : Cert.Pre_finite.Facts) (hPre_finite2 : Cert.Pre_finite2.Facts) (hPre_finite3 : Cert.Pre_finite3.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Kernel3Ideal_pre_finite3 (hKernel3Ideal := hKernel3Ideal) (hPre_finite3 := hPre_finite3)
    ∧ quiescent_Reference3Ideal (hReference3Ideal := hReference3Ideal)
    ∧ quiescent_Reference3Ideal_pre_finite3 (hReference3Ideal := hReference3Ideal) (hPre_finite3 := hPre_finite3)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal_pre_finite3 (hKernel3Ideal := hKernel3Ideal) (hReference3Ideal := hReference3Ideal) (hPre_finite3 := hPre_finite3)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
-- ==== Pre_finite.lean ====
abbrev S4x8192x8x64 : Shape := ⟨4, ![4, 8192, 8, 64]⟩
abbrev S4x8192x2x64 : Shape := ⟨4, ![4, 8192, 2, 64]⟩
abbrev S4x256x2x64 : Shape := ⟨4, ![4, 256, 2, 64]⟩
abbrev S8 : Shape := ⟨1, ![8]⟩
abbrev S_ : Shape := ⟨0, ![]⟩

class Facts : Prop where
  bcast_S_S4x8192x8x64 : S_.BroadcastsInDim S4x8192x8x64 (![] : Fin 0 → Fin S4x8192x8x64.rank)
  reducesTo_S4x8192x8x64_S_d0_1_2_3 : S4x8192x8x64.ReducesTo [0, 1, 2, 3] S_
  h_S_ : 0 < S_.numel
  bcast_S_S4x8192x2x64 : S_.BroadcastsInDim S4x8192x2x64 (![] : Fin 0 → Fin S4x8192x2x64.rank)
  reducesTo_S4x8192x2x64_S_d0_1_2_3 : S4x8192x2x64.ReducesTo [0, 1, 2, 3] S_
  bcast_S_S4x256x2x64 : S_.BroadcastsInDim S4x256x2x64 (![] : Fin 0 → Fin S4x256x2x64.rank)
  reducesTo_S4x256x2x64_S_d0_1_2_3 : S4x256x2x64.ReducesTo [0, 1, 2, 3] S_
  bcast_S_S8 : S_.BroadcastsInDim S8 (![] : Fin 0 → Fin S8.rank)
  reducesTo_S8_S_d0 : S8.ReducesTo [0] S_

variable [Facts]

def fn_part1 {F : FTy → Type} [FloatOps F] (main_arg4 : FVec F S4x256x2x64 .f32) (main_arg5 : FVec F S8 .f32) (main_v13 : IVec S_ 1) (main_v16 : IVec S4x256x2x64 1) : IVec S_ 1 :=
  let main_c_5 : IVec S_ 1 := constantI S_ 1 1#1
  let main_v17 : IVec S_ 1 := (fun x v => Host.reduce IntOp.andi x v reducesTo_S4x256x2x64_S_d0_1_2_3 h_S_) main_v16 main_c_5
  let main_v18 : IVec S_ 1 := andi main_v13 main_v17
  let main_v19 : FVec F S4x256x2x64 .f32 := Host.absf main_arg4
  let main_cst_6 : FVec F S_ .f32 := constant S_ .f32 0x7F800000#32
  let main_v20 : FVec F S4x256x2x64 .f32 := broadcastInDim S4x256x2x64 ![] bcast_S_S4x256x2x64 main_cst_6
  let main_v21 : IVec S4x256x2x64 1 := cmpf .olt main_v19 main_v20
  let main_c_7 : IVec S_ 1 := constantI S_ 1 1#1
  let main_v22 : IVec S_ 1 := (fun x v => Host.reduce IntOp.andi x v reducesTo_S4x256x2x64_S_d0_1_2_3 h_S_) main_v21 main_c_7
  let main_v23 : IVec S_ 1 := andi main_v18 main_v22
  let main_v24 : FVec F S8 .f32 := Host.absf main_arg5
  let main_cst_8 : FVec F S_ .f32 := constant S_ .f32 0x7F800000#32
  let main_v25 : FVec F S8 .f32 := broadcastInDim S8 ![] bcast_S_S8 main_cst_8
  let main_v26 : IVec S8 1 := cmpf .olt main_v24 main_v25
  let main_c_9 : IVec S_ 1 := constantI S_ 1 1#1
  let main_v27 : IVec S_ 1 := (fun x v => Host.reduce IntOp.andi x v reducesTo_S8_S_d0 h_S_) main_v26 main_c_9
  let main_v28 : IVec S_ 1 := andi main_v23 main_v27
  main_v28

def fn {F : FTy → Type} [FloatOps F] (main_arg0 : FVec F S4x8192x8x64 .f32) (main_arg1 : FVec F S4x8192x2x64 .f32) (main_arg2 : FVec F S4x8192x2x64 .f32) (main_arg3 : FVec F S4x256x2x64 .f32) (main_arg4 : FVec F S4x256x2x64 .f32) (main_arg5 : FVec F S8 .f32) : IVec S_ 1 :=
  let main_v0 : FVec F S4x8192x8x64 .f32 := Host.absf main_arg0
  let main_cst : FVec F S_ .f32 := constant S_ .f32 0x7F800000#32
  let main_v1 : FVec F S4x8192x8x64 .f32 := broadcastInDim S4x8192x8x64 ![] bcast_S_S4x8192x8x64 main_cst
  let main_v2 : IVec S4x8192x8x64 1 := cmpf .olt main_v0 main_v1
  let main_c : IVec S_ 1 := constantI S_ 1 1#1
  let main_v3 : IVec S_ 1 := (fun x v => Host.reduce IntOp.andi x v reducesTo_S4x8192x8x64_S_d0_1_2_3 h_S_) main_v2 main_c
  let main_v4 : FVec F S4x8192x2x64 .f32 := Host.absf main_arg1
  let main_cst_0 : FVec F S_ .f32 := constant S_ .f32 0x7F800000#32
  let main_v5 : FVec F S4x8192x2x64 .f32 := broadcastInDim S4x8192x2x64 ![] bcast_S_S4x8192x2x64 main_cst_0
  let main_v6 : IVec S4x8192x2x64 1 := cmpf .olt main_v4 main_v5
  let main_c_1 : IVec S_ 1 := constantI S_ 1 1#1
  let main_v7 : IVec S_ 1 := (fun x v => Host.reduce IntOp.andi x v reducesTo_S4x8192x2x64_S_d0_1_2_3 h_S_) main_v6 main_c_1
  let main_v8 : IVec S_ 1 := andi main_v3 main_v7
  let main_v9 : FVec F S4x8192x2x64 .f32 := Host.absf main_arg2
  let main_cst_2 : FVec F S_ .f32 := constant S_ .f32 0x7F800000#32
  let main_v10 : FVec F S4x8192x2x64 .f32 := broadcastInDim S4x8192x2x64 ![] bcast_S_S4x8192x2x64 main_cst_2
  let main_v11 : IVec S4x8192x2x64 1 := cmpf .olt main_v9 main_v10
  let main_c_3 : IVec S_ 1 := constantI S_ 1 1#1
  let main_v12 : IVec S_ 1 := (fun x v => Host.reduce IntOp.andi x v reducesTo_S4x8192x2x64_S_d0_1_2_3 h_S_) main_v11 main_c_3
  let main_v13 : IVec S_ 1 := andi main_v8 main_v12
  let main_v14 : FVec F S4x256x2x64 .f32 := Host.absf main_arg3
  let main_cst_4 : FVec F S_ .f32 := constant S_ .f32 0x7F800000#32
  let main_v15 : FVec F S4x256x2x64 .f32 := broadcastInDim S4x256x2x64 ![] bcast_S_S4x256x2x64 main_cst_4
  let main_v16 : IVec S4x256x2x64 1 := cmpf .olt main_v14 main_v15
  fn_part1 (F := F) main_arg4 main_arg5 main_v13 main_v16
-- ==== Pre_finite2.lean ====
abbrev S4x8192x1024 : Shape := ⟨3, ![4, 8192, 1024]⟩
abbrev S1024 : Shape := ⟨1, ![1024]⟩
abbrev S4x6144 : Shape := ⟨2, ![4, 6144]⟩
abbrev S1024x5632 : Shape := ⟨2, ![1024, 5632]⟩
abbrev S3x5632 : Shape := ⟨2, ![3, 5632]⟩
abbrev S2816x1024 : Shape := ⟨2, ![2816, 1024]⟩
abbrev S_ : Shape := ⟨0, ![]⟩

class Facts : Prop where
  bcast_S_S4x8192x1024 : S_.BroadcastsInDim S4x8192x1024 (![] : Fin 0 → Fin S4x8192x1024.rank)
  reducesTo_S4x8192x1024_S_d0_1_2 : S4x8192x1024.ReducesTo [0, 1, 2] S_
  h_S_ : 0 < S_.numel
  bcast_S_S1024 : S_.BroadcastsInDim S1024 (![] : Fin 0 → Fin S1024.rank)
  reducesTo_S1024_S_d0 : S1024.ReducesTo [0] S_
  bcast_S_S4x6144 : S_.BroadcastsInDim S4x6144 (![] : Fin 0 → Fin S4x6144.rank)
  reducesTo_S4x6144_S_d0_1 : S4x6144.ReducesTo [0, 1] S_
  bcast_S_S1024x5632 : S_.BroadcastsInDim S1024x5632 (![] : Fin 0 → Fin S1024x5632.rank)
  reducesTo_S1024x5632_S_d0_1 : S1024x5632.ReducesTo [0, 1] S_
  bcast_S_S3x5632 : S_.BroadcastsInDim S3x5632 (![] : Fin 0 → Fin S3x5632.rank)
  reducesTo_S3x5632_S_d0_1 : S3x5632.ReducesTo [0, 1] S_

variable [Facts]

def fn_part1 {F : FTy → Type} [FloatOps F] (main_arg4 : FVec F S3x5632 .f32) (main_v13 : IVec S_ 1) (main_v16 : IVec S1024x5632 1) : IVec S_ 1 :=
  let main_c_5 : IVec S_ 1 := constantI S_ 1 1#1
  let main_v17 : IVec S_ 1 := (fun x v => Host.reduce IntOp.andi x v reducesTo_S1024x5632_S_d0_1 h_S_) main_v16 main_c_5
  let main_v18 : IVec S_ 1 := andi main_v13 main_v17
  let main_v19 : FVec F S3x5632 .f32 := Host.absf main_arg4
  let main_cst_6 : FVec F S_ .f32 := constant S_ .f32 0x7F800000#32
  let main_v20 : FVec F S3x5632 .f32 := broadcastInDim S3x5632 ![] bcast_S_S3x5632 main_cst_6
  let main_v21 : IVec S3x5632 1 := cmpf .olt main_v19 main_v20
  let main_c_7 : IVec S_ 1 := constantI S_ 1 1#1
  let main_v22 : IVec S_ 1 := (fun x v => Host.reduce IntOp.andi x v reducesTo_S3x5632_S_d0_1 h_S_) main_v21 main_c_7
  let main_v23 : IVec S_ 1 := andi main_v18 main_v22
  main_v23

def fn {F : FTy → Type} [FloatOps F] (main_arg0 : FVec F S4x8192x1024 .f32) (main_arg1 : FVec F S1024 .f32) (main_arg2 : FVec F S4x6144 .f32) (main_arg3 : FVec F S1024x5632 .f32) (main_arg4 : FVec F S3x5632 .f32) (main_arg5 : FVec F S2816x1024 .f32) : IVec S_ 1 :=
  let main_v0 : FVec F S4x8192x1024 .f32 := Host.absf main_arg0
  let main_cst : FVec F S_ .f32 := constant S_ .f32 0x7F800000#32
  let main_v1 : FVec F S4x8192x1024 .f32 := broadcastInDim S4x8192x1024 ![] bcast_S_S4x8192x1024 main_cst
  let main_v2 : IVec S4x8192x1024 1 := cmpf .olt main_v0 main_v1
  let main_c : IVec S_ 1 := constantI S_ 1 1#1
  let main_v3 : IVec S_ 1 := (fun x v => Host.reduce IntOp.andi x v reducesTo_S4x8192x1024_S_d0_1_2 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S4x6144 .f32 := Host.absf main_arg2
  let main_cst_2 : FVec F S_ .f32 := constant S_ .f32 0x7F800000#32
  let main_v10 : FVec F S4x6144 .f32 := broadcastInDim S4x6144 ![] bcast_S_S4x6144 main_cst_2
  let main_v11 : IVec S4x6144 1 := cmpf .olt main_v9 main_v10
  let main_c_3 : IVec S_ 1 := constantI S_ 1 1#1
  let main_v12 : IVec S_ 1 := (fun x v => Host.reduce IntOp.andi x v reducesTo_S4x6144_S_d0_1 h_S_) main_v11 main_c_3
  let main_v13 : IVec S_ 1 := andi main_v8 main_v12
  let main_v14 : FVec F S1024x5632 .f32 := Host.absf main_arg3
  let main_cst_4 : FVec F S_ .f32 := constant S_ .f32 0x7F800000#32
  let main_v15 : FVec F S1024x5632 .f32 := broadcastInDim S1024x5632 ![] bcast_S_S1024x5632 main_cst_4
  let main_v16 : IVec S1024x5632 1 := cmpf .olt main_v14 main_v15
  fn_part1 (F := F) main_arg4 main_v13 main_v16
-- ==== Pre_finite3.lean ====
abbrev S4x8192x1024 : Shape := ⟨3, ![4, 8192, 1024]⟩
abbrev S4x256x1024 : Shape := ⟨3, ![4, 256, 1024]⟩
abbrev S1024 : Shape := ⟨1, ![1024]⟩
abbrev S4x6144 : Shape := ⟨2, ![4, 6144]⟩
abbrev S6144 : Shape := ⟨1, ![6144]⟩
abbrev S1024x5632 : Shape := ⟨2, ![1024, 5632]⟩
abbrev S3x5632 : Shape := ⟨2, ![3, 5632]⟩
abbrev S2816x1024 : Shape := ⟨2, ![2816, 1024]⟩
abbrev S_ : Shape := ⟨0, ![]⟩

class Facts : Prop where
  bcast_S_S4x8192x1024 : S_.BroadcastsInDim S4x8192x1024 (![] : Fin 0 → Fin S4x8192x1024.rank)
  reducesTo_S4x8192x1024_S_d0_1_2 : S4x8192x1024.ReducesTo [0, 1, 2] S_
  h_S_ : 0 < S_.numel
  bcast_S_S4x256x1024 : S_.BroadcastsInDim S4x256x1024 (![] : Fin 0 → Fin S4x256x1024.rank)
  reducesTo_S4x256x1024_S_d0_1_2 : S4x256x1024.ReducesTo [0, 1, 2] S_
  bcast_S_S1024 : S_.BroadcastsInDim S1024 (![] : Fin 0 → Fin S1024.rank)
  reducesTo_S1024_S_d0 : S1024.ReducesTo [0] S_
  bcast_S_S4x6144 : S_.BroadcastsInDim S4x6144 (![] : Fin 0 → Fin S4x6144.rank)
  reducesTo_S4x6144_S_d0_1 : S4x6144.ReducesTo [0, 1] S_
  bcast_S_S6144 : S_.BroadcastsInDim S6144 (![] : Fin 0 → Fin S6144.rank)
  reducesTo_S6144_S_d0 : S6144.ReducesTo [0] S_
  bcast_S_S1024x5632 : S_.BroadcastsInDim S1024x5632 (![] : Fin 0 → Fin S1024x5632.rank)
  reducesTo_S1024x5632_S_d0_1 : S1024x5632.ReducesTo [0, 1] S_
  bcast_S_S3x5632 : S_.BroadcastsInDim S3x5632 (![] : Fin 0 → Fin S3x5632.rank)
  reducesTo_S3x5632_S_d0_1 : S3x5632.ReducesTo [0, 1] S_

variable [Facts]

def fn_part1 {F : FTy → Type} [FloatOps F] (main_arg4 : FVec F S6144 .f32) (main_arg5 : FVec F S1024x5632 .f32) (main_arg6 : FVec F S3x5632 .f32) (main_v13 : IVec S_ 1) (main_v16 : IVec S4x6144 1) : IVec S_ 1 :=
  let main_c_5 : IVec S_ 1 := constantI S_ 1 1#1
  let main_v17 : IVec S_ 1 := (fun x v => Host.reduce IntOp.andi x v reducesTo_S4x6144_S_d0_1 h_S_) main_v16 main_c_5
  let main_v18 : IVec S_ 1 := andi main_v13 main_v17
  let main_v19 : FVec F S6144 .f32 := Host.absf main_arg4
  let main_cst_6 : FVec F S_ .f32 := constant S_ .f32 0x7F800000#32
  let main_v20 : FVec F S6144 .f32 := broadcastInDim S6144 ![] bcast_S_S6144 main_cst_6
  let main_v21 : IVec S6144 1 := cmpf .olt main_v19 main_v20
  let main_c_7 : IVec S_ 1 := constantI S_ 1 1#1
  let main_v22 : IVec S_ 1 := (fun x v => Host.reduce IntOp.andi x v reducesTo_S6144_S_d0 h_S_) main_v21 main_c_7
  let main_v23 : IVec S_ 1 := andi main_v18 main_v22
  let main_v24 : FVec F S1024x5632 .f32 := Host.absf main_arg5
  let main_cst_8 : FVec F S_ .f32 := constant S_ .f32 0x7F800000#32
  let main_v25 : FVec F S1024x5632 .f32 := broadcastInDim S1024x5632 ![] bcast_S_S1024x5632 main_cst_8
  let main_v26 : IVec S1024x5632 1 := cmpf .olt main_v24 main_v25
  let main_c_9 : IVec S_ 1 := constantI S_ 1 1#1
  let main_v27 : IVec S_ 1 := (fun x v => Host.reduce IntOp.andi x v reducesTo_S1024x5632_S_d0_1 h_S_) main_v26 main_c_9
  let main_v28 : IVec S_ 1 := andi main_v23 main_v27
  let main_v29 : FVec F S3x5632 .f32 := Host.absf main_arg6
  let main_cst_10 : FVec F S_ .f32 := constant S_ .f32 0x7F800000#32
  let main_v30 : FVec F S3x5632 .f32 := broadcastInDim S3x5632 ![] bcast_S_S3x5632 main_cst_10
  let main_v31 : IVec S3x5632 1 := cmpf .olt main_v29 main_v30
  let main_c_11 : IVec S_ 1 := constantI S_ 1 1#1
  let main_v32 : IVec S_ 1 := (fun x v => Host.reduce IntOp.andi x v reducesTo_S3x5632_S_d0_1 h_S_) main_v31 main_c_11
  let main_v33 : IVec S_ 1 := andi main_v28 main_v32
  main_v33

def fn {F : FTy → Type} [FloatOps F] (main_arg0 : FVec F S4x8192x1024 .f32) (main_arg1 : FVec F S4x256x1024 .f32) (main_arg2 : FVec F S1024 .f32) (main_arg3 : FVec F S4x6144 .f32) (main_arg4 : FVec F S6144 .f32) (main_arg5 : FVec F S1024x5632 .f32) (main_arg6 : FVec F S3x5632 .f32) (main_arg7 : FVec F S2816x1024 .f32) : IVec S_ 1 :=
  let main_v0 : FVec F S4x8192x1024 .f32 := Host.absf main_arg0
  let main_cst : FVec F S_ .f32 := constant S_ .f32 0x7F800000#32
  let main_v1 : FVec F S4x8192x1024 .f32 := broadcastInDim S4x8192x1024 ![] bcast_S_S4x8192x1024 main_cst
  let main_v2 : IVec S4x8192x1024 1 := cmpf .olt main_v0 main_v1
  let main_c : IVec S_ 1 := constantI S_ 1 1#1
  let main_v3 : IVec S_ 1 := (fun x v => Host.reduce IntOp.andi x v reducesTo_S4x8192x1024_S_d0_1_2 h_S_) main_v2 main_c
  let main_v4 : FVec F S4x256x1024 .f32 := Host.absf main_arg1
  let main_cst_0 : FVec F S_ .f32 := constant S_ .f32 0x7F800000#32
  let main_v5 : FVec F S4x256x1024 .f32 := broadcastInDim S4x256x1024 ![] bcast_S_S4x256x1024 main_cst_0
  let main_v6 : IVec S4x256x1024 1 := cmpf .olt main_v4 main_v5
  let main_c_1 : IVec S_ 1 := constantI S_ 1 1#1
  let main_v7 : IVec S_ 1 := (fun x v => Host.reduce IntOp.andi x v reducesTo_S4x256x1024_S_d0_1_2 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S4x6144 .f32 := Host.absf main_arg3
  let main_cst_4 : FVec F S_ .f32 := constant S_ .f32 0x7F800000#32
  let main_v15 : FVec F S4x6144 .f32 := broadcastInDim S4x6144 ![] bcast_S_S4x6144 main_cst_4
  let main_v16 : IVec S4x6144 1 := cmpf .olt main_v14 main_v15
  fn_part1 (F := F) main_arg4 main_arg5 main_arg6 main_v13 main_v16
-- ==== Kernel.lean ====
abbrev S4x8192x8x64 : Shape := ⟨4, ![4, 8192, 8, 64]⟩
abbrev S4x8192x2x64 : Shape := ⟨4, ![4, 8192, 2, 64]⟩
abbrev S4x256x2x64 : Shape := ⟨4, ![4, 256, 2, 64]⟩
abbrev S8 : Shape := ⟨1, ![8]⟩
abbrev S32768x512 : Shape := ⟨2, ![32768, 512]⟩
abbrev S_ : Shape := ⟨0, ![]⟩
abbrev S32768x128 : Shape := ⟨2, ![32768, 128]⟩
abbrev S1024x128 : Shape := ⟨2, ![1024, 128]⟩
abbrev S33792x128 : Shape := ⟨2, ![33792, 128]⟩
abbrev S2x4 : Shape := ⟨2, ![2, 4]⟩
abbrev S2x4x128 : Shape := ⟨3, ![2, 4, 128]⟩
abbrev S2x512 : Shape := ⟨2, ![2, 512]⟩
abbrev S2x512x1 : Shape := ⟨3, ![2, 512, 1]⟩
abbrev S2x512x128 : Shape := ⟨3, ![2, 512, 128]⟩
abbrev S512x640 : Shape := ⟨2, ![512, 640]⟩
abbrev S1x512x640 : Shape := ⟨3, ![1, 512, 640]⟩
abbrev S3x512x640 : Shape := ⟨3, ![3, 512, 640]⟩
abbrev S128x512 : Shape := ⟨2, ![128, 512]⟩
abbrev S128x128 : Shape := ⟨2, ![128, 128]⟩
abbrev S256x128 : Shape := ⟨2, ![256, 128]⟩
abbrev S640x128 : Shape := ⟨2, ![640, 128]⟩
abbrev S128x64 : Shape := ⟨2, ![128, 64]⟩
abbrev S512x64 : Shape := ⟨2, ![512, 64]⟩
abbrev S640x64 : Shape := ⟨2, ![640, 64]⟩
abbrev S1x512x128 : Shape := ⟨3, ![1, 512, 128]⟩
abbrev S512x128 : Shape := ⟨2, ![512, 128]⟩
abbrev S512x1 : Shape := ⟨2, ![512, 1]⟩
abbrev S512 : Shape := ⟨1, ![512]⟩

abbrev nBuf : Space → Nat
  | .hbm => 65
  | .vmem => 22
  | .smem => 0
  | _ => 0

abbrev bufTy : (tb : Table) → Fin (tcTables nBuf tb) → BufTy
  | .hbm, ⟨0, _⟩ => ⟨S4x8192x8x64, .f32⟩
  | .hbm, ⟨1, _⟩ => ⟨S4x8192x2x64, .f32⟩
  | .hbm, ⟨2, _⟩ => ⟨S4x8192x2x64, .f32⟩
  | .hbm, ⟨3, _⟩ => ⟨S4x256x2x64, .f32⟩
  | .hbm, ⟨4, _⟩ => ⟨S4x256x2x64, .f32⟩
  | .hbm, ⟨5, _⟩ => ⟨S8, .f32⟩
  | .hbm, ⟨6, _⟩ => ⟨S32768x512, .f32⟩
  | .hbm, ⟨7, _⟩ => ⟨S_, .f32⟩
  | .hbm, ⟨8, _⟩ => ⟨S32768x512, .f32⟩
  | .hbm, ⟨9, _⟩ => ⟨S32768x512, .f32⟩
  | .hbm, ⟨10, _⟩ => ⟨S32768x512, .bf16⟩
  | .hbm, ⟨11, _⟩ => ⟨S32768x128, .f32⟩
  | .hbm, ⟨12, _⟩ => ⟨S1024x128, .f32⟩
  | .hbm, ⟨13, _⟩ => ⟨S33792x128, .f32⟩
  | .hbm, ⟨14, _⟩ => ⟨S33792x128, .bf16⟩
  | .hbm, ⟨15, _⟩ => ⟨S32768x128, .f32⟩
  | .hbm, ⟨16, _⟩ => ⟨S1024x128, .f32⟩
  | .hbm, ⟨17, _⟩ => ⟨S33792x128, .f32⟩
  | .hbm, ⟨18, _⟩ => ⟨S33792x128, .bf16⟩
  | .hbm, ⟨19, _⟩ => ⟨S2x4, .f32⟩
  | .hbm, ⟨20, _⟩ => ⟨S2x4x128, .f32⟩
  | .hbm, ⟨21, _⟩ => ⟨S2x512, .f32⟩
  | .hbm, ⟨22, _⟩ => ⟨S2x512x1, .f32⟩
  | .hbm, ⟨23, _⟩ => ⟨S2x512x128, .f32⟩
  | .hbm, ⟨24, _⟩ => ⟨S512x640, .i32⟩
  | .hbm, ⟨25, _⟩ => ⟨S_, .i32⟩
  | .hbm, ⟨26, _⟩ => ⟨S512x640, .i32⟩
  | .hbm, ⟨27, _⟩ => ⟨S512x640, .i32⟩
  | .hbm, ⟨28, _⟩ => ⟨S512x640, .i32⟩
  | .hbm, ⟨29, _⟩ => ⟨S512x640, .i32⟩
  | .hbm, ⟨30, _⟩ => ⟨S_, .i32⟩
  | .hbm, ⟨31, _⟩ => ⟨S512x640, .i32⟩
  | .hbm, ⟨32, _⟩ => ⟨S512x640, .i1⟩
  | .hbm, ⟨33, _⟩ => ⟨S_, .i32⟩
  | .hbm, ⟨34, _⟩ => ⟨S512x640, .i32⟩
  | .hbm, ⟨35, _⟩ => ⟨S512x640, .i1⟩
  | .hbm, ⟨36, _⟩ => ⟨S512x640, .i1⟩
  | .hbm, ⟨37, _⟩ => ⟨S_, .i32⟩
  | .hbm, ⟨38, _⟩ => ⟨S512x640, .i32⟩
  | .hbm, ⟨39, _⟩ => ⟨S512x640, .i1⟩
  | .hbm, ⟨40, _⟩ => ⟨S512x640, .i1⟩
  | .hbm, ⟨41, _⟩ => ⟨S_, .i32⟩
  | .hbm, ⟨42, _⟩ => ⟨S512x640, .i32⟩
  | .hbm, ⟨43, _⟩ => ⟨S512x640, .i1⟩
  | .hbm, ⟨44, _⟩ => ⟨S_, .i32⟩
  | .hbm, ⟨45, _⟩ => ⟨S512x640, .i32⟩
  | .hbm, ⟨46, _⟩ => ⟨S512x640, .i1⟩
  | .hbm, ⟨47, _⟩ => ⟨S512x640, .i1⟩
  | .hbm, ⟨48, _⟩ => ⟨S512x640, .i1⟩
  | .hbm, ⟨49, _⟩ => ⟨S512x640, .i1⟩
  | .hbm, ⟨50, _⟩ => ⟨S_, .i32⟩
  | .hbm, ⟨51, _⟩ => ⟨S512x640, .i32⟩
  | .hbm, ⟨52, _⟩ => ⟨S512x640, .i1⟩
  | .hbm, ⟨53, _⟩ => ⟨S512x640, .i1⟩
  | .hbm, ⟨54, _⟩ => ⟨S512x640, .i1⟩
  | .hbm, ⟨55, _⟩ => ⟨S1x512x640, .i1⟩
  | .hbm, ⟨56, _⟩ => ⟨S1x512x640, .i1⟩
  | .hbm, ⟨57, _⟩ => ⟨S1x512x640, .i1⟩
  | .hbm, ⟨58, _⟩ => ⟨S3x512x640, .i1⟩
  | .hbm, ⟨59, _⟩ => ⟨S_, .f32⟩
  | .hbm, ⟨60, _⟩ => ⟨S_, .f32⟩
  | .hbm, ⟨61, _⟩ => ⟨S3x512x640, .f32⟩
  | .hbm, ⟨62, _⟩ => ⟨S3x512x640, .f32⟩
  | .hbm, ⟨63, _⟩ => ⟨S3x512x640, .f32⟩
  | .hbm, ⟨64, _⟩ => ⟨S32768x512, .bf16⟩
  | .local _ .vmem, ⟨0, _⟩ => ⟨S128x512, .bf16⟩
  | .local _ .vmem, ⟨1, _⟩ => ⟨S128x512, .bf16⟩
  | .local _ .vmem, ⟨2, _⟩ => ⟨S128x128, .bf16⟩
  | .local _ .vmem, ⟨3, _⟩ => ⟨S128x128, .bf16⟩
  | .local _ .vmem, ⟨4, _⟩ => ⟨S128x128, .bf16⟩
  | .local _ .vmem, ⟨5, _⟩ => ⟨S128x128, .bf16⟩
  | .local _ .vmem, ⟨6, _⟩ => ⟨S128x128, .bf16⟩
  | .local _ .vmem, ⟨7, _⟩ => ⟨S128x128, .bf16⟩
  | .local _ .vmem, ⟨8, _⟩ => ⟨S256x128, .bf16⟩
  | .local _ .vmem, ⟨9, _⟩ => ⟨S256x128, .bf16⟩
  | .local _ .vmem, ⟨10, _⟩ => ⟨S128x128, .bf16⟩
  | .local _ .vmem, ⟨11, _⟩ => ⟨S128x128, .bf16⟩
  | .local _ .vmem, ⟨12, _⟩ => ⟨S128x128, .bf16⟩
  | .local _ .vmem, ⟨13, _⟩ => ⟨S128x128, .bf16⟩
  | .local _ .vmem, ⟨14, _⟩ => ⟨S128x128, .bf16⟩
  | .local _ .vmem, ⟨15, _⟩ => ⟨S128x128, .bf16⟩
  | .local _ .vmem, ⟨16, _⟩ => ⟨S256x128, .bf16⟩
  | .local _ .vmem, ⟨17, _⟩ => ⟨S256x128, .bf16⟩
  | .local _ .vmem, ⟨18, _⟩ => ⟨S2x512x128, .f32⟩
  | .local _ .vmem, ⟨19, _⟩ => ⟨S3x512x640, .f32⟩
  | .local _ .vmem, ⟨20, _⟩ => ⟨S128x512, .bf16⟩
  | .local _ .vmem, ⟨21, _⟩ => ⟨S128x512, .bf16⟩
  | _, _ => ⟨S4x8192x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_c : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_c_0 : Ref sig .tc := ⟨.hbm, 30, rfl⟩
abbrev main_v22 : Ref sig .tc := ⟨.hbm, 31, rfl⟩
abbrev main_v23 : Ref sig .tc := ⟨.hbm, 32, rfl⟩
abbrev main_c_1 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_c_2 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_c_3 : Ref sig .tc := ⟨.hbm, 41, rfl⟩
abbrev main_v30 : Ref sig .tc := ⟨.hbm, 42, rfl⟩
abbrev main_v31 : Ref sig .tc := ⟨.hbm, 43, rfl⟩
abbrev main_c_4 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_c_5 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_cst_6 : Ref sig .tc := ⟨.hbm, 59, rfl⟩
abbrev main_cst_7 : Ref sig .tc := ⟨.hbm, 60, rfl⟩
abbrev main_call0_v0 : Ref sig .tc := ⟨.hbm, 61, rfl⟩
abbrev main_call0_v1 : Ref sig .tc := ⟨.hbm, 62, rfl⟩
abbrev main_v45 : Ref sig .tc := ⟨.hbm, 63, rfl⟩
abbrev main_v46 : Ref sig .tc := ⟨.hbm, 64, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg11_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem11_0 : DmaSem sig := 20
abbrev cc0_sem11_1 : DmaSem sig := 21

abbrev nD : Nat := 1
abbrev τ : Topo := Topo.v7x

variable {F : FTy → Type} [FloatOps F]

abbrev grid0 : Pipeline.Grid := ⟨2, ![4, 64], ![false, false]⟩

def k0_off1 (i : grid0.Coords) : Fin 3 → Nat :=
  let arg1 : BitVec 32 := BitVec.ofNat 32 (i 1).val
  let c0_i32 : BitVec 32 := 0#32
  let v18 : BitVec 1 := Scalar.cmpi .eq arg1 c0_i32
  let c0_i32_15 : BitVec 32 := 0#32
  let c63_i32 : BitVec 32 := 63#32
  let v19 : BitVec 1 := Scalar.cmpi .eq arg1 c63_i32
  let c2_i32 : BitVec 32 := 2#32
  let c1_i32 : BitVec 32 := 1#32
  let v20 : BitVec 32 := Scalar.select v19 c2_i32 c1_i32
  let v21 : BitVec 32 := Scalar.select v18 c0_i32_15 v20
  let v22 : Index := Scalar.indexCast v21
  let c0_16 : Index := 0#32
  let c0_17 : Index := 0#32
  ![v22.toNat, 0, 0]
def cc0_transform_0 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let c_m1_i32 : BitVec 32 := 4294967295#32
  let v1 : BitVec 32 := Scalar.addi arg1 c_m1_i32
  let c0_i32 : BitVec 32 := 0#32
  let c63_i32 : BitVec 32 := 63#32
  let v2 : BitVec 32 := Scalar.maxsi c0_i32 v1
  let v3 : BitVec 32 := Scalar.minsi c63_i32 v2
  let v4 : BitVec 32 := Scalar.addi v0 v3
  let c0_i32_0 : BitVec 32 := 0#32
  let c0_i32_1 : BitVec 32 := 0#32
  ![v4.toNat, c0_i32_0.toNat]

def cc0_transform_2 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let c0_i32 : BitVec 32 := 0#32
  let v1 : BitVec 32 := Scalar.addi arg1 c0_i32
  let c0_i32_0 : BitVec 32 := 0#32
  let c63_i32 : BitVec 32 := 63#32
  let v2 : BitVec 32 := Scalar.maxsi c0_i32_0 v1
  let v3 : BitVec 32 := Scalar.minsi c63_i32 v2
  let v4 : BitVec 32 := Scalar.addi v0 v3
  let c0_i32_1 : BitVec 32 := 0#32
  let c0_i32_2 : BitVec 32 := 0#32
  ![v4.toNat, c0_i32_1.toNat]

def cc0_transform_3 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let c1_i32 : BitVec 32 := 1#32
  let v1 : BitVec 32 := Scalar.addi arg1 c1_i32
  let c0_i32 : BitVec 32 := 0#32
  let c63_i32 : BitVec 32 := 63#32
  let v2 : BitVec 32 := Scalar.maxsi c0_i32 v1
  let v3 : BitVec 32 := Scalar.minsi c63_i32 v2
  let v4 : BitVec 32 := Scalar.addi v0 v3
  let c0_i32_0 : BitVec 32 := 0#32
  let c0_i32_1 : BitVec 32 := 0#32
  ![v4.toNat, c0_i32_0.toNat]

def cc0_transform_4 (i : grid0.Coords) : Fin 2 → Nat :=
  let arg0 : BitVec 32 := BitVec.ofNat 32 (i 0).val
  let arg1 : BitVec 32 := BitVec.ofNat 32 (i 1).val
  let c128_i32 : BitVec 32 := 128#32
  let v0 : BitVec 32 := Scalar.addi c128_i32 arg0
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let c_m1_i32 : BitVec 32 := 4294967295#32
  let v1 : BitVec 32 := Scalar.addi arg1 c_m1_i32
  let c0_i32 : BitVec 32 := 0#32
  let c63_i32 : BitVec 32 := 63#32
  let v2 : BitVec 32 := Scalar.maxsi c0_i32 v1
  let v3 : BitVec 32 := Scalar.minsi c63_i32 v2
  let v4 : BitVec 32 := Scalar.addi v0 v3
  let c0_i32_0 : BitVec 32 := 0#32
  let c0_i32_1 : BitVec 32 := 0#32
  ![v4.toNat, c0_i32_0.toNat]

def cc0_transform_6 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let c0_i32 : BitVec 32 := 0#32
  let v1 : BitVec 32 := Scalar.addi arg1 c0_i32
  let c0_i32_0 : BitVec 32 := 0#32
  let c63_i32 : BitVec 32 := 63#32
  let v2 : BitVec 32 := Scalar.maxsi c0_i32_0 v1
  let v3 : BitVec 32 := Scalar.minsi c63_i32 v2
  let v4 : BitVec 32 := Scalar.addi v0 v3
  let c0_i32_1 : BitVec 32 := 0#32
  let c0_i32_2 : BitVec 32 := 0#32
  ![v4.toNat, c0_i32_1.toNat]

def cc0_transform_7 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let c1_i32 : BitVec 32 := 1#32
  let v1 : BitVec 32 := Scalar.addi arg1 c1_i32
  let c0_i32 : BitVec 32 := 0#32
  let c63_i32 : BitVec 32 := 63#32
  let v2 : BitVec 32 := Scalar.maxsi c0_i32 v1
  let v3 : BitVec 32 := Scalar.minsi c63_i32 v2
  let v4 : BitVec 32 := Scalar.addi v0 v3
  let c0_i32_0 : BitVec 32 := 0#32
  let c0_i32_1 : BitVec 32 := 0#32
  ![v4.toNat, c0_i32_0.toNat]

def cc0_transform_8 (i : grid0.Coords) : Fin 2 → Nat :=
  let arg0 : BitVec 32 := BitVec.ofNat 32 (i 0).val
  let arg1 : BitVec 32 := BitVec.ofNat 32 (i 1).val
  let c128_i32 : BitVec 32 := 128#32
  let v0 : BitVec 32 := Scalar.addi c128_i32 arg0
  let c0_i32 : BitVec 32 := 0#32
  let c0_i32_0 : BitVec 32 := 0#32
  ![v0.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S128x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S128x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S128x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S128x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S256x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 1 → Memref sig .tc .vmem S2x512x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S3x512x640 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S128x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S4x8192x8x64 : Shape := ⟨4, ![4, 8192, 8, 64]⟩
abbrev S4x8192x2x64 : Shape := ⟨4, ![4, 8192, 2, 64]⟩
abbrev S4x256x2x64 : Shape := ⟨4, ![4, 256, 2, 64]⟩
abbrev S8 : Shape := ⟨1, ![8]⟩
abbrev S_ : Shape := ⟨0, ![]⟩
abbrev S4x8448x2x64 : Shape := ⟨4, ![4, 8448, 2, 64]⟩
abbrev S4x66x128x2x64 : Shape := ⟨5, ![4, 66, 128, 2, 64]⟩
abbrev S4x64x128x2x64 : Shape := ⟨5, ![4, 64, 128, 2, 64]⟩
abbrev S4x64x384x2x64 : Shape := ⟨5, ![4, 64, 384, 2, 64]⟩
abbrev S4x64x128x2x4x64 : Shape := ⟨6, ![4, 64, 128, 2, 4, 64]⟩
abbrev S64 : Shape := ⟨1, ![64]⟩
abbrev S64x1x1 : Shape := ⟨3, ![64, 1, 1]⟩
abbrev S128 : Shape := ⟨1, ![128]⟩
abbrev S1x128x1 : Shape := ⟨3, ![1, 128, 1]⟩
abbrev S64x128x1 : Shape := ⟨3, ![64, 128, 1]⟩
abbrev S384 : Shape := ⟨1, ![384]⟩
abbrev S1x1x384 : Shape := ⟨3, ![1, 1, 384]⟩
abbrev S64x1x384 : Shape := ⟨3, ![64, 1, 384]⟩
abbrev S64x128x384 : Shape := ⟨3, ![64, 128, 384]⟩
abbrev S4x64x2x384x128x4 : Shape := ⟨6, ![4, 64, 2, 384, 128, 4]⟩
abbrev S4x64x2x4x128x384 : Shape := ⟨6, ![4, 64, 2, 4, 128, 384]⟩
abbrev S1x64x1x1x128x384 : Shape := ⟨6, ![1, 64, 1, 1, 128, 384]⟩
abbrev S4x2x256x64x128x4 : Shape := ⟨6, ![4, 2, 256, 64, 128, 4]⟩
abbrev S4x64x2x4x128x256 : Shape := ⟨6, ![4, 64, 2, 4, 128, 256]⟩
abbrev S2x4x1x1 : Shape := ⟨4, ![2, 4, 1, 1]⟩
abbrev S4x64x2x4x128x1 : Shape := ⟨6, ![4, 64, 2, 4, 128, 1]⟩
abbrev S4x64x2x4x128x641 : Shape := ⟨6, ![4, 64, 2, 4, 128, 641]⟩
abbrev S4x64x2x4x128 : Shape := ⟨5, ![4, 64, 2, 4, 128]⟩
abbrev S4x64x2x64x4x128 : Shape := ⟨6, ![4, 64, 2, 64, 4, 128]⟩
abbrev S4x2x64x64x4x128 : Shape := ⟨6, ![4, 2, 64, 64, 4, 128]⟩
abbrev S32768x512 : Shape := ⟨2, ![32768, 512]⟩

abbrev nBuf : Space → Nat
  | .hbm => 100
  | .vmem => 0
  | .smem => 0
  | _ => 0

abbrev bufTy : (tb : Table) → Fin (tcTables nBuf tb) → BufTy
  | .hbm, ⟨0, _⟩ => ⟨S4x8192x8x64, .f32⟩
  | .hbm, ⟨1, _⟩ => ⟨S4x8192x2x64, .f32⟩
  | .hbm, ⟨2, _⟩ => ⟨S4x8192x2x64, .f32⟩
  | .hbm, ⟨3, _⟩ => ⟨S4x256x2x64, .f32⟩
  | .hbm, ⟨4, _⟩ => ⟨S4x256x2x64, .f32⟩
  | .hbm, ⟨5, _⟩ => ⟨S8, .f32⟩
  | .hbm, ⟨6, _⟩ => ⟨S_, .i32⟩
  | .hbm, ⟨7, _⟩ => ⟨S_, .f32⟩
  | .hbm, ⟨8, _⟩ => ⟨S4x8448x2x64, .f32⟩
  | .hbm, ⟨9, _⟩ => ⟨S4x66x128x2x64, .f32⟩
  | .hbm, ⟨10, _⟩ => ⟨S4x64x128x2x64, .f32⟩
  | .hbm, ⟨11, _⟩ => ⟨S4x64x128x2x64, .f32⟩
  | .hbm, ⟨12, _⟩ => ⟨S4x64x128x2x64, .f32⟩
  | .hbm, ⟨13, _⟩ => ⟨S4x64x384x2x64, .f32⟩
  | .hbm, ⟨14, _⟩ => ⟨S_, .i32⟩
  | .hbm, ⟨15, _⟩ => ⟨S_, .f32⟩
  | .hbm, ⟨16, _⟩ => ⟨S4x8448x2x64, .f32⟩
  | .hbm, ⟨17, _⟩ => ⟨S4x66x128x2x64, .f32⟩
  | .hbm, ⟨18, _⟩ => ⟨S4x64x128x2x64, .f32⟩
  | .hbm, ⟨19, _⟩ => ⟨S4x64x128x2x64, .f32⟩
  | .hbm, ⟨20, _⟩ => ⟨S4x64x128x2x64, .f32⟩
  | .hbm, ⟨21, _⟩ => ⟨S4x64x384x2x64, .f32⟩
  | .hbm, ⟨22, _⟩ => ⟨S4x64x128x2x4x64, .f32⟩
  | .hbm, ⟨23, _⟩ => ⟨S64, .i32⟩
  | .hbm, ⟨24, _⟩ => ⟨S64x1x1, .i32⟩
  | .hbm, ⟨25, _⟩ => ⟨S_, .i32⟩
  | .hbm, ⟨26, _⟩ => ⟨S64x1x1, .i32⟩
  | .hbm, ⟨27, _⟩ => ⟨S64x1x1, .i32⟩
  | .hbm, ⟨28, _⟩ => ⟨S128, .i32⟩
  | .hbm, ⟨29, _⟩ => ⟨S1x128x1, .i32⟩
  | .hbm, ⟨30, _⟩ => ⟨S64x128x1, .i32⟩
  | .hbm, ⟨31, _⟩ => ⟨S64x128x1, .i32⟩
  | .hbm, ⟨32, _⟩ => ⟨S64x128x1, .i32⟩
  | .hbm, ⟨33, _⟩ => ⟨S_, .i32⟩
  | .hbm, ⟨34, _⟩ => ⟨S64x1x1, .i32⟩
  | .hbm, ⟨35, _⟩ => ⟨S64x1x1, .i32⟩
  | .hbm, ⟨36, _⟩ => ⟨S384, .i32⟩
  | .hbm, ⟨37, _⟩ => ⟨S1x1x384, .i32⟩
  | .hbm, ⟨38, _⟩ => ⟨S64x1x384, .i32⟩
  | .hbm, ⟨39, _⟩ => ⟨S64x1x384, .i32⟩
  | .hbm, ⟨40, _⟩ => ⟨S64x1x384, .i32⟩
  | .hbm, ⟨41, _⟩ => ⟨S64x128x384, .i32⟩
  | .hbm, ⟨42, _⟩ => ⟨S64x128x384, .i32⟩
  | .hbm, ⟨43, _⟩ => ⟨S64x128x384, .i32⟩
  | .hbm, ⟨44, _⟩ => ⟨S64x128x384, .i32⟩
  | .hbm, ⟨45, _⟩ => ⟨S_, .i32⟩
  | .hbm, ⟨46, _⟩ => ⟨S64x128x384, .i32⟩
  | .hbm, ⟨47, _⟩ => ⟨S64x128x384, .i1⟩
  | .hbm, ⟨48, _⟩ => ⟨S_, .i32⟩
  | .hbm, ⟨49, _⟩ => ⟨S64x1x384, .i32⟩
  | .hbm, ⟨50, _⟩ => ⟨S64x1x384, .i1⟩
  | .hbm, ⟨51, _⟩ => ⟨S64x128x384, .i1⟩
  | .hbm, ⟨52, _⟩ => ⟨S64x128x384, .i1⟩
  | .hbm, ⟨53, _⟩ => ⟨S_, .i32⟩
  | .hbm, ⟨54, _⟩ => ⟨S64x1x384, .i32⟩
  | .hbm, ⟨55, _⟩ => ⟨S64x1x384, .i1⟩
  | .hbm, ⟨56, _⟩ => ⟨S64x128x384, .i1⟩
  | .hbm, ⟨57, _⟩ => ⟨S64x128x384, .i1⟩
  | .hbm, ⟨58, _⟩ => ⟨S4x64x2x384x128x4, .f32⟩
  | .hbm, ⟨59, _⟩ => ⟨S4x64x2x4x128x384, .f32⟩
  | .hbm, ⟨60, _⟩ => ⟨S_, .f32⟩
  | .hbm, ⟨61, _⟩ => ⟨S4x64x2x4x128x384, .f32⟩
  | .hbm, ⟨62, _⟩ => ⟨S4x64x2x4x128x384, .f32⟩
  | .hbm, ⟨63, _⟩ => ⟨S1x64x1x1x128x384, .i1⟩
  | .hbm, ⟨64, _⟩ => ⟨S_, .f32⟩
  | .hbm, ⟨65, _⟩ => ⟨S_, .f32⟩
  | .hbm, ⟨66, _⟩ => ⟨S4x64x2x4x128x384, .i1⟩
  | .hbm, ⟨67, _⟩ => ⟨S4x64x2x4x128x384, .f32⟩
  | .hbm, ⟨68, _⟩ => ⟨S4x64x2x4x128x384, .f32⟩
  | .hbm, ⟨69, _⟩ => ⟨S4x2x256x64x128x4, .f32⟩
  | .hbm, ⟨70, _⟩ => ⟨S4x64x2x4x128x256, .f32⟩
  | .hbm, ⟨71, _⟩ => ⟨S_, .f32⟩
  | .hbm, ⟨72, _⟩ => ⟨S4x64x2x4x128x256, .f32⟩
  | .hbm, ⟨73, _⟩ => ⟨S4x64x2x4x128x256, .f32⟩
  | .hbm, ⟨74, _⟩ => ⟨S2x4x1x1, .f32⟩
  | .hbm, ⟨75, _⟩ => ⟨S4x64x2x4x128x1, .f32⟩
  | .hbm, ⟨76, _⟩ => ⟨S4x64x2x4x128x641, .f32⟩
  | .hbm, ⟨77, _⟩ => ⟨S_, .f32⟩
  | .hbm, ⟨78, _⟩ => ⟨S4x64x2x4x128, .f32⟩
  | .hbm, ⟨79, _⟩ => ⟨S_, .f32⟩
  | .hbm, ⟨80, _⟩ => ⟨S4x64x2x4x128, .f32⟩
  | .hbm, ⟨81, _⟩ => ⟨S4x64x2x4x128, .f32⟩
  | .hbm, ⟨82, _⟩ => ⟨S4x64x2x4x128x1, .f32⟩
  | .hbm, ⟨83, _⟩ => ⟨S4x64x2x4x128x641, .f32⟩
  | .hbm, ⟨84, _⟩ => ⟨S4x64x2x4x128x641, .f32⟩
  | .hbm, ⟨85, _⟩ => ⟨S4x64x2x4x128x641, .f32⟩
  | .hbm, ⟨86, _⟩ => ⟨S_, .f32⟩
  | .hbm, ⟨87, _⟩ => ⟨S4x64x2x4x128, .f32⟩
  | .hbm, ⟨88, _⟩ => ⟨S4x64x2x4x128x1, .f32⟩
  | .hbm, ⟨89, _⟩ => ⟨S4x64x2x4x128x641, .f32⟩
  | .hbm, ⟨90, _⟩ => ⟨S4x64x2x4x128x641, .f32⟩
  | .hbm, ⟨91, _⟩ => ⟨S4x64x2x4x128x384, .f32⟩
  | .hbm, ⟨92, _⟩ => ⟨S4x64x2x64x4x128, .f32⟩
  | .hbm, ⟨93, _⟩ => ⟨S4x64x128x2x4x64, .f32⟩
  | .hbm, ⟨94, _⟩ => ⟨S4x64x2x4x128x256, .f32⟩
  | .hbm, ⟨95, _⟩ => ⟨S4x2x64x64x4x128, .f32⟩
  | .hbm, ⟨96, _⟩ => ⟨S4x64x128x2x4x64, .f32⟩
  | .hbm, ⟨97, _⟩ => ⟨S4x64x128x2x4x64, .f32⟩
  | .hbm, ⟨98, _⟩ => ⟨S32768x512, .f32⟩
  | .hbm, ⟨99, _⟩ => ⟨S32768x512, .bf16⟩
  | _, _ => ⟨S4x8192x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_call0_v0 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_c_0 : Ref sig .tc := ⟨.hbm, 14, rfl⟩
abbrev main_call1_v0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_c_1 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_c_2 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_c_3 : Ref sig .tc := ⟨.hbm, 45, rfl⟩
abbrev main_v33 : Ref sig .tc := ⟨.hbm, 46, rfl⟩
abbrev main_v34 : Ref sig .tc := ⟨.hbm, 47, rfl⟩
abbrev main_c_4 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_c_5 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_cst : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_cst_6 : Ref sig .tc := ⟨.hbm, 64, rfl⟩
abbrev main_call2_v0 : Ref sig .tc := ⟨.hbm, 65, rfl⟩
abbrev main_call2_v1 : Ref sig .tc := ⟨.hbm, 66, rfl⟩
abbrev main_call2_v2 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_cst_7 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_8 : Ref sig .tc := ⟨.hbm, 77, rfl⟩
abbrev main_v56 : Ref sig .tc := ⟨.hbm, 78, rfl⟩
abbrev main_cst_9 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_cst_10 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩

abbrev nD : Nat := 1
abbrev τ : Topo := Topo.v7x

variable {F : FTy → Type} [FloatOps F]
-- ==== Kernel2.lean ====
abbrev S4x8192x1024 : Shape := ⟨3, ![4, 8192, 1024]⟩
abbrev S1024 : Shape := ⟨1, ![1024]⟩
abbrev S4x6144 : Shape := ⟨2, ![4, 6144]⟩
abbrev S1024x5632 : Shape := ⟨2, ![1024, 5632]⟩
abbrev S3x5632 : Shape := ⟨2, ![3, 5632]⟩
abbrev S2816x1024 : Shape := ⟨2, ![2816, 1024]⟩
abbrev S_ : Shape := ⟨0, ![]⟩
abbrev S16x6144 : Shape := ⟨2, ![16, 6144]⟩
abbrev S16x1x6144 : Shape := ⟨3, ![16, 1, 6144]⟩
abbrev S32768x1024 : Shape := ⟨2, ![32768, 1024]⟩
abbrev S1x1024 : Shape := ⟨2, ![1, 1024]⟩
abbrev S512x1024 : Shape := ⟨2, ![512, 1024]⟩
abbrev S8x1024 : Shape := ⟨2, ![8, 1024]⟩
abbrev S1x1x6144 : Shape := ⟨3, ![1, 1, 6144]⟩
abbrev S4x528x256 : Shape := ⟨3, ![4, 528, 256]⟩
abbrev S512x2816 : Shape := ⟨2, ![512, 2816]⟩
abbrev S1x6144 : Shape := ⟨2, ![1, 6144]⟩
abbrev S528x1024 : Shape := ⟨2, ![528, 1024]⟩
abbrev S528 : Shape := ⟨1, ![528]⟩
abbrev S528x1 : Shape := ⟨2, ![528, 1]⟩
abbrev S1024x256 : Shape := ⟨2, ![1024, 256]⟩
abbrev S528x256 : Shape := ⟨2, ![528, 256]⟩
abbrev S1x528x256 : Shape := ⟨3, ![1, 528, 256]⟩
abbrev S3x256 : Shape := ⟨2, ![3, 256]⟩
abbrev S1x512x256 : Shape := ⟨3, ![1, 512, 256]⟩
abbrev S512x256 : Shape := ⟨2, ![512, 256]⟩
abbrev S1x256 : Shape := ⟨2, ![1, 256]⟩

abbrev nBuf : Space → Nat
  | .hbm => 15
  | .vmem => 16
  | .smem => 0
  | _ => 0

abbrev bufTy : (tb : Table) → Fin (tcTables nBuf tb) → BufTy
  | .hbm, ⟨0, _⟩ => ⟨S4x8192x1024, .f32⟩
  | .hbm, ⟨1, _⟩ => ⟨S1024, .f32⟩
  | .hbm, ⟨2, _⟩ => ⟨S4x6144, .f32⟩
  | .hbm, ⟨3, _⟩ => ⟨S1024x5632, .f32⟩
  | .hbm, ⟨4, _⟩ => ⟨S3x5632, .f32⟩
  | .hbm, ⟨5, _⟩ => ⟨S2816x1024, .f32⟩
  | .hbm, ⟨6, _⟩ => ⟨S_, .i32⟩
  | .hbm, ⟨7, _⟩ => ⟨S_, .f32⟩
  | .hbm, ⟨8, _⟩ => ⟨S16x6144, .f32⟩
  | .hbm, ⟨9, _⟩ => ⟨S16x1x6144, .f32⟩
  | .hbm, ⟨10, _⟩ => ⟨S32768x1024, .f32⟩
  | .hbm, ⟨11, _⟩ => ⟨S1x1024, .f32⟩
  | .hbm, ⟨12, _⟩ => ⟨S1024x5632, .bf16⟩
  | .hbm, ⟨13, _⟩ => ⟨S2816x1024, .bf16⟩
  | .hbm, ⟨14, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S8x1024, .f32⟩
  | .local _ .vmem, ⟨3, _⟩ => ⟨S8x1024, .f32⟩
  | .local _ .vmem, ⟨4, _⟩ => ⟨S8x1024, .f32⟩
  | .local _ .vmem, ⟨5, _⟩ => ⟨S8x1024, .f32⟩
  | .local _ .vmem, ⟨6, _⟩ => ⟨S1x1024, .f32⟩
  | .local _ .vmem, ⟨7, _⟩ => ⟨S1x1x6144, .f32⟩
  | .local _ .vmem, ⟨8, _⟩ => ⟨S1x1x6144, .f32⟩
  | .local _ .vmem, ⟨9, _⟩ => ⟨S1024x5632, .bf16⟩
  | .local _ .vmem, ⟨10, _⟩ => ⟨S3x5632, .f32⟩
  | .local _ .vmem, ⟨11, _⟩ => ⟨S2816x1024, .bf16⟩
  | .local _ .vmem, ⟨12, _⟩ => ⟨S512x1024, .f32⟩
  | .local _ .vmem, ⟨13, _⟩ => ⟨S512x1024, .f32⟩
  | .local _ .vmem, ⟨14, _⟩ => ⟨S4x528x256, .f32⟩
  | .local _ .vmem, ⟨15, _⟩ => ⟨S512x2816, .bf16⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_call0_v0 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c64_i32 : BitVec 32 := 64#32
  let v1 : BitVec 32 := Scalar.muli v0 c64_i32
  let c4095_i32 : BitVec 32 := 4095#32
  let v2 : BitVec 32 := Scalar.minsi v1 c4095_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c64_i32 : BitVec 32 := 64#32
  let v0 : BitVec 1 := Scalar.cmpi .slt arg0 c64_i32
  let c16_i32 : BitVec 32 := 16#32
  let v1 : BitVec 32 := Scalar.divsi arg0 c16_i32
  let c0_i32 : BitVec 32 := 0#32
  let v2 : BitVec 1 := Scalar.cmpi .sgt arg0 c0_i32
  let v3 : BitVec 32 := Scalar.extui v2
  let c0_i32_0 : BitVec 32 := 0#32
  let v4 : BitVec 1 := Scalar.cmpi .slt arg0 c0_i32_0
  let v5 : BitVec 32 := Scalar.extui v4
  let v6 : BitVec 32 := Scalar.subi v3 v5
  let c0_i32_1 : BitVec 32 := 0#32
  let v7 : BitVec 1 := Scalar.cmpi .sgt c16_i32 c0_i32_1
  let v8 : BitVec 32 := Scalar.extui v7
  let c0_i32_2 : BitVec 32 := 0#32
  let v9 : BitVec 1 := Scalar.cmpi .slt c16_i32 c0_i32_2
  let v10 : BitVec 32 := Scalar.extui v9
  let v11 : BitVec 32 := Scalar.subi v8 v10
  let v12 : BitVec 1 := Scalar.cmpi .ne v6 v11
  let v13 : BitVec 32 := Scalar.remsi arg0 c16_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c4_i32 : BitVec 32 := 4#32
  let v18 : BitVec 32 := Scalar.select v0 v17 c4_i32
  let c8_i32 : BitVec 32 := 8#32
  let v19 : BitVec 32 := Scalar.addi c8_i32 v18
  let c0_i32_4 : BitVec 32 := 0#32
  let c0_i32_5 : BitVec 32 := 0#32
  let c0_i32_6 : BitVec 32 := 0#32
  ![v19.toNat, c0_i32_4.toNat, c0_i32_5.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x1x6144 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x5632 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S3x5632 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2816x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference2Ideal.lean ====
abbrev S4x8192x1024 : Shape := ⟨3, ![4, 8192, 1024]⟩
abbrev S1024 : Shape := ⟨1, ![1024]⟩
abbrev S4x6144 : Shape := ⟨2, ![4, 6144]⟩
abbrev S1024x5632 : Shape := ⟨2, ![1024, 5632]⟩
abbrev S3x5632 : Shape := ⟨2, ![3, 5632]⟩
abbrev S2816x1024 : Shape := ⟨2, ![2816, 1024]⟩
abbrev S4x1x6144 : Shape := ⟨3, ![4, 1, 6144]⟩
abbrev S4x1x1024 : Shape := ⟨3, ![4, 1, 1024]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S4x8192x5632 : Shape := ⟨3, ![4, 8192, 5632]⟩
abbrev S4x8194x5632 : Shape := ⟨3, ![4, 8194, 5632]⟩
abbrev S1x5632 : Shape := ⟨2, ![1, 5632]⟩
abbrev S5632 : Shape := ⟨1, ![5632]⟩
abbrev S1x1x5632 : Shape := ⟨3, ![1, 1, 5632]⟩
abbrev S4x8192x2816 : Shape := ⟨3, ![4, 8192, 2816]⟩
abbrev S32768x1024 : Shape := ⟨2, ![32768, 1024]⟩

abbrev nBuf : Space → Nat
  | .hbm => 77
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S1024, .f32⟩
  | .hbm, ⟨2, _⟩ => ⟨S4x6144, .f32⟩
  | .hbm, ⟨3, _⟩ => ⟨S1024x5632, .f32⟩
  | .hbm, ⟨4, _⟩ => ⟨S3x5632, .f32⟩
  | .hbm, ⟨5, _⟩ => ⟨S2816x1024, .f32⟩
  | .hbm, ⟨6, _⟩ => ⟨S4x1x6144, .f32⟩
  | .hbm, ⟨7, _⟩ => ⟨S4x1x1024, .f32⟩
  | .hbm, ⟨8, _⟩ => ⟨S4x1x1024, .f32⟩
  | .hbm, ⟨9, _⟩ => ⟨S4x1x1024, .f32⟩
  | .hbm, ⟨10, _⟩ => ⟨S4x1x1024, .f32⟩
  | .hbm, ⟨11, _⟩ => ⟨S4x1x1024, .f32⟩
  | .hbm, ⟨12, _⟩ => ⟨S4x1x1024, .f32⟩
  | .hbm, ⟨13, _⟩ => ⟨S4x8192x1024, .f32⟩
  | .hbm, ⟨14, _⟩ => ⟨S_, .f32⟩
  | .hbm, ⟨15, _⟩ => ⟨S4x8192, .f32⟩
  | .hbm, ⟨16, _⟩ => ⟨S4x8192x1, .f32⟩
  | .hbm, ⟨17, _⟩ => ⟨S_, .f32⟩
  | .hbm, ⟨18, _⟩ => ⟨S4x8192x1, .f32⟩
  | .hbm, ⟨19, _⟩ => ⟨S4x8192x1, .f32⟩
  | .hbm, ⟨20, _⟩ => ⟨S_, .f32⟩
  | .hbm, ⟨21, _⟩ => ⟨S4x8192x1, .f32⟩
  | .hbm, ⟨22, _⟩ => ⟨S4x8192x1, .f32⟩
  | .hbm, ⟨23, _⟩ => ⟨S4x8192x1, .f32⟩
  | .hbm, ⟨24, _⟩ => ⟨S4x8192x1024, .f32⟩
  | .hbm, ⟨25, _⟩ => ⟨S4x8192x1024, .f32⟩
  | .hbm, ⟨26, _⟩ => ⟨S1x1x1024, .f32⟩
  | .hbm, ⟨27, _⟩ => ⟨S4x8192x1024, .f32⟩
  | .hbm, ⟨28, _⟩ => ⟨S4x8192x1024, .f32⟩
  | .hbm, ⟨29, _⟩ => ⟨S_, .f32⟩
  | .hbm, ⟨30, _⟩ => ⟨S4x1x1024, .f32⟩
  | .hbm, ⟨31, _⟩ => ⟨S4x1x1024, .f32⟩
  | .hbm, ⟨32, _⟩ => ⟨S4x8192x1024, .f32⟩
  | .hbm, ⟨33, _⟩ => ⟨S4x8192x1024, .f32⟩
  | .hbm, ⟨34, _⟩ => ⟨S4x8192x1024, .f32⟩
  | .hbm, ⟨35, _⟩ => ⟨S4x8192x1024, .f32⟩
  | .hbm, ⟨36, _⟩ => ⟨S4x8192x5632, .f32⟩
  | .hbm, ⟨37, _⟩ => ⟨S_, .i32⟩
  | .hbm, ⟨38, _⟩ => ⟨S_, .f32⟩
  | .hbm, ⟨39, _⟩ => ⟨S4x8194x5632, .f32⟩
  | .hbm, ⟨40, _⟩ => ⟨S4x8192x5632, .f32⟩
  | .hbm, ⟨41, _⟩ => ⟨S1x5632, .f32⟩
  | .hbm, ⟨42, _⟩ => ⟨S5632, .f32⟩
  | .hbm, ⟨43, _⟩ => ⟨S1x1x5632, .f32⟩
  | .hbm, ⟨44, _⟩ => ⟨S4x8192x5632, .f32⟩
  | .hbm, ⟨45, _⟩ => ⟨S4x8192x5632, .f32⟩
  | .hbm, ⟨46, _⟩ => ⟨S4x8192x5632, .f32⟩
  | .hbm, ⟨47, _⟩ => ⟨S1x5632, .f32⟩
  | .hbm, ⟨48, _⟩ => ⟨S5632, .f32⟩
  | .hbm, ⟨49, _⟩ => ⟨S1x1x5632, .f32⟩
  | .hbm, ⟨50, _⟩ => ⟨S4x8192x5632, .f32⟩
  | .hbm, ⟨51, _⟩ => ⟨S4x8192x5632, .f32⟩
  | .hbm, ⟨52, _⟩ => ⟨S4x8192x5632, .f32⟩
  | .hbm, ⟨53, _⟩ => ⟨S4x8192x5632, .f32⟩
  | .hbm, ⟨54, _⟩ => ⟨S1x5632, .f32⟩
  | .hbm, ⟨55, _⟩ => ⟨S5632, .f32⟩
  | .hbm, ⟨56, _⟩ => ⟨S1x1x5632, .f32⟩
  | .hbm, ⟨57, _⟩ => ⟨S4x8192x5632, .f32⟩
  | .hbm, ⟨58, _⟩ => ⟨S4x8192x5632, .f32⟩
  | .hbm, ⟨59, _⟩ => ⟨S4x8192x5632, .f32⟩
  | .hbm, ⟨60, _⟩ => ⟨S4x8192x2816, .f32⟩
  | .hbm, ⟨61, _⟩ => ⟨S4x8192x2816, .f32⟩
  | .hbm, ⟨62, _⟩ => ⟨S4x8192x2816, .f32⟩
  | .hbm, ⟨63, _⟩ => ⟨S4x8192x2816, .f32⟩
  | .hbm, ⟨64, _⟩ => ⟨S_, .f32⟩
  | .hbm, ⟨65, _⟩ => ⟨S4x8192x2816, .f32⟩
  | .hbm, ⟨66, _⟩ => ⟨S4x8192x2816, .f32⟩
  | .hbm, ⟨67, _⟩ => ⟨S_, .f32⟩
  | .hbm, ⟨68, _⟩ => ⟨S4x8192x2816, .f32⟩
  | .hbm, ⟨69, _⟩ => ⟨S4x8192x2816, .f32⟩
  | .hbm, ⟨70, _⟩ => ⟨S4x8192x2816, .f32⟩
  | .hbm, ⟨71, _⟩ => ⟨S4x8192x2816, .f32⟩
  | .hbm, ⟨72, _⟩ => ⟨S4x8192x1024, .f32⟩
  | .hbm, ⟨73, _⟩ => ⟨S4x8192x1024, .f32⟩
  | .hbm, ⟨74, _⟩ => ⟨S4x8192x1024, .f32⟩
  | .hbm, ⟨75, _⟩ => ⟨S4x8192x1024, .f32⟩
  | .hbm, ⟨76, _⟩ => ⟨S32768x1024, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_2 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_c : Ref sig .tc := ⟨.hbm, 37, rfl⟩
abbrev main_call0_v0 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_call1_v0 : Ref sig .tc := ⟨.hbm, 62, rfl⟩
abbrev main_call1_v1 : Ref sig .tc := ⟨.hbm, 63, rfl⟩
abbrev main_call1_cst : Ref sig .tc := ⟨.hbm, 64, rfl⟩
abbrev main_call1_v2 : Ref sig .tc := ⟨.hbm, 65, rfl⟩
abbrev main_call1_v3 : Ref sig .tc := ⟨.hbm, 66, rfl⟩
abbrev main_call1_cst_0 : Ref sig .tc := ⟨.hbm, 67, rfl⟩
abbrev main_call1_v4 : Ref sig .tc := ⟨.hbm, 68, rfl⟩
abbrev main_call1_v5 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩

abbrev nD : Nat := 1
abbrev τ : Topo := Topo.v7x

variable {F : FTy → Type} [FloatOps F]
-- ==== Kernel3.lean ====
abbrev S4x8192x1024 : Shape := ⟨3, ![4, 8192, 1024]⟩
abbrev S4x256x1024 : Shape := ⟨3, ![4, 256, 1024]⟩
abbrev S1024 : Shape := ⟨1, ![1024]⟩
abbrev S4x6144 : Shape := ⟨2, ![4, 6144]⟩
abbrev S6144 : Shape := ⟨1, ![6144]⟩
abbrev S1024x5632 : Shape := ⟨2, ![1024, 5632]⟩
abbrev S3x5632 : Shape := ⟨2, ![3, 5632]⟩
abbrev S2816x1024 : Shape := ⟨2, ![2816, 1024]⟩
abbrev S1x6144 : Shape := ⟨2, ![1, 6144]⟩
abbrev S5x6144 : Shape := ⟨2, ![5, 6144]⟩
abbrev S_ : Shape := ⟨0, ![]⟩
abbrev S16x6144 : Shape := ⟨2, ![16, 6144]⟩
abbrev S16x1x6144 : Shape := ⟨3, ![16, 1, 6144]⟩
abbrev S32768x1024 : Shape := ⟨2, ![32768, 1024]⟩
abbrev S1024x1024 : Shape := ⟨2, ![1024, 1024]⟩
abbrev S33792x1024 : Shape := ⟨2, ![33792, 1024]⟩
abbrev S1x1024 : Shape := ⟨2, ![1, 1024]⟩
abbrev S256x1024 : Shape := ⟨2, ![256, 1024]⟩
abbrev S8x1024 : Shape := ⟨2, ![8, 1024]⟩
abbrev S1x1x6144 : Shape := ⟨3, ![1, 1, 6144]⟩
abbrev S4x272x256 : Shape := ⟨3, ![4, 272, 256]⟩
abbrev S256x2816 : Shape := ⟨2, ![256, 2816]⟩
abbrev S272x1024 : Shape := ⟨2, ![272, 1024]⟩
abbrev S272 : Shape := ⟨1, ![272]⟩
abbrev S272x1 : Shape := ⟨2, ![272, 1]⟩
abbrev S1024x256 : Shape := ⟨2, ![1024, 256]⟩
abbrev S272x256 : Shape := ⟨2, ![272, 256]⟩
abbrev S1x272x256 : Shape := ⟨3, ![1, 272, 256]⟩
abbrev S3x256 : Shape := ⟨2, ![3, 256]⟩
abbrev S1x256x256 : Shape := ⟨3, ![1, 256, 256]⟩
abbrev S256x256 : Shape := ⟨2, ![256, 256]⟩
abbrev S1x256 : Shape := ⟨2, ![1, 256]⟩

abbrev nBuf : Space → Nat
  | .hbm => 21
  | .vmem => 16
  | .smem => 0
  | _ => 0

abbrev bufTy : (tb : Table) → Fin (tcTables nBuf tb) → BufTy
  | .hbm, ⟨0, _⟩ => ⟨S4x8192x1024, .f32⟩
  | .hbm, ⟨1, _⟩ => ⟨S4x256x1024, .f32⟩
  | .hbm, ⟨2, _⟩ => ⟨S1024, .f32⟩
  | .hbm, ⟨3, _⟩ => ⟨S4x6144, .f32⟩
  | .hbm, ⟨4, _⟩ => ⟨S6144, .f32⟩
  | .hbm, ⟨5, _⟩ => ⟨S1024x5632, .f32⟩
  | .hbm, ⟨6, _⟩ => ⟨S3x5632, .f32⟩
  | .hbm, ⟨7, _⟩ => ⟨S2816x1024, .f32⟩
  | .hbm, ⟨8, _⟩ => ⟨S1x6144, .f32⟩
  | .hbm, ⟨9, _⟩ => ⟨S5x6144, .f32⟩
  | .hbm, ⟨10, _⟩ => ⟨S_, .i32⟩
  | .hbm, ⟨11, _⟩ => ⟨S_, .f32⟩
  | .hbm, ⟨12, _⟩ => ⟨S16x6144, .f32⟩
  | .hbm, ⟨13, _⟩ => ⟨S16x1x6144, .f32⟩
  | .hbm, ⟨14, _⟩ => ⟨S32768x1024, .f32⟩
  | .hbm, ⟨15, _⟩ => ⟨S1024x1024, .f32⟩
  | .hbm, ⟨16, _⟩ => ⟨S33792x1024, .f32⟩
  | .hbm, ⟨17, _⟩ => ⟨S1x1024, .f32⟩
  | .hbm, ⟨18, _⟩ => ⟨S1024x5632, .bf16⟩
  | .hbm, ⟨19, _⟩ => ⟨S2816x1024, .bf16⟩
  | .hbm, ⟨20, _⟩ => ⟨S33792x1024, .f32⟩
  | .local _ .vmem, ⟨0, _⟩ => ⟨S256x1024, .f32⟩
  | .local _ .vmem, ⟨1, _⟩ => ⟨S256x1024, .f32⟩
  | .local _ .vmem, ⟨2, _⟩ => ⟨S8x1024, .f32⟩
  | .local _ .vmem, ⟨3, _⟩ => ⟨S8x1024, .f32⟩
  | .local _ .vmem, ⟨4, _⟩ => ⟨S8x1024, .f32⟩
  | .local _ .vmem, ⟨5, _⟩ => ⟨S8x1024, .f32⟩
  | .local _ .vmem, ⟨6, _⟩ => ⟨S1x1024, .f32⟩
  | .local _ .vmem, ⟨7, _⟩ => ⟨S1x1x6144, .f32⟩
  | .local _ .vmem, ⟨8, _⟩ => ⟨S1x1x6144, .f32⟩
  | .local _ .vmem, ⟨9, _⟩ => ⟨S1024x5632, .bf16⟩
  | .local _ .vmem, ⟨10, _⟩ => ⟨S3x5632, .f32⟩
  | .local _ .vmem, ⟨11, _⟩ => ⟨S2816x1024, .bf16⟩
  | .local _ .vmem, ⟨12, _⟩ => ⟨S256x1024, .f32⟩
  | .local _ .vmem, ⟨13, _⟩ => ⟨S256x1024, .f32⟩
  | .local _ .vmem, ⟨14, _⟩ => ⟨S4x272x256, .f32⟩
  | .local _ .vmem, ⟨15, _⟩ => ⟨S256x2816, .bf16⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_call0_v0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![132], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c4223_i32 : BitVec 32 := 4223#32
  let v2 : BitVec 32 := Scalar.minsi v1 c4223_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c128_i32 : BitVec 32 := 128#32
  let v0 : BitVec 1 := Scalar.cmpi .slt arg0 c128_i32
  let c32_i32 : BitVec 32 := 32#32
  let v1 : BitVec 32 := Scalar.divsi arg0 c32_i32
  let c0_i32 : BitVec 32 := 0#32
  let v2 : BitVec 1 := Scalar.cmpi .sgt arg0 c0_i32
  let v3 : BitVec 32 := Scalar.extui v2
  let c0_i32_0 : BitVec 32 := 0#32
  let v4 : BitVec 1 := Scalar.cmpi .slt arg0 c0_i32_0
  let v5 : BitVec 32 := Scalar.extui v4
  let v6 : BitVec 32 := Scalar.subi v3 v5
  let c0_i32_1 : BitVec 32 := 0#32
  let v7 : BitVec 1 := Scalar.cmpi .sgt c32_i32 c0_i32_1
  let v8 : BitVec 32 := Scalar.extui v7
  let c0_i32_2 : BitVec 32 := 0#32
  let v9 : BitVec 1 := Scalar.cmpi .slt c32_i32 c0_i32_2
  let v10 : BitVec 32 := Scalar.extui v9
  let v11 : BitVec 32 := Scalar.subi v8 v10
  let v12 : BitVec 1 := Scalar.cmpi .ne v6 v11
  let v13 : BitVec 32 := Scalar.remsi arg0 c32_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c4_i32 : BitVec 32 := 4#32
  let v18 : BitVec 32 := Scalar.select v0 v17 c4_i32
  let c0_i32_4 : BitVec 32 := 0#32
  let v19 : BitVec 32 := Scalar.addi c0_i32_4 v18
  let c0_i32_5 : BitVec 32 := 0#32
  let c0_i32_6 : BitVec 32 := 0#32
  let c0_i32_7 : BitVec 32 := 0#32
  ![v19.toNat, c0_i32_5.toNat, c0_i32_6.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x1x6144 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x5632 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S3x5632 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2816x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference3Ideal.lean ====
abbrev S4x8192x1024 : Shape := ⟨3, ![4, 8192, 1024]⟩
abbrev S4x256x1024 : Shape := ⟨3, ![4, 256, 1024]⟩
abbrev S1024 : Shape := ⟨1, ![1024]⟩
abbrev S4x6144 : Shape := ⟨2, ![4, 6144]⟩
abbrev S6144 : Shape := ⟨1, ![6144]⟩
abbrev S1024x5632 : Shape := ⟨2, ![1024, 5632]⟩
abbrev S3x5632 : Shape := ⟨2, ![3, 5632]⟩
abbrev S2816x1024 : Shape := ⟨2, ![2816, 1024]⟩
abbrev S4x1x6144 : Shape := ⟨3, ![4, 1, 6144]⟩
abbrev S4x1x1024 : Shape := ⟨3, ![4, 1, 1024]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S4x8192x5632 : Shape := ⟨3, ![4, 8192, 5632]⟩
abbrev S4x8194x5632 : Shape := ⟨3, ![4, 8194, 5632]⟩
abbrev S1x5632 : Shape := ⟨2, ![1, 5632]⟩
abbrev S5632 : Shape := ⟨1, ![5632]⟩
abbrev S1x1x5632 : Shape := ⟨3, ![1, 1, 5632]⟩
abbrev S4x8192x2816 : Shape := ⟨3, ![4, 8192, 2816]⟩
abbrev S4x256 : Shape := ⟨2, ![4, 256]⟩
abbrev S4x256x1 : Shape := ⟨3, ![4, 256, 1]⟩
abbrev S4x256x5632 : Shape := ⟨3, ![4, 256, 5632]⟩
abbrev S4x258x5632 : Shape := ⟨3, ![4, 258, 5632]⟩
abbrev S4x256x2816 : Shape := ⟨3, ![4, 256, 2816]⟩
abbrev S32768x1024 : Shape := ⟨2, ![32768, 1024]⟩
abbrev S1024x1024 : Shape := ⟨2, ![1024, 1024]⟩
abbrev S33792x1024 : Shape := ⟨2, ![33792, 1024]⟩

abbrev nBuf : Space → Nat
  | .hbm => 153
  | .vmem => 0
  | .smem => 0
  | _ => 0

abbrev hbmTy0_0 (i : Nat) : BufTy := match i % 128 with
  | 0 => ⟨S4x8192x1024, .f32⟩
  | 1 => ⟨S4x256x1024, .f32⟩
  | 2 => ⟨S1024, .f32⟩
  | 3 => ⟨S4x6144, .f32⟩
  | 4 => ⟨S6144, .f32⟩
  | 5 => ⟨S1024x5632, .f32⟩
  | 6 => ⟨S3x5632, .f32⟩
  | 7 => ⟨S2816x1024, .f32⟩
  | 8 => ⟨S4x1x6144, .f32⟩
  | 9 => ⟨S4x1x1024, .f32⟩
  | 10 => ⟨S4x1x1024, .f32⟩
  | 11 => ⟨S4x1x1024, .f32⟩
  | 12 => ⟨S4x1x1024, .f32⟩
  | 13 => ⟨S4x1x1024, .f32⟩
  | 14 => ⟨S4x1x1024, .f32⟩
  | 15 => ⟨S1024, .f32⟩
  | 16 => ⟨S1024, .f32⟩
  | 17 => ⟨S1024, .f32⟩
  | 18 => ⟨S1024, .f32⟩
  | 19 => ⟨S1024, .f32⟩
  | 20 => ⟨S1024, .f32⟩
  | 21 => ⟨S4x8192x1024, .f32⟩
  | 22 => ⟨S_, .f32⟩
  | 23 => ⟨S4x8192, .f32⟩
  | 24 => ⟨S4x8192x1, .f32⟩
  | 25 => ⟨S_, .f32⟩
  | 26 => ⟨S4x8192x1, .f32⟩
  | 27 => ⟨S4x8192x1, .f32⟩
  | 28 => ⟨S_, .f32⟩
  | 29 => ⟨S4x8192x1, .f32⟩
  | 30 => ⟨S4x8192x1, .f32⟩
  | 31 => ⟨S4x8192x1, .f32⟩
  | 32 => ⟨S4x8192x1024, .f32⟩
  | 33 => ⟨S4x8192x1024, .f32⟩
  | 34 => ⟨S1x1x1024, .f32⟩
  | 35 => ⟨S4x8192x1024, .f32⟩
  | 36 => ⟨S4x8192x1024, .f32⟩
  | 37 => ⟨S_, .f32⟩
  | 38 => ⟨S4x1x1024, .f32⟩
  | 39 => ⟨S4x1x1024, .f32⟩
  | 40 => ⟨S4x8192x1024, .f32⟩
  | 41 => ⟨S4x8192x1024, .f32⟩
  | 42 => ⟨S4x8192x1024, .f32⟩
  | 43 => ⟨S4x8192x1024, .f32⟩
  | 44 => ⟨S4x8192x5632, .f32⟩
  | 45 => ⟨S_, .i32⟩
  | 46 => ⟨S_, .f32⟩
  | 47 => ⟨S4x8194x5632, .f32⟩
  | 48 => ⟨S4x8192x5632, .f32⟩
  | 49 => ⟨S1x5632, .f32⟩
  | 50 => ⟨S5632, .f32⟩
  | 51 => ⟨S1x1x5632, .f32⟩
  | 52 => ⟨S4x8192x5632, .f32⟩
  | 53 => ⟨S4x8192x5632, .f32⟩
  | 54 => ⟨S4x8192x5632, .f32⟩
  | 55 => ⟨S1x5632, .f32⟩
  | 56 => ⟨S5632, .f32⟩
  | 57 => ⟨S1x1x5632, .f32⟩
  | 58 => ⟨S4x8192x5632, .f32⟩
  | 59 => ⟨S4x8192x5632, .f32⟩
  | 60 => ⟨S4x8192x5632, .f32⟩
  | 61 => ⟨S4x8192x5632, .f32⟩
  | 62 => ⟨S1x5632, .f32⟩
  | 63 => ⟨S5632, .f32⟩
  | 64 => ⟨S1x1x5632, .f32⟩
  | 65 => ⟨S4x8192x5632, .f32⟩
  | 66 => ⟨S4x8192x5632, .f32⟩
  | 67 => ⟨S4x8192x5632, .f32⟩
  | 68 => ⟨S4x8192x2816, .f32⟩
  | 69 => ⟨S4x8192x2816, .f32⟩
  | 70 => ⟨S4x8192x2816, .f32⟩
  | 71 => ⟨S4x8192x2816, .f32⟩
  | 72 => ⟨S_, .f32⟩
  | 73 => ⟨S4x8192x2816, .f32⟩
  | 74 => ⟨S4x8192x2816, .f32⟩
  | 75 => ⟨S_, .f32⟩
  | 76 => ⟨S4x8192x2816, .f32⟩
  | 77 => ⟨S4x8192x2816, .f32⟩
  | 78 => ⟨S4x8192x2816, .f32⟩
  | 79 => ⟨S4x8192x2816, .f32⟩
  | 80 => ⟨S4x8192x1024, .f32⟩
  | 81 => ⟨S4x8192x1024, .f32⟩
  | 82 => ⟨S4x8192x1024, .f32⟩
  | 83 => ⟨S4x8192x1024, .f32⟩
  | 84 => ⟨S4x256x1024, .f32⟩
  | 85 => ⟨S_, .f32⟩
  | 86 => ⟨S4x256, .f32⟩
  | 87 => ⟨S4x256x1, .f32⟩
  | 88 => ⟨S_, .f32⟩
  | 89 => ⟨S4x256x1, .f32⟩
  | 90 => ⟨S4x256x1, .f32⟩
  | 91 => ⟨S_, .f32⟩
  | 92 => ⟨S4x256x1, .f32⟩
  | 93 => ⟨S4x256x1, .f32⟩
  | 94 => ⟨S4x256x1, .f32⟩
  | 95 => ⟨S4x256x1024, .f32⟩
  | 96 => ⟨S4x256x1024, .f32⟩
  | 97 => ⟨S1x1x1024, .f32⟩
  | 98 => ⟨S4x256x1024, .f32⟩
  | 99 => ⟨S4x256x1024, .f32⟩
  | 100 => ⟨S_, .f32⟩
  | 101 => ⟨S1024, .f32⟩
  | 102 => ⟨S1024, .f32⟩
  | 103 => ⟨S1x1x1024, .f32⟩
  | 104 => ⟨S4x256x1024, .f32⟩
  | 105 => ⟨S4x256x1024, .f32⟩
  | 106 => ⟨S1x1x1024, .f32⟩
  | 107 => ⟨S4x256x1024, .f32⟩
  | 108 => ⟨S4x256x1024, .f32⟩
  | 109 => ⟨S4x256x5632, .f32⟩
  | 110 => ⟨S_, .i32⟩
  | 111 => ⟨S_, .f32⟩
  | 112 => ⟨S4x258x5632, .f32⟩
  | 113 => ⟨S4x256x5632, .f32⟩
  | 114 => ⟨S1x5632, .f32⟩
  | 115 => ⟨S5632, .f32⟩
  | 116 => ⟨S1x1x5632, .f32⟩
  | 117 => ⟨S4x256x5632, .f32⟩
  | 118 => ⟨S4x256x5632, .f32⟩
  | 119 => ⟨S4x256x5632, .f32⟩
  | 120 => ⟨S1x5632, .f32⟩
  | 121 => ⟨S5632, .f32⟩
  | 122 => ⟨S1x1x5632, .f32⟩
  | 123 => ⟨S4x256x5632, .f32⟩
  | 124 => ⟨S4x256x5632, .f32⟩
  | 125 => ⟨S4x256x5632, .f32⟩
  | 126 => ⟨S4x256x5632, .f32⟩
  | 127 => ⟨S1x5632, .f32⟩
  | _ => ⟨S4x8192x1024, .f32⟩

abbrev hbmTy0_1 (i : Nat) : BufTy := match i % 128 with
  | 0 => ⟨S5632, .f32⟩
  | 1 => ⟨S1x1x5632, .f32⟩
  | 2 => ⟨S4x256x5632, .f32⟩
  | 3 => ⟨S4x256x5632, .f32⟩
  | 4 => ⟨S4x256x5632, .f32⟩
  | 5 => ⟨S4x256x2816, .f32⟩
  | 6 => ⟨S4x256x2816, .f32⟩
  | 7 => ⟨S4x256x2816, .f32⟩
  | 8 => ⟨S4x256x2816, .f32⟩
  | 9 => ⟨S_, .f32⟩
  | 10 => ⟨S4x256x2816, .f32⟩
  | 11 => ⟨S4x256x2816, .f32⟩
  | 12 => ⟨S_, .f32⟩
  | 13 => ⟨S4x256x2816, .f32⟩
  | 14 => ⟨S4x256x2816, .f32⟩
  | 15 => ⟨S4x256x2816, .f32⟩
  | 16 => ⟨S4x256x2816, .f32⟩
  | 17 => ⟨S4x256x1024, .f32⟩
  | 18 => ⟨S1x1x1024, .f32⟩
  | 19 => ⟨S4x256x1024, .f32⟩
  | 20 => ⟨S4x256x1024, .f32⟩
  | 21 => ⟨S4x256x1024, .f32⟩
  | 22 => ⟨S32768x1024, .f32⟩
  | 23 => ⟨S1024x1024, .f32⟩
  | 24 => ⟨S33792x1024, .f32⟩
  | _ => ⟨S4x8192x1024, .f32⟩

abbrev hbmTy (i : Nat) : BufTy := match i / 128 with
  | 0 => hbmTy0_0 i
  | 1 => hbmTy0_1 i
  | _ => ⟨S4x8192x1024, .f32⟩

abbrev bufTy : (tb : Table) → Fin (tcTables nBuf tb) → BufTy
  | .hbm, ⟨i, _⟩ => hbmTy i
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst : Ref sig .tc := ⟨.hbm, 22, rfl⟩
abbrev main_v14 : Ref sig .tc := ⟨.hbm, 23, rfl⟩
abbrev main_v15 : Ref sig .tc := ⟨.hbm, 24, rfl⟩
abbrev main_cst_0 : Ref sig .tc := ⟨.hbm, 25, rfl⟩
abbrev main_v16 : Ref sig .tc := ⟨.hbm, 26, rfl⟩
abbrev main_v17 : Ref sig .tc := ⟨.hbm, 27, rfl⟩
abbrev main_cst_1 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_2 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_c : Ref sig .tc := ⟨.hbm, 45, rfl⟩
abbrev main_call0_v0 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_call1_v0 : Ref sig .tc := ⟨.hbm, 70, rfl⟩
abbrev main_call1_v1 : Ref sig .tc := ⟨.hbm, 71, rfl⟩
abbrev main_call1_cst : Ref sig .tc := ⟨.hbm, 72, rfl⟩
abbrev main_call1_v2 : Ref sig .tc := ⟨.hbm, 73, rfl⟩
abbrev main_call1_v3 : Ref sig .tc := ⟨.hbm, 74, rfl⟩
abbrev main_call1_cst_0 : Ref sig .tc := ⟨.hbm, 75, rfl⟩
abbrev main_call1_v4 : Ref sig .tc := ⟨.hbm, 76, rfl⟩
abbrev main_call1_v5 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_cst_3 : Ref sig .tc := ⟨.hbm, 85, rfl⟩
abbrev main_v63 : Ref sig .tc := ⟨.hbm, 86, rfl⟩
abbrev main_v64 : Ref sig .tc := ⟨.hbm, 87, rfl⟩
abbrev main_cst_4 : Ref sig .tc := ⟨.hbm, 88, rfl⟩
abbrev main_v65 : Ref sig .tc := ⟨.hbm, 89, rfl⟩
abbrev main_v66 : Ref sig .tc := ⟨.hbm, 90, rfl⟩
abbrev main_cst_5 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_cst_6 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_c_7 : Ref sig .tc := ⟨.hbm, 110, rfl⟩
abbrev main_call2_v0 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩
abbrev main_v101 : Ref sig .tc := ⟨.hbm, 129, rfl⟩
abbrev main_v102 : Ref sig .tc := ⟨.hbm, 130, rfl⟩
abbrev main_v103 : Ref sig .tc := ⟨.hbm, 131, rfl⟩
abbrev main_v104 : Ref sig .tc := ⟨.hbm, 132, rfl⟩
abbrev main_v105 : Ref sig .tc := ⟨.hbm, 133, rfl⟩
abbrev main_v106 : Ref sig .tc := ⟨.hbm, 134, rfl⟩
abbrev main_call3_v0 : Ref sig .tc := ⟨.hbm, 135, rfl⟩
abbrev main_call3_v1 : Ref sig .tc := ⟨.hbm, 136, rfl⟩
abbrev main_call3_cst : Ref sig .tc := ⟨.hbm, 137, rfl⟩
abbrev main_call3_v2 : Ref sig .tc := ⟨.hbm, 138, rfl⟩
abbrev main_call3_v3 : Ref sig .tc := ⟨.hbm, 139, rfl⟩
abbrev main_call3_cst_0 : Ref sig .tc := ⟨.hbm, 140, rfl⟩
abbrev main_call3_v4 : Ref sig .tc := ⟨.hbm, 141, rfl⟩
abbrev main_call3_v5 : Ref sig .tc := ⟨.hbm, 142, rfl⟩
abbrev main_v107 : Ref sig .tc := ⟨.hbm, 143, rfl⟩
abbrev main_v108 : Ref sig .tc := ⟨.hbm, 144, rfl⟩
abbrev main_v109 : Ref sig .tc := ⟨.hbm, 145, rfl⟩
abbrev main_v110 : Ref sig .tc := ⟨.hbm, 146, rfl⟩
abbrev main_v111 : Ref sig .tc := ⟨.hbm, 147, rfl⟩
abbrev main_v112 : Ref sig .tc := ⟨.hbm, 148, rfl⟩
abbrev main_v113 : Ref sig .tc := ⟨.hbm, 149, rfl⟩
abbrev main_v114 : Ref sig .tc := ⟨.hbm, 150, rfl⟩
abbrev main_v115 : Ref sig .tc := ⟨.hbm, 151, rfl⟩
abbrev main_v116 : Ref sig .tc := ⟨.hbm, 152, rfl⟩

abbrev nD : Nat := 1
abbrev τ : Topo := Topo.v7x

variable {F : FTy → Type} [FloatOps F]
-- ==== Kernel4.lean ====
abbrev S4x8192x1024 : Shape := ⟨3, ![4, 8192, 1024]⟩
abbrev S4x256x1024 : Shape := ⟨3, ![4, 256, 1024]⟩
abbrev S1024 : Shape := ⟨1, ![1024]⟩
abbrev S4x6144 : Shape := ⟨2, ![4, 6144]⟩
abbrev S6144 : Shape := ⟨1, ![6144]⟩
abbrev S1024x1024 : Shape := ⟨2, ![1024, 1024]⟩
abbrev S1x6144 : Shape := ⟨2, ![1, 6144]⟩
abbrev S5x6144 : Shape := ⟨2, ![5, 6144]⟩
abbrev S_ : Shape := ⟨0, ![]⟩
abbrev S16x6144 : Shape := ⟨2, ![16, 6144]⟩
abbrev S16x1x6144 : Shape := ⟨3, ![16, 1, 6144]⟩
abbrev S32768x1024 : Shape := ⟨2, ![32768, 1024]⟩
abbrev S1x1024 : Shape := ⟨2, ![1, 1024]⟩
abbrev S33792x1024 : Shape := ⟨2, ![33792, 1024]⟩
abbrev S512x1024 : Shape := ⟨2, ![512, 1024]⟩
abbrev S1x1x6144 : Shape := ⟨3, ![1, 1, 6144]⟩
abbrev S512 : Shape := ⟨1, ![512]⟩
abbrev S512x1 : Shape := ⟨2, ![512, 1]⟩

abbrev nBuf : Space → Nat
  | .hbm => 17
  | .vmem => 10
  | .smem => 0
  | _ => 0

abbrev bufTy : (tb : Table) → Fin (tcTables nBuf tb) → BufTy
  | .hbm, ⟨0, _⟩ => ⟨S4x8192x1024, .f32⟩
  | .hbm, ⟨1, _⟩ => ⟨S4x256x1024, .f32⟩
  | .hbm, ⟨2, _⟩ => ⟨S1024, .f32⟩
  | .hbm, ⟨3, _⟩ => ⟨S4x6144, .f32⟩
  | .hbm, ⟨4, _⟩ => ⟨S6144, .f32⟩
  | .hbm, ⟨5, _⟩ => ⟨S1024x1024, .f32⟩
  | .hbm, ⟨6, _⟩ => ⟨S1x6144, .f32⟩
  | .hbm, ⟨7, _⟩ => ⟨S5x6144, .f32⟩
  | .hbm, ⟨8, _⟩ => ⟨S_, .i32⟩
  | .hbm, ⟨9, _⟩ => ⟨S_, .f32⟩
  | .hbm, ⟨10, _⟩ => ⟨S16x6144, .f32⟩
  | .hbm, ⟨11, _⟩ => ⟨S16x1x6144, .f32⟩
  | .hbm, ⟨12, _⟩ => ⟨S32768x1024, .f32⟩
  | .hbm, ⟨13, _⟩ => ⟨S1024x1024, .f32⟩
  | .hbm, ⟨14, _⟩ => ⟨S1x1024, .f32⟩
  | .hbm, ⟨15, _⟩ => ⟨S1024x1024, .bf16⟩
  | .hbm, ⟨16, _⟩ => ⟨S33792x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S1x1x6144, .f32⟩
  | .local _ .vmem, ⟨6, _⟩ => ⟨S1x1x6144, .f32⟩
  | .local _ .vmem, ⟨7, _⟩ => ⟨S1024x1024, .bf16⟩
  | .local _ .vmem, ⟨8, _⟩ => ⟨S512x1024, .f32⟩
  | .local _ .vmem, ⟨9, _⟩ => ⟨S512x1024, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_call0_v0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![66], ![false]⟩

def cc0_transform_0 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c64_i32 : BitVec 32 := 64#32
  let v0 : BitVec 32 := Scalar.subi arg0 c64_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c64_i32 : BitVec 32 := 64#32
  let v0 : BitVec 1 := Scalar.cmpi .slt arg0 c64_i32
  let c16_i32 : BitVec 32 := 16#32
  let v1 : BitVec 32 := Scalar.divsi arg0 c16_i32
  let c0_i32 : BitVec 32 := 0#32
  let v2 : BitVec 1 := Scalar.cmpi .sgt arg0 c0_i32
  let v3 : BitVec 32 := Scalar.extui v2
  let c0_i32_0 : BitVec 32 := 0#32
  let v4 : BitVec 1 := Scalar.cmpi .slt arg0 c0_i32_0
  let v5 : BitVec 32 := Scalar.extui v4
  let v6 : BitVec 32 := Scalar.subi v3 v5
  let c0_i32_1 : BitVec 32 := 0#32
  let v7 : BitVec 1 := Scalar.cmpi .sgt c16_i32 c0_i32_1
  let v8 : BitVec 32 := Scalar.extui v7
  let c0_i32_2 : BitVec 32 := 0#32
  let v9 : BitVec 1 := Scalar.cmpi .slt c16_i32 c0_i32_2
  let v10 : BitVec 32 := Scalar.extui v9
  let v11 : BitVec 32 := Scalar.subi v8 v10
  let v12 : BitVec 1 := Scalar.cmpi .ne v6 v11
  let v13 : BitVec 32 := Scalar.remsi arg0 c16_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c4_i32 : BitVec 32 := 4#32
  let v18 : BitVec 32 := Scalar.select v0 v17 c4_i32
  let c0_i32_4 : BitVec 32 := 0#32
  let v19 : BitVec 32 := Scalar.addi c0_i32_4 v18
  let c0_i32_5 : BitVec 32 := 0#32
  let c0_i32_6 : BitVec 32 := 0#32
  let c0_i32_7 : BitVec 32 := 0#32
  ![v19.toNat, c0_i32_5.toNat, c0_i32_6.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x1x6144 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference4Ideal.lean ====
abbrev S4x8192x1024 : Shape := ⟨3, ![4, 8192, 1024]⟩
abbrev S4x256x1024 : Shape := ⟨3, ![4, 256, 1024]⟩
abbrev S1024 : Shape := ⟨1, ![1024]⟩
abbrev S4x6144 : Shape := ⟨2, ![4, 6144]⟩
abbrev S6144 : Shape := ⟨1, ![6144]⟩
abbrev S1024x1024 : Shape := ⟨2, ![1024, 1024]⟩
abbrev S4x1x6144 : Shape := ⟨3, ![4, 1, 6144]⟩
abbrev S4x1x1024 : Shape := ⟨3, ![4, 1, 1024]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S4x256 : Shape := ⟨2, ![4, 256]⟩
abbrev S4x256x1 : Shape := ⟨3, ![4, 256, 1]⟩
abbrev S32768x1024 : Shape := ⟨2, ![32768, 1024]⟩
abbrev S33792x1024 : Shape := ⟨2, ![33792, 1024]⟩

abbrev nBuf : Space → Nat
  | .hbm => 72
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S4x256x1024, .f32⟩
  | .hbm, ⟨2, _⟩ => ⟨S1024, .f32⟩
  | .hbm, ⟨3, _⟩ => ⟨S4x6144, .f32⟩
  | .hbm, ⟨4, _⟩ => ⟨S6144, .f32⟩
  | .hbm, ⟨5, _⟩ => ⟨S1024x1024, .f32⟩
  | .hbm, ⟨6, _⟩ => ⟨S4x1x6144, .f32⟩
  | .hbm, ⟨7, _⟩ => ⟨S4x1x1024, .f32⟩
  | .hbm, ⟨8, _⟩ => ⟨S4x1x1024, .f32⟩
  | .hbm, ⟨9, _⟩ => ⟨S4x1x1024, .f32⟩
  | .hbm, ⟨10, _⟩ => ⟨S4x1x1024, .f32⟩
  | .hbm, ⟨11, _⟩ => ⟨S4x1x1024, .f32⟩
  | .hbm, ⟨12, _⟩ => ⟨S4x1x1024, .f32⟩
  | .hbm, ⟨13, _⟩ => ⟨S1024, .f32⟩
  | .hbm, ⟨14, _⟩ => ⟨S1024, .f32⟩
  | .hbm, ⟨15, _⟩ => ⟨S1024, .f32⟩
  | .hbm, ⟨16, _⟩ => ⟨S1024, .f32⟩
  | .hbm, ⟨17, _⟩ => ⟨S1024, .f32⟩
  | .hbm, ⟨18, _⟩ => ⟨S1024, .f32⟩
  | .hbm, ⟨19, _⟩ => ⟨S4x8192x1024, .f32⟩
  | .hbm, ⟨20, _⟩ => ⟨S_, .f32⟩
  | .hbm, ⟨21, _⟩ => ⟨S4x8192, .f32⟩
  | .hbm, ⟨22, _⟩ => ⟨S4x8192x1, .f32⟩
  | .hbm, ⟨23, _⟩ => ⟨S_, .f32⟩
  | .hbm, ⟨24, _⟩ => ⟨S4x8192x1, .f32⟩
  | .hbm, ⟨25, _⟩ => ⟨S4x8192x1, .f32⟩
  | .hbm, ⟨26, _⟩ => ⟨S_, .f32⟩
  | .hbm, ⟨27, _⟩ => ⟨S4x8192x1, .f32⟩
  | .hbm, ⟨28, _⟩ => ⟨S4x8192x1, .f32⟩
  | .hbm, ⟨29, _⟩ => ⟨S4x8192x1, .f32⟩
  | .hbm, ⟨30, _⟩ => ⟨S4x8192x1024, .f32⟩
  | .hbm, ⟨31, _⟩ => ⟨S4x8192x1024, .f32⟩
  | .hbm, ⟨32, _⟩ => ⟨S1x1x1024, .f32⟩
  | .hbm, ⟨33, _⟩ => ⟨S4x8192x1024, .f32⟩
  | .hbm, ⟨34, _⟩ => ⟨S4x8192x1024, .f32⟩
  | .hbm, ⟨35, _⟩ => ⟨S_, .f32⟩
  | .hbm, ⟨36, _⟩ => ⟨S4x1x1024, .f32⟩
  | .hbm, ⟨37, _⟩ => ⟨S4x1x1024, .f32⟩
  | .hbm, ⟨38, _⟩ => ⟨S4x8192x1024, .f32⟩
  | .hbm, ⟨39, _⟩ => ⟨S4x8192x1024, .f32⟩
  | .hbm, ⟨40, _⟩ => ⟨S4x8192x1024, .f32⟩
  | .hbm, ⟨41, _⟩ => ⟨S4x8192x1024, .f32⟩
  | .hbm, ⟨42, _⟩ => ⟨S4x8192x1024, .f32⟩
  | .hbm, ⟨43, _⟩ => ⟨S4x256x1024, .f32⟩
  | .hbm, ⟨44, _⟩ => ⟨S_, .f32⟩
  | .hbm, ⟨45, _⟩ => ⟨S4x256, .f32⟩
  | .hbm, ⟨46, _⟩ => ⟨S4x256x1, .f32⟩
  | .hbm, ⟨47, _⟩ => ⟨S_, .f32⟩
  | .hbm, ⟨48, _⟩ => ⟨S4x256x1, .f32⟩
  | .hbm, ⟨49, _⟩ => ⟨S4x256x1, .f32⟩
  | .hbm, ⟨50, _⟩ => ⟨S_, .f32⟩
  | .hbm, ⟨51, _⟩ => ⟨S4x256x1, .f32⟩
  | .hbm, ⟨52, _⟩ => ⟨S4x256x1, .f32⟩
  | .hbm, ⟨53, _⟩ => ⟨S4x256x1, .f32⟩
  | .hbm, ⟨54, _⟩ => ⟨S4x256x1024, .f32⟩
  | .hbm, ⟨55, _⟩ => ⟨S4x256x1024, .f32⟩
  | .hbm, ⟨56, _⟩ => ⟨S1x1x1024, .f32⟩
  | .hbm, ⟨57, _⟩ => ⟨S4x256x1024, .f32⟩
  | .hbm, ⟨58, _⟩ => ⟨S4x256x1024, .f32⟩
  | .hbm, ⟨59, _⟩ => ⟨S_, .f32⟩
  | .hbm, ⟨60, _⟩ => ⟨S1024, .f32⟩
  | .hbm, ⟨61, _⟩ => ⟨S1024, .f32⟩
  | .hbm, ⟨62, _⟩ => ⟨S1x1x1024, .f32⟩
  | .hbm, ⟨63, _⟩ => ⟨S4x256x1024, .f32⟩
  | .hbm, ⟨64, _⟩ => ⟨S4x256x1024, .f32⟩
  | .hbm, ⟨65, _⟩ => ⟨S1x1x1024, .f32⟩
  | .hbm, ⟨66, _⟩ => ⟨S4x256x1024, .f32⟩
  | .hbm, ⟨67, _⟩ => ⟨S4x256x1024, .f32⟩
  | .hbm, ⟨68, _⟩ => ⟨S4x256x1024, .f32⟩
  | .hbm, ⟨69, _⟩ => ⟨S32768x1024, .f32⟩
  | .hbm, ⟨70, _⟩ => ⟨S1024x1024, .f32⟩
  | .hbm, ⟨71, _⟩ => ⟨S33792x1024, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst : Ref sig .tc := ⟨.hbm, 20, rfl⟩
abbrev main_v14 : Ref sig .tc := ⟨.hbm, 21, rfl⟩
abbrev main_v15 : Ref sig .tc := ⟨.hbm, 22, rfl⟩
abbrev main_cst_0 : Ref sig .tc := ⟨.hbm, 23, rfl⟩
abbrev main_v16 : Ref sig .tc := ⟨.hbm, 24, rfl⟩
abbrev main_v17 : Ref sig .tc := ⟨.hbm, 25, rfl⟩
abbrev main_cst_1 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_2 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_cst_3 : Ref sig .tc := ⟨.hbm, 44, rfl⟩
abbrev main_v34 : Ref sig .tc := ⟨.hbm, 45, rfl⟩
abbrev main_v35 : Ref sig .tc := ⟨.hbm, 46, rfl⟩
abbrev main_cst_4 : Ref sig .tc := ⟨.hbm, 47, rfl⟩
abbrev main_v36 : Ref sig .tc := ⟨.hbm, 48, rfl⟩
abbrev main_v37 : Ref sig .tc := ⟨.hbm, 49, rfl⟩
abbrev main_cst_5 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_cst_6 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩

abbrev nD : Nat := 1
abbrev τ : Topo := Topo.v7x

variable {F : FTy → Type} [FloatOps F]
-- ==== Kernel5.lean ====
abbrev S4x8192x1024 : Shape := ⟨3, ![4, 8192, 1024]⟩
abbrev S4x256x1024 : Shape := ⟨3, ![4, 256, 1024]⟩
abbrev S1024 : Shape := ⟨1, ![1024]⟩
abbrev S4x6144 : Shape := ⟨2, ![4, 6144]⟩
abbrev S6144 : Shape := ⟨1, ![6144]⟩
abbrev S1024x2560 : Shape := ⟨2, ![1024, 2560]⟩
abbrev S64 : Shape := ⟨1, ![64]⟩
abbrev S1x6144 : Shape := ⟨2, ![1, 6144]⟩
abbrev S5x6144 : Shape := ⟨2, ![5, 6144]⟩
abbrev S_ : Shape := ⟨0, ![]⟩
abbrev S16x6144 : Shape := ⟨2, ![16, 6144]⟩
abbrev S16x1x6144 : Shape := ⟨3, ![16, 1, 6144]⟩
abbrev S32768x1024 : Shape := ⟨2, ![32768, 1024]⟩
abbrev S1024x1024 : Shape := ⟨2, ![1024, 1024]⟩
abbrev S33792x1024 : Shape := ⟨2, ![33792, 1024]⟩
abbrev S8x64x64 : Shape := ⟨3, ![8, 64, 64]⟩
abbrev S512x512 : Shape := ⟨2, ![512, 512]⟩
abbrev S1x64x64 : Shape := ⟨3, ![1, 64, 64]⟩
abbrev S64x64 : Shape := ⟨2, ![64, 64]⟩
abbrev S1 : Shape := ⟨1, ![1]⟩
abbrev S2 : Shape := ⟨1, ![2]⟩
abbrev S1x1024 : Shape := ⟨2, ![1, 1024]⟩
abbrev S16 : Shape := ⟨1, ![16]⟩
abbrev S128 : Shape := ⟨1, ![128]⟩
abbrev S128x64 : Shape := ⟨2, ![128, 64]⟩
abbrev S8192 : Shape := ⟨1, ![8192]⟩
abbrev S1x64 : Shape := ⟨2, ![1, 64]⟩
abbrev S8192x1 : Shape := ⟨2, ![8192, 1]⟩
abbrev S1x16 : Shape := ⟨2, ![1, 16]⟩
abbrev S8192x16 : Shape := ⟨2, ![8192, 16]⟩
abbrev S8192x64 : Shape := ⟨2, ![8192, 64]⟩
abbrev S1x8192x1x64 : Shape := ⟨4, ![1, 8192, 1, 64]⟩
abbrev S1x8192x2x64 : Shape := ⟨4, ![1, 8192, 2, 64]⟩
abbrev S8192x128 : Shape := ⟨2, ![8192, 128]⟩
abbrev S512x128 : Shape := ⟨2, ![512, 128]⟩
abbrev S8704x128 : Shape := ⟨2, ![8704, 128]⟩
abbrev S8x64 : Shape := ⟨2, ![8, 64]⟩
abbrev S512 : Shape := ⟨1, ![512]⟩
abbrev S1x512 : Shape := ⟨2, ![1, 512]⟩
abbrev S2x64 : Shape := ⟨2, ![2, 64]⟩
abbrev S1x128 : Shape := ⟨2, ![1, 128]⟩
abbrev S33792x512 : Shape := ⟨2, ![33792, 512]⟩
abbrev S33792x128 : Shape := ⟨2, ![33792, 128]⟩
abbrev S33792x1536 : Shape := ⟨2, ![33792, 1536]⟩
abbrev S33792x256 : Shape := ⟨2, ![33792, 256]⟩
abbrev S512x1024 : Shape := ⟨2, ![512, 1024]⟩
abbrev S1x1x6144 : Shape := ⟨3, ![1, 1, 6144]⟩
abbrev S512x1536 : Shape := ⟨2, ![512, 1536]⟩
abbrev S512x256 : Shape := ⟨2, ![512, 256]⟩
abbrev S512x1 : Shape := ⟨2, ![512, 1]⟩
abbrev S1024x1536 : Shape := ⟨2, ![1024, 1536]⟩
abbrev S1024x256 : Shape := ⟨2, ![1024, 256]⟩
abbrev S1024x768 : Shape := ⟨2, ![1024, 768]⟩
abbrev S512x768 : Shape := ⟨2, ![512, 768]⟩
abbrev S128x128 : Shape := ⟨2, ![128, 128]⟩

abbrev nBuf : Space → Nat
  | .hbm => 157
  | .vmem => 23
  | .smem => 0
  | _ => 0

abbrev hbmTy0_0 (i : Nat) : BufTy := match i % 128 with
  | 0 => ⟨S4x8192x1024, .f32⟩
  | 1 => ⟨S4x256x1024, .f32⟩
  | 2 => ⟨S1024, .f32⟩
  | 3 => ⟨S4x6144, .f32⟩
  | 4 => ⟨S6144, .f32⟩
  | 5 => ⟨S1024x2560, .f32⟩
  | 6 => ⟨S64, .f32⟩
  | 7 => ⟨S64, .f32⟩
  | 8 => ⟨S1x6144, .f32⟩
  | 9 => ⟨S5x6144, .f32⟩
  | 10 => ⟨S_, .i32⟩
  | 11 => ⟨S_, .f32⟩
  | 12 => ⟨S16x6144, .f32⟩
  | 13 => ⟨S16x1x6144, .f32⟩
  | 14 => ⟨S32768x1024, .f32⟩
  | 15 => ⟨S1024x1024, .f32⟩
  | 16 => ⟨S33792x1024, .f32⟩
  | 17 => ⟨S_, .bf16⟩
  | 18 => ⟨S8x64x64, .bf16⟩
  | 19 => ⟨S_, .bf16⟩
  | 20 => ⟨S512x512, .bf16⟩
  | 21 => ⟨S1x64x64, .bf16⟩
  | 22 => ⟨S64x64, .bf16⟩
  | 23 => ⟨S_, .i32⟩
  | 24 => ⟨S1, .i32⟩
  | 25 => ⟨S_, .i32⟩
  | 26 => ⟨S1, .i32⟩
  | 27 => ⟨S2, .i32⟩
  | 28 => ⟨S512x512, .bf16⟩
  | 29 => ⟨S1x64x64, .bf16⟩
  | 30 => ⟨S64x64, .bf16⟩
  | 31 => ⟨S_, .i32⟩
  | 32 => ⟨S1, .i32⟩
  | 33 => ⟨S_, .i32⟩
  | 34 => ⟨S1, .i32⟩
  | 35 => ⟨S2, .i32⟩
  | 36 => ⟨S512x512, .bf16⟩
  | 37 => ⟨S1x64x64, .bf16⟩
  | 38 => ⟨S64x64, .bf16⟩
  | 39 => ⟨S_, .i32⟩
  | 40 => ⟨S1, .i32⟩
  | 41 => ⟨S_, .i32⟩
  | 42 => ⟨S1, .i32⟩
  | 43 => ⟨S2, .i32⟩
  | 44 => ⟨S512x512, .bf16⟩
  | 45 => ⟨S1x64x64, .bf16⟩
  | 46 => ⟨S64x64, .bf16⟩
  | 47 => ⟨S_, .i32⟩
  | 48 => ⟨S1, .i32⟩
  | 49 => ⟨S_, .i32⟩
  | 50 => ⟨S1, .i32⟩
  | 51 => ⟨S2, .i32⟩
  | 52 => ⟨S512x512, .bf16⟩
  | 53 => ⟨S1x64x64, .bf16⟩
  | 54 => ⟨S64x64, .bf16⟩
  | 55 => ⟨S_, .i32⟩
  | 56 => ⟨S1, .i32⟩
  | 57 => ⟨S_, .i32⟩
  | 58 => ⟨S1, .i32⟩
  | 59 => ⟨S2, .i32⟩
  | 60 => ⟨S512x512, .bf16⟩
  | 61 => ⟨S1x64x64, .bf16⟩
  | 62 => ⟨S64x64, .bf16⟩
  | 63 => ⟨S_, .i32⟩
  | 64 => ⟨S1, .i32⟩
  | 65 => ⟨S_, .i32⟩
  | 66 => ⟨S1, .i32⟩
  | 67 => ⟨S2, .i32⟩
  | 68 => ⟨S512x512, .bf16⟩
  | 69 => ⟨S1x64x64, .bf16⟩
  | 70 => ⟨S64x64, .bf16⟩
  | 71 => ⟨S_, .i32⟩
  | 72 => ⟨S1, .i32⟩
  | 73 => ⟨S_, .i32⟩
  | 74 => ⟨S1, .i32⟩
  | 75 => ⟨S2, .i32⟩
  | 76 => ⟨S512x512, .bf16⟩
  | 77 => ⟨S1x64x64, .bf16⟩
  | 78 => ⟨S64x64, .bf16⟩
  | 79 => ⟨S_, .i32⟩
  | 80 => ⟨S1, .i32⟩
  | 81 => ⟨S_, .i32⟩
  | 82 => ⟨S1, .i32⟩
  | 83 => ⟨S2, .i32⟩
  | 84 => ⟨S512x512, .bf16⟩
  | 85 => ⟨S1x1024, .f32⟩
  | 86 => ⟨S1024x2560, .bf16⟩
  | 87 => ⟨S16, .f32⟩
  | 88 => ⟨S_, .f32⟩
  | 89 => ⟨S16, .f32⟩
  | 90 => ⟨S16, .f32⟩
  | 91 => ⟨S_, .f32⟩
  | 92 => ⟨S16, .f32⟩
  | 93 => ⟨S16, .f32⟩
  | 94 => ⟨S16, .f32⟩
  | 95 => ⟨S_, .f32⟩
  | 96 => ⟨S16, .f32⟩
  | 97 => ⟨S16, .f32⟩
  | 98 => ⟨S_, .f32⟩
  | 99 => ⟨S16, .f32⟩
  | 100 => ⟨S16, .f32⟩
  | 101 => ⟨S128, .i32⟩
  | 102 => ⟨S128x64, .i32⟩
  | 103 => ⟨S8192, .i32⟩
  | 104 => ⟨S64, .i32⟩
  | 105 => ⟨S1x64, .i32⟩
  | 106 => ⟨S128x64, .i32⟩
  | 107 => ⟨S8192, .i32⟩
  | 108 => ⟨S8192, .f32⟩
  | 109 => ⟨S8192x1, .f32⟩
  | 110 => ⟨S1x16, .f32⟩
  | 111 => ⟨S8192x16, .f32⟩
  | 112 => ⟨S8192x16, .f32⟩
  | 113 => ⟨S8192x16, .f32⟩
  | 114 => ⟨S8192, .f32⟩
  | 115 => ⟨S8192x1, .f32⟩
  | 116 => ⟨S1x16, .f32⟩
  | 117 => ⟨S8192x16, .f32⟩
  | 118 => ⟨S8192x16, .f32⟩
  | 119 => ⟨S8192x16, .f32⟩
  | 120 => ⟨S8192x16, .f32⟩
  | 121 => ⟨S8192x16, .f32⟩
  | 122 => ⟨S8192x16, .f32⟩
  | 123 => ⟨S8192x16, .f32⟩
  | 124 => ⟨S8192x64, .f32⟩
  | 125 => ⟨S8192x16, .f32⟩
  | 126 => ⟨S8192x16, .f32⟩
  | 127 => ⟨S8192x16, .f32⟩
  | _ => ⟨S4x8192x1024, .f32⟩

abbrev hbmTy0_1 (i : Nat) : BufTy := match i % 128 with
  | 0 => ⟨S8192x16, .f32⟩
  | 1 => ⟨S8192x16, .f32⟩
  | 2 => ⟨S8192x16, .f32⟩
  | 3 => ⟨S8192x64, .f32⟩
  | 4 => ⟨S1x8192x1x64, .f32⟩
  | 5 => ⟨S1x8192x2x64, .f32⟩
  | 6 => ⟨S8192x128, .f32⟩
  | 7 => ⟨S_, .f32⟩
  | 8 => ⟨S512x128, .f32⟩
  | 9 => ⟨S8704x128, .f32⟩
  | 10 => ⟨S1x8192x1x64, .f32⟩
  | 11 => ⟨S1x8192x2x64, .f32⟩
  | 12 => ⟨S8192x128, .f32⟩
  | 13 => ⟨S_, .f32⟩
  | 14 => ⟨S512x128, .f32⟩
  | 15 => ⟨S8704x128, .f32⟩
  | 16 => ⟨S1x64, .f32⟩
  | 17 => ⟨S8x64, .f32⟩
  | 18 => ⟨S512, .f32⟩
  | 19 => ⟨S1x512, .f32⟩
  | 20 => ⟨S1x64, .f32⟩
  | 21 => ⟨S2x64, .f32⟩
  | 22 => ⟨S128, .f32⟩
  | 23 => ⟨S1x128, .f32⟩
  | 24 => ⟨S33792x512, .bf16⟩
  | 25 => ⟨S33792x128, .bf16⟩
  | 26 => ⟨S33792x128, .bf16⟩
  | 27 => ⟨S33792x1536, .f32⟩
  | 28 => ⟨S33792x256, .f32⟩
  | _ => ⟨S4x8192x1024, .f32⟩

abbrev hbmTy (i : Nat) : BufTy := match i / 128 with
  | 0 => hbmTy0_0 i
  | 1 => hbmTy0_1 i
  | _ => ⟨S4x8192x1024, .f32⟩

abbrev bufTy : (tb : Table) → Fin (tcTables nBuf tb) → BufTy
  | .hbm, ⟨i, _⟩ => hbmTy i
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1x6144, .f32⟩
  | .local _ .vmem, ⟨4, _⟩ => ⟨S1x1x6144, .f32⟩
  | .local _ .vmem, ⟨5, _⟩ => ⟨S1024x2560, .bf16⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S1x512, .f32⟩
  | .local _ .vmem, ⟨11, _⟩ => ⟨S1x128, .f32⟩
  | .local _ .vmem, ⟨12, _⟩ => ⟨S512x512, .bf16⟩
  | .local _ .vmem, ⟨13, _⟩ => ⟨S512x512, .bf16⟩
  | .local _ .vmem, ⟨14, _⟩ => ⟨S512x512, .bf16⟩
  | .local _ .vmem, ⟨15, _⟩ => ⟨S512x128, .bf16⟩
  | .local _ .vmem, ⟨16, _⟩ => ⟨S512x128, .bf16⟩
  | .local _ .vmem, ⟨17, _⟩ => ⟨S512x128, .bf16⟩
  | .local _ .vmem, ⟨18, _⟩ => ⟨S512x128, .bf16⟩
  | .local _ .vmem, ⟨19, _⟩ => ⟨S512x1536, .f32⟩
  | .local _ .vmem, ⟨20, _⟩ => ⟨S512x1536, .f32⟩
  | .local _ .vmem, ⟨21, _⟩ => ⟨S512x256, .f32⟩
  | .local _ .vmem, ⟨22, _⟩ => ⟨S512x256, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_call0_v0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_c_1 : Ref sig .tc := ⟨.hbm, 23, rfl⟩
abbrev main_v11 : Ref sig .tc := ⟨.hbm, 24, rfl⟩
abbrev main_c_2 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_c_3 : Ref sig .tc := ⟨.hbm, 31, rfl⟩
abbrev main_v17 : Ref sig .tc := ⟨.hbm, 32, rfl⟩
abbrev main_c_4 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_c_5 : Ref sig .tc := ⟨.hbm, 39, rfl⟩
abbrev main_v23 : Ref sig .tc := ⟨.hbm, 40, rfl⟩
abbrev main_c_6 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_c_7 : Ref sig .tc := ⟨.hbm, 47, rfl⟩
abbrev main_v29 : Ref sig .tc := ⟨.hbm, 48, rfl⟩
abbrev main_c_8 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_c_9 : Ref sig .tc := ⟨.hbm, 55, rfl⟩
abbrev main_v35 : Ref sig .tc := ⟨.hbm, 56, rfl⟩
abbrev main_c_10 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_c_11 : Ref sig .tc := ⟨.hbm, 63, rfl⟩
abbrev main_v41 : Ref sig .tc := ⟨.hbm, 64, rfl⟩
abbrev main_c_12 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_c_13 : Ref sig .tc := ⟨.hbm, 71, rfl⟩
abbrev main_v47 : Ref sig .tc := ⟨.hbm, 72, rfl⟩
abbrev main_c_14 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_c_15 : Ref sig .tc := ⟨.hbm, 79, rfl⟩
abbrev main_v53 : Ref sig .tc := ⟨.hbm, 80, rfl⟩
abbrev main_c_16 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_cst_17 : Ref sig .tc := ⟨.hbm, 88, rfl⟩
abbrev main_v60 : Ref sig .tc := ⟨.hbm, 89, rfl⟩
abbrev main_v61 : Ref sig .tc := ⟨.hbm, 90, rfl⟩
abbrev main_cst_18 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_cst_19 : Ref sig .tc := ⟨.hbm, 95, rfl⟩
abbrev main_v65 : Ref sig .tc := ⟨.hbm, 96, rfl⟩
abbrev main_v66 : Ref sig .tc := ⟨.hbm, 97, rfl⟩
abbrev main_cst_20 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_cst_21 : Ref sig .tc := ⟨.hbm, 135, rfl⟩
abbrev main_v103 : Ref sig .tc := ⟨.hbm, 136, rfl⟩
abbrev main_v104 : Ref sig .tc := ⟨.hbm, 137, rfl⟩
abbrev main_v105 : Ref sig .tc := ⟨.hbm, 138, rfl⟩
abbrev main_v106 : Ref sig .tc := ⟨.hbm, 139, rfl⟩
abbrev main_v107 : Ref sig .tc := ⟨.hbm, 140, rfl⟩
abbrev main_cst_22 : Ref sig .tc := ⟨.hbm, 141, rfl⟩
abbrev main_v108 : Ref sig .tc := ⟨.hbm, 142, rfl⟩
abbrev main_v109 : Ref sig .tc := ⟨.hbm, 143, rfl⟩
abbrev main_v110 : Ref sig .tc := ⟨.hbm, 144, rfl⟩
abbrev main_v111 : Ref sig .tc := ⟨.hbm, 145, rfl⟩
abbrev main_v112 : Ref sig .tc := ⟨.hbm, 146, rfl⟩
abbrev main_v113 : Ref sig .tc := ⟨.hbm, 147, rfl⟩
abbrev main_v114 : Ref sig .tc := ⟨.hbm, 148, rfl⟩
abbrev main_v115 : Ref sig .tc := ⟨.hbm, 149, rfl⟩
abbrev main_v116 : Ref sig .tc := ⟨.hbm, 150, rfl⟩
abbrev main_v117 : Ref sig .tc := ⟨.hbm, 151, rfl⟩
abbrev main_v118_0 : Ref sig .tc := ⟨.hbm, 152, rfl⟩
abbrev main_v118_1 : Ref sig .tc := ⟨.hbm, 153, rfl⟩
abbrev main_v118_2 : Ref sig .tc := ⟨.hbm, 154, rfl⟩
abbrev main_v118_3 : Ref sig .tc := ⟨.hbm, 155, rfl⟩
abbrev main_v118_4 : Ref sig .tc := ⟨.hbm, 156, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22

abbrev nD : Nat := 1
abbrev τ : Topo := Topo.v7x

variable {F : FTy → Type} [FloatOps F]

abbrev grid0 : Pipeline.Grid := ⟨1, ![66], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c64_i32 : BitVec 32 := 64#32
  let v0 : BitVec 1 := Scalar.cmpi .slt arg0 c64_i32
  let c16_i32 : BitVec 32 := 16#32
  let v1 : BitVec 32 := Scalar.divsi arg0 c16_i32
  let c0_i32 : BitVec 32 := 0#32
  let v2 : BitVec 1 := Scalar.cmpi .sgt arg0 c0_i32
  let v3 : BitVec 32 := Scalar.extui v2
  let c0_i32_0 : BitVec 32 := 0#32
  let v4 : BitVec 1 := Scalar.cmpi .slt arg0 c0_i32_0
  let v5 : BitVec 32 := Scalar.extui v4
  let v6 : BitVec 32 := Scalar.subi v3 v5
  let c0_i32_1 : BitVec 32 := 0#32
  let v7 : BitVec 1 := Scalar.cmpi .sgt c16_i32 c0_i32_1
  let v8 : BitVec 32 := Scalar.extui v7
  let c0_i32_2 : BitVec 32 := 0#32
  let v9 : BitVec 1 := Scalar.cmpi .slt c16_i32 c0_i32_2
  let v10 : BitVec 32 := Scalar.extui v9
  let v11 : BitVec 32 := Scalar.subi v8 v10
  let v12 : BitVec 1 := Scalar.cmpi .ne v6 v11
  let v13 : BitVec 32 := Scalar.remsi arg0 c16_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c4_i32 : BitVec 32 := 4#32
  let v18 : BitVec 32 := Scalar.select v0 v17 c4_i32
  let c8_i32 : BitVec 32 := 8#32
  let v19 : BitVec 32 := Scalar.addi c8_i32 v18
  let c0_i32_4 : BitVec 32 := 0#32
  let c0_i32_5 : BitVec 32 := 0#32
  let c0_i32_6 : BitVec 32 := 0#32
  ![v19.toNat, c0_i32_4.toNat, c0_i32_5.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c64_i32 : BitVec 32 := 64#32
  let v0 : BitVec 1 := Scalar.cmpi .slt arg0 c64_i32
  let c16_i32 : BitVec 32 := 16#32
  let v1 : BitVec 32 := Scalar.remsi arg0 c16_i32
  let c16_i32_0 : BitVec 32 := 16#32
  let v2 : BitVec 32 := Scalar.select v0 v1 c16_i32_0
  let c0_i32 : BitVec 32 := 0#32
  let c0_i32_1 : BitVec 32 := 0#32
  ![v2.toNat, c0_i32.toNat]

def cc0_transform_5 (i : grid0.Coords) : Fin 2 → Nat :=
  let arg0 : BitVec 32 := BitVec.ofNat 32 (i 0).val
  let c64_i32 : BitVec 32 := 64#32
  let v0 : BitVec 1 := Scalar.cmpi .slt arg0 c64_i32
  let c16_i32 : BitVec 32 := 16#32
  let v1 : BitVec 32 := Scalar.remsi arg0 c16_i32
  let c16_i32_0 : BitVec 32 := 16#32
  let v2 : BitVec 32 := Scalar.select v0 v1 c16_i32_0
  let c0_i32 : BitVec 32 := 0#32
  let c0_i32_1 : BitVec 32 := 0#32
  ![v2.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x6144 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x2560 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1536 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== Reference5Ideal.lean ====
abbrev S4x8192x1024 : Shape := ⟨3, ![4, 8192, 1024]⟩
abbrev S4x256x1024 : Shape := ⟨3, ![4, 256, 1024]⟩
abbrev S1024 : Shape := ⟨1, ![1024]⟩
abbrev S4x6144 : Shape := ⟨2, ![4, 6144]⟩
abbrev S6144 : Shape := ⟨1, ![6144]⟩
abbrev S1024x2560 : Shape := ⟨2, ![1024, 2560]⟩
abbrev S64 : Shape := ⟨1, ![64]⟩
abbrev S4x1x6144 : Shape := ⟨3, ![4, 1, 6144]⟩
abbrev S4x1x1024 : Shape := ⟨3, ![4, 1, 1024]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S4x8192x2560 : Shape := ⟨3, ![4, 8192, 2560]⟩
abbrev S4x256 : Shape := ⟨2, ![4, 256]⟩
abbrev S4x256x1 : Shape := ⟨3, ![4, 256, 1]⟩
abbrev S4x256x2560 : Shape := ⟨3, ![4, 256, 2560]⟩
abbrev S4x8192x128 : Shape := ⟨3, ![4, 8192, 128]⟩
abbrev S4x256x128 : Shape := ⟨3, ![4, 256, 128]⟩
abbrev S32768x128 : Shape := ⟨2, ![32768, 128]⟩
abbrev S1024x128 : Shape := ⟨2, ![1024, 128]⟩
abbrev S33792x128 : Shape := ⟨2, ![33792, 128]⟩
abbrev S4x8192x1536 : Shape := ⟨3, ![4, 8192, 1536]⟩
abbrev S4x256x1536 : Shape := ⟨3, ![4, 256, 1536]⟩
abbrev S32768x1536 : Shape := ⟨2, ![32768, 1536]⟩
abbrev S1024x1536 : Shape := ⟨2, ![1024, 1536]⟩
abbrev S33792x1536 : Shape := ⟨2, ![33792, 1536]⟩
abbrev S4x8192x256 : Shape := ⟨3, ![4, 8192, 256]⟩
abbrev S4x256x256 : Shape := ⟨3, ![4, 256, 256]⟩
abbrev S32768x256 : Shape := ⟨2, ![32768, 256]⟩
abbrev S1024x256 : Shape := ⟨2, ![1024, 256]⟩
abbrev S33792x256 : Shape := ⟨2, ![33792, 256]⟩

abbrev nBuf : Space → Nat
  | .hbm => 87
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S4x256x1024, .f32⟩
  | .hbm, ⟨2, _⟩ => ⟨S1024, .f32⟩
  | .hbm, ⟨3, _⟩ => ⟨S4x6144, .f32⟩
  | .hbm, ⟨4, _⟩ => ⟨S6144, .f32⟩
  | .hbm, ⟨5, _⟩ => ⟨S1024x2560, .f32⟩
  | .hbm, ⟨6, _⟩ => ⟨S64, .f32⟩
  | .hbm, ⟨7, _⟩ => ⟨S64, .f32⟩
  | .hbm, ⟨8, _⟩ => ⟨S4x1x6144, .f32⟩
  | .hbm, ⟨9, _⟩ => ⟨S4x1x1024, .f32⟩
  | .hbm, ⟨10, _⟩ => ⟨S4x1x1024, .f32⟩
  | .hbm, ⟨11, _⟩ => ⟨S4x1x1024, .f32⟩
  | .hbm, ⟨12, _⟩ => ⟨S4x1x1024, .f32⟩
  | .hbm, ⟨13, _⟩ => ⟨S4x1x1024, .f32⟩
  | .hbm, ⟨14, _⟩ => ⟨S4x1x1024, .f32⟩
  | .hbm, ⟨15, _⟩ => ⟨S1024, .f32⟩
  | .hbm, ⟨16, _⟩ => ⟨S1024, .f32⟩
  | .hbm, ⟨17, _⟩ => ⟨S1024, .f32⟩
  | .hbm, ⟨18, _⟩ => ⟨S1024, .f32⟩
  | .hbm, ⟨19, _⟩ => ⟨S1024, .f32⟩
  | .hbm, ⟨20, _⟩ => ⟨S1024, .f32⟩
  | .hbm, ⟨21, _⟩ => ⟨S4x8192x1024, .f32⟩
  | .hbm, ⟨22, _⟩ => ⟨S_, .f32⟩
  | .hbm, ⟨23, _⟩ => ⟨S4x8192, .f32⟩
  | .hbm, ⟨24, _⟩ => ⟨S4x8192x1, .f32⟩
  | .hbm, ⟨25, _⟩ => ⟨S_, .f32⟩
  | .hbm, ⟨26, _⟩ => ⟨S4x8192x1, .f32⟩
  | .hbm, ⟨27, _⟩ => ⟨S4x8192x1, .f32⟩
  | .hbm, ⟨28, _⟩ => ⟨S_, .f32⟩
  | .hbm, ⟨29, _⟩ => ⟨S4x8192x1, .f32⟩
  | .hbm, ⟨30, _⟩ => ⟨S4x8192x1, .f32⟩
  | .hbm, ⟨31, _⟩ => ⟨S4x8192x1, .f32⟩
  | .hbm, ⟨32, _⟩ => ⟨S4x8192x1024, .f32⟩
  | .hbm, ⟨33, _⟩ => ⟨S4x8192x1024, .f32⟩
  | .hbm, ⟨34, _⟩ => ⟨S1x1x1024, .f32⟩
  | .hbm, ⟨35, _⟩ => ⟨S4x8192x1024, .f32⟩
  | .hbm, ⟨36, _⟩ => ⟨S4x8192x1024, .f32⟩
  | .hbm, ⟨37, _⟩ => ⟨S_, .f32⟩
  | .hbm, ⟨38, _⟩ => ⟨S4x1x1024, .f32⟩
  | .hbm, ⟨39, _⟩ => ⟨S4x1x1024, .f32⟩
  | .hbm, ⟨40, _⟩ => ⟨S4x8192x1024, .f32⟩
  | .hbm, ⟨41, _⟩ => ⟨S4x8192x1024, .f32⟩
  | .hbm, ⟨42, _⟩ => ⟨S4x8192x1024, .f32⟩
  | .hbm, ⟨43, _⟩ => ⟨S4x8192x1024, .f32⟩
  | .hbm, ⟨44, _⟩ => ⟨S4x8192x2560, .f32⟩
  | .hbm, ⟨45, _⟩ => ⟨S4x256x1024, .f32⟩
  | .hbm, ⟨46, _⟩ => ⟨S_, .f32⟩
  | .hbm, ⟨47, _⟩ => ⟨S4x256, .f32⟩
  | .hbm, ⟨48, _⟩ => ⟨S4x256x1, .f32⟩
  | .hbm, ⟨49, _⟩ => ⟨S_, .f32⟩
  | .hbm, ⟨50, _⟩ => ⟨S4x256x1, .f32⟩
  | .hbm, ⟨51, _⟩ => ⟨S4x256x1, .f32⟩
  | .hbm, ⟨52, _⟩ => ⟨S_, .f32⟩
  | .hbm, ⟨53, _⟩ => ⟨S4x256x1, .f32⟩
  | .hbm, ⟨54, _⟩ => ⟨S4x256x1, .f32⟩
  | .hbm, ⟨55, _⟩ => ⟨S4x256x1, .f32⟩
  | .hbm, ⟨56, _⟩ => ⟨S4x256x1024, .f32⟩
  | .hbm, ⟨57, _⟩ => ⟨S4x256x1024, .f32⟩
  | .hbm, ⟨58, _⟩ => ⟨S1x1x1024, .f32⟩
  | .hbm, ⟨59, _⟩ => ⟨S4x256x1024, .f32⟩
  | .hbm, ⟨60, _⟩ => ⟨S4x256x1024, .f32⟩
  | .hbm, ⟨61, _⟩ => ⟨S_, .f32⟩
  | .hbm, ⟨62, _⟩ => ⟨S1024, .f32⟩
  | .hbm, ⟨63, _⟩ => ⟨S1024, .f32⟩
  | .hbm, ⟨64, _⟩ => ⟨S1x1x1024, .f32⟩
  | .hbm, ⟨65, _⟩ => ⟨S4x256x1024, .f32⟩
  | .hbm, ⟨66, _⟩ => ⟨S4x256x1024, .f32⟩
  | .hbm, ⟨67, _⟩ => ⟨S1x1x1024, .f32⟩
  | .hbm, ⟨68, _⟩ => ⟨S4x256x1024, .f32⟩
  | .hbm, ⟨69, _⟩ => ⟨S4x256x1024, .f32⟩
  | .hbm, ⟨70, _⟩ => ⟨S4x256x2560, .f32⟩
  | .hbm, ⟨71, _⟩ => ⟨S4x8192x128, .f32⟩
  | .hbm, ⟨72, _⟩ => ⟨S4x256x128, .f32⟩
  | .hbm, ⟨73, _⟩ => ⟨S32768x128, .f32⟩
  | .hbm, ⟨74, _⟩ => ⟨S1024x128, .f32⟩
  | .hbm, ⟨75, _⟩ => ⟨S33792x128, .f32⟩
  | .hbm, ⟨76, _⟩ => ⟨S33792x128, .bf16⟩
  | .hbm, ⟨77, _⟩ => ⟨S4x8192x1536, .f32⟩
  | .hbm, ⟨78, _⟩ => ⟨S4x256x1536, .f32⟩
  | .hbm, ⟨79, _⟩ => ⟨S32768x1536, .f32⟩
  | .hbm, ⟨80, _⟩ => ⟨S1024x1536, .f32⟩
  | .hbm, ⟨81, _⟩ => ⟨S33792x1536, .f32⟩
  | .hbm, ⟨82, _⟩ => ⟨S4x8192x256, .f32⟩
  | .hbm, ⟨83, _⟩ => ⟨S4x256x256, .f32⟩
  | .hbm, ⟨84, _⟩ => ⟨S32768x256, .f32⟩
  | .hbm, ⟨85, _⟩ => ⟨S1024x256, .f32⟩
  | .hbm, ⟨86, _⟩ => ⟨S33792x256, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst : Ref sig .tc := ⟨.hbm, 22, rfl⟩
abbrev main_v14 : Ref sig .tc := ⟨.hbm, 23, rfl⟩
abbrev main_v15 : Ref sig .tc := ⟨.hbm, 24, rfl⟩
abbrev main_cst_0 : Ref sig .tc := ⟨.hbm, 25, rfl⟩
abbrev main_v16 : Ref sig .tc := ⟨.hbm, 26, rfl⟩
abbrev main_v17 : Ref sig .tc := ⟨.hbm, 27, rfl⟩
abbrev main_cst_1 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_2 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_3 : Ref sig .tc := ⟨.hbm, 46, rfl⟩
abbrev main_v34 : Ref sig .tc := ⟨.hbm, 47, rfl⟩
abbrev main_v35 : Ref sig .tc := ⟨.hbm, 48, rfl⟩
abbrev main_cst_4 : Ref sig .tc := ⟨.hbm, 49, rfl⟩
abbrev main_v36 : Ref sig .tc := ⟨.hbm, 50, rfl⟩
abbrev main_v37 : Ref sig .tc := ⟨.hbm, 51, rfl⟩
abbrev main_cst_5 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_cst_6 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩

abbrev nD : Nat := 1
abbrev τ : Topo := Topo.v7x

variable {F : FTy → Type} [FloatOps F]
-- ==== Proof.Att.Row.lean ====
module

public import Idealize.ShloMosaic.PureOps.Ideal
public import Idealize.ShloMosaic.PureOps.Ideal.Laws
public import Idealize.ShloMosaic.Lib.Pointwise

@[expose] public section

noncomputable section

open Idealize.ShloMosaic

namespace Att

/-- The largest of a row's 640 scores and its sink. -/
def rowTop (s : Fin 640 → EReal) (sk : EReal) : EReal :=
  max (Finset.univ.fold max ⊥ s) sk

/-- One element of a block: the values weighted by the exponentials, times the reciprocal of their sum with the sink's. -/
def rowOut (s : Fin 640 → EReal) (sk : EReal) (v : Fin 640 → EReal) : EReal :=
  (∑ c, Ideal.exp (s c - rowTop s sk) * v c)
    * Ideal.div 1 (∑ c, Ideal.exp (s c - rowTop s sk) + Ideal.exp (sk - rowTop s sk))

/-- The largest of the 641 scores of a row that holds the sink as its last column. -/
def fullTop (s : Fin 641 → EReal) : EReal :=
  max ⊥ (Finset.univ.fold max ⊥ s)

/-- The softmax of such a row at one column. -/
def fullProb (s : Fin 641 → EReal) (c : Fin 641) : EReal :=
  Ideal.div (Ideal.exp (s c - fullTop s)) (0 + ∑ k, Ideal.exp (s k - fullTop s))

/-- The largest score is the same whether the sink is a column or apart. -/
theorem fullTop_eq (s : Fin 640 → EReal) (sk : EReal) (S : Fin 641 → EReal)
    (hS : ∀ c : Fin 640, S c.castSucc = s c) (hl : S (Fin.last 640) = sk) : fullTop S = rowTop s sk := by
  unfold fullTop rowTop
  rw [max_eq_right bot_le]
  apply le_antisymm
  · rw [Finset.fold_max_le]
    refine ⟨bot_le, fun x _ => ?_⟩
    refine Fin.lastCases ?_ (fun c => ?_) x
    · rw [hl]; exact le_max_right _ _
    · rw [hS]
      refine le_trans ?_ (le_max_left _ _)
      rw [Finset.le_fold_max]
      exact Or.inr ⟨c, Finset.mem_univ _, le_rfl⟩
  · refine max_le ?_ ?_
    · rw [Finset.fold_max_le]
      refine ⟨bot_le, fun x _ => ?_⟩
      rw [Finset.le_fold_max]
      exact Or.inr ⟨x.castSucc, Finset.mem_univ _, (hS x).ge⟩
    · rw [Finset.le_fold_max]
      exact Or.inr ⟨Fin.last 640, Finset.mem_univ _, hl.ge⟩

/-- The largest of a real sink and of scores that are real or minus infinity is real. -/
theorem rowTop_real (s : Fin 640 → EReal) (sk : ℝ) (h : ∀ c, s c = ⊥ ∨ ∃ x : ℝ, s c = x) :
    ∃ M : ℝ, rowTop s sk = M := by
  have hb : rowTop s sk ≠ ⊥ := fun e => by
    have : (sk : EReal) ≤ ⊥ := e ▸ le_max_right _ _
    exact absurd (le_bot_iff.mp this) (EReal.coe_ne_bot _)
  have ht : rowTop s sk ≠ ⊤ := fun e => by
    have : (⊤ : EReal) ≤ rowTop s sk := e.ge
    unfold rowTop at this
    rw [le_max_iff, Finset.le_fold_max] at this
    rcases this with (h1 | ⟨c, _, h1⟩) | h1
    · exact absurd (le_bot_iff.mp h1) (by simp)
    · rcases h c with h2 | ⟨x, h2⟩ <;> rw [h2] at h1 <;> simp at h1
    · simp at h1
  exact ⟨(rowTop s sk).toReal, (EReal.coe_toReal ht hb).symm⟩

/-- The weight of a column less a real top is a nonnegative real, zero where the score is minus infinity. -/
theorem exp_sub_real (x : EReal) (M : ℝ) (h : x = ⊥ ∨ ∃ r : ℝ, x = r) :
    ∃ p : ℝ, 0 ≤ p ∧ Ideal.exp (x - M) = p ∧ (x = ⊥ → p = 0) := by
  rcases h with rfl | ⟨r, rfl⟩
  · refine ⟨0, le_rfl, ?_, fun _ => rfl⟩
    rw [EReal.bot_sub, Ideal.exp_bot, EReal.coe_zero]
  · refine ⟨Real.exp (r - M), (Real.exp_pos _).le, ?_, fun e => absurd e (EReal.coe_ne_bot _)⟩
    rw [← EReal.coe_sub, Ideal.exp_coe]

/-- A sum of reals is the real sum. -/
theorem sum_real {ι : Type} [Fintype ι] (f : ι → ℝ) : (∑ i, (f i : EReal)) = ((∑ i, f i : ℝ) : EReal) := by
  classical
  refine Finset.induction_on (Finset.univ : Finset ι) (by simp) (fun a s ha ih => ?_)
  rw [Finset.sum_insert ha, Finset.sum_insert ha, ih, EReal.coe_add]

/-- The row of a block and the row of the reference agree: the sink apart or as a column, one reciprocal at the end or
a division per column, the window's and the context's columns together or apart. -/
theorem row_eq (s : Fin 640 → EReal) (sk : ℝ) (v : Fin 640 → EReal) (S : Fin 641 → EReal)
    (vA : Fin 384 → EReal) (vB : Fin 256 → EReal)
    (hS : ∀ c : Fin 640, S c.castSucc = s c) (hl : S (Fin.last 640) = sk)
    (hA : ∀ c : Fin 384, s (c.castAdd 256) = ⊥
      ∨ (∃ x : ℝ, s (c.castAdd 256) = x) ∧ ∃ y : ℝ, v (c.castAdd 256) = y ∧ vA c = y)
    (hB : ∀ c : Fin 256, (∃ x : ℝ, s (c.natAdd 384) = x) ∧ ∃ y : ℝ, v (c.natAdd 384) = y ∧ vB c = y) :
    rowOut s sk v = (∑ c : Fin 384, vA c * fullProb S (c.castAdd 256).castSucc)
      + ∑ c : Fin 256, vB c * fullProb S (c.natAdd 384).castSucc := by
  have hs : ∀ c, s c = ⊥ ∨ ∃ x : ℝ, s c = x := fun c =>
    Fin.addCases (m := 384) (n := 256) (motive := fun c => s c = ⊥ ∨ ∃ x : ℝ, s c = x)
      (fun a => (hA a).imp id (fun h => h.1)) (fun b => Or.inr (hB b).1) c
  obtain ⟨M, hM⟩ := rowTop_real s sk hs
  have hp := fun c => exp_sub_real (s c) M (hs c)
  choose p hp0 hpe hpb using hp
  obtain ⟨q, hq0, hqe, -⟩ := exp_sub_real (sk : EReal) M (Or.inr ⟨sk, rfl⟩)
  have hq : 0 < q := by
    have : Ideal.exp ((sk : EReal) - M) = ((Real.exp (sk - M) : ℝ) : EReal) := by rw [← EReal.coe_sub, Ideal.exp_coe]
    rw [this] at hqe
    rw [← EReal.coe_injective hqe]; exact Real.exp_pos _
  have hD : 0 < ∑ c, p c + q := add_pos_of_nonneg_of_pos (Finset.sum_nonneg fun c _ => hp0 c) hq
  have hden : (0 : EReal) + ∑ k, Ideal.exp (S k - fullTop S) = ((∑ c, p c + q : ℝ) : EReal) := by
    rw [zero_add, Fin.sum_univ_castSucc, fullTop_eq s sk S hS hl, hM, hl, hqe]
    simp only [hS, hpe]
    rw [sum_real, EReal.coe_add]
  have hprob : ∀ c : Fin 640, fullProb S c.castSucc = ((p c / (∑ c, p c + q) : ℝ) : EReal) := fun c => by
    unfold fullProb
    rw [hden, hS, fullTop_eq s sk S hS hl, hM, hpe, Ideal.div_coe hD.ne', ← EReal.coe_mul]
    congr 1; ring
  have hterm : ∀ (c : Fin 640) (w : EReal), (s c = ⊥ ∨ (∃ x : ℝ, s c = x) ∧ ∃ y : ℝ, v c = y ∧ w = y) →
      ∃ z : ℝ, Ideal.exp (s c - M) * v c = z ∧ w * fullProb S c.castSucc = ((z * (1 / (∑ c, p c + q)) : ℝ) : EReal) := by
    rintro c w (h | ⟨-, y, hy, hw⟩)
    · refine ⟨0, ?_, ?_⟩
      · rw [hpe, hpb c h, EReal.coe_zero, zero_mul]
      · rw [hprob, hpb c h]; simp
    · refine ⟨p c * y, ?_, ?_⟩
      · rw [hpe, hy, EReal.coe_mul]
      · rw [hprob, hw, ← EReal.coe_mul]; congr 1; ring
  choose zA hzA hzA' using fun c : Fin 384 => hterm (c.castAdd 256) (vA c) (hA c)
  choose zB hzB hzB' using fun c : Fin 256 => hterm (c.natAdd 384) (vB c) (Or.inr (hB c))
  have hL : rowOut s sk v = (((∑ c, zA c) + ∑ c, zB c : ℝ) * (1 / (∑ c, p c + q) : ℝ) : EReal) := by
    unfold rowOut
    rw [hM, hqe]
    have e1 : (∑ c, Ideal.exp (s c - M)) + (q : EReal) = ((∑ c, p c + q : ℝ) : EReal) := by
      simp only [hpe]; rw [sum_real, EReal.coe_add]
    rw [e1, Ideal.div_coe hD.ne', one_mul,
      Fin.sum_univ_add (a := 384) (b := 256) (fun c => Ideal.exp (s c - M) * v c)]
    simp only [hzA, hzB]
    rw [sum_real, sum_real, EReal.coe_add]
  rw [hL]
  simp only [hzA', hzB']
  rw [sum_real, sum_real, ← EReal.coe_add, ← EReal.coe_mul, ← Finset.sum_mul, ← Finset.sum_mul, ← add_mul]

end Att

end
-- ==== Proof.Att.Pay.lean ====
module

public import proofs.«01_k».proof.Proof.Gen.KernelIdeal.Skeleton
public import proofs.«01_k».proof.Proof.Att.Row
public import Idealize.ShloMosaic.Lib.Pointwise

@[expose] public section

set_option maxRecDepth 16384

noncomputable section

open Idealize.ShloMosaic Idealize.ShloMosaic.TcCoe Idealize.SL.Sem

namespace Cert.KernelIdeal.Att

open Cert.KernelIdeal Cert.KernelIdeal.Gen

/-- The word of minus infinity. -/
theorem word_bot : Ideal.ofBits FTy.f32 4286578688#32 = ⊥ := by simp [Ideal.ofBits, Ideal.ieee]

/-- The word of one. -/
theorem word_one : Ideal.ofBits FTy.f32 1065353216#32 = 1 := Ideal.ofBits_one_f32

/-- The bias of a row and column: the table's element times the mask's constant, minus infinity. -/
theorem pay4_at (b : Vec Ideal S1x512x640 .f32) (ρ : Fin 512) (c : Fin 640) :
    k0_pay4 b (ix2 ρ c) = b (ix3 0 ρ c) * ⊥ := by
  pointwise [k0_pay4]
  rfl

/-- The scores of the first key head: row `g * 128 + r` is query row `r` of group member `g`. -/
theorem pay10_at (v8 : FVec Ideal S640x128 .bf16) (v26 : FVec Ideal S512x640 .f32) (q : FVec Ideal S128x512 .bf16)
    (g : Fin 4) (r : Fin 128) (c : Fin 640) (ρ : Fin 512) (hρ : ρ.val = g.val * 128 + r.val) :
    k0_pay10 v8 v26 (k0_pay5 q) (k0_pay6 q) (k0_pay7 q) (k0_pay8 q) (ix2 ρ c)
      = (∑ d : Fin 64, q (ix2 r ⟨g.val * 64 + d.val, by omega⟩) * v8 (ix2 c ⟨d.val, by omega⟩)) + v26 (ix2 ρ c) := by
  pointwise [k0_pay10, k0_pay5, k0_pay6, k0_pay7, k0_pay8]
  congr 1
  refine Finset.sum_congr rfl fun x _ => ?_
  congr 1
  have hg := g.isLt
  have hr := r.isLt
  repeat' split
  all_goals (congr 1; funext a; apply Fin.ext; fin_cases a <;> simp <;> omega)

/-- The scores of the second key head. -/
theorem pay11_at (v8 : FVec Ideal S640x128 .bf16) (v26 : FVec Ideal S512x640 .f32) (q : FVec Ideal S128x512 .bf16)
    (g : Fin 4) (r : Fin 128) (c : Fin 640) (ρ : Fin 512) (hρ : ρ.val = g.val * 128 + r.val) :
    k0_pay11 v8 v26 (k0_pay5 q) (ix2 ρ c)
      = (∑ d : Fin 64, q (ix2 r ⟨256 + g.val * 64 + d.val, by omega⟩) * v8 (ix2 c ⟨64 + d.val, by omega⟩)) + v26 (ix2 ρ c) := by
  pointwise [k0_pay11, k0_pay5]
  congr 1
  refine Finset.sum_congr rfl fun x _ => ?_
  congr 1
  have hg := g.isLt
  have hr := r.isLt
  repeat' split
  all_goals (congr 1; funext a; apply Fin.ext; fin_cases a <;> simp <;> omega)

/-- The largest score of a row of the first key head. -/
theorem pay14_at (v8 : FVec Ideal S640x128 .bf16) (v26 : FVec Ideal S512x640 .f32) (q : FVec Ideal S128x512 .bf16)
    (v29 v30 v31 : FVec Ideal S128x64 .bf16) (s0 : Vec Ideal S1x512x128 .f32) (ρ : Fin 512) (z : Fin 1) :
    k0_pay14 v8 v26 q v29 v30 v31 s0 (ix2 ρ z)
      = _root_.Att.rowTop (fun c => k0_pay10 v8 v26 q v29 v30 v31 (ix2 ρ c)) (s0 (ix3 0 ρ 0)) := by
  unfold _root_.Att.rowTop
  pointwise [k0_pay14, k0_pay12]
  rw [word_bot]

/-- The largest score of a row of the second key head. -/
theorem pay15_at (v8 : FVec Ideal S640x128 .bf16) (v26 : FVec Ideal S512x640 .f32) (q : FVec Ideal S128x512 .bf16)
    (s1 : Vec Ideal S1x512x128 .f32) (ρ : Fin 512) (z : Fin 1) :
    k0_pay15 v8 v26 q s1 (ix2 ρ z) = _root_.Att.rowTop (fun c => k0_pay11 v8 v26 q (ix2 ρ c)) (s1 (ix3 0 ρ 0)) := by
  unfold _root_.Att.rowTop
  pointwise [k0_pay15, k0_pay13]
  rw [word_bot]

/-- The denominators of the first key head. -/
theorem pay18_at (v8 : FVec Ideal S640x128 .bf16) (v26 : FVec Ideal S512x640 .f32) (q : FVec Ideal S128x512 .bf16)
    (v29 v30 v31 : FVec Ideal S128x64 .bf16) (s0 : Vec Ideal S1x512x128 .f32) (ρ : Fin 512) (z : Fin 1) (T : EReal)
    (hT : ∀ z, k0_pay14 v8 v26 q v29 v30 v31 s0 (ix2 ρ z) = T) :
    k0_pay18 v8 v26 q v29 v30 v31 s0 (ix2 ρ z)
      = ∑ c, Ideal.exp (k0_pay10 v8 v26 q v29 v30 v31 (ix2 ρ c) - T) + Ideal.exp (s0 (ix3 0 ρ 0) - T) := by
  pointwise [k0_pay18, k0_pay16, k0_pay12]
  simp only [hT]

/-- The denominators of the second key head. -/
theorem pay19_at (v8 : FVec Ideal S640x128 .bf16) (v26 : FVec Ideal S512x640 .f32) (q : FVec Ideal S128x512 .bf16)
    (s1 : Vec Ideal S1x512x128 .f32) (ρ : Fin 512) (z : Fin 1) (T : EReal)
    (hT : ∀ z, k0_pay15 v8 v26 q s1 (ix2 ρ z) = T) :
    k0_pay19 v8 v26 q s1 (ix2 ρ z)
      = ∑ c, Ideal.exp (k0_pay11 v8 v26 q (ix2 ρ c) - T) + Ideal.exp (s1 (ix3 0 ρ 0) - T) := by
  pointwise [k0_pay19, k0_pay17, k0_pay13]
  simp only [hT]

/-- The weights of the second key head. -/
theorem pay17_at (v8 : FVec Ideal S640x128 .bf16) (v26 : FVec Ideal S512x640 .f32) (q : FVec Ideal S128x512 .bf16)
    (s1 : Vec Ideal S1x512x128 .f32) (ρ : Fin 512) (c : Fin 640) (T : EReal)
    (hT : ∀ z, k0_pay15 v8 v26 q s1 (ix2 ρ z) = T) :
    k0_pay17 v8 v26 q s1 (ix2 ρ c) = Ideal.exp (k0_pay11 v8 v26 q (ix2 ρ c) - T) := by
  pointwise [k0_pay17]
  simp only [hT]

/-- The weighted values of the first key head. -/
theorem pay20_at (v8 : FVec Ideal S640x128 .bf16) (v17 : FVec Ideal S640x128 .bf16) (v26 : FVec Ideal S512x640 .f32)
    (q : FVec Ideal S128x512 .bf16) (v29 v30 v31 : FVec Ideal S128x64 .bf16) (s0 : Vec Ideal S1x512x128 .f32)
    (ρ : Fin 512) (d : Fin 64) (T : EReal) (hT : ∀ z, k0_pay14 v8 v26 q v29 v30 v31 s0 (ix2 ρ z) = T) :
    k0_pay20 v8 v17 v26 q v29 v30 v31 s0 (ix2 ρ d)
      = ∑ c, Ideal.exp (k0_pay10 v8 v26 q v29 v30 v31 (ix2 ρ c) - T) * v17 (ix2 c ⟨d.val, by omega⟩) := by
  pointwise [k0_pay20, k0_pay16, k0_pay12]
  simp only [hT]

end Cert.KernelIdeal.Att

end
-- ==== Proof.Att.PayOut.lean ====
module

public import proofs.«01_k».proof.Proof.Att.Pay
public import Idealize.ShloMosaic.Lib.Pointwise

@[expose] public section

set_option maxRecDepth 16384

noncomputable section

open Idealize.ShloMosaic Idealize.ShloMosaic.TcCoe Idealize.SL.Sem

namespace Cert.KernelIdeal.Att

open Cert.KernelIdeal Cert.KernelIdeal.Gen

/-- An element of the block at a column of the first key head. -/
theorem pay1_first (v42 : FVec Ideal S640x64 .bf16) (v64 : FVec Ideal S512x640 .f32) (v69 v74 : FVec Ideal S512x1 .f32)
    (v76 : FVec Ideal S512x64 .f32) (g : Fin 4) (r : Fin 128) (d : Fin 64) (j : Fin 512) (hj : j.val = g.val * 64 + d.val)
    (ρ : Fin 512) (hρ : ρ.val = g.val * 128 + r.val) :
    k0_pay1 v42 v64 v69 v74 v76 k0_pay21 (ix2 r j) = v76 (ix2 ρ d) * Ideal.div 1 (v69 (ix2 ρ 0)) := by
  have key : ∀ (ρ' : Fin 512) (d' : Fin 64), ρ'.val = ρ.val → d'.val = d.val →
      v76 (ix2 ρ' d') * Ideal.div 1 (v69 (ix2 ρ' 0)) = v76 (ix2 ρ d) * Ideal.div 1 (v69 (ix2 ρ 0)) := by
    intro ρ' d' e1 e2
    rw [Fin.ext e1, Fin.ext e2]
  have hg := g.isLt
  have hr := r.isLt
  have hd := d.isLt
  pointwise [k0_pay1, k0_pay21]
  repeat' split
  all_goals first | (exfalso; omega) | exact key _ _ (by simp only []; omega) (by simp only []; omega)

/-- An element of the block at a column of the second key head. -/
theorem pay1_second (v42 : FVec Ideal S640x64 .bf16) (v64 : FVec Ideal S512x640 .f32) (v69 v74 : FVec Ideal S512x1 .f32)
    (v76 : FVec Ideal S512x64 .f32) (g : Fin 4) (r : Fin 128) (d : Fin 64) (j : Fin 512)
    (hj : j.val = 256 + g.val * 64 + d.val) (ρ : Fin 512) (hρ : ρ.val = g.val * 128 + r.val) :
    k0_pay1 v42 v64 v69 v74 v76 k0_pay21 (ix2 r j)
      = (∑ x, v64 (ix2 ρ x) * v42 (ix2 x d)) * Ideal.div 1 (v74 (ix2 ρ 0)) := by
  have key : ∀ (ρ' : Fin 512) (d' : Fin 64), ρ'.val = ρ.val → d'.val = d.val →
      (∑ x, v64 (ix2 ρ' x) * v42 (ix2 x d')) * Ideal.div 1 (v74 (ix2 ρ' 0))
        = (∑ x, v64 (ix2 ρ x) * v42 (ix2 x d)) * Ideal.div 1 (v74 (ix2 ρ 0)) := by
    intro ρ' d' e1 e2
    rw [Fin.ext e1, Fin.ext e2]
  have hg := g.isLt
  have hr := r.isLt
  have hd := d.isLt
  pointwise [k0_pay1, k0_pay21]
  repeat' split
  all_goals first | (exfalso; omega) | exact key _ _ (by simp only []; omega) (by simp only []; omega)

/-- An element of a block: the softmax of its row's scores with the row's sink, on the values of its key head. -/
theorem block_at (K8 V8 : FVec Ideal S640x128 .bf16) (b : Vec Ideal S1x512x640 .f32) (q : FVec Ideal S128x512 .bf16)
    (s0 s1 : Vec Ideal S1x512x128 .f32) (h : Fin 2) (g : Fin 4) (r : Fin 128) (d : Fin 64) (j : Fin 512)
    (hj : j.val = h.val * 256 + g.val * 64 + d.val) (ρ : Fin 512) (hρ : ρ.val = g.val * 128 + r.val) :
    k0_pay1 (k0_pay9 V8) (k0_pay17 K8 (k0_pay4 b) (k0_pay5 q) s1)
        (k0_pay18 K8 (k0_pay4 b) (k0_pay5 q) (k0_pay6 q) (k0_pay7 q) (k0_pay8 q) s0)
        (k0_pay19 K8 (k0_pay4 b) (k0_pay5 q) s1)
        (k0_pay20 K8 V8 (k0_pay4 b) (k0_pay5 q) (k0_pay6 q) (k0_pay7 q) (k0_pay8 q) s0) k0_pay21 (ix2 r j)
      = _root_.Att.rowOut
          (fun c => (∑ x : Fin 64, q (ix2 r ⟨h.val * 256 + g.val * 64 + x.val, by omega⟩) * K8 (ix2 c ⟨h.val * 64 + x.val, by omega⟩))
            + b (ix3 0 ρ c) * ⊥)
          (if h = 0 then s0 (ix3 0 ρ 0) else s1 (ix3 0 ρ 0))
          (fun c => V8 (ix2 c ⟨h.val * 64 + d.val, by omega⟩)) := by
  have h2 := h.isLt
  rcases (by omega : h.val = 0 ∨ h.val = 1) with h0 | h0
  · obtain rfl : h = 0 := Fin.ext h0
    rw [pay1_first _ _ _ _ _ g r d j (by rw [hj]; simp) ρ hρ]
    rw [pay20_at _ _ _ _ _ _ _ _ _ _ _ (fun z => pay14_at _ _ _ _ _ _ _ ρ z),
      pay18_at _ _ _ _ _ _ _ _ _ _ (fun z => pay14_at _ _ _ _ _ _ _ ρ z)]
    simp only [pay10_at K8 (k0_pay4 b) q g r _ ρ hρ, pay4_at, if_true]
    unfold _root_.Att.rowOut
    simp
  · obtain rfl : h = 1 := Fin.ext h0
    rw [pay1_second _ _ _ _ _ g r d j (by rw [hj]; simp) ρ hρ]
    rw [pay19_at _ _ _ _ _ _ _ (fun z => pay15_at _ _ _ _ ρ z)]
    simp only [pay17_at _ _ _ _ _ _ _ (fun z => pay15_at _ _ _ _ ρ z)]
    simp only [pay11_at K8 (k0_pay4 b) q g r _ ρ hρ, pay4_at]
    unfold _root_.Att.rowOut
    have e9 : ∀ c, k0_pay9 V8 (ix2 c d) = V8 (ix2 c ⟨64 + d.val, by omega⟩) := fun c => by pointwise [k0_pay9]
    simp only [e9]
    simp

end Cert.KernelIdeal.Att

end
-- ==== Proof.Att.Block.lean ====
module

public import proofs.«01_k».proof.Proof.Gen.KernelIdeal.Value
public import proofs.«01_k».proof.Proof.Att.PayOut
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.KernelIdeal.Att

open Cert.KernelIdeal Cert.KernelIdeal.Gen

variable (m : (ℓ : Loc nD τ sig) → Buf (Elt Ideal) ℓ)

/-- The blocks' places at a grid point. -/
theorem idx_val : ∀ t : Fin cfg0.N, win0_0.index t = ![(t.val / 64) * 64 + (t.val % 64), 0]
    ∧ win0_1.index t = ![(t.val / 64) * 64 + (t.val % 64 - 1), 0]
    ∧ win0_2.index t = ![(t.val / 64) * 64 + (t.val % 64), 0]
    ∧ win0_3.index t = ![(t.val / 64) * 64 + min (t.val % 64 + 1) 63, 0]
    ∧ win0_4.index t = ![128 + (t.val / 64), 0]
    ∧ win0_5.index t = ![(t.val / 64) * 64 + (t.val % 64 - 1), 0]
    ∧ win0_6.index t = ![(t.val / 64) * 64 + (t.val % 64), 0]
    ∧ win0_7.index t = ![(t.val / 64) * 64 + min (t.val % 64 + 1) 63, 0]
    ∧ win0_8.index t = ![128 + (t.val / 64), 0]
    ∧ win0_9.index t = ![0, 0, 0]
    ∧ win0_10.index t = ![0, 0, 0]
    ∧ win0_11.index t = ![(t.val / 64) * 64 + (t.val % 64), 0] :=
  (by decide +kernel : ∀ t : Fin grid0.N, _)

/-- The place in the bias table: the first window, the last, or one between. -/
theorem off_val : ∀ t : Fin cfg0.N, k0_off1 (grid0.coords t) = ![if t.val % 64 = 0 then 0 else if t.val % 64 = 63 then 2 else 1, 0, 0] :=
  (by decide +kernel : ∀ t : Fin grid0.N, _)

/-- The block of queries. -/
theorem blk_q (c : Dev nD) (t : Fin cfg0.N) (r : Fin 128) (j : Fin 512) (i : Fin 32768) (hi : i.val = t.val * 128 + r.val) :
    iblk m c 0 t (ix2 r j) = V m c main_v3 (ix2 i j) := by
  unfold iblk
  generalize V m c main_v3 = A
  blk_ext [idx_val t]
/-- The keys of the window before (of the first window, itself). -/
theorem blk_k1 (c : Dev nD) (t : Fin cfg0.N) (r : Fin 128) (j : Fin 128) (i : Fin 33792)
    (hi : i.val = (t.val / 64 * 64 + (t.val % 64 - 1)) * 128 + r.val) : iblk m c 1 t (ix2 r j) = V m c main_v7 (ix2 i j) := by
  unfold iblk
  generalize V m c main_v7 = A
  rw [View.read]
  refine (cast_eq _ _).trans (congrArg A ?_)
  funext a
  apply Fin.ext
  refine (win0_1.rect_emb_val t (ix2 r j) a rfl).trans ?_
  rw [(idx_val t).2.1]
  match a with
  | ⟨0, _⟩ => exact hi.symm
  | ⟨1, _⟩ => exact (Nat.zero_mul 128).symm ▸ Nat.zero_add j.val
/-- The window's own keys. -/
theorem blk_k2 (c : Dev nD) (t : Fin cfg0.N) (r : Fin 128) (j : Fin 128) (i : Fin 33792)
    (hi : i.val = (t.val / 64 * 64 + (t.val % 64)) * 128 + r.val) : iblk m c 2 t (ix2 r j) = V m c main_v7 (ix2 i j) := by
  unfold iblk
  generalize V m c main_v7 = A
  blk_ext [idx_val t]
/-- The keys of the window after (of the last window, itself). -/
theorem blk_k3 (c : Dev nD) (t : Fin cfg0.N) (r : Fin 128) (j : Fin 128) (i : Fin 33792)
    (hi : i.val = (t.val / 64 * 64 + min (t.val % 64 + 1) 63) * 128 + r.val) : iblk m c 3 t (ix2 r j) = V m c main_v7 (ix2 i j) := by
  unfold iblk
  generalize V m c main_v7 = A
  blk_ext [idx_val t]
/-- The context's keys. -/
theorem blk_k4 (c : Dev nD) (t : Fin cfg0.N) (r : Fin 256) (j : Fin 128) (i : Fin 33792)
    (hi : i.val = 32768 + t.val / 64 * 256 + r.val) : iblk m c 4 t (ix2 r j) = V m c main_v7 (ix2 i j) := by
  unfold iblk
  generalize V m c main_v7 = A
  blk_ext [idx_val t]
/-- The values of the window before (of the first window, itself). -/
theorem blk_v1 (c : Dev nD) (t : Fin cfg0.N) (r : Fin 128) (j : Fin 128) (i : Fin 33792)
    (hi : i.val = (t.val / 64 * 64 + (t.val % 64 - 1)) * 128 + r.val) : iblk m c 5 t (ix2 r j) = V m c main_v11 (ix2 i j) := by
  unfold iblk
  generalize V m c main_v11 = A
  rw [View.read]
  refine (cast_eq _ _).trans (congrArg A ?_)
  funext a
  apply Fin.ext
  refine (win0_5.rect_emb_val t (ix2 r j) a rfl).trans ?_
  rw [(idx_val t).2.2.2.2.2.1]
  match a with
  | ⟨0, _⟩ => exact hi.symm
  | ⟨1, _⟩ => exact (Nat.zero_mul 128).symm ▸ Nat.zero_add j.val
/-- The window's own values. -/
theorem blk_v2 (c : Dev nD) (t : Fin cfg0.N) (r : Fin 128) (j : Fin 128) (i : Fin 33792)
    (hi : i.val = (t.val / 64 * 64 + (t.val % 64)) * 128 + r.val) : iblk m c 6 t (ix2 r j) = V m c main_v11 (ix2 i j) := by
  unfold iblk
  generalize V m c main_v11 = A
  blk_ext [idx_val t]
/-- The values of the window after (of the last window, itself). -/
theorem blk_v3 (c : Dev nD) (t : Fin cfg0.N) (r : Fin 128) (j : Fin 128) (i : Fin 33792)
    (hi : i.val = (t.val / 64 * 64 + min (t.val % 64 + 1) 63) * 128 + r.val) : iblk m c 7 t (ix2 r j) = V m c main_v11 (ix2 i j) := by
  unfold iblk
  generalize V m c main_v11 = A
  blk_ext [idx_val t]
/-- The context's values. -/
theorem blk_v4 (c : Dev nD) (t : Fin cfg0.N) (r : Fin 256) (j : Fin 128) (i : Fin 33792)
    (hi : i.val = 32768 + t.val / 64 * 256 + r.val) : iblk m c 8 t (ix2 r j) = V m c main_v11 (ix2 i j) := by
  unfold iblk
  generalize V m c main_v11 = A
  blk_ext [idx_val t]
/-- The sinks, whole. -/
theorem blk_s (c : Dev nD) (t : Fin cfg0.N) (h : Fin 2) (r : Fin 512) (j : Fin 128) :
    iblk m c 9 t (ix3 h r j) = V m c main_v16 (ix3 h r j) := by
  unfold iblk
  generalize V m c main_v16 = A
  blk_ext [idx_val t]
/-- The bias table, whole. -/
theorem blk_b (c : Dev nD) (t : Fin cfg0.N) (h : Fin 3) (r : Fin 512) (j : Fin 640) :
    iblk m c 10 t (ix3 h r j) = V m c main_v45 (ix3 h r j) := by
  unfold iblk
  generalize V m c main_v45 = A
  blk_ext [idx_val t]

/-- The block of queries at a step. -/
abbrev qBlk (c : Dev nD) (t : Fin cfg0.N) : FVec Ideal S128x512 .bf16 := iblk m c 0 t

/-- The bias table at a step. -/
abbrev bBlk (c : Dev nD) (t : Fin cfg0.N) : FVec Ideal S3x512x640 .f32 := iblk m c 10 t

/-- The sinks at a step. -/
abbrev sBlk (c : Dev nD) (t : Fin cfg0.N) : FVec Ideal S2x512x128 .f32 := iblk m c 9 t

/-- The block a grid point computes, from the blocks of the operands. -/
theorem blk_out (c : Dev nD) (t : Fin cfg0.N) (h : Fin 2) (g : Fin 4) (r : Fin 128) (d : Fin 64) (j : Fin 512)
    (hj : j.val = h.val * 256 + g.val * 64 + d.val) (ρ : Fin 512) (hρ : ρ.val = g.val * 128 + r.val)
    (z : Fin 3) (hz : z.val = if t.val % 64 = 0 then 0 else if t.val % 64 = 63 then 2 else 1) :
    outsAt0 m c t (ix2 r j) = _root_.Att.rowOut
      (fun k => (∑ x : Fin 64, qBlk m c t (ix2 r ⟨h.val * 256 + g.val * 64 + x.val, by omega⟩)
          * k0_pay2 (iblk m c 1 t) (iblk m c 2 t) (iblk m c 3 t) (iblk m c 4 t) (ix2 k ⟨h.val * 64 + x.val, by omega⟩))
        + bBlk m c t (ix3 z ρ k) * ⊥)
      (sBlk m c t (ix3 h ρ 0))
      (fun k => k0_pay3 (iblk m c 5 t) (iblk m c 6 t) (iblk m c 7 t) (iblk m c 8 t) (ix2 k ⟨h.val * 64 + d.val, by omega⟩)) := by
  unfold outsAt0
  frame_out
  rw [block_at _ _ _ _ _ _ h g r d j hj ρ hρ]
  refine congr (congr (congrArg _ (funext fun k => congrArg _ (congrArg (· * (⊥ : EReal)) ?_))) ?_) rfl
  · have e := off_val t
    rw [← hz] at e
    unfold bBlk
    generalize iblk m c 10 t = B
    pointwise [e]
  · unfold sBlk
    generalize iblk m c 9 t = B
    match h with
    | ⟨0, _⟩ => pointwise []
    | ⟨1, _⟩ => pointwise []

end Cert.KernelIdeal.Att

end
-- ==== Proof.Att.Host.lean ====
module

public import proofs.«01_k».proof.Proof.Gen.KernelIdeal.Value
public import Idealize.ShloMosaic.Lib.Pipeline.ValueKit
public import Idealize.ShloMosaic.Lib.Pointwise
public import Idealize.ShloMosaic.Lib.Claim
public import Idealize.ShloMosaic.Lib.Tactic.CleanTypes

@[expose] public section

set_option maxRecDepth 16384

noncomputable section

open Idealize.ShloMosaic Idealize.ShloMosaic.TcCoe Idealize.SL.Sem
open Idealize.ShloMosaic.Pipeline (Dat)

namespace Cert.KernelIdeal.Att

open Cert.KernelIdeal Cert.KernelIdeal.Gen

variable (m : (ℓ : Loc nD τ sig) → Buf (Elt Ideal) ℓ)

/-- The queries of the memory. -/
abbrev qArg (c : Dev nD) : FVec Ideal S4x8192x8x64 .f32 := m ((c.tc : Thread nD τ).loc main_arg0)

/-- The sinks of the memory. -/
abbrev sArg (c : Dev nD) : FVec Ideal S8 .f32 := m ((c.tc : Thread nD τ).loc main_arg5)

/-- The queries as handed to the kernel: rows, scaled. -/
theorem host_q (c : Dev nD) (b : Fin 4) (p : Fin 8192) (a : Fin 8) (d : Fin 64) (i : Fin 32768) (j : Fin 512)
    (hi : i.val = b.val * 8192 + p.val) (hj : j.val = a.val * 64 + d.val) :
    V m c main_v3 (ix2 i j) = qArg m c (ix4 b p a d) * Ideal.ofBits FTy.f32 1040187392#32 := by
  simp only [V, hostOps0, hostOps0_1, List.flatten_cons, List.flatten_nil, List.append_nil, List.cons_append, List.nil_append]
  entry_read
  clean_types
  pointwise []
  have e1 : i.val / 8192 = b.val := by omega
  have e2 : i.val % 8192 = p.val := by omega
  have e3 : j.val / 64 = a.val := by omega
  have e4 : j.val % 64 = d.val := by omega
  simp only [e1, e2, e3, e4, Fin.eta]

/-- The sinks as handed to the kernel: each repeated along its rows and lanes. -/
theorem host_s (c : Dev nD) (h : Fin 2) (g : Fin 4) (r : Fin 128) (ρ : Fin 512) (z : Fin 128) (a : Fin 8)
    (hρ : ρ.val = g.val * 128 + r.val) (ha : a.val = h.val * 4 + g.val) :
    V m c main_v16 (ix3 h ρ z) = sArg m c (ix1 a) := by
  simp only [V, hostOps0, hostOps0_1, List.flatten_cons, List.flatten_nil, List.append_nil, List.cons_append, List.nil_append]
  entry_read
  clean_types
  pointwise []
  have e1 : h.val * 4 + ρ.val / 128 = a.val := by omega
  simp only [e1, Fin.eta]

/-- Rows of the sequence, then rows of the context. -/
def rows (x : FVec Ideal S4x8192x2x64 .f32) (xc : FVec Ideal S4x256x2x64 .f32) : FVec Ideal S33792x128 .bf16 :=
  truncf .bf16 (concatenate S33792x128 0 [⟨S32768x128, (shapeCast S32768x128 x shapeCasts_S4x8192x2x64_S32768x128 : FVec Ideal S32768x128 .f32)⟩,
    ⟨S1024x128, (shapeCast S1024x128 xc shapeCasts_S4x256x2x64_S1024x128 : FVec Ideal S1024x128 .f32)⟩] concatenates_S32768x128_S1024x128_S33792x128_d0) bitsLt_bf16_f32

/-- The keys as handed to the kernel. -/
theorem host_k (c : Dev nD) : V m c main_v7 = rows (m ((c.tc : Thread nD τ).loc main_arg1)) (m ((c.tc : Thread nD τ).loc main_arg3)) := by
  simp only [V, hostOps0, hostOps0_1, List.flatten_cons, List.flatten_nil, List.append_nil, List.cons_append, List.nil_append]
  entry_read
  rfl

/-- The values as handed to the kernel. -/
theorem host_v (c : Dev nD) : V m c main_v11 = rows (m ((c.tc : Thread nD τ).loc main_arg2)) (m ((c.tc : Thread nD τ).loc main_arg4)) := by
  simp only [V, hostOps0, hostOps0_1, List.flatten_cons, List.flatten_nil, List.append_nil, List.cons_append, List.nil_append]
  entry_read
  rfl

/-- A row of the sequence or of the context, by its number. -/
theorem rows_at (x : FVec Ideal S4x8192x2x64 .f32) (xc : FVec Ideal S4x256x2x64 .f32) (i : Fin 33792) (j : Fin 128) :
    rows x xc (ix2 i j) = if h : i.val < 32768
      then x (ix4 ⟨i.val / 8192, by omega⟩ ⟨i.val % 8192, by omega⟩ ⟨j.val / 64, by omega⟩ ⟨j.val % 64, by omega⟩)
      else xc (ix4 ⟨(i.val - 32768) / 256, by omega⟩ ⟨(i.val - 32768) % 256, by omega⟩ ⟨j.val / 64, by omega⟩ ⟨j.val % 64, by omega⟩) := by
  pointwise [rows]

/-- A row of the sequence. -/
theorem rows_seq (x : FVec Ideal S4x8192x2x64 .f32) (xc : FVec Ideal S4x256x2x64 .f32) (b : Fin 4) (p : Fin 8192) (h : Fin 2) (d : Fin 64)
    (i : Fin 33792) (j : Fin 128) (hi : i.val = b.val * 8192 + p.val) (hj : j.val = h.val * 64 + d.val) :
    rows x xc (ix2 i j) = x (ix4 b p h d) := by
  rw [rows_at]
  have e0 : i.val < 32768 := by omega
  have e1 : i.val / 8192 = b.val := by omega
  have e2 : i.val % 8192 = p.val := by omega
  have e3 : j.val / 64 = h.val := by omega
  have e4 : j.val % 64 = d.val := by omega
  rw [dif_pos e0]
  simp only [e1, e2, e3, e4, Fin.eta]

/-- A row of the context. -/
theorem rows_ctx (x : FVec Ideal S4x8192x2x64 .f32) (xc : FVec Ideal S4x256x2x64 .f32) (b : Fin 4) (p : Fin 256) (h : Fin 2) (d : Fin 64)
    (i : Fin 33792) (j : Fin 128) (hi : i.val = 32768 + b.val * 256 + p.val) (hj : j.val = h.val * 64 + d.val) :
    rows x xc (ix2 i j) = xc (ix4 b p h d) := by
  rw [rows_at]
  have e0 : ¬ i.val < 32768 := by omega
  have e1 : (i.val - 32768) / 256 = b.val := by omega
  have e2 : (i.val - 32768) % 256 = p.val := by omega
  have e3 : j.val / 64 = h.val := by omega
  have e4 : j.val % 64 = d.val := by omega
  refine (dif_neg e0).trans (congrArg xc ?_)
  exact congr (congr (congr (congrArg ix4 (Fin.ext e1)) (Fin.ext e2)) (Fin.ext e3)) (Fin.ext e4)

end Cert.KernelIdeal.Att

end
-- ==== Proof.Att.Keys.lean ====
module

public import proofs.«01_k».proof.Proof.Att.Block
public import proofs.«01_k».proof.Proof.Att.Host

@[expose] public section

set_option maxRecDepth 16384

noncomputable section

open Idealize.ShloMosaic Idealize.ShloMosaic.TcCoe Idealize.SL.Sem
open Idealize.ShloMosaic.Pipeline (Dat)

namespace Cert.KernelIdeal.Att

open Cert.KernelIdeal Cert.KernelIdeal.Gen

/-- A row of the stacked keys: of the window before, the window itself, the window after, the context. -/
theorem pay2_at (B1 B2 B3 : FVec Ideal S128x128 .bf16) (B4 : FVec Ideal S256x128 .bf16) (k : Fin 640) (j : Fin 128) :
    k0_pay2 (F := Ideal) B1 B2 B3 B4 (ix2 k j) = if h1 : k.val < 128 then B1 (ix2 ⟨k.val, h1⟩ j)
      else if h2 : k.val - 128 < 128 then B2 (ix2 ⟨k.val - 128, h2⟩ j)
      else if h3 : k.val - 128 - 128 < 128 then B3 (ix2 ⟨k.val - 128 - 128, h3⟩ j)
      else B4 (ix2 ⟨k.val - 128 - 128 - 128, by omega⟩ j) := by
  pointwise [k0_pay2]

/-- The values are stacked the same way. -/
theorem pay3_eq (B1 B2 B3 : FVec Ideal S128x128 .bf16) (B4 : FVec Ideal S256x128 .bf16) :
    k0_pay3 (F := Ideal) B1 B2 B3 B4 = k0_pay2 (F := Ideal) B1 B2 B3 B4 := rfl

/-- A column of the window reads one position of the sequence; the column's own position when that lies in the sequence. -/
theorem stack_seq (B1 B2 B3 : FVec Ideal S128x128 .bf16) (B4 : FVec Ideal S256x128 .bf16)
    (x : FVec Ideal S4x8192x2x64 .f32) (xc : FVec Ideal S4x256x2x64 .f32) (b : Fin 4) (n : Fin 64)
    (h1 : ∀ (r : Fin 128) (j : Fin 128) (i : Fin 33792), i.val = (b.val * 64 + (n.val - 1)) * 128 + r.val → B1 (ix2 r j) = rows x xc (ix2 i j))
    (h2 : ∀ (r : Fin 128) (j : Fin 128) (i : Fin 33792), i.val = (b.val * 64 + n.val) * 128 + r.val → B2 (ix2 r j) = rows x xc (ix2 i j))
    (h3 : ∀ (r : Fin 128) (j : Fin 128) (i : Fin 33792), i.val = (b.val * 64 + min (n.val + 1) 63) * 128 + r.val → B3 (ix2 r j) = rows x xc (ix2 i j))
    (k : Fin 384) : ∃ p : Fin 8192, (128 ≤ n.val * 128 + k.val → n.val * 128 + k.val < 8320 → p.val = n.val * 128 + k.val - 128)
      ∧ ∀ (h : Fin 2) (d : Fin 64) (j : Fin 128), j.val = h.val * 64 + d.val →
        k0_pay2 (F := Ideal) B1 B2 B3 B4 (ix2 (k.castAdd 256) j) = x (ix4 b p h d) := by
  have hv : (k.castAdd 256).val = k.val := rfl
  by_cases c1 : k.val < 128
  · refine ⟨⟨(n.val - 1) * 128 + k.val, by omega⟩, fun _ _ => by simp only; omega, fun h d j hj => ?_⟩
    rw [pay2_at, dif_pos (by omega), h1 _ _ ⟨(b.val * 64 + (n.val - 1)) * 128 + k.val, by omega⟩ rfl]
    exact rows_seq x xc b _ h d _ _ (by simp only; omega) hj
  by_cases c2 : k.val < 256
  · refine ⟨⟨n.val * 128 + (k.val - 128), by omega⟩, fun _ _ => by simp only; omega, fun h d j hj => ?_⟩
    rw [pay2_at, dif_neg (by omega), dif_pos (by omega), h2 _ _ ⟨(b.val * 64 + n.val) * 128 + (k.val - 128), by omega⟩ rfl]
    exact rows_seq x xc b _ h d _ _ (by simp only; omega) hj
  · refine ⟨⟨min (n.val + 1) 63 * 128 + (k.val - 128 - 128), by omega⟩, fun _ _ => by simp only; omega, fun h d j hj => ?_⟩
    rw [pay2_at, dif_neg (by omega), dif_neg (by omega), dif_pos (by omega),
      h3 _ _ ⟨(b.val * 64 + min (n.val + 1) 63) * 128 + (k.val - 128 - 128), by omega⟩ rfl]
    exact rows_seq x xc b _ h d _ _ (by simp only; omega) hj

/-- A column of the context. -/
theorem stack_ctx (B1 B2 B3 : FVec Ideal S128x128 .bf16) (B4 : FVec Ideal S256x128 .bf16)
    (x : FVec Ideal S4x8192x2x64 .f32) (xc : FVec Ideal S4x256x2x64 .f32) (b : Fin 4)
    (h4 : ∀ (r : Fin 256) (j : Fin 128) (i : Fin 33792), i.val = (128 + b.val) * 256 + r.val → B4 (ix2 r j) = rows x xc (ix2 i j))
    (k : Fin 256) (h : Fin 2) (d : Fin 64) (j : Fin 128) (hj : j.val = h.val * 64 + d.val) :
    k0_pay2 (F := Ideal) B1 B2 B3 B4 (ix2 (k.natAdd 384) j) = xc (ix4 b k h d) := by
  have hv : (k.natAdd 384).val = 384 + k.val := rfl
  rw [pay2_at, dif_neg (by omega), dif_neg (by omega), dif_neg (by omega), h4 _ _ ⟨(128 + b.val) * 256 + k.val, by omega⟩ (by simp only; omega)]
  exact rows_ctx x xc b k h d _ _ (by simp only; omega) hj

end Cert.KernelIdeal.Att

end
-- ==== Proof.Att.Bias.lean ====
module

public import proofs.«01_k».proof.Proof.Gen.KernelIdeal.Value
public import Idealize.ShloMosaic.Lib.Pipeline.ValueKit
public import Idealize.ShloMosaic.Lib.Pointwise
public import Idealize.ShloMosaic.Lib.Claim
public import Idealize.ShloMosaic.Lib.Tactic.WordOmega

@[expose] public section

set_option maxRecDepth 16384

noncomputable section

open Idealize.ShloMosaic Idealize.ShloMosaic.TcCoe Idealize.SL.Sem
open Idealize.ShloMosaic.Pipeline (Dat)

namespace Cert.KernelIdeal.Att

open Cert.KernelIdeal Cert.KernelIdeal.Gen

variable (m : (ℓ : Loc nD τ sig) → Buf (Elt Ideal) ℓ)

/-- The column's number. -/
def colNo : Vec Ideal S512x640 .i32 := iotaInDim S512x640 32 1

/-- The column's distance from the query's own row in its group. -/
def relNo : Vec Ideal S512x640 .i32 := subi colNo (Host.remsi (iotaInDim S512x640 32 0) (broadcastInDim S512x640 ![] bcast_S_S512x640 (constantI S_ 32 128#32)))

/-- The columns of the window that lie in the row's band. -/
def inBand : Vec Ideal S512x640 .i1 :=
  andi (andi (cmpi .sge relNo (broadcastInDim S512x640 ![] bcast_S_S512x640 (constantI S_ 32 0#32))) (cmpi .sle relNo (broadcastInDim S512x640 ![] bcast_S_S512x640 (constantI S_ 32 256#32)))) (cmpi .slt colNo (broadcastInDim S512x640 ![] bcast_S_S512x640 (constantI S_ 32 384#32)))

/-- The columns of the context. -/
def isCtx : Vec Ideal S512x640 .i1 := cmpi .sge colNo (broadcastInDim S512x640 ![] bcast_S_S512x640 (constantI S_ 32 384#32))

/-- The live columns of the first window, of one between, of the last. -/
def liveCols : Vec Ideal S3x512x640 .i1 :=
  concatenate S3x512x640 0 [
    ⟨S1x512x640, (broadcastInDim S1x512x640 ![1, 2] bcast_S512x640_S1x512x640_1_2 (ori (andi inBand (cmpi .sge colNo (broadcastInDim S512x640 ![] bcast_S_S512x640 (constantI S_ 32 128#32)))) isCtx) : Vec Ideal S1x512x640 .i1)⟩,
    ⟨S1x512x640, (broadcastInDim S1x512x640 ![1, 2] bcast_S512x640_S1x512x640_1_2 (ori inBand isCtx) : Vec Ideal S1x512x640 .i1)⟩,
    ⟨S1x512x640, (broadcastInDim S1x512x640 ![1, 2] bcast_S512x640_S1x512x640_1_2 (ori (andi inBand (cmpi .slt colNo (broadcastInDim S512x640 ![] bcast_S_S512x640 (constantI S_ 32 256#32)))) isCtx) : Vec Ideal S1x512x640 .i1)⟩]
    concatenates_S1x512x640_S1x512x640_S1x512x640_S3x512x640_d0

/-- The bias table: zero at a live column, one elsewhere. -/
def biasTable : FVec Ideal S3x512x640 .f32 :=
  select liveCols (broadcastInDim S3x512x640 ![] bcast_S_S3x512x640 (constant S_ .f32 0x00000000#32))
    (broadcastInDim S3x512x640 ![] bcast_S_S3x512x640 (constant S_ .f32 0x3F800000#32))

/-- The last three operations: zero at the live columns, one elsewhere. -/
theorem after_where (σ : (b : DevRef τ sig) → b.ty.Contents (Elt Ideal)) (h44 : σ (Proc.devRef .tc main_v44) = liveCols)
    (h6 : σ (Proc.devRef .tc main_cst_6) = (constant S_ .f32 0x00000000#32 : FVec Ideal S_ .f32)) (h7 : σ (Proc.devRef .tc main_cst_7) = (constant S_ .f32 0x3F800000#32 : FVec Ideal S_ .f32)) :
    StableHlo.after hostOps0_1 σ (Proc.devRef .tc main_v45) = biasTable := by
  simp only [hostOps0_1]
  entry_read
  rw [h44, h6, h7]
  rfl

/-- The operations up to the band. -/
theorem after_band (σ : (b : DevRef τ sig) → b.ty.Contents (Elt Ideal)) :
    StableHlo.after (hostOps0.take 35) σ (Proc.devRef .tc main_v29) = inBand ∧ StableHlo.after (hostOps0.take 35) σ (Proc.devRef .tc main_v20) = colNo := by
  simp only [hostOps0, List.take_succ_cons, List.take_zero]
  constructor
  · entry_read
    rfl
  · entry_read
    rfl

/-- A window's live columns, with one more axis. -/
def plane (x : Vec Ideal S512x640 .i1) : Vec Ideal S1x512x640 .i1 := broadcastInDim S1x512x640 ![1, 2] bcast_S512x640_S1x512x640_1_2 x

/-- The operations from the band to each kind of window's live columns. -/
theorem after_kinds (σ : (b : DevRef τ sig) → b.ty.Contents (Elt Ideal)) (h29 : σ (Proc.devRef .tc main_v29) = inBand)
    (h20 : σ (Proc.devRef .tc main_v20) = colNo) :
    StableHlo.after ((hostOps0.drop 35).take 14) σ (Proc.devRef .tc main_v35) = ori (andi inBand (cmpi .sge colNo (broadcastInDim S512x640 ![] bcast_S_S512x640 (constantI S_ 32 128#32)))) isCtx
      ∧ StableHlo.after ((hostOps0.drop 35).take 14) σ (Proc.devRef .tc main_v36) = ori inBand isCtx
      ∧ StableHlo.after ((hostOps0.drop 35).take 14) σ (Proc.devRef .tc main_v40) = ori (andi inBand (cmpi .slt colNo (broadcastInDim S512x640 ![] bcast_S_S512x640 (constantI S_ 32 256#32)))) isCtx := by
  simp only [hostOps0, List.drop_succ_cons, List.drop_zero, List.take_succ_cons, List.take_zero]
  refine ⟨?_, ?_, ?_⟩
  · entry_read
    rw [h29, h20]
    rfl
  · entry_read
    rw [h29, h20]
    rfl
  · entry_read
    rw [h29, h20]
    rfl

/-- The operations that give them one more axis. -/
theorem after_planes (σ : (b : DevRef τ sig) → b.ty.Contents (Elt Ideal)) (x y z : Vec Ideal S512x640 .i1)
    (hx : σ (Proc.devRef .tc main_v35) = x) (hy : σ (Proc.devRef .tc main_v36) = y) (hz : σ (Proc.devRef .tc main_v40) = z) :
    StableHlo.after (((hostOps0.drop 35).drop 14).take 3) σ (Proc.devRef .tc main_v41) = plane x
      ∧ StableHlo.after (((hostOps0.drop 35).drop 14).take 3) σ (Proc.devRef .tc main_v42) = plane y
      ∧ StableHlo.after (((hostOps0.drop 35).drop 14).take 3) σ (Proc.devRef .tc main_v43) = plane z := by
  simp only [hostOps0, List.drop_succ_cons, List.drop_zero, List.take_succ_cons, List.take_zero]
  subst hx hy hz
  refine ⟨?_, ?_, ?_⟩
  · entry_read
    rfl
  · entry_read
    rfl
  · entry_read
    rfl

/-- The operations that stack them. -/
theorem after_stack (σ : (b : DevRef τ sig) → b.ty.Contents (Elt Ideal)) (x y z : Vec Ideal S1x512x640 .i1)
    (hx : σ (Proc.devRef .tc main_v41) = x) (hy : σ (Proc.devRef .tc main_v42) = y) (hz : σ (Proc.devRef .tc main_v43) = z) :
    StableHlo.after (((hostOps0.drop 35).drop 14).drop 3) σ (Proc.devRef .tc main_v44)
        = concatenate S3x512x640 0 [⟨S1x512x640, x⟩, ⟨S1x512x640, y⟩, ⟨S1x512x640, z⟩] concatenates_S1x512x640_S1x512x640_S1x512x640_S3x512x640_d0
      ∧ StableHlo.after (((hostOps0.drop 35).drop 14).drop 3) σ (Proc.devRef .tc main_cst_6) = (constant S_ .f32 0x00000000#32 : FVec Ideal S_ .f32)
      ∧ StableHlo.after (((hostOps0.drop 35).drop 14).drop 3) σ (Proc.devRef .tc main_cst_7) = (constant S_ .f32 0x3F800000#32 : FVec Ideal S_ .f32) := by
  simp only [hostOps0, List.drop_succ_cons, List.drop_zero]
  subst hx hy hz
  refine ⟨?_, ?_, ?_⟩
  · rw [StableHlo.after_cons, StableHlo.after_cons, StableHlo.after_cons, StableHlo.after_nil, StableHlo.nullary_result_ne _ _ _ _ (by decide),
      StableHlo.nullary_result_ne _ _ _ _ (by decide), StableHlo.nary_result]
    rfl
  · entry_read
    rfl
  · entry_read
    rfl

/-- The bias table as handed to the kernel. -/
theorem host_b (c : Dev nD) : V m c main_v45 = biasTable := by
  show StableHlo.after ([hostOps0, hostOps0_1].flatten) (fun b => m (c, b)) (Proc.devRef .tc main_v45) = _
  rw [show ([hostOps0, hostOps0_1] : List (List (HloOp τ sig (Elt Ideal)))).flatten = (hostOps0.take 35 ++ ((hostOps0.drop 35).take 14 ++ (((hostOps0.drop 35).drop 14).take 3 ++ ((hostOps0.drop 35).drop 14).drop 3))) ++ hostOps0_1 by
    rw [List.take_append_drop, List.take_append_drop, List.take_append_drop]; simp, StableHlo.after_append, StableHlo.after_append, StableHlo.after_append, StableHlo.after_append]
  obtain ⟨h29, h20⟩ := after_band (fun b => m (c, b))
  obtain ⟨h35, h36, h40⟩ := after_kinds _ h29 h20
  obtain ⟨h41, h42, h43⟩ := after_planes _ _ _ _ h35 h36 h40
  obtain ⟨h44, h6, h7⟩ := after_stack _ _ _ _ h41 h42 h43
  exact after_where _ h44 h6 h7

/-- The bits of the band from words. -/
theorem band_bits (q k : Nat) (hq : q < 512) (hk : k < 640) : IntOp.andi
      (IntOp.andi
        (IntOp.cmpi CmpIPredicate.sge (IntOp.subi (BitVec.ofNat 32 k) (IntOp.remsi ArithUnit.host (BitVec.ofNat 32 q) 128#32)) 0#32)
        (IntOp.cmpi CmpIPredicate.sle (IntOp.subi (BitVec.ofNat 32 k) (IntOp.remsi ArithUnit.host (BitVec.ofNat 32 q) 128#32)) 256#32))
      (IntOp.cmpi CmpIPredicate.slt (BitVec.ofNat 32 k) 384#32) =
    if q % 128 ≤ k ∧ k ≤ q % 128 + 256 ∧ k < 384 then 1#1 else 0#1 := by
  have e1 : IntOp.remsi ArithUnit.host (BitVec.ofNat 32 q) 128#32 = BitVec.ofNat 32 (q % 128) := by
    apply BitVec.eq_of_toNat_eq
    have h1 : 2 * (BitVec.ofNat 32 q).toNat < 2 ^ 32 := by simp only [BitVec.toNat_ofNat]; omega
    have := IntOp.toNat_remsi ArithUnit.host h1 128 (by omega) (by omega)
    rw [this]; simp only [BitVec.toNat_ofNat]; omega
  rw [e1]
  have hr : q % 128 < 128 := Nat.mod_lt _ (by omega)
  generalize q % 128 = r at hr
  have c3 : IntOp.cmpi CmpIPredicate.slt (BitVec.ofNat 32 k) 384#32 = if k < 384 then 1#1 else 0#1 := by
    split <;> word_omega
  rw [c3]
  by_cases h : r ≤ k
  · have e2 : IntOp.subi (BitVec.ofNat 32 k) (BitVec.ofNat 32 r) = BitVec.ofNat 32 (k - r) := by
      unfold IntOp.subi
      apply BitVec.eq_of_toNat_eq
      rw [BitVec.toNat_sub]; simp only [BitVec.toNat_ofNat]; omega
    rw [e2]
    have c1 : IntOp.cmpi CmpIPredicate.sge (BitVec.ofNat 32 (k - r)) 0#32 = 1#1 := by word_omega
    have c2 : IntOp.cmpi CmpIPredicate.sle (BitVec.ofNat 32 (k - r)) 256#32 = if k ≤ r + 256 then 1#1 else 0#1 := by
      split <;> word_omega
    rw [c1, c2]
    by_cases h1 : k ≤ r + 256 <;> by_cases h2 : k < 384 <;> simp only [h, h1, h2, if_true, if_false, and_true, and_false, true_and, false_and] <;> rfl
  · have e2 : IntOp.subi (BitVec.ofNat 32 k) (BitVec.ofNat 32 r) = BitVec.ofNat 32 (4294967296 + k - r) := by
      unfold IntOp.subi
      apply BitVec.eq_of_toNat_eq
      rw [BitVec.toNat_sub]; simp only [BitVec.toNat_ofNat]; omega
    rw [e2]
    have c1 : IntOp.cmpi CmpIPredicate.sge (BitVec.ofNat 32 (4294967296 + k - r)) 0#32 = 0#1 := by word_omega
    rw [c1]
    simp [IntOp.andi, h]
    try omega

/-- The bits of the band. -/
theorem inBand_at (ρ : Fin 512) (k : Fin 640) :
    inBand (ix2 ρ k) = if ρ.val % 128 ≤ k.val ∧ k.val ≤ ρ.val % 128 + 256 ∧ k.val < 384 then 1#1 else 0#1 := by
  pointwise [inBand, relNo, colNo]
  exact band_bits ρ.val k.val ρ.isLt k.isLt

/-- The live columns, variant by variant. -/
theorem liveCols_at (z : Fin 3) (ρ : Fin 512) (k : Fin 640) : liveCols (ix3 z ρ k) =
    if 384 ≤ k.val ∨ (ρ.val % 128 ≤ k.val ∧ k.val ≤ ρ.val % 128 + 256 ∧ (z.val = 0 → 128 ≤ k.val) ∧ (z.val = 2 → k.val < 256)) then 1#1 else 0#1 := by
  pointwise [liveCols, isCtx, colNo]
  rw [inBand_at]
  have hk := k.isLt
  have c1 : IntOp.cmpi CmpIPredicate.sge (BitVec.ofNat 32 k.val) 384#32 = if 384 ≤ k.val then 1#1 else 0#1 := by
    split <;> word_omega
  have c2 : IntOp.cmpi CmpIPredicate.sge (BitVec.ofNat 32 k.val) 128#32 = if 128 ≤ k.val then 1#1 else 0#1 := by
    split <;> word_omega
  have c3 : IntOp.cmpi CmpIPredicate.slt (BitVec.ofNat 32 k.val) 256#32 = if k.val < 256 then 1#1 else 0#1 := by
    split <;> word_omega
  rw [c1, c2, c3]
  clear c1 c2 c3
  have hr : ρ.val % 128 < 128 := Nat.mod_lt _ (by omega)
  generalize ρ.val % 128 = r at hr
  have e : ∀ p q : Prop, ∀ [Decidable p] [Decidable q], IntOp.ori (if p then 1#1 else 0#1) (if q then 1#1 else 0#1) = if p ∨ q then 1#1 else 0#1 := by
    intro p q _ _
    by_cases h1 : p <;> by_cases h2 : q <;> simp [h1, h2, IntOp.ori]
  have e' : ∀ p q : Prop, ∀ [Decidable p] [Decidable q], IntOp.andi (if p then 1#1 else 0#1) (if q then 1#1 else 0#1) = if p ∧ q then 1#1 else 0#1 := by
    intro p q _ _
    by_cases h1 : p <;> by_cases h2 : q <;> simp [h1, h2, IntOp.andi]
  simp only [e, e']
  obtain ⟨z, hz⟩ := z
  split
  · exact if_congr (by simp only at *; omega) rfl rfl
  · split
    · exact if_congr (by simp only at *; omega) rfl rfl
    · exact if_congr (by simp only at *; omega) rfl rfl

/-- An entry of the bias table. -/
theorem biasTable_at (z : Fin 3) (ρ : Fin 512) (k : Fin 640) : biasTable (ix3 z ρ k) =
    if 384 ≤ k.val ∨ (ρ.val % 128 ≤ k.val ∧ k.val ≤ ρ.val % 128 + 256 ∧ (z.val = 0 → 128 ≤ k.val) ∧ (z.val = 2 → k.val < 256)) then (0 : EReal) else 1 := by
  pointwise [biasTable]
  rw [liveCols_at]
  split
  · rfl
  · rfl

end Cert.KernelIdeal.Att

end
-- ==== Proof.Att.RefTerm.lean ====
module

public import proofs.«01_k».proof.Proof.Gen.ReferenceIdeal.Run
public import Idealize.ShloMosaic.Lib.Pointwise

@[expose] public section

set_option maxRecDepth 16384

noncomputable section

open Idealize.ShloMosaic Idealize.ShloMosaic.TcCoe Idealize.SL.Sem

namespace Cert.ReferenceIdeal.Att

open Cert.ReferenceIdeal Cert.ReferenceIdeal.Gen

/-- The three key blocks that a query block sees, from the rows padded by one block at each end. -/
def band (x : FVec Ideal S4x8192x2x64 .f32) : FVec Ideal S4x64x384x2x64 .f32 :=
  (concatenate S4x64x384x2x64 2 [⟨S4x64x128x2x64, ((extractStridedSlice S4x64x128x2x64 ![0, 0, 0, 0, 0] (shapeCast _ (pad S4x8448x2x64 ![0, 128, 0, 0] ![0, 128, 0, 0] ![0, 0, 0, 0] x (sitofp .f32 (constantI S_ 32 0#32) : FVec Ideal S_ .f32) pads_S4x8192x2x64_S4x8448x2x64_000_1281280_000_000 h_S_) shapeCasts_S4x8448x2x64_S4x66x128x2x64) slices_S4x66x128x2x64_S4x64x128x2x64_0_0_0_0_0) : FVec Ideal S4x64x128x2x64 .f32)⟩, ⟨S4x64x128x2x64, ((extractStridedSlice S4x64x128x2x64 ![0, 1, 0, 0, 0] (shapeCast _ (pad S4x8448x2x64 ![0, 128, 0, 0] ![0, 128, 0, 0] ![0, 0, 0, 0] x (sitofp .f32 (constantI S_ 32 0#32) : FVec Ideal S_ .f32) pads_S4x8192x2x64_S4x8448x2x64_000_1281280_000_000 h_S_) shapeCasts_S4x8448x2x64_S4x66x128x2x64) slices_S4x66x128x2x64_S4x64x128x2x64_0_1_0_0_0) : FVec Ideal S4x64x128x2x64 .f32)⟩, ⟨S4x64x128x2x64, ((extractStridedSlice S4x64x128x2x64 ![0, 2, 0, 0, 0] (shapeCast _ (pad S4x8448x2x64 ![0, 128, 0, 0] ![0, 128, 0, 0] ![0, 0, 0, 0] x (sitofp .f32 (constantI S_ 32 0#32) : FVec Ideal S_ .f32) pads_S4x8192x2x64_S4x8448x2x64_000_1281280_000_000 h_S_) shapeCasts_S4x8448x2x64_S4x66x128x2x64) slices_S4x66x128x2x64_S4x64x128x2x64_0_2_0_0_0) : FVec Ideal S4x64x128x2x64 .f32)⟩] concatenates_S4x64x128x2x64_S4x64x128x2x64_S4x64x128x2x64_S4x64x384x2x64_d2 : FVec Ideal S4x64x384x2x64 .f32)

/-- Which of the 384 window keys a query row sees. -/
def inWindow : Vec Ideal S64x128x384 .i1 :=
  (andi (andi (cmpi .sle (absi (subi (broadcastInDim S64x128x384 ![0, 1, 2] bcast_S64x1x384_S64x128x384_0_1_2 (addi (broadcastInDim S64x1x384 ![0, 1, 2] bcast_S64x1x1_S64x1x384_0_1_2 (subi (muli (broadcastInDim S64x1x1 ![0] bcast_S64_S64x1x1_0 (iotaInDim S64 32 0)) (broadcastInDim S64x1x1 ![] bcast_S_S64x1x1 (constantI S_ 32 128#32))) (broadcastInDim S64x1x1 ![] bcast_S_S64x1x1 (constantI S_ 32 128#32)))) (broadcastInDim S64x1x384 ![0, 1, 2] bcast_S1x1x384_S64x1x384_0_1_2 (broadcastInDim S1x1x384 ![2] bcast_S384_S1x1x384_2 (iotaInDim S384 32 0))))) (broadcastInDim S64x128x384 ![0, 1, 2] bcast_S64x128x1_S64x128x384_0_1_2 (addi (broadcastInDim S64x128x1 ![0, 1, 2] bcast_S64x1x1_S64x128x1_0_1_2 (muli (broadcastInDim S64x1x1 ![0] bcast_S64_S64x1x1_0 (iotaInDim S64 32 0)) (broadcastInDim S64x1x1 ![] bcast_S_S64x1x1 (constantI S_ 32 128#32)))) (broadcastInDim S64x128x1 ![0, 1, 2] bcast_S1x128x1_S64x128x1_0_1_2 (broadcastInDim S1x128x1 ![1] bcast_S128_S1x128x1_1 (iotaInDim S128 32 0))))))) (broadcastInDim S64x128x384 ![] bcast_S_S64x128x384 (constantI S_ 32 128#32))) (broadcastInDim S64x128x384 ![0, 1, 2] bcast_S64x1x384_S64x128x384_0_1_2 (cmpi .sge (addi (broadcastInDim S64x1x384 ![0, 1, 2] bcast_S64x1x1_S64x1x384_0_1_2 (subi (muli (broadcastInDim S64x1x1 ![0] bcast_S64_S64x1x1_0 (iotaInDim S64 32 0)) (broadcastInDim S64x1x1 ![] bcast_S_S64x1x1 (constantI S_ 32 128#32))) (broadcastInDim S64x1x1 ![] bcast_S_S64x1x1 (constantI S_ 32 128#32)))) (broadcastInDim S64x1x384 ![0, 1, 2] bcast_S1x1x384_S64x1x384_0_1_2 (broadcastInDim S1x1x384 ![2] bcast_S384_S1x1x384_2 (iotaInDim S384 32 0)))) (broadcastInDim S64x1x384 ![] bcast_S_S64x1x384 (constantI S_ 32 0#32))))) (broadcastInDim S64x128x384 ![0, 1, 2] bcast_S64x1x384_S64x128x384_0_1_2 (cmpi .slt (addi (broadcastInDim S64x1x384 ![0, 1, 2] bcast_S64x1x1_S64x1x384_0_1_2 (subi (muli (broadcastInDim S64x1x1 ![0] bcast_S64_S64x1x1_0 (iotaInDim S64 32 0)) (broadcastInDim S64x1x1 ![] bcast_S_S64x1x1 (constantI S_ 32 128#32))) (broadcastInDim S64x1x1 ![] bcast_S_S64x1x1 (constantI S_ 32 128#32)))) (broadcastInDim S64x1x384 ![0, 1, 2] bcast_S1x1x384_S64x1x384_0_1_2 (broadcastInDim S1x1x384 ![2] bcast_S384_S1x1x384_2 (iotaInDim S384 32 0)))) (broadcastInDim S64x1x384 ![] bcast_S_S64x1x384 (constantI S_ 32 8192#32)))))

/-- The scores against the window's keys, minus infinity where a key is not seen. -/
def scoresW (q : FVec Ideal S4x8192x8x64 .f32) (k : FVec Ideal S4x8192x2x64 .f32) : FVec Ideal S4x64x2x4x128x384 .f32 :=
  (select (broadcastInDim S4x64x2x4x128x384 ![0, 1, 2, 3, 4, 5] bcast_S1x64x1x1x128x384_S4x64x2x4x128x384_0_1_2_3_4_5 (broadcastInDim S1x64x1x1x128x384 ![1, 4, 5] bcast_S64x128x384_S1x64x1x1x128x384_1_4_5 inWindow)) (mulf (transpose S4x64x2x4x128x384 [0, 1, 2, 5, 4, 3] (Host.dotGeneral dot_S4x64x384x2x64_S4x64x128x2x4x64_S4x64x2x384x128x4_4_5_2_24_013_013 none ((band k)) (shapeCast _ q shapeCasts_S4x8192x8x64_S4x64x128x2x4x64)) transposes_S4x64x2x384x128x4_S4x64x2x4x128x384_0_1_2_5_4_3) (broadcastInDim S4x64x2x4x128x384 ![] bcast_S_S4x64x2x4x128x384 (constant S_ .f32 0x3E000000#32))) (broadcastInDim S4x64x2x4x128x384 ![] bcast_S_S4x64x2x4x128x384 (id (constant S_ .f32 0xFF800000#32))))

/-- The scores against the context's keys. -/
def scoresC (q : FVec Ideal S4x8192x8x64 .f32) (kc : FVec Ideal S4x256x2x64 .f32) : FVec Ideal S4x64x2x4x128x256 .f32 :=
  (mulf (transpose S4x64x2x4x128x256 [0, 3, 1, 5, 4, 2] (Host.dotGeneral dot_S4x256x2x64_S4x64x128x2x4x64_S4x2x256x64x128x4_3_5_1_124_02_03 none kc (shapeCast _ q shapeCasts_S4x8192x8x64_S4x64x128x2x4x64)) transposes_S4x2x256x64x128x4_S4x64x2x4x128x256_0_3_1_5_4_2) (broadcastInDim S4x64x2x4x128x256 ![] bcast_S_S4x64x2x4x128x256 (constant S_ .f32 0x3E000000#32)))

/-- The sink of each head, one score per row. -/
def sinks (sink : FVec Ideal S8 .f32) : FVec Ideal S4x64x2x4x128x1 .f32 :=
  (broadcastInDim S4x64x2x4x128x1 ![2, 3, 4, 5] bcast_S2x4x1x1_S4x64x2x4x128x1_2_3_4_5 (shapeCast _ sink shapeCasts_S8_S2x4x1x1))

/-- All 641 scores of a row: window, context, sink. -/
def scores (q : FVec Ideal S4x8192x8x64 .f32) (k : FVec Ideal S4x8192x2x64 .f32) (kc : FVec Ideal S4x256x2x64 .f32)
    (sink : FVec Ideal S8 .f32) : FVec Ideal S4x64x2x4x128x641 .f32 :=
  (concatenate S4x64x2x4x128x641 5 [⟨S4x64x2x4x128x384, ((scoresW q k) : FVec Ideal S4x64x2x4x128x384 .f32)⟩, ⟨S4x64x2x4x128x256, ((scoresC q kc) : FVec Ideal S4x64x2x4x128x256 .f32)⟩, ⟨S4x64x2x4x128x1, ((sinks sink) : FVec Ideal S4x64x2x4x128x1 .f32)⟩] concatenates_S4x64x2x4x128x384_S4x64x2x4x128x256_S4x64x2x4x128x1_S4x64x2x4x128x641_d5 : FVec Ideal S4x64x2x4x128x641 .f32)

/-- A row's largest score. -/
def rowMax (s : FVec Ideal S4x64x2x4x128x641 .f32) : FVec Ideal S4x64x2x4x128 .f32 :=
  (maximumf (broadcastInDim S4x64x2x4x128 ![] bcast_S_S4x64x2x4x128 (constant S_ .f32 0xFF800000#32)) (Host.reduce FloatOps.maximumf s (constant S_ .f32 0xFF800000#32) reducesTo_S4x64x2x4x128x641_S4x64x2x4x128_d5 h_S_))

/-- The exponentials of the scores less their row's largest. -/
def expo (s : FVec Ideal S4x64x2x4x128x641 .f32) : FVec Ideal S4x64x2x4x128x641 .f32 :=
  (Host.exp (subf s (broadcastInDim S4x64x2x4x128x641 ![0, 1, 2, 3, 4, 5] bcast_S4x64x2x4x128x1_S4x64x2x4x128x641_0_1_2_3_4_5 (broadcastInDim S4x64x2x4x128x1 ![0, 1, 2, 3, 4] bcast_S4x64x2x4x128_S4x64x2x4x128x1_0_1_2_3_4 (rowMax s)))))

/-- The softmax of the scores along the row. -/
def prob (s : FVec Ideal S4x64x2x4x128x641 .f32) : FVec Ideal S4x64x2x4x128x641 .f32 :=
  (Host.divf (expo s) (broadcastInDim S4x64x2x4x128x641 ![0, 1, 2, 3, 4, 5] bcast_S4x64x2x4x128x1_S4x64x2x4x128x641_0_1_2_3_4_5 (broadcastInDim S4x64x2x4x128x1 ![0, 1, 2, 3, 4] bcast_S4x64x2x4x128_S4x64x2x4x128x1_0_1_2_3_4 (Host.reduceAdd (expo s) (constant S_ .f32 0x00000000#32) reducesTo_S4x64x2x4x128x641_S4x64x2x4x128_d5 h_S_))))

/-- The values weighted by the probabilities, window and context. -/
def weighted (p : FVec Ideal S4x64x2x4x128x641 .f32) (v : FVec Ideal S4x8192x2x64 .f32) (vc : FVec Ideal S4x256x2x64 .f32) :
    FVec Ideal S32768x512 .bf16 :=
  truncf .bf16 (shapeCast _ (addf (transpose S4x64x128x2x4x64 [0, 1, 5, 2, 4, 3] (Host.dotGeneral dot_S4x64x384x2x64_S4x64x2x4x128x384_S4x64x2x64x4x128_2_5_4_34_013_012 none (band v) (extractStridedSlice S4x64x2x4x128x384 ![0, 0, 0, 0, 0, 0] p slices_S4x64x2x4x128x641_S4x64x2x4x128x384_0_0_0_0_0_0)) transposes_S4x64x2x64x4x128_S4x64x128x2x4x64_0_1_5_2_4_3) (transpose S4x64x128x2x4x64 [0, 3, 5, 1, 4, 2] (Host.dotGeneral dot_S4x256x2x64_S4x64x2x4x128x256_S4x2x64x64x4x128_1_5_3_134_02_02 none vc (extractStridedSlice S4x64x2x4x128x256 ![0, 0, 0, 0, 0, 384] p slices_S4x64x2x4x128x641_S4x64x2x4x128x256_0_0_0_0_0_384)) transposes_S4x2x64x64x4x128_S4x64x128x2x4x64_0_3_5_1_4_2)) shapeCasts_S4x64x128x2x4x64_S32768x512) bitsLt_bf16_f32

/-- The reference's result is the weighted values of its softmax. -/
theorem result_eq (m : (ℓ : Loc nD τ sig) → Buf (Elt Ideal) ℓ) (c : Dev nD) :
    Value.res_out0 m c = weighted (prob (scores (m ((c.tc : Thread nD τ).loc main_arg0)) (m ((c.tc : Thread nD τ).loc main_arg1))
      (m ((c.tc : Thread nD τ).loc main_arg3)) (m ((c.tc : Thread nD τ).loc main_arg5))))
      (m ((c.tc : Thread nD τ).loc main_arg2)) (m ((c.tc : Thread nD τ).loc main_arg4)) := rfl

end Cert.ReferenceIdeal.Att

end
-- ==== Proof.Att.Mask.lean ====
module

public import Idealize.ShloMosaic.Lib.Pointwise
public import Idealize.ShloMosaic.Lib.Tactic.WordOmega

@[expose] public section

set_option maxRecDepth 16384

open Idealize.ShloMosaic

namespace Att

/-- The mask bit from words: column `k` of row `r` of window `n` is at most 128 positions away and inside the sequence. -/
theorem mask_bits (n r k : Nat) (hn : n < 64) (hr : r < 128) (hk : k < 384) : IntOp.andi
      (IntOp.andi
        (IntOp.cmpi CmpIPredicate.sle
          (IntOp.absi
            (IntOp.subi (IntOp.addi (IntOp.subi (IntOp.muli (BitVec.ofNat 32 n) 128#32) 128#32) (BitVec.ofNat 32 k))
              (IntOp.addi (IntOp.muli (BitVec.ofNat 32 n) 128#32) (BitVec.ofNat 32 r))))
          128#32)
        (IntOp.cmpi CmpIPredicate.sge
          (IntOp.addi (IntOp.subi (IntOp.muli (BitVec.ofNat 32 n) 128#32) 128#32) (BitVec.ofNat 32 k)) 0#32))
      (IntOp.cmpi CmpIPredicate.slt
        (IntOp.addi (IntOp.subi (IntOp.muli (BitVec.ofNat 32 n) 128#32) 128#32) (BitVec.ofNat 32 k)) 8192#32) =
    if r ≤ k ∧ k ≤ r + 256 ∧ 128 ≤ n * 128 + k ∧ n * 128 + k < 8320 then 1#1 else 0#1 := by
  have e1 : IntOp.muli (BitVec.ofNat 32 n) 128#32 = BitVec.ofNat 32 (n * 128) := by
    unfold IntOp.muli
    apply BitVec.eq_of_toNat_eq
    rw [BitVec.toNat_mul]; simp only [BitVec.toNat_ofNat]; omega
  have e2 : IntOp.addi (IntOp.subi (BitVec.ofNat 32 (n * 128)) 128#32) (BitVec.ofNat 32 k) = BitVec.ofNat 32 (n * 128 + k + 4294967168) := by
    unfold IntOp.addi IntOp.subi
    apply BitVec.eq_of_toNat_eq
    rw [BitVec.toNat_add, BitVec.toNat_sub]; simp only [BitVec.toNat_ofNat]; omega
  have e3 : IntOp.subi (BitVec.ofNat 32 (n * 128 + k + 4294967168)) (IntOp.addi (BitVec.ofNat 32 (n * 128)) (BitVec.ofNat 32 r))
      = BitVec.ofNat 32 (k + 4294967168 - r) := by
    unfold IntOp.addi IntOp.subi
    apply BitVec.eq_of_toNat_eq
    rw [BitVec.toNat_sub, BitVec.toNat_add]; simp only [BitVec.toNat_ofNat]; omega
  obtain ⟨w, hw, hw1, hw2⟩ : ∃ w, IntOp.absi (BitVec.ofNat 32 (k + 4294967168 - r)) = BitVec.ofNat 32 w
      ∧ (w ≤ 128 ↔ r ≤ k ∧ k ≤ r + 256) ∧ w < 1000 := by
    unfold IntOp.absi
    by_cases hk1 : k < 128 + r
    · refine ⟨128 + r - k, ?_, by omega, by omega⟩
      have hm : (BitVec.ofNat 32 (k + 4294967168 - r)).msb = true := by
        rw [BitVec.msb_eq_decide]; simp only [BitVec.toNat_ofNat, decide_eq_true_eq]; omega
      rw [if_pos hm]
      apply BitVec.eq_of_toNat_eq
      rw [BitVec.toNat_neg]; simp only [BitVec.toNat_ofNat]; omega
    · refine ⟨k - 128 - r, ?_, by omega, by omega⟩
      have hm : ¬ (BitVec.ofNat 32 (k + 4294967168 - r)).msb = true := by
        rw [BitVec.msb_eq_decide]; simp only [BitVec.toNat_ofNat, decide_eq_true_eq]; omega
      rw [if_neg hm]
      apply BitVec.eq_of_toNat_eq
      simp only [BitVec.toNat_ofNat]; omega
  rw [e1, e2, e3, hw]
  clear e1 e2 e3 hw
  have c1 : IntOp.cmpi CmpIPredicate.sle (BitVec.ofNat 32 w) 128#32 = if w ≤ 128 then 1#1 else 0#1 := by
    split <;> word_omega
  obtain ⟨z, hz, hz1, hz2, hz3⟩ : ∃ z, BitVec.ofNat 32 (n * 128 + k + 4294967168) = BitVec.ofNat 32 z ∧ z < 4294967296
      ∧ (128 ≤ n * 128 + k → z = n * 128 + k - 128) ∧ (¬ 128 ≤ n * 128 + k → 4294960000 ≤ z) := by
    by_cases h : 128 ≤ n * 128 + k
    · refine ⟨n * 128 + k - 128, ?_, by omega, by omega, by omega⟩
      apply BitVec.eq_of_toNat_eq
      simp only [BitVec.toNat_ofNat]; omega
    · exact ⟨n * 128 + k + 4294967168, rfl, by omega, by omega, by omega⟩
  rw [hz]
  clear hz
  have c2 : IntOp.cmpi CmpIPredicate.sge (BitVec.ofNat 32 z) 0#32 = if 128 ≤ n * 128 + k then 1#1 else 0#1 := by
    by_cases h : 128 ≤ n * 128 + k
    · have := hz2 h
      rw [if_pos h]; word_omega
    · have := hz3 h
      rw [if_neg h]; word_omega
  have c3 : IntOp.cmpi CmpIPredicate.slt (BitVec.ofNat 32 z) 8192#32
      = if 128 ≤ n * 128 + k → n * 128 + k < 8320 then 1#1 else 0#1 := by
    by_cases h : 128 ≤ n * 128 + k
    · have := hz2 h
      by_cases h' : n * 128 + k < 8320
      · rw [if_pos (fun _ => h')]; word_omega
      · rw [if_neg (fun q => h' (q h))]; word_omega
    · have := hz3 h
      rw [if_pos (fun q => absurd q h)]; word_omega
  rw [c1, c2, c3]
  by_cases h1 : w ≤ 128 <;> by_cases h2 : 128 ≤ n * 128 + k <;> by_cases h3 : n * 128 + k < 8320 <;>
    simp only [h1, h2, h3, if_true, if_false, ← and_assoc, ← hw1, and_true, and_false, true_and, false_and, true_imp_iff, false_imp_iff] <;> rfl

end Att
-- ==== Proof.Att.RefAt.lean ====
module

public import proofs.«01_k».proof.Proof.Att.RefTerm
public import proofs.«01_k».proof.Proof.Att.Mask

@[expose] public section

set_option maxRecDepth 16384

noncomputable section

open Idealize.ShloMosaic Idealize.ShloMosaic.TcCoe Idealize.SL.Sem

namespace Cert.ReferenceIdeal.Att

open Cert.ReferenceIdeal Cert.ReferenceIdeal.Gen

/-- The column is at most 128 positions from the row's query and lies in the sequence. -/
def Live (n : Fin 64) (r : Fin 128) (k : Fin 384) : Prop :=
  r.val ≤ k.val ∧ k.val ≤ r.val + 256 ∧ 128 ≤ n.val * 128 + k.val ∧ n.val * 128 + k.val < 8320

instance (n : Fin 64) (r : Fin 128) (k : Fin 384) : Decidable (Live n r k) := by unfold Live; infer_instance

/-- The window of a live column reads its position of the sequence. -/
theorem band_at (x : FVec Ideal S4x8192x2x64 .f32) (b : Fin 4) (n : Fin 64) (r : Fin 128) (k : Fin 384) (h : Fin 2) (d : Fin 64)
    (hk : Live n r k) (p : Fin 8192) (hp : p.val = n.val * 128 + k.val - 128) :
    band x (ix5 b n k h d) = x (ix4 b p h d) := by
  obtain ⟨-, -, h1, h2⟩ := hk
  pointwise [band]
  repeat' split
  all_goals first | (exfalso; omega) | (congr 1; funext a; apply Fin.ext; fin_cases a <;> simp [hp] <;> omega)

/-- The mask bit of the reference. -/
theorem inWindow_at  (n : Fin 64) (r : Fin 128) (k : Fin 384) :
    inWindow (ix3 n r k) = if Live n r k then 1#1 else 0#1 := by
  pointwise [inWindow]
  exact _root_.Att.mask_bits n.val r.val k.val n.isLt r.isLt k.isLt

/-- A score of the window: the scaled product of key and query where the column is live, minus infinity elsewhere. -/
theorem scoresW_at (q : FVec Ideal S4x8192x8x64 .f32) (k : FVec Ideal S4x8192x2x64 .f32) (b : Fin 4) (n : Fin 64) (h : Fin 2)
    (g : Fin 4) (r : Fin 128) (c : Fin 384) (i : Fin 8192) (hi : i.val = n.val * 128 + r.val) (a : Fin 8)
    (ha : a.val = h.val * 4 + g.val) (p : Fin 8192) (hp : Live n r c → p.val = n.val * 128 + c.val - 128) :
    scoresW q k (ix6 b n h g r c) = if Live n r c
      then (∑ d : Fin 64, k (ix4 b p h d) * q (ix4 b i a d)) * Ideal.ofBits FTy.f32 1040187392#32 else (⊥ : EReal) := by
  pointwise [scoresW]
  simp only [← hi, ← ha, Fin.eta]
  rw [inWindow_at]
  by_cases hl : Live n r c
  · rw [if_pos hl, if_pos hl]
    simp only [band_at k b n r c h _ hl p (hp hl)]
    rfl
  · rw [if_neg hl, if_neg hl]
    show Ideal.ofBits FTy.f32 4286578688#32 = _
    simp [Ideal.ofBits, Ideal.ieee]

/-- A score of the context. -/
theorem scoresC_at (q : FVec Ideal S4x8192x8x64 .f32) (k : FVec Ideal S4x256x2x64 .f32) (b : Fin 4) (n : Fin 64) (h : Fin 2)
    (g : Fin 4) (r : Fin 128) (c : Fin 256) (i : Fin 8192) (hi : i.val = n.val * 128 + r.val) (a : Fin 8)
    (ha : a.val = h.val * 4 + g.val) :
    scoresC q k (ix6 b n h g r c)
      = (∑ d : Fin 64, k (ix4 b c h d) * q (ix4 b i a d)) * Ideal.ofBits FTy.f32 1040187392#32 := by
  pointwise [scoresC]
  simp only [← hi, ← ha, Fin.eta]

/-- The row's columns: the window's, the context's and the sink. -/
theorem scores_at (q : FVec Ideal S4x8192x8x64 .f32) (k : FVec Ideal S4x8192x2x64 .f32) (kc : FVec Ideal S4x256x2x64 .f32)
    (sink : FVec Ideal S8 .f32)  (b : Fin 4) (n : Fin 64) (h : Fin 2) (g : Fin 4) (r : Fin 128) (c : Fin 641)
    (a : Fin 8) (ha : a.val = h.val * 4 + g.val) :
    scores q k kc sink (ix6 b n h g r c) = if h1 : c.val < 384 then scoresW q k (ix6 b n h g r ⟨c.val, h1⟩)
      else if h2 : c.val - 384 < 256 then scoresC q kc (ix6 b n h g r ⟨c.val - 384, h2⟩) else sink (ix1 a) := by
  pointwise [scores, sinks]
  simp only [← ha, Fin.eta]

/-- An element of the result: the window's values and the context's, each weighted by its column of the softmax. -/
theorem weighted_at (p : FVec Ideal S4x64x2x4x128x641 .f32) (v : FVec Ideal S4x8192x2x64 .f32) (vc : FVec Ideal S4x256x2x64 .f32)
    (b : Fin 4) (n : Fin 64) (h : Fin 2) (g : Fin 4) (r : Fin 128) (d : Fin 64) (i : Fin 32768) (j : Fin 512)
    (hi : i.val = (b.val * 64 + n.val) * 128 + r.val) (hj : j.val = h.val * 256 + g.val * 64 + d.val) :
    weighted p v vc (ix2 i j) = ∑ x : Fin 384, band v (ix5 b n x h d) * p (ix6 b n h g r (x.castAdd 256).castSucc)
      + ∑ x : Fin 256, vc (ix4 b x h d) * p (ix6 b n h g r (x.natAdd 384).castSucc) := by
  pointwise [weighted, hi, hj]
  have e1 : ((b.val * 64 + n.val) * 128 + r.val) / 8192 = b.val := by omega
  have e2 : ((b.val * 64 + n.val) * 128 + r.val) / 128 % 64 = n.val := by omega
  have e3 : ((b.val * 64 + n.val) * 128 + r.val) % 128 = r.val := by omega
  have e4 : (h.val * 256 + g.val * 64 + d.val) / 256 = h.val := by omega
  have e5 : (h.val * 256 + g.val * 64 + d.val) / 64 % 4 = g.val := by omega
  have e6 : (h.val * 256 + g.val * 64 + d.val) % 64 = d.val := by omega
  simp only [e1, e2, e3, e4, e5, e6, Fin.eta]
  rfl

end Cert.ReferenceIdeal.Att

end
-- ==== Proof.Att.Axis.lean ====
module

public import Idealize.ShloMosaic.Lib.Pointwise

@[expose] public section

noncomputable section

open Idealize.ShloMosaic

namespace Att

variable {n0 n1 n2 n3 n4 n5 : Nat}

/-- The indices of a rank-six array that fall on one index when the last axis is dropped are that index with any last coordinate. -/
theorem last6 (h : (⟨6, ![n0, n1, n2, n3, n4, n5]⟩ : Shape).ReducesTo [5] ⟨5, ![n0, n1, n2, n3, n4]⟩)
    (a : Fin n0) (b : Fin n1) (c : Fin n2) (d : Fin n3) (e : Fin n4) (i : (⟨6, ![n0, n1, n2, n3, n4, n5]⟩ : Shape).Idx) :
    h.drop i = ix5 a b c d e ↔ ∃ k : Fin n5, ix6 a b c d e k = i := by
  constructor
  · intro q
    refine ⟨i 5, ?_⟩
    funext x; apply Fin.ext
    match x with
    | ⟨0, _⟩ => exact (congrArg Fin.val (congrFun q 0)).symm
    | ⟨1, _⟩ => exact (congrArg Fin.val (congrFun q 1)).symm
    | ⟨2, _⟩ => exact (congrArg Fin.val (congrFun q 2)).symm
    | ⟨3, _⟩ => exact (congrArg Fin.val (congrFun q 3)).symm
    | ⟨4, _⟩ => exact (congrArg Fin.val (congrFun q 4)).symm
    | ⟨5, _⟩ => rfl
  · rintro ⟨k, rfl⟩
    funext x; apply Fin.ext
    match x with
    | ⟨0, _⟩ => rfl
    | ⟨1, _⟩ => rfl
    | ⟨2, _⟩ => rfl
    | ⟨3, _⟩ => rfl
    | ⟨4, _⟩ => rfl

/-- The host's sum along the last axis of a rank-six array. -/
theorem sum_last6 (h : (⟨6, ![n0, n1, n2, n3, n4, n5]⟩ : Shape).ReducesTo [5] ⟨5, ![n0, n1, n2, n3, n4]⟩)
    (x : (⟨6, ![n0, n1, n2, n3, n4, n5]⟩ : Shape).Idx → EReal) (z : EReal)
    (a : Fin n0) (b : Fin n1) (c : Fin n2) (d : Fin n3) (e : Fin n4) :
    Ideal.hostReduceAdd h x z (ix5 a b c d e) = z + ∑ k : Fin n5, x (ix6 a b c d e k) := by
  show z + _ = _
  rw [Finset.sum_filter_eq_sum_of_fiber _ (fun k : Fin n5 => ix6 a b c d e k) (fun _ _ q => congrFun q 5)
    (last6 h a b c d e)]

/-- The host's maximum along the last axis of a rank-six array. -/
theorem max_last6 {u : Shape} (h : (⟨6, ![n0, n1, n2, n3, n4, n5]⟩ : Shape).ReducesTo [5] ⟨5, ![n0, n1, n2, n3, n4]⟩)
    (x : FVec Ideal (⟨6, ![n0, n1, n2, n3, n4, n5]⟩ : Shape) .f32) (z : FVec Ideal u .f32) (hu : 0 < u.numel)
    (a : Fin n0) (b : Fin n1) (c : Fin n2) (d : Fin n3) (e : Fin n4) :
    Host.reduce FloatOps.maximumf x z h hu (ix5 a b c d e)
      = (Finset.univ : Finset (Fin n5)).fold max (z (Shape.Idx.first hu)) (fun k => x (ix6 a b c d e k)) := by
  rw [Host.reduce_eq_fold]
  exact Finset.fold_filter_eq_fold_of_fiber max _ (fun k : Fin n5 => ix6 a b c d e k) (fun _ _ q => congrFun q 5)
    (last6 h a b c d e) _ _

/-- A maximum of two arrays at an index. -/
theorem maximumf_at {s : Shape} (x y : FVec Ideal s .f32) (i : s.Idx) : maximumf x y i = max (x i) (y i) := rfl

/-- A quotient of two arrays at an index. -/
theorem divf_at {s : Shape} (x y : FVec Ideal s .f32) (i : s.Idx) : Host.divf x y i = Ideal.div (x i) (y i) := rfl

/-- A host sum is the ideal sum from its initial value. -/
theorem reduceAdd_at {s t u : Shape} {axes : List (Fin s.rank)} (x : FVec Ideal s .f32) (z : FVec Ideal u .f32)
    (h : s.ReducesTo axes t) (hu : 0 < u.numel) (j : t.Idx) :
    Host.reduceAdd x z h hu j = Ideal.hostReduceAdd h x (z (Shape.Idx.first hu)) j := rfl

end Att

end
-- ==== Proof.Att.RefSoft.lean ====
module

public import proofs.«01_k».proof.Proof.Att.RefTerm
public import proofs.«01_k».proof.Proof.Att.Axis
public import proofs.«01_k».proof.Proof.Att.Row

@[expose] public section

set_option maxRecDepth 16384

noncomputable section

open Idealize.ShloMosaic Idealize.ShloMosaic.TcCoe Idealize.SL.Sem

namespace Cert.ReferenceIdeal.Att

open Cert.ReferenceIdeal Cert.ReferenceIdeal.Gen

/-- The two broadcasts of a row's number along the row read that number. -/
theorem along_row (x : FVec Ideal S4x64x2x4x128 .f32) (b : Fin 4) (n : Fin 64) (h : Fin 2) (g : Fin 4) (r : Fin 128) (c : Fin 641) :
    broadcastInDim S4x64x2x4x128x641 ![0, 1, 2, 3, 4, 5] bcast_S4x64x2x4x128x1_S4x64x2x4x128x641_0_1_2_3_4_5
      (broadcastInDim S4x64x2x4x128x1 ![0, 1, 2, 3, 4] bcast_S4x64x2x4x128_S4x64x2x4x128x1_0_1_2_3_4 x) (ix6 b n h g r c)
      = x (ix5 b n h g r) := by
  pointwise []

/-- The word of minus infinity broadcast to every row. -/
theorem every_row (b : Fin 4) (n : Fin 64) (h : Fin 2) (g : Fin 4) (r : Fin 128) :
    broadcastInDim S4x64x2x4x128 ![] bcast_S_S4x64x2x4x128 (constant (F := Ideal) S_ .f32 0xFF800000#32) (ix5 b n h g r) = (⊥ : EReal) := by
  pointwise []
  simp [Ideal.ofBits, Ideal.ieee]

/-- The word of minus infinity is minus infinity. -/
theorem bot_first : constant (F := Ideal) S_ .f32 0xFF800000#32 (Shape.Idx.first h_S_) = (⊥ : EReal) := by
  pointwise []
  simp [Ideal.ofBits, Ideal.ieee]

/-- The word of zero is zero. -/
theorem zero_first : constant (F := Ideal) S_ .f32 0x00000000#32 (Shape.Idx.first h_S_) = (0 : EReal) := by
  pointwise []

/-- The largest score of a row of the reference. -/
theorem rowMax_at (s : FVec Ideal S4x64x2x4x128x641 .f32) (b : Fin 4) (n : Fin 64) (h : Fin 2) (g : Fin 4) (r : Fin 128) :
    rowMax s (ix5 b n h g r) = _root_.Att.fullTop (fun c => s (ix6 b n h g r c)) := by
  unfold rowMax _root_.Att.fullTop
  rw [_root_.Att.maximumf_at, _root_.Att.max_last6, every_row, bot_first]

/-- The exponential of a score less its row's largest. -/
theorem expo_at (s : FVec Ideal S4x64x2x4x128x641 .f32) (b : Fin 4) (n : Fin 64) (h : Fin 2) (g : Fin 4) (r : Fin 128) (c : Fin 641) :
    expo s (ix6 b n h g r c) = Ideal.exp (s (ix6 b n h g r c) - _root_.Att.fullTop (fun c => s (ix6 b n h g r c))) := by
  rw [← rowMax_at]
  unfold expo
  generalize rowMax s = x
  pointwise []

/-- The softmax of the reference at a row and a column. -/
theorem prob_at (s : FVec Ideal S4x64x2x4x128x641 .f32) (b : Fin 4) (n : Fin 64) (h : Fin 2) (g : Fin 4) (r : Fin 128) (c : Fin 641) :
    prob s (ix6 b n h g r c) = _root_.Att.fullProb (fun c => s (ix6 b n h g r c)) c := by
  unfold prob _root_.Att.fullProb
  rw [_root_.Att.divf_at, along_row, _root_.Att.reduceAdd_at, _root_.Att.sum_last6, zero_first, expo_at]
  simp only [expo_at]

end Cert.ReferenceIdeal.Att

end
-- ==== Proof.Att.Equation.lean ====
module

public import proofs.«01_k».proof.Proof.Att.Keys
public import proofs.«01_k».proof.Proof.Att.Bias
public import proofs.«01_k».proof.Proof.Att.RefAt
public import proofs.«01_k».proof.Proof.Att.RefSoft
public import proofs.«01_k».proof.Proof.Att.Row

@[expose] public section

set_option maxRecDepth 16384

noncomputable section

open Idealize.ShloMosaic Idealize.ShloMosaic.TcCoe Idealize.SL.Sem
open Idealize.ShloMosaic.Pipeline (Dat)

namespace Cert.KernelIdeal.Att

open Cert.KernelIdeal Cert.KernelIdeal.Gen

/-- The scale is a number. -/
theorem scale_real : ∃ e : ℝ, Ideal.ofBits FTy.f32 1040187392#32 = (e : EReal) := by
  refine ⟨1 / 8, ?_⟩
  simp [Ideal.ofBits, Ideal.ieee]
  rw [← EReal.coe_mul]
  exact congrArg _ (by norm_num)

/-- A score of numbers: scaling the query before the product or the product after it. -/
theorem score_eq (q k : Fin 64 → EReal) (e : EReal) (hq : ∀ d, ∃ x : ℝ, q d = x) (hk : ∀ d, ∃ x : ℝ, k d = x) (he : ∃ x : ℝ, e = x) :
    (∑ d, (q d * e) * k d) = (∑ d, k d * q d) * e ∧ ∃ x : ℝ, (∑ d, (q d * e) * k d) = x := by
  choose q' hq using hq
  choose k' hk using hk
  obtain ⟨e', rfl⟩ := he
  simp only [hq, hk]
  have h1 : ∀ d, (q' d : EReal) * e' * k' d = ((q' d * e' * k' d : ℝ) : EReal) := fun d => by
    rw [EReal.coe_mul, EReal.coe_mul]
  have h2 : ∀ d, (k' d : EReal) * q' d = ((k' d * q' d : ℝ) : EReal) := fun d => by rw [EReal.coe_mul]
  simp only [h1, h2]
  rw [_root_.Att.sum_real, _root_.Att.sum_real, ← EReal.coe_mul]
  refine ⟨congrArg _ ?_, _, rfl⟩
  rw [Finset.sum_mul]
  exact Finset.sum_congr rfl fun d _ => by ring

variable (m : (ℓ : Loc nD τ sig) → Buf (Elt Ideal) ℓ)

open Cert.ReferenceIdeal.Att in
/-- The block written at a step holds the reference's rows. -/
theorem equation (c : Dev nD) (q : FVec Ideal Cert.ReferenceIdeal.S4x8192x8x64 .f32)
    (k v : FVec Ideal Cert.ReferenceIdeal.S4x8192x2x64 .f32) (kc vc : FVec Ideal Cert.ReferenceIdeal.S4x256x2x64 .f32)
    (sk : FVec Ideal Cert.ReferenceIdeal.S8 .f32)
    (eq : m ((c.tc : Thread nD τ).loc main_arg0) = q) (ek : m ((c.tc : Thread nD τ).loc main_arg1) = k) (ev : m ((c.tc : Thread nD τ).loc main_arg2) = v)
    (ekc : m ((c.tc : Thread nD τ).loc main_arg3) = kc) (evc : m ((c.tc : Thread nD τ).loc main_arg4) = vc) (es : m ((c.tc : Thread nD τ).loc main_arg5) = sk)
    (rq : ∀ i, ∃ x : ℝ, q i = x) (rk : ∀ i, ∃ x : ℝ, k i = x) (rv : ∀ i, ∃ x : ℝ, v i = x) (rkc : ∀ i, ∃ x : ℝ, kc i = x)
    (rvc : ∀ i, ∃ x : ℝ, vc i = x) (rs : ∀ i, ∃ x : ℝ, sk i = x)
    (t : Fin cfg0.N) (r : Fin 128) (j : Fin 512) (i : Fin 32768) (hi : i.val = t.val * 128 + r.val) :
    outsAt0 m c t (ix2 r j) = weighted (prob (scores q k kc sk)) v vc (ix2 i j) := by
  have hN : cfg0.N = 256 := by decide
  have ht : t.val < 256 := hN ▸ t.isLt
  obtain ⟨b, hb⟩ : ∃ b : Fin 4, b.val = t.val / 64 := ⟨⟨t.val / 64, by omega⟩, rfl⟩
  obtain ⟨n, hn⟩ : ∃ n : Fin 64, n.val = t.val % 64 := ⟨⟨t.val % 64, by omega⟩, rfl⟩
  obtain ⟨h, hh⟩ : ∃ h : Fin 2, h.val = j.val / 256 := ⟨⟨j.val / 256, by omega⟩, rfl⟩
  obtain ⟨g, hg⟩ : ∃ g : Fin 4, g.val = j.val / 64 % 4 := ⟨⟨j.val / 64 % 4, by omega⟩, rfl⟩
  obtain ⟨d, hd⟩ : ∃ d : Fin 64, d.val = j.val % 64 := ⟨⟨j.val % 64, by omega⟩, rfl⟩
  obtain ⟨ρ, hρ⟩ : ∃ ρ : Fin 512, ρ.val = g.val * 128 + r.val := ⟨⟨g.val * 128 + r.val, by omega⟩, rfl⟩
  obtain ⟨a, ha⟩ : ∃ a : Fin 8, a.val = h.val * 4 + g.val := ⟨⟨h.val * 4 + g.val, by omega⟩, rfl⟩
  obtain ⟨p0, hp0⟩ : ∃ p0 : Fin 8192, p0.val = n.val * 128 + r.val := ⟨⟨n.val * 128 + r.val, by omega⟩, rfl⟩
  obtain ⟨z, hz⟩ : ∃ z : Fin 3, z.val = if t.val % 64 = 0 then 0 else if t.val % 64 = 63 then 2 else 1 :=
    ⟨⟨if t.val % 64 = 0 then 0 else if t.val % 64 = 63 then 2 else 1, by split_ifs <;> omega⟩, rfl⟩
  have hj : j.val = h.val * 256 + g.val * 64 + d.val := by omega
  have hbn : t.val / 64 * 64 + t.val % 64 = t.val := by omega
  rw [blk_out m c t h g r d j hj ρ hρ z hz, weighted_at _ v vc b n h g r d i j (by omega) hj]
  simp only [prob_at]
  obtain ⟨x, hx⟩ := rs (ix1 a)
  have hsink : sBlk m c t (ix3 h ρ 0) = (x : EReal) := by
    rw [← hx, ← es]
    exact (blk_s m c t h ρ 0).trans (host_s m c h g r ρ 0 a hρ ha)
  rw [hsink]
  have hqr : ∀ x : Fin 64, qBlk m c t (ix2 r ⟨h.val * 256 + g.val * 64 + x.val, by omega⟩) = q (ix4 b p0 a x) * Ideal.ofBits FTy.f32 1040187392#32 := fun x => by
    rw [← eq]
    exact (blk_q m c t r _ i hi).trans (host_q m c b p0 a x i _ (by omega) (by simp only; omega))
  have hbias : ∀ y : Fin 640, bBlk m c t (ix3 z ρ y) = if 384 ≤ y.val ∨ (ρ.val % 128 ≤ y.val ∧ y.val ≤ ρ.val % 128 + 256 ∧ (z.val = 0 → 128 ≤ y.val) ∧ (z.val = 2 → y.val < 256)) then (0 : EReal) else 1 := fun y =>
    ((blk_b m c t z ρ y).trans (congrFun (host_b m c) _)).trans (biasTable_at z ρ y)
  have hK := stack_seq (iblk m c 1 t) (iblk m c 2 t) (iblk m c 3 t) (iblk m c 4 t) k kc b n
    (fun r j i hi => by rw [← ek, ← ekc, ← host_k]; exact blk_k1 m c t r j i (by rw [hi, hb, hn]))
    (fun r j i hi => by rw [← ek, ← ekc, ← host_k]; exact blk_k2 m c t r j i (by rw [hi, hb, hn]))
    (fun r j i hi => by rw [← ek, ← ekc, ← host_k]; exact blk_k3 m c t r j i (by rw [hi, hb, hn]))
  have hV := stack_seq (iblk m c 5 t) (iblk m c 6 t) (iblk m c 7 t) (iblk m c 8 t) v vc b n
    (fun r j i hi => by rw [← ev, ← evc, ← host_v]; exact blk_v1 m c t r j i (by rw [hi, hb, hn]))
    (fun r j i hi => by rw [← ev, ← evc, ← host_v]; exact blk_v2 m c t r j i (by rw [hi, hb, hn]))
    (fun r j i hi => by rw [← ev, ← evc, ← host_v]; exact blk_v3 m c t r j i (by rw [hi, hb, hn]))
  have hKc := stack_ctx (iblk m c 1 t) (iblk m c 2 t) (iblk m c 3 t) (iblk m c 4 t) k kc b
    (fun r j i hi => by rw [← ek, ← ekc, ← host_k]; exact blk_k4 m c t r j i (by rw [hi, hb]; omega))
  have hVc := stack_ctx (iblk m c 5 t) (iblk m c 6 t) (iblk m c 7 t) (iblk m c 8 t) v vc b
    (fun r j i hi => by rw [← ev, ← evc, ← host_v]; exact blk_v4 m c t r j i (by rw [hi, hb]; omega))
  rw [pay3_eq]
  generalize k0_pay2 (iblk m c 1 t) (iblk m c 2 t) (iblk m c 3 t) (iblk m c 4 t) = K8 at hK hKc ⊢
  generalize k0_pay2 (iblk m c 5 t) (iblk m c 6 t) (iblk m c 7 t) (iblk m c 8 t) = V8 at hV hVc ⊢
  simp only [hqr, hbias]
  have hzl : ∀ y : Fin 384, (ρ.val % 128 ≤ y.val ∧ y.val ≤ ρ.val % 128 + 256 ∧ (z.val = 0 → 128 ≤ y.val) ∧ (z.val = 2 → y.val < 256)) ↔ Live n r y := fun y => by
    unfold Live
    have := y.isLt
    have hr : ρ.val % 128 = r.val := by omega
    have hz02 : (z.val = 0 ↔ n.val = 0) ∧ (z.val = 2 ↔ n.val = 63) := by
      by_cases c0 : t.val % 64 = 0
      · rw [if_pos c0] at hz; omega
      · rw [if_neg c0] at hz
        by_cases c2 : t.val % 64 = 63
        · rw [if_pos c2] at hz; omega
        · rw [if_neg c2] at hz; omega
    obtain ⟨hz0, hz2⟩ := hz02
    rw [hr, hz0, hz2]
    have := n.isLt
    omega
  have hwin : ∀ y : Fin 384,
      (∑ x : Fin 64, q (ix4 b p0 a x) * Ideal.ofBits FTy.f32 1040187392#32 * K8 (ix2 (y.castAdd 256) ⟨h.val * 64 + x.val, by omega⟩))
        + (if 384 ≤ (y.castAdd 256).val ∨ (ρ.val % 128 ≤ (y.castAdd 256).val ∧ (y.castAdd 256).val ≤ ρ.val % 128 + 256 ∧ (z.val = 0 → 128 ≤ (y.castAdd 256).val) ∧ (z.val = 2 → (y.castAdd 256).val < 256)) then (0 : EReal) else 1) * ⊥
      = scores q k kc sk (ix6 b n h g r (y.castAdd 256).castSucc)
      ∧ (scores q k kc sk (ix6 b n h g r (y.castAdd 256).castSucc) = ⊥ ∨ (Live n r y ∧ ∃ x : ℝ, scores q k kc sk (ix6 b n h g r (y.castAdd 256).castSucc) = x)) := by
    intro y
    obtain ⟨p, hp, hrow⟩ := hK y
    rw [scores_at q k kc sk b n h g r _ a ha, dif_pos (show ((y.castAdd 256).castSucc : Fin 641).val < 384 from y.isLt)]
    rw [show (⟨((y.castAdd 256).castSucc : Fin 641).val, y.isLt⟩ : Fin 384) = y from rfl]
    rw [scoresW_at q k b n h g r y p0 hp0 a ha p (fun hl => hp hl.2.2.1 hl.2.2.2)]
    have hs := score_eq (fun x => q (ix4 b p0 a x)) (fun x => k (ix4 b p h x)) _ (fun x => rq _) (fun x => rk _) scale_real
    simp only [fun x : Fin 64 => hrow h x ⟨h.val * 64 + x.val, by omega⟩ rfl]
    obtain ⟨h1, w, h2⟩ := hs
    rw [h2] at h1
    rw [h2, ← h1]
    have hv : (Fin.castAdd 256 y).val = y.val := rfl
    simp only [hv]
    by_cases hl : Live n r y
    · rw [if_pos (Or.inr ((hzl y).2 hl)), if_pos hl, zero_mul, add_zero]
      exact ⟨rfl, Or.inr ⟨hl, w, rfl⟩⟩
    · rw [if_neg (fun o => o.elim (fun o => absurd o (by have := y.isLt; omega)) (fun o => hl ((hzl y).1 o))), if_neg hl, one_mul]
      exact ⟨EReal.add_bot _, Or.inl rfl⟩
  have hctx : ∀ y : Fin 256,
      (∑ x : Fin 64, q (ix4 b p0 a x) * Ideal.ofBits FTy.f32 1040187392#32 * K8 (ix2 (y.natAdd 384) ⟨h.val * 64 + x.val, by omega⟩))
        + (if 384 ≤ (y.natAdd 384).val ∨ (ρ.val % 128 ≤ (y.natAdd 384).val ∧ (y.natAdd 384).val ≤ ρ.val % 128 + 256 ∧ (z.val = 0 → 128 ≤ (y.natAdd 384).val) ∧ (z.val = 2 → (y.natAdd 384).val < 256)) then (0 : EReal) else 1) * ⊥
      = scores q k kc sk (ix6 b n h g r (y.natAdd 384).castSucc)
      ∧ ∃ x : ℝ, scores q k kc sk (ix6 b n h g r (y.natAdd 384).castSucc) = x := by
    intro y
    have hy : ((y.natAdd 384).castSucc : Fin 641).val = 384 + y.val := rfl
    rw [scores_at q k kc sk b n h g r _ a ha, dif_neg (by omega), dif_pos (by omega)]
    rw [show (⟨((y.natAdd 384).castSucc : Fin 641).val - 384, by omega⟩ : Fin 256) = y from Fin.ext (by simp only [hy]; omega)]
    rw [scoresC_at q kc b n h g r y p0 hp0 a ha]
    have hs := score_eq (fun x => q (ix4 b p0 a x)) (fun x => kc (ix4 b y h x)) _ (fun x => rq _) (fun x => rkc _) scale_real
    simp only [fun x : Fin 64 => hKc y h x ⟨h.val * 64 + x.val, by omega⟩ rfl]
    obtain ⟨h1, w, h2⟩ := hs
    rw [h2] at h1
    have hv : (Fin.natAdd 384 y).val = 384 + y.val := rfl
    simp only [hv]
    rw [h2, ← h1, if_pos (Or.inl (by omega)), zero_mul, add_zero]
    exact ⟨rfl, w, rfl⟩
  refine _root_.Att.row_eq _ x _ (fun y => scores q k kc sk (ix6 b n h g r y)) _ _ (fun y => ?_) ?_ (fun y => ?_) (fun y => ?_)
  · exact Fin.addCases (m := 384) (n := 256)
      (motive := fun y : Fin 640 => scores q k kc sk (ix6 b n h g r y.castSucc) = (∑ x : Fin 64, q (ix4 b p0 a x) * Ideal.ofBits FTy.f32 1040187392#32 * K8 (ix2 y ⟨h.val * 64 + x.val, by omega⟩))
        + (if 384 ≤ y.val ∨ (ρ.val % 128 ≤ y.val ∧ y.val ≤ ρ.val % 128 + 256 ∧ (z.val = 0 → 128 ≤ y.val) ∧ (z.val = 2 → y.val < 256)) then (0 : EReal) else 1) * ⊥)
      (fun y => (hwin y).1.symm) (fun y => (hctx y).1.symm) y
  · show scores q k kc sk (ix6 b n h g r (Fin.last 640)) = x
    rw [scores_at q k kc sk b n h g r _ a ha, dif_neg (by decide), dif_neg (by decide), hx]
  · obtain ⟨e1, e2⟩ := hwin y
    rcases e2 with e2 | ⟨hl, e2⟩
    · exact Or.inl (e1.trans e2)
    · refine Or.inr ⟨e2.imp fun _ e => e1.trans e, ?_⟩
      obtain ⟨p, hp, hrow⟩ := hV y
      obtain ⟨w, hw⟩ := rv (ix4 b p h d)
      exact ⟨w, (hrow h d _ rfl).trans hw, (band_at v b n r y h d hl p (hp hl.2.2.1 hl.2.2.2)).trans hw⟩
  · obtain ⟨e1, e2⟩ := hctx y
    refine ⟨e2.imp fun _ e => e1.trans e, ?_⟩
    obtain ⟨w, hw⟩ := rvc (ix4 b y h d)
    exact ⟨w, (hVc y h d _ rfl).trans hw, hw⟩

end Cert.KernelIdeal.Att

end
-- ==== Proof.Att.Array.lean ====
module

public import proofs.«01_k».proof.Proof.Att.Equation

@[expose] public section

set_option maxRecDepth 16384

noncomputable section

open Idealize.ShloMosaic Idealize.ShloMosaic.TcCoe Idealize.SL.Sem
open Idealize.ShloMosaic.Pipeline (Dat)

namespace Cert.KernelIdeal.Att

open Cert.KernelIdeal Cert.KernelIdeal.Gen

variable (m : (ℓ : Loc nD τ sig) → Buf (Elt Ideal) ℓ)

/-- An array every block of which is written from the rows of `W` is `W`. -/
theorem array_of_blocks (c : Dev nD) (W : FVec Ideal S32768x512 .bf16)
    (h : ∀ (t : Fin cfg0.N) (r : Fin 128) (j : Fin 512) (i : Fin 32768), i.val = t.val * 128 + r.val → outsAt0 m c t (ix2 r j) = W (ix2 i j)) :
    (dats m 0 c).arrAt 11 cfg0.N = W := by
  refine (dats m 0 c).arrAt_eq_of_covers 11 _ (by decide +kernel) fun t hf y => ?_
  blk_simp
  rw [after0_11]
  have ht : t.val < 256 := t.isLt
  obtain ⟨r, j, rfl⟩ : ∃ r j, y = ix2 r j := ⟨y 0, y 1, by funext a; match a with | ⟨0, _⟩ => rfl | ⟨1, _⟩ => rfl⟩
  have hr : r.val < 128 := r.isLt
  refine (h t r j ⟨t.val * 128 + r.val, by omega⟩ rfl).trans (congrArg W ?_)
  have e := (idx_val t).2.2.2.2.2.2.2.2.2.2.2
  have e' : t.val / 64 * 64 + t.val % 64 = t.val := by omega
  rw [e'] at e
  blk_ext [e]

end Cert.KernelIdeal.Att

end
-- ==== Proof.Ffn.Chunk.lean ====
module

public import proofs.«01_k».proof.Proof.Gen.Kernel2Ideal.Value
public import Idealize.ShloMosaic.Lib.Pipeline.ReadBack
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Kernel2Ideal.Ffn

open Cert.Kernel2Ideal Cert.Kernel2Ideal.Gen

/-- The up projection's values at 528 rows of 256 features. -/
def upF (u : FVec Ideal S528x1024 .bf16) (w : Vec Ideal S1024x256 .bf16) : FVec Ideal S1x528x256 .f32 := k0_pay18 u w

/-- The sum of three rows, each times its tap. -/
def convF (w : Vec Ideal S3x256 .f32) (a b c : Vec Ideal S1x512x256 .f32) : FVec Ideal S512x256 .f32 := k0_pay15 w a b c

/-- A block of 256 features: the gate's activation times the value. -/
def chunkF (wg : Vec Ideal S3x256 .f32) (a b c : Vec Ideal S1x512x256 .f32) (wv : Vec Ideal S3x256 .f32)
    (a' b' c' : Vec Ideal S1x512x256 .f32) : FVec Ideal S512x256 .bf16 := k0_pay1 (convF wg a b c) (convF wv a' b' c')

variable (u : FVec Ideal S528x1024 .bf16) (w : Vec Ideal S1024x256 .bf16)
variable (p q : BitVec 32) (v : FVec Ideal S528x1024 .f32) (z : BitVec 32)

/-- The printed pieces of the up projection are one function. -/
theorem up6 : k0_pay6 p q v z w = upF (k0_pay5 p q v z) w := rfl
@[inherit_doc up6] theorem up7 : k0_pay7 p q v z w = upF (k0_pay5 p q v z) w := rfl
@[inherit_doc up6] theorem up13 : k0_pay13 (k0_pay12 u w) = upF u w := rfl
@[inherit_doc up6] theorem up14 : k0_pay14 u w = upF u w := rfl
@[inherit_doc up6] theorem up18 : k0_pay18 u w = upF u w := rfl
@[inherit_doc up6] theorem up19 : k0_pay19 u w = upF u w := rfl
@[inherit_doc up6] theorem up24 : k0_pay24 u w = upF u w := rfl
@[inherit_doc up6] theorem up25 : k0_pay25 u w = upF u w := rfl
@[inherit_doc up6] theorem up28 : k0_pay28 u w = upF u w := rfl
@[inherit_doc up6] theorem up29 : k0_pay29 u w = upF u w := rfl
@[inherit_doc up6] theorem up35 : k0_pay35 u w = upF u w := rfl
@[inherit_doc up6] theorem up36 : k0_pay36 u w = upF u w := rfl
@[inherit_doc up6] theorem up40 : k0_pay40 u w = upF u w := rfl
@[inherit_doc up6] theorem up41 : k0_pay41 u w = upF u w := rfl
@[inherit_doc up6] theorem up44 : k0_pay44 u w = upF u w := rfl
@[inherit_doc up6] theorem up46 : k0_pay46 u (k0_pay45 w) (constant S528x256 .f32 0x00000000#32) = upF u w := rfl
@[inherit_doc up6] theorem up50 : k0_pay50 u w = upF u w := rfl
@[inherit_doc up6] theorem up51 : k0_pay51 u w = upF u w := rfl
@[inherit_doc up6] theorem up54 : k0_pay54 u w = upF u w := rfl
@[inherit_doc up6] theorem up55 : k0_pay55 u w = upF u w := rfl
@[inherit_doc up6] theorem up58 : k0_pay58 u w = upF u w := rfl
@[inherit_doc up6] theorem up60 : k0_pay60 (k0_pay59 u w) = upF u w := rfl

variable (wg wv : Vec Ideal S3x256 .f32) (a b c a' b' c' : Vec Ideal S1x512x256 .f32)

/-- The printed pieces of the gated activation are one function. -/
theorem ch0 : k0_pay11 wg (k0_pay8 wg a) (k0_pay9 b) (k0_pay10 wg) c wv a' b' c' = chunkF wg a b c wv a' b' c' := rfl
@[inherit_doc ch0] theorem ch1 : k0_pay17 (k0_pay15 wg a b c) wv (k0_pay16 wv a') b' c' = chunkF wg a b c wv a' b' c' := rfl
@[inherit_doc ch0] theorem ch2 : k0_pay23 (k0_pay20 wv a' b' c') (k0_pay21 wg a b c) (k0_pay22 wg a b c) = chunkF wg a b c wv a' b' c' := rfl
@[inherit_doc ch0] theorem ch3 : k0_pay27 wg (k0_pay26 wg a b) c wv a' b' c' = chunkF wg a b c wv a' b' c' := rfl
@[inherit_doc ch0] theorem ch4 : k0_pay34 (k0_pay30 wg a b c) wv (k0_pay31 wv a') (k0_pay32 b') (k0_pay33 wv) c' = chunkF wg a b c wv a' b' c' := rfl
@[inherit_doc ch0] theorem ch5 : k0_pay39 (k0_pay38 wg (k0_pay37 a) b c wv a' b' c') = chunkF wg a b c wv a' b' c' := rfl
@[inherit_doc ch0] theorem ch6 : k0_pay43 (k0_pay42 wg a b c) wv a' b' c' = chunkF wg a b c wv a' b' c' := rfl
@[inherit_doc ch0] theorem ch7 : k0_pay49 (k0_pay47 wg a b c) wv (k0_pay48 wv a' b') c' = chunkF wg a b c wv a' b' c' := rfl
@[inherit_doc ch0] theorem ch8 : k0_pay53 wg (k0_pay52 wg a) b c wv a' b' c' = chunkF wg a b c wv a' b' c' := rfl
@[inherit_doc ch0] theorem ch9 : k0_pay57 (k0_pay56 wg a b c) wv a' b' c' = chunkF wg a b c wv a' b' c' := rfl
@[inherit_doc ch0] theorem ch10 : k0_pay1 (k0_pay61 wg a b c) (k0_pay62 wv a' b' c') = chunkF wg a b c wv a' b' c' := rfl

/-- The three-tap sum at an element. -/
theorem convF_at (r : Fin 512) (j : Fin 256) : convF wg a b c (ix2 r j)
    = a (ix3 0 r j) * wg (ix2 0 j) + b (ix3 0 r j) * wg (ix2 1 j) + c (ix3 0 r j) * wg (ix2 2 j) := by
  pointwise [convF, k0_pay15]

/-- The up projection at an element: a row times a column. -/
theorem upF_at (r : Fin 528) (j : Fin 256) : upF u w (ix3 0 r j) = ∑ k, u (ix2 r k) * w (ix2 k j) := by
  pointwise [upF, k0_pay18]

/-- The gated activation: half the gate plus half the gate times the tangent of half the gate, times the value. -/
def gated (g x : EReal) : EReal :=
  (Ideal.ofBits .f32 0x3F000000#32 * g + Ideal.ofBits .f32 0x3F000000#32 * g * Ideal.tanh (Ideal.ofBits .f32 0x3F000000#32 * g)) * x

/-- A block's element from the two three-tap sums. -/
theorem pay1_at (g x : FVec Ideal S512x256 .f32) (r : Fin 512) (j : Fin 256) :
    k0_pay1 g x (ix2 r j) = gated (g (ix2 r j)) (x (ix2 r j)) := by
  pointwise [k0_pay1, gated]

/-- The rows of a projection from a given row on. -/
def upRows (f : FVec Ideal S1x528x256 .f32) (o : ℕ) (h : o + 512 ≤ 528) : Vec Ideal S1x512x256 .f32 :=
  fun j => f (ix3 0 ⟨o + (j 1).val, by have : (j 1).val < 512 := (j 1).isLt; omega⟩ (j 2))

/-- A read of the slot written last is the rows written there. -/
theorem read_hi {s o : ℕ} {i1 : ∀ a, ![s, 0, 0] a + ![1, 528, 256] a ≤ S4x528x256.size a}
    {i2 : ∀ a, ![s, o, 0] a + ![1, 512, 256] a ≤ S4x528x256.size a} (ho : o + 512 ≤ 528) (f : FVec Ideal S1x528x256 .f32)
    (L : List (View.Piece (Elt Ideal) S4x528x256 .f32)) :
    (View.whole cc0_scratch0).readCov (⟨Rect.unit ![s, 0, 0] ![1, 528, 256] i1, f⟩ :: L) (Rect.unit ![s, o, 0] ![1, 512, 256] i2).toLoadRect
      = upRows f o ho := by
  rw [View.readCov_eq_canon']
  funext j
  have hj : (j 1).val < 512 := (j 1).isLt
  have h0 : (j 0).val < 1 := (j 0).isLt
  refine Eq.trans (congrArg _ ?_) (View.canon_cons_emb (Rect.unit ![s, 0, 0] ![1, 528, 256] i1) f L
    (ix3 0 ⟨o + (j 1).val, by omega⟩ (j 2)))
  funext a
  apply Fin.ext
  match a with
  | ⟨0, _⟩ => show s + 1 * (j 0).val = s + 1 * 0; omega
  | ⟨1, _⟩ => show o + 1 * (j 1).val = 0 + 1 * (o + (j 1).val); omega
  | ⟨2, _⟩ => rfl

/-- A read of the slot written last but one. -/
theorem read_lo {s s' o : ℕ} {i0 : ∀ a, ![s', 0, 0] a + ![1, 528, 256] a ≤ S4x528x256.size a}
    {i1 : ∀ a, ![s, 0, 0] a + ![1, 528, 256] a ≤ S4x528x256.size a}
    {i2 : ∀ a, ![s, o, 0] a + ![1, 512, 256] a ≤ S4x528x256.size a} (ho : o + 512 ≤ 528) (hd : LoadRect.disj (Rect.unit (s := S4x528x256) ![s', 0, 0] ![1, 528, 256] i0) (Rect.unit ![s, o, 0] ![1, 512, 256] i2).toLoadRect = true)
    (g f : FVec Ideal S1x528x256 .f32)
    (L : List (View.Piece (Elt Ideal) S4x528x256 .f32)) :
    (View.whole cc0_scratch0).readCov (⟨Rect.unit ![s', 0, 0] ![1, 528, 256] i0, g⟩ :: ⟨Rect.unit ![s, 0, 0] ![1, 528, 256] i1, f⟩ :: L)
        (Rect.unit ![s, o, 0] ![1, 512, 256] i2).toLoadRect
      = upRows f o ho := by
  refine Eq.trans ?_ (read_hi (i1 := i1) (i2 := i2) ho f L)
  exact View.readCov_skip _ _ _ _ _ hd

/-- A read of the gate's slot 0 from row 7 on. -/
theorem read_lo_0_7 {i0 : ∀ a, ![1, 0, 0] a + ![1, 528, 256] a ≤ S4x528x256.size a}
    {i1 : ∀ a, ![0, 0, 0] a + ![1, 528, 256] a ≤ S4x528x256.size a}
    {i2 : ∀ a, ![0, 7, 0] a + ![1, 512, 256] a ≤ S4x528x256.size a} (g f : FVec Ideal S1x528x256 .f32)
    (L : List (View.Piece (Elt Ideal) S4x528x256 .f32)) :
    (View.whole cc0_scratch0).readCov (⟨Rect.unit ![1, 0, 0] ![1, 528, 256] i0, g⟩ :: ⟨Rect.unit ![0, 0, 0] ![1, 528, 256] i1, f⟩ :: L)
        (Rect.unit ![0, 7, 0] ![1, 512, 256] i2).toLoadRect
      = upRows f 7 (by decide) := read_lo _ (by rfl) g f L

/-- A read of the value's slot 1 from row 7 on. -/
theorem read_hi_1_7 {i1 : ∀ a, ![1, 0, 0] a + ![1, 528, 256] a ≤ S4x528x256.size a}
    {i2 : ∀ a, ![1, 7, 0] a + ![1, 512, 256] a ≤ S4x528x256.size a} (f : FVec Ideal S1x528x256 .f32)
    (L : List (View.Piece (Elt Ideal) S4x528x256 .f32)) :
    (View.whole cc0_scratch0).readCov (⟨Rect.unit ![1, 0, 0] ![1, 528, 256] i1, f⟩ :: L)
        (Rect.unit ![1, 7, 0] ![1, 512, 256] i2).toLoadRect
      = upRows f 7 (by decide) := read_hi _ f L

/-- A read of the gate's slot 0 from row 8 on. -/
theorem read_lo_0_8 {i0 : ∀ a, ![1, 0, 0] a + ![1, 528, 256] a ≤ S4x528x256.size a}
    {i1 : ∀ a, ![0, 0, 0] a + ![1, 528, 256] a ≤ S4x528x256.size a}
    {i2 : ∀ a, ![0, 8, 0] a + ![1, 512, 256] a ≤ S4x528x256.size a} (g f : FVec Ideal S1x528x256 .f32)
    (L : List (View.Piece (Elt Ideal) S4x528x256 .f32)) :
    (View.whole cc0_scratch0).readCov (⟨Rect.unit ![1, 0, 0] ![1, 528, 256] i0, g⟩ :: ⟨Rect.unit ![0, 0, 0] ![1, 528, 256] i1, f⟩ :: L)
        (Rect.unit ![0, 8, 0] ![1, 512, 256] i2).toLoadRect
      = upRows f 8 (by decide) := read_lo _ (by rfl) g f L

/-- A read of the value's slot 1 from row 8 on. -/
theorem read_hi_1_8 {i1 : ∀ a, ![1, 0, 0] a + ![1, 528, 256] a ≤ S4x528x256.size a}
    {i2 : ∀ a, ![1, 8, 0] a + ![1, 512, 256] a ≤ S4x528x256.size a} (f : FVec Ideal S1x528x256 .f32)
    (L : List (View.Piece (Elt Ideal) S4x528x256 .f32)) :
    (View.whole cc0_scratch0).readCov (⟨Rect.unit ![1, 0, 0] ![1, 528, 256] i1, f⟩ :: L)
        (Rect.unit ![1, 8, 0] ![1, 512, 256] i2).toLoadRect
      = upRows f 8 (by decide) := read_hi _ f L

/-- A read of the gate's slot 0 from row 9 on. -/
theorem read_lo_0_9 {i0 : ∀ a, ![1, 0, 0] a + ![1, 528, 256] a ≤ S4x528x256.size a}
    {i1 : ∀ a, ![0, 0, 0] a + ![1, 528, 256] a ≤ S4x528x256.size a}
    {i2 : ∀ a, ![0, 9, 0] a + ![1, 512, 256] a ≤ S4x528x256.size a} (g f : FVec Ideal S1x528x256 .f32)
    (L : List (View.Piece (Elt Ideal) S4x528x256 .f32)) :
    (View.whole cc0_scratch0).readCov (⟨Rect.unit ![1, 0, 0] ![1, 528, 256] i0, g⟩ :: ⟨Rect.unit ![0, 0, 0] ![1, 528, 256] i1, f⟩ :: L)
        (Rect.unit ![0, 9, 0] ![1, 512, 256] i2).toLoadRect
      = upRows f 9 (by decide) := read_lo _ (by rfl) g f L

/-- A read of the value's slot 1 from row 9 on. -/
theorem read_hi_1_9 {i1 : ∀ a, ![1, 0, 0] a + ![1, 528, 256] a ≤ S4x528x256.size a}
    {i2 : ∀ a, ![1, 9, 0] a + ![1, 512, 256] a ≤ S4x528x256.size a} (f : FVec Ideal S1x528x256 .f32)
    (L : List (View.Piece (Elt Ideal) S4x528x256 .f32)) :
    (View.whole cc0_scratch0).readCov (⟨Rect.unit ![1, 0, 0] ![1, 528, 256] i1, f⟩ :: L)
        (Rect.unit ![1, 9, 0] ![1, 512, 256] i2).toLoadRect
      = upRows f 9 (by decide) := read_hi _ f L

/-- A read of the gate's slot 2 from row 7 on. -/
theorem read_lo_2_7 {i0 : ∀ a, ![3, 0, 0] a + ![1, 528, 256] a ≤ S4x528x256.size a}
    {i1 : ∀ a, ![2, 0, 0] a + ![1, 528, 256] a ≤ S4x528x256.size a}
    {i2 : ∀ a, ![2, 7, 0] a + ![1, 512, 256] a ≤ S4x528x256.size a} (g f : FVec Ideal S1x528x256 .f32)
    (L : List (View.Piece (Elt Ideal) S4x528x256 .f32)) :
    (View.whole cc0_scratch0).readCov (⟨Rect.unit ![3, 0, 0] ![1, 528, 256] i0, g⟩ :: ⟨Rect.unit ![2, 0, 0] ![1, 528, 256] i1, f⟩ :: L)
        (Rect.unit ![2, 7, 0] ![1, 512, 256] i2).toLoadRect
      = upRows f 7 (by decide) := read_lo _ (by rfl) g f L

/-- A read of the value's slot 3 from row 7 on. -/
theorem read_hi_3_7 {i1 : ∀ a, ![3, 0, 0] a + ![1, 528, 256] a ≤ S4x528x256.size a}
    {i2 : ∀ a, ![3, 7, 0] a + ![1, 512, 256] a ≤ S4x528x256.size a} (f : FVec Ideal S1x528x256 .f32)
    (L : List (View.Piece (Elt Ideal) S4x528x256 .f32)) :
    (View.whole cc0_scratch0).readCov (⟨Rect.unit ![3, 0, 0] ![1, 528, 256] i1, f⟩ :: L)
        (Rect.unit ![3, 7, 0] ![1, 512, 256] i2).toLoadRect
      = upRows f 7 (by decide) := read_hi _ f L

/-- A read of the gate's slot 2 from row 8 on. -/
theorem read_lo_2_8 {i0 : ∀ a, ![3, 0, 0] a + ![1, 528, 256] a ≤ S4x528x256.size a}
    {i1 : ∀ a, ![2, 0, 0] a + ![1, 528, 256] a ≤ S4x528x256.size a}
    {i2 : ∀ a, ![2, 8, 0] a + ![1, 512, 256] a ≤ S4x528x256.size a} (g f : FVec Ideal S1x528x256 .f32)
    (L : List (View.Piece (Elt Ideal) S4x528x256 .f32)) :
    (View.whole cc0_scratch0).readCov (⟨Rect.unit ![3, 0, 0] ![1, 528, 256] i0, g⟩ :: ⟨Rect.unit ![2, 0, 0] ![1, 528, 256] i1, f⟩ :: L)
        (Rect.unit ![2, 8, 0] ![1, 512, 256] i2).toLoadRect
      = upRows f 8 (by decide) := read_lo _ (by rfl) g f L

/-- A read of the value's slot 3 from row 8 on. -/
theorem read_hi_3_8 {i1 : ∀ a, ![3, 0, 0] a + ![1, 528, 256] a ≤ S4x528x256.size a}
    {i2 : ∀ a, ![3, 8, 0] a + ![1, 512, 256] a ≤ S4x528x256.size a} (f : FVec Ideal S1x528x256 .f32)
    (L : List (View.Piece (Elt Ideal) S4x528x256 .f32)) :
    (View.whole cc0_scratch0).readCov (⟨Rect.unit ![3, 0, 0] ![1, 528, 256] i1, f⟩ :: L)
        (Rect.unit ![3, 8, 0] ![1, 512, 256] i2).toLoadRect
      = upRows f 8 (by decide) := read_hi _ f L

/-- A read of the gate's slot 2 from row 9 on. -/
theorem read_lo_2_9 {i0 : ∀ a, ![3, 0, 0] a + ![1, 528, 256] a ≤ S4x528x256.size a}
    {i1 : ∀ a, ![2, 0, 0] a + ![1, 528, 256] a ≤ S4x528x256.size a}
    {i2 : ∀ a, ![2, 9, 0] a + ![1, 512, 256] a ≤ S4x528x256.size a} (g f : FVec Ideal S1x528x256 .f32)
    (L : List (View.Piece (Elt Ideal) S4x528x256 .f32)) :
    (View.whole cc0_scratch0).readCov (⟨Rect.unit ![3, 0, 0] ![1, 528, 256] i0, g⟩ :: ⟨Rect.unit ![2, 0, 0] ![1, 528, 256] i1, f⟩ :: L)
        (Rect.unit ![2, 9, 0] ![1, 512, 256] i2).toLoadRect
      = upRows f 9 (by decide) := read_lo _ (by rfl) g f L

/-- A read of the value's slot 3 from row 9 on. -/
theorem read_hi_3_9 {i1 : ∀ a, ![3, 0, 0] a + ![1, 528, 256] a ≤ S4x528x256.size a}
    {i2 : ∀ a, ![3, 9, 0] a + ![1, 512, 256] a ≤ S4x528x256.size a} (f : FVec Ideal S1x528x256 .f32)
    (L : List (View.Piece (Elt Ideal) S4x528x256 .f32)) :
    (View.whole cc0_scratch0).readCov (⟨Rect.unit ![3, 0, 0] ![1, 528, 256] i1, f⟩ :: L)
        (Rect.unit ![3, 9, 0] ![1, 512, 256] i2).toLoadRect
      = upRows f 9 (by decide) := read_hi _ f L

end Cert.Kernel2Ideal.Ffn

end
-- ==== Proof.Ffn.Block.lean ====
module

public import proofs.«01_k».proof.Proof.Gen.Kernel2Ideal.Value
public import Idealize.ShloMosaic.Lib.Pipeline.ValueKit
public import Idealize.ShloMosaic.Lib.Pointwise
public import Idealize.ShloMosaic.Lib.Claim
public import Idealize.ShloMosaic.Lib.Tactic.CleanTypes

@[expose] public section

set_option maxRecDepth 16384

noncomputable section

open Idealize.ShloMosaic Idealize.ShloMosaic.TcCoe Idealize.SL.Sem
open Idealize.ShloMosaic.Pipeline (Dat)

namespace Cert.Kernel2Ideal.Ffn

open Cert.Kernel2Ideal Cert.Kernel2Ideal.Gen

variable (m : (ℓ : Loc nD τ sig) → Buf (Elt Ideal) ℓ)

/-- The residual stream of the memory. -/
abbrev hArg (c : Dev nD) : FVec Ideal S4x8192x1024 .f32 := m ((c.tc : Thread nD τ).loc main_arg0)
/-- The norm's weight of the memory. -/
abbrev nArg (c : Dev nD) : FVec Ideal S1024 .f32 := m ((c.tc : Thread nD τ).loc main_arg1)
/-- The modulation of the memory. -/
abbrev dArg (c : Dev nD) : FVec Ideal S4x6144 .f32 := m ((c.tc : Thread nD τ).loc main_arg2)
/-- The up projection's weight of the memory. -/
abbrev uArg (c : Dev nD) : FVec Ideal S1024x5632 .f32 := m ((c.tc : Thread nD τ).loc main_arg3)
/-- The taps of the memory. -/
abbrev cArg (c : Dev nD) : FVec Ideal S3x5632 .f32 := m ((c.tc : Thread nD τ).loc main_arg4)
/-- The down projection's weight of the memory. -/
abbrev wArg (c : Dev nD) : FVec Ideal S2816x1024 .f32 := m ((c.tc : Thread nD τ).loc main_arg5)

/-- The residual stream as rows. -/
theorem host_h (c : Dev nD) (b : Fin 4) (p : Fin 8192) (i : Fin 32768) (k : Fin 1024) (hi : i.val = b.val * 8192 + p.val) :
    V m c main_v2 (ix2 i k) = hArg m c (ix3 b p k) := by
  simp only [V, hostOps0, hostOps0_1, hostOps0_2, List.flatten_cons, List.flatten_nil, List.append_nil, List.cons_append, List.nil_append]
  entry_read
  clean_types
  pointwise []
  have e1 : i.val / 8192 = b.val := by omega
  have e2 : i.val % 8192 = p.val := by omega
  simp only [e1, e2, Fin.eta]

/-- The norm's weight as one row. -/
theorem host_n (c : Dev nD) (k : Fin 1024) : V m c main_v3 (ix2 0 k) = nArg m c (ix1 k) := by
  simp only [V, hostOps0, hostOps0_1, hostOps0_2, List.flatten_cons, List.flatten_nil, List.append_nil, List.cons_append, List.nil_append]
  entry_read
  clean_types
  pointwise []

/-- The padded modulation's rows from the eighth on are the modulation's. -/
theorem pad_at (x : FVec Ideal S4x6144 .f32) (b : Fin 4) (k : Fin 6144) :
    shapeCast S16x1x6144 (pad S16x6144 ![8, 0] ![4, 0] ![0, 0] x (sitofp .f32 (constantI S_ 32 0#32) : FVec Ideal S_ .f32)
      pads_S4x6144_S16x6144_840_000 h_S_ : FVec Ideal S16x6144 .f32) shapeCasts_S16x6144_S16x1x6144 (ix3 ⟨8 + b.val, by omega⟩ 0 k) = x (ix2 b k) := by
  pointwise []

/-- The modulation as the kernel gets it: row 8 + b holds sequence b. -/
theorem host_d (c : Dev nD) (b : Fin 4) (k : Fin 6144) :
    V m c main_v1 (ix3 ⟨8 + b.val, by omega⟩ 0 k) = dArg m c (ix2 b k) := by
  simp only [V, hostOps0, hostOps0_1, hostOps0_2, List.flatten_cons, List.flatten_nil, List.append_nil, List.cons_append, List.nil_append]
  entry_read
  exact pad_at (dArg m c) b k

/-- The up projection's weight. -/
theorem host_u (c : Dev nD) (k : Fin 1024) (f : Fin 5632) : V m c main_v4 (ix2 k f) = uArg m c (ix2 k f) := by
  simp only [V, hostOps0, hostOps0_1, hostOps0_2, List.flatten_cons, List.flatten_nil, List.append_nil, List.cons_append, List.nil_append]
  entry_read
  rfl

/-- The down projection's weight. -/
theorem host_w (c : Dev nD) (f : Fin 2816) (k : Fin 1024) : V m c main_v5 (ix2 f k) = wArg m c (ix2 f k) := by
  simp only [V, hostOps0, hostOps0_1, hostOps0_2, List.flatten_cons, List.flatten_nil, List.append_nil, List.cons_append, List.nil_append]
  entry_read
  rfl

/-- The taps. -/
theorem host_c (c : Dev nD) (k : Fin 3) (f : Fin 5632) : V m c main_arg4 (ix2 k f) = cArg m c (ix2 k f) := by
  simp only [V, hostOps0, hostOps0_1, hostOps0_2, List.flatten_cons, List.flatten_nil, List.append_nil, List.cons_append, List.nil_append]
  entry_read
  rfl

/-- The blocks' places at a grid point. -/
theorem idx_val : ∀ t : Fin cfg0.N, win0_0.index t = ![t.val, 0]
    ∧ win0_1.index t = ![64 * t.val - 1, 0]
    ∧ win0_2.index t = ![min (64 * (t.val + 1)) 4095, 0]
    ∧ win0_3.index t = ![0, 0]
    ∧ win0_4.index t = ![8 + t.val / 16, 0, 0]
    ∧ win0_5.index t = ![0, 0]
    ∧ win0_6.index t = ![0, 0]
    ∧ win0_7.index t = ![0, 0]
    ∧ win0_8.index t = ![t.val, 0] :=
  (by decide +kernel : ∀ t : Fin grid0.N, _)

/-- The block of rows. -/
theorem blk_h (c : Dev nD) (t : Fin cfg0.N) (r : Fin 512) (k : Fin 1024) (i : Fin 32768) (hi : i.val = t.val * 512 + r.val) :
    iblk m c 0 t (ix2 r k) = V m c main_v2 (ix2 i k) := by
  unfold iblk
  generalize V m c main_v2 = A
  blk_ext [idx_val t]
/-- The eight rows before the block (of the first block, its own). -/
theorem blk_p (c : Dev nD) (t : Fin cfg0.N) (r : Fin 8) (k : Fin 1024) (i : Fin 32768) (hi : i.val = (64 * t.val - 1) * 8 + r.val) :
    iblk m c 1 t (ix2 r k) = V m c main_v2 (ix2 i k) := by
  unfold iblk
  generalize V m c main_v2 = A
  rw [View.read]
  refine (cast_eq _ _).trans (congrArg A ?_)
  funext a
  apply Fin.ext
  refine (win0_1.rect_emb_val t (ix2 r k) a rfl).trans ?_
  rw [(idx_val t).2.1]
  match a with
  | ⟨0, _⟩ => exact hi.symm
  | ⟨1, _⟩ => exact (Nat.zero_mul 1024).symm ▸ Nat.zero_add k.val
/-- The eight rows after the block (of the last block, the last eight). -/
theorem blk_n (c : Dev nD) (t : Fin cfg0.N) (r : Fin 8) (k : Fin 1024) (i : Fin 32768) (hi : i.val = min (64 * (t.val + 1)) 4095 * 8 + r.val) :
    iblk m c 2 t (ix2 r k) = V m c main_v2 (ix2 i k) := by
  unfold iblk
  generalize V m c main_v2 = A
  blk_ext [idx_val t]
/-- The norm's weight, whole. -/
theorem blk_g (c : Dev nD) (t : Fin cfg0.N) (z : Fin 1) (k : Fin 1024) : iblk m c 3 t (ix2 z k) = V m c main_v3 (ix2 z k) := by
  unfold iblk
  generalize V m c main_v3 = A
  blk_ext [idx_val t]
/-- The modulation of the block's sequence. -/
theorem blk_d (c : Dev nD) (t : Fin cfg0.N) (z y : Fin 1) (k : Fin 6144) (i : Fin 16) (hi : i.val = 8 + t.val / 16) :
    iblk m c 4 t (ix3 z y k) = V m c main_v1 (ix3 i y k) := by
  unfold iblk
  generalize V m c main_v1 = A
  blk_ext [idx_val t]
/-- The up projection's weight, whole. -/
theorem blk_u (c : Dev nD) (t : Fin cfg0.N) (k : Fin 1024) (f : Fin 5632) : iblk m c 5 t (ix2 k f) = V m c main_v4 (ix2 k f) := by
  unfold iblk
  generalize V m c main_v4 = A
  blk_ext [idx_val t]
/-- The taps, whole. -/
theorem blk_c (c : Dev nD) (t : Fin cfg0.N) (k : Fin 3) (f : Fin 5632) : iblk m c 6 t (ix2 k f) = V m c main_arg4 (ix2 k f) := by
  unfold iblk
  generalize V m c main_arg4 = A
  blk_ext [idx_val t]
/-- The down projection's weight, whole. -/
theorem blk_w (c : Dev nD) (t : Fin cfg0.N) (f : Fin 2816) (k : Fin 1024) : iblk m c 7 t (ix2 f k) = V m c main_v5 (ix2 f k) := by
  unfold iblk
  generalize V m c main_v5 = A
  blk_ext [idx_val t]

/-- An array every block of which is written from the rows of `W` is `W`. -/
theorem array_of_blocks (c : Dev nD) (W : FVec Ideal S32768x1024 .f32)
    (h : ∀ (t : Fin cfg0.N) (r : Fin 512) (j : Fin 1024) (i : Fin 32768), i.val = t.val * 512 + r.val → outsAt0 m c t (ix2 r j) = W (ix2 i j)) :
    (dats m 0 c).arrAt 8 cfg0.N = W := by
  refine (dats m 0 c).arrAt_eq_of_covers 8 _ (by decide +kernel) fun t hf y => ?_
  blk_simp
  rw [after0_8]
  have ht : t.val < 64 := t.isLt
  obtain ⟨r, j, rfl⟩ : ∃ r j, y = ix2 r j := ⟨y 0, y 1, by funext a; match a with | ⟨0, _⟩ => rfl | ⟨1, _⟩ => rfl⟩
  have hr : r.val < 512 := r.isLt
  refine (h t r j ⟨t.val * 512 + r.val, by omega⟩ rfl).trans (congrArg W ?_)
  have e := (idx_val t).2.2.2.2.2.2.2.2
  blk_ext [e]

end Cert.Kernel2Ideal.Ffn

end
-- ==== Proof.Ffn.Norm.lean ====
module

public import proofs.«01_k».proof.Proof.Gen.Kernel2Ideal.Value
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Kernel2Ideal.Ffn

open Cert.Kernel2Ideal Cert.Kernel2Ideal.Gen

/-- The 528 rows a step reads: eight before its block, its block, eight after. -/
def rowsK (xp : FVec Ideal S8x1024 .f32) (xh : FVec Ideal S512x1024 .f32) (xn : FVec Ideal S8x1024 .f32) (r : Fin 528) (k : Fin 1024) : EReal :=
  if h1 : r.val < 8 then xp (ix2 ⟨r.val, h1⟩ k)
  else if h2 : r.val - 8 < 512 then xh (ix2 ⟨r.val - 8, h2⟩ k) else xn (ix2 ⟨r.val - 8 - 512, by omega⟩ k)

/-- A normalised and modulated row, of the rows a step reads. -/
theorem pay4_at (xd : Vec Ideal S1x1x6144 .f32) (xp : FVec Ideal S8x1024 .f32) (xh : FVec Ideal S512x1024 .f32) (xn : FVec Ideal S8x1024 .f32)
    (xg : FVec Ideal S1x1024 .f32) (r : Fin 528) (k : Fin 1024) :
    k0_pay4 (F := Ideal) xd xp xh xn xg (ix2 r k) = rowsK xp xh xn r k
      * Ideal.rsqrt (Ideal.div (∑ x, rowsK xp xh xn r x * rowsK xp xh xn r x) (Ideal.ofBits .f32 0x44800000#32) + Ideal.ofBits .f32 0x358637BD#32)
      * xg (ix2 0 k) * (Ideal.ofBits .f32 0x3F800000#32 + xd (ix3 0 0 ⟨4096 + k.val, by omega⟩)) + xd (ix3 0 0 ⟨3072 + k.val, by omega⟩) := by
  pointwise [k0_pay4, k0_pay3, rowsK]

/-- The sequence's length at every step of the long sequences. -/
def lenK (t : Fin cfg0.N) : BitVec 32 := Scalar.select (Scalar.cmpi .slt (BitVec.ofNat 32 (grid0.coords t 0).val) 64#32) 8192#32 256#32

/-- The position of a step's first row in its sequence. -/
def posK (t : Fin cfg0.N) : BitVec 32 := Scalar.remsi
  (Scalar.subi (Scalar.muli (BitVec.ofNat 32 (grid0.coords t 0).val) 512#32)
    (Scalar.select (Scalar.cmpi .slt (BitVec.ofNat 32 (grid0.coords t 0).val) 64#32) 0#32 32768#32)) (lenK t)

/-- Every sequence has 8192 rows. -/
theorem len_val : ∀ t : Fin cfg0.N, lenK t = 8192#32 := (by decide +kernel : ∀ t : Fin grid0.N, _)

/-- A step's first position. -/
theorem pos_val : ∀ t : Fin cfg0.N, posK t = BitVec.ofNat 32 (t.val % 16 * 512) := (by decide +kernel : ∀ t : Fin grid0.N, _)

/-- The bit of a row: its position lies in the sequence. -/
theorem bit_val : ∀ (T : Fin 16) (r : Fin 528),
    Scalar.andi (Scalar.cmpi .sge (Scalar.addi (Scalar.subi (BitVec.ofNat 32 (T.val * 512)) 8#32) (BitVec.ofNat 32 r.val)) 0#32)
      (Scalar.cmpi .slt (Scalar.addi (Scalar.subi (BitVec.ofNat 32 (T.val * 512)) 8#32) (BitVec.ofNat 32 r.val)) 8192#32)
      = if 8 ≤ T.val * 512 + r.val ∧ T.val * 512 + r.val < 8200 then 1#1 else 0#1 := by
  decide +kernel

/-- A row outside the sequence is zero. -/
theorem pay5_at (T : Fin 16) (v : FVec Ideal S528x1024 .f32) (r : Fin 528) (k : Fin 1024) :
    k0_pay5 (F := Ideal) 8192#32 (BitVec.ofNat 32 (T.val * 512)) v 8#32 (ix2 r k)
      = if 8 ≤ T.val * 512 + r.val ∧ T.val * 512 + r.val < 8200 then v (ix2 r k) else 0 := by
  have h := bit_val T r
  revert h
  generalize BitVec.ofNat 32 (T.val * 512) = q
  intro h
  pointwise [k0_pay5]
  refine (congrArg (fun w => Scalar.select w (v (ix2 r k)) (0 : EReal)) h).trans ?_
  split
  · rfl
  · rfl

end Cert.Kernel2Ideal.Ffn

end
-- ==== Proof.Ffn.Out.lean ====
module

public import proofs.«01_k».proof.Proof.Ffn.Chunk
public import proofs.«01_k».proof.Proof.Ffn.Block
public import proofs.«01_k».proof.Proof.Ffn.Norm

@[expose] public section

set_option maxRecDepth 16384

noncomputable section

open Idealize.ShloMosaic Idealize.ShloMosaic.TcCoe Idealize.SL.Sem
open Idealize.ShloMosaic.Pipeline (Dat)

namespace Cert.Kernel2Ideal.Ffn

open Cert.Kernel2Ideal Cert.Kernel2Ideal.Gen

/-- The convolution of the up projection at a row of the block. -/
def convK (u : FVec Ideal S528x1024 .bf16) (xu : FVec Ideal S1024x5632 .bf16) (xc : FVec Ideal S3x5632 .f32) (r : Fin 512) (f : Fin 5632) : EReal :=
  (∑ k : Fin 1024, u (ix2 ⟨7 + r.val, by omega⟩ k) * xu (ix2 k f)) * xc (ix2 0 f)
    + (∑ k : Fin 1024, u (ix2 ⟨8 + r.val, by omega⟩ k) * xu (ix2 k f)) * xc (ix2 1 f)
    + (∑ k : Fin 1024, u (ix2 ⟨9 + r.val, by omega⟩ k) * xu (ix2 k f)) * xc (ix2 2 f)

/-- The gated activation at a row of the block. -/
def actK (u : FVec Ideal S528x1024 .bf16) (xu : FVec Ideal S1024x5632 .bf16) (xc : FVec Ideal S3x5632 .f32) : FVec Ideal S512x2816 .bf16 := fun i =>
  gated (convK u xu xc (i 0) ⟨(i 1).val, by have : (i 1).val < 2816 := (i 1).isLt; omega⟩)
    (convK u xu xc (i 0) ⟨2816 + (i 1).val, by have : (i 1).val < 2816 := (i 1).isLt; omega⟩)

/-- The result at an element, from the gated activation. -/
theorem pay2_at (xd : Vec Ideal S1x1x6144 .f32) (a : Vec Ideal S512x2816 .bf16) (xw : Vec Ideal S2816x1024 .bf16) (xh : Vec Ideal S512x1024 .f32)
    (r : Fin 512) (d : Fin 1024) :
    k0_pay2 (F := Ideal) (k0_pay3 xd) a xw xh (ix2 r d)
      = xh (ix2 r d) + xd (ix3 0 0 ⟨5120 + d.val, by omega⟩) * ∑ f, a (ix2 r f) * xw (ix2 f d) := by
  pointwise [k0_pay2, k0_pay3]

/-- The same, for any array equal to the gated activation on the row. -/
theorem pay2_of (xd : Vec Ideal S1x1x6144 .f32) (a a' : Vec Ideal S512x2816 .bf16) (xw : Vec Ideal S2816x1024 .bf16) (xh : Vec Ideal S512x1024 .f32)
    (r : Fin 512) (d : Fin 1024) (h : ∀ f, a (ix2 r f) = a' (ix2 r f)) :
    k0_pay2 (F := Ideal) (k0_pay3 xd) a xw xh (ix2 r d)
      = xh (ix2 r d) + xd (ix3 0 0 ⟨5120 + d.val, by omega⟩) * ∑ f, a' (ix2 r f) * xw (ix2 f d) := by
  rw [pay2_at]
  simp only [h]

/-- Three taps of 256 features. -/
abbrev ldC (xc : FVec Ideal S3x5632 .f32) (q : ℕ) (i : ∀ a, ![0, q] a + ![3, 256] a ≤ S3x5632.size a) : Vec Ideal S3x256 .f32 :=
  View.ld (Val := Elt Ideal) (e' := .f32) xc (Rect.unit (s := S3x5632) ![0, q] ![3, 256] i)

/-- The up projection's weight of 256 features. -/
abbrev ldU (xu : FVec Ideal S1024x5632 .bf16) (q : ℕ) (i : ∀ a, ![0, q] a + ![1024, 256] a ≤ S1024x5632.size a) : Vec Ideal S1024x256 .bf16 :=
  View.ld (Val := Elt Ideal) (e' := .bf16) xu (Rect.unit (s := S1024x5632) ![0, q] ![1024, 256] i)

/-- A block of 256 features of the gated activation. -/
theorem chunk_at (u : FVec Ideal S528x1024 .bf16) (xu : FVec Ideal S1024x5632 .bf16) (xc : FVec Ideal S3x5632 .f32) (o : ℕ) (ho : o + 256 ≤ 2816)
    (i1 : ∀ a, ![0, o] a + ![3, 256] a ≤ S3x5632.size a) (i2 : ∀ a, ![0, 2816 + o] a + ![3, 256] a ≤ S3x5632.size a)
    (i3 : ∀ a, ![0, o] a + ![1024, 256] a ≤ S1024x5632.size a) (i4 : ∀ a, ![0, 2816 + o] a + ![1024, 256] a ≤ S1024x5632.size a)
    {a b c a' b' c' : Vec Ideal S1x512x256 .f32}
    (ha : a = upRows (upF u (ldU xu o i3)) 7 (by decide))
    (hb : b = upRows (upF u (ldU xu o i3)) 8 (by decide))
    (hc : c = upRows (upF u (ldU xu o i3)) 9 (by decide))
    (ha' : a' = upRows (upF u (ldU xu (2816 + o) i4)) 7 (by decide))
    (hb' : b' = upRows (upF u (ldU xu (2816 + o) i4)) 8 (by decide))
    (hc' : c' = upRows (upF u (ldU xu (2816 + o) i4)) 9 (by decide))
    (x : S512x256.Idx) :
    chunkF (ldC xc o i1) a b c (ldC xc (2816 + o) i2) a' b' c' x
      = actK u xu xc (ix2 (x 0) ⟨o + (x 1).val, by have : (x 1).val < 256 := (x 1).isLt; omega⟩) := by
  subst ha hb hc ha' hb' hc'
  obtain ⟨r, j, rfl⟩ : ∃ r j, x = ix2 r j := ⟨x 0, x 1, by funext a; match a with | ⟨0, _⟩ => rfl | ⟨1, _⟩ => rfl⟩
  have hj : j.val < 256 := j.isLt
  have hW : ∀ (q : ℕ) (hq : q + 256 ≤ 5632) (i : ∀ a, ![0, q] a + ![1024, 256] a ≤ S1024x5632.size a) (k : Fin 1024),
      ldU xu q i (ix2 k j) = xu (ix2 k ⟨q + j.val, by omega⟩) := by
    intro q hq i k
    refine congrArg xu ?_
    funext a; apply Fin.ext
    match a with
    | ⟨0, _⟩ => show 0 + 1 * k.val = k.val; omega
    | ⟨1, _⟩ => show q + 1 * j.val = q + j.val; omega
  have hC : ∀ (q : ℕ) (hq : q + 256 ≤ 5632) (i : ∀ a, ![0, q] a + ![3, 256] a ≤ S3x5632.size a) (k : Fin 3),
      ldC xc q i (ix2 k j) = xc (ix2 k ⟨q + j.val, by omega⟩) := by
    intro q hq i k
    refine congrArg xc ?_
    funext a; apply Fin.ext
    match a with
    | ⟨0, _⟩ => show 0 + 1 * k.val = k.val; omega
    | ⟨1, _⟩ => show q + 1 * j.val = q + j.val; omega
  have hR : ∀ (w : Vec Ideal S1024x256 .bf16) (s : ℕ) (hs : s + 512 ≤ 528), upRows (upF u w) s hs (ix3 0 r j)
      = ∑ k, u (ix2 ⟨s + r.val, by omega⟩ k) * w (ix2 k j) := fun w s hs => upF_at u w ⟨s + r.val, by omega⟩ j
  unfold chunkF
  rw [pay1_at, convF_at, convF_at]
  simp only [hR, hW o (by omega) i3, hW (2816 + o) (by omega) i4, hC o (by omega) i1, hC (2816 + o) (by omega) i2]
  unfold actK convK
  refine congr (congrArg _ rfl) ?_
  simp only [Nat.add_assoc]
  rfl

variable (m : (ℓ : Loc nD τ sig) → Buf (Elt Ideal) ℓ)

/-- The normalised rows of a step. -/
def uBlk (c : Dev nD) (t : Fin cfg0.N) : FVec Ideal S528x1024 .bf16 :=
  k0_pay5 (lenK t) (posK t) (k0_pay4 (iblk m c 4 t) (iblk m c 1 t) (iblk m c 0 t) (iblk m c 2 t) (iblk m c 3 t)) 8#32

/-- The block of rows at a step. -/
abbrev hBlk (c : Dev nD) (t : Fin cfg0.N) : FVec Ideal S512x1024 .f32 := iblk m c 0 t
/-- The modulation at a step. -/
abbrev dBlk (c : Dev nD) (t : Fin cfg0.N) : FVec Ideal S1x1x6144 .f32 := iblk m c 4 t
/-- The down projection's weight at a step. -/
abbrev wBlk (c : Dev nD) (t : Fin cfg0.N) : FVec Ideal S2816x1024 .bf16 := iblk m c 7 t

/-- The place of a block's element among all features. -/
theorem emb_chunk (x : S512x256.Idx) (o : ℕ) (ho : o + (x 1).val < 2816) (i : ∀ a, ![0, o] a + ![512, 256] a ≤ S512x2816.size a) :
    (ix2 (x 0) ⟨o + (x 1).val, ho⟩ : S512x2816.Idx) = (Rect.unit (s := S512x2816) ![0, o] ![512, 256] i).emb x := by
  funext a; apply Fin.ext
  match a with
  | ⟨0, _⟩ => show (x 0).val = 0 + 1 * (x 0).val; omega
  | ⟨1, _⟩ => show o + (x 1).val = o + 1 * (x 1).val; omega

/-- Pieces of one array that tile the buffer are read back as that array. -/
theorem act_read (G : FVec Ideal S512x2816 .bf16) (L : List (View.Piece (Elt Ideal) S512x2816 .bf16)) (hL : View.PiecesOf G L)
    (ht : View.Piece.tiledL L ![512, 256] = true) (i : ∀ a, ![0, 0] a + ![512, 2816] a ≤ S512x2816.size a) (r : Fin 512) (f : Fin 2816) :
    (View.whole cc0_scratch1).readCov L (Rect.unit (s := S512x2816) ![0, 0] ![512, 2816] i).toLoadRect (ix2 r f) = G (ix2 r f) := by
  rw [View.readCov_eq_canon']
  refine (View.canon_apply_of_pieces G L hL.mem _ (View.cover_of_tiledL L ![512, 256] ht _)).trans (congrArg G ?_)
  funext a; apply Fin.ext
  match a with
  | ⟨0, _⟩ => show 0 + 1 * r.val = r.val; omega
  | ⟨1, _⟩ => show 0 + 1 * f.val = f.val; omega

set_option maxHeartbeats 2000000 in
/-- The block a grid point computes. -/
theorem blk_out (c : Dev nD) (t : Fin cfg0.N) (r : Fin 512) (d : Fin 1024) : outsAt0 m c t (ix2 r d)
    = hBlk m c t (ix2 r d) + dBlk m c t (ix3 0 0 ⟨5120 + d.val, by omega⟩)
      * ∑ f, actK (uBlk m c t) (iblk m c 5 t) (iblk m c 6 t) (ix2 r f) * wBlk m c t (ix2 f d) := by
  unfold outsAt0
  frame_out
  refine pay2_of _ _ _ _ _ r d fun f => ?_
  unfold uBlk lenK posK lenK
  generalize iblk m c 0 t = x0
  generalize iblk m c 1 t = x1
  generalize iblk m c 2 t = x2
  generalize iblk m c 3 t = x3
  generalize iblk m c 4 t = x4
  generalize iblk m c 5 t = x5
  generalize iblk m c 6 t = x6
  generalize iblk m c 7 t = x7
  generalize Scalar.select (Scalar.cmpi .slt (BitVec.ofNat 32 (grid0.coords t 0).val) 64#32) 8192#32 256#32 = l
  generalize Scalar.remsi _ l = q
  simp only [up6, up7]
  generalize k0_pay5 (F := Ideal) l q (k0_pay4 x4 x1 x0 x2 x3) 8#32 = u
  refine act_read _ _ ?_ (by sl_kernel_rfl) _ r f
  refine ⟨?_, ?_, ?_, ?_, ?_, ?_, ?_, ?_, ?_, ?_, ?_, trivial⟩
  · intro x
    exact (congrFun (ch10 _ _ _ _ _ _ _ _) x).trans ((chunk_at u x5 x6 2560 (by decide) _ _ _ _ (read_lo_0_7 _ _ _) (read_lo_0_8 _ _ _) (read_lo_0_9 _ _ _) (read_hi_1_7 _ _) (read_hi_1_8 _ _) (read_hi_1_9 _ _) x).trans (congrArg _ (emb_chunk x 2560 _ (by decide))))
  · intro x
    exact (congrFun (ch9 _ _ _ _ _ _ _ _) x).trans ((chunk_at u x5 x6 2304 (by decide) _ _ _ _ (read_lo_2_7 _ _ _) (read_lo_2_8 _ _ _) (read_lo_2_9 _ _ _) (read_hi_3_7 _ _) (read_hi_3_8 _ _) (read_hi_3_9 _ _) x).trans (congrArg _ (emb_chunk x 2304 _ (by decide))))
  · intro x
    exact (congrFun (ch8 _ _ _ _ _ _ _ _) x).trans ((chunk_at u x5 x6 2048 (by decide) _ _ _ _ (read_lo_0_7 _ _ _) (read_lo_0_8 _ _ _) (read_lo_0_9 _ _ _) (read_hi_1_7 _ _) (read_hi_1_8 _ _) (read_hi_1_9 _ _) x).trans (congrArg _ (emb_chunk x 2048 _ (by decide))))
  · intro x
    exact (congrFun (ch7 _ _ _ _ _ _ _ _) x).trans ((chunk_at u x5 x6 1792 (by decide) _ _ _ _ (read_lo_2_7 _ _ _) (read_lo_2_8 _ _ _) (read_lo_2_9 _ _ _) (read_hi_3_7 _ _) (read_hi_3_8 _ _) (read_hi_3_9 _ _) x).trans (congrArg _ (emb_chunk x 1792 _ (by decide))))
  · intro x
    exact (congrFun (ch6 _ _ _ _ _ _ _ _) x).trans ((chunk_at u x5 x6 1536 (by decide) _ _ _ _ (read_lo_0_7 _ _ _) (read_lo_0_8 _ _ _) (read_lo_0_9 _ _ _) (read_hi_1_7 _ _) (read_hi_1_8 _ _) (read_hi_1_9 _ _) x).trans (congrArg _ (emb_chunk x 1536 _ (by decide))))
  · intro x
    exact (congrFun (ch5 _ _ _ _ _ _ _ _) x).trans ((chunk_at u x5 x6 1280 (by decide) _ _ _ _ (read_lo_2_7 _ _ _) (read_lo_2_8 _ _ _) (read_lo_2_9 _ _ _) (read_hi_3_7 _ _) (read_hi_3_8 _ _) (read_hi_3_9 _ _) x).trans (congrArg _ (emb_chunk x 1280 _ (by decide))))
  · intro x
    exact (congrFun (ch4 _ _ _ _ _ _ _ _) x).trans ((chunk_at u x5 x6 1024 (by decide) _ _ _ _ (read_lo_0_7 _ _ _) (read_lo_0_8 _ _ _) (read_lo_0_9 _ _ _) (read_hi_1_7 _ _) (read_hi_1_8 _ _) (read_hi_1_9 _ _) x).trans (congrArg _ (emb_chunk x 1024 _ (by decide))))
  · intro x
    exact (congrFun (ch3 _ _ _ _ _ _ _ _) x).trans ((chunk_at u x5 x6 768 (by decide) _ _ _ _ (read_lo_2_7 _ _ _) (read_lo_2_8 _ _ _) (read_lo_2_9 _ _ _) (read_hi_3_7 _ _) (read_hi_3_8 _ _) (read_hi_3_9 _ _) x).trans (congrArg _ (emb_chunk x 768 _ (by decide))))
  · intro x
    exact (congrFun (ch2 _ _ _ _ _ _ _ _) x).trans ((chunk_at u x5 x6 512 (by decide) _ _ _ _ (read_lo_0_7 _ _ _) (read_lo_0_8 _ _ _) (read_lo_0_9 _ _ _) (read_hi_1_7 _ _) (read_hi_1_8 _ _) (read_hi_1_9 _ _) x).trans (congrArg _ (emb_chunk x 512 _ (by decide))))
  · intro x
    exact (congrFun (ch1 _ _ _ _ _ _ _ _) x).trans ((chunk_at u x5 x6 256 (by decide) _ _ _ _ (read_lo_2_7 _ _ _) (read_lo_2_8 _ _ _) (read_lo_2_9 _ _ _) (read_hi_3_7 _ _) (read_hi_3_8 _ _) (read_hi_3_9 _ _) x).trans (congrArg _ (emb_chunk x 256 _ (by decide))))
  · intro x
    exact (congrFun (ch0 _ _ _ _ _ _ _ _) x).trans ((chunk_at u x5 x6 0 (by decide) _ _ _ _ (read_lo_0_7 _ _ _) (read_lo_0_8 _ _ _) (read_lo_0_9 _ _ _) (read_hi_1_7 _ _) (read_hi_1_8 _ _) (read_hi_1_9 _ _) x).trans (congrArg _ (emb_chunk x 0 _ (by decide))))

end Cert.Kernel2Ideal.Ffn

end
-- ==== Proof.Ffn.RefTerm.lean ====
module

public import proofs.«01_k».proof.Proof.Gen.Reference2Ideal.Run
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Reference2Ideal.Ffn

open Cert.Reference2Ideal Cert.Reference2Ideal.Gen

/-- The modulation, one row per sequence. -/
def modR (md : FVec Ideal S4x6144 .f32) : FVec Ideal S4x1x6144 .f32 :=
  broadcastInDim S4x1x6144 ![0, 2] bcast_S4x6144_S4x1x6144_0_2 md

/-- The reciprocal root of the mean square of each row. -/
def scaleR (h : FVec Ideal S4x8192x1024 .f32) : FVec Ideal S4x8192x1 .f32 :=
  Host.rsqrt (addf (Host.divf (broadcastInDim S4x8192x1 ![0, 1] bcast_S4x8192_S4x8192x1_0_1 (Host.reduceAdd (mulf h h) (constant S_ .f32 0x00000000#32) reducesTo_S4x8192x1024_S4x8192_d2 h_S_)) (broadcastInDim S4x8192x1 ![] bcast_S_S4x8192x1 (constant S_ .f32 0x44800000#32))) (broadcastInDim S4x8192x1 ![] bcast_S_S4x8192x1 (constant S_ .f32 0x358637BD#32)))

/-- The normalised and modulated rows. -/
def normR (h : FVec Ideal S4x8192x1024 .f32) (g : FVec Ideal S1024 .f32) (md : FVec Ideal S4x6144 .f32) : FVec Ideal S4x8192x1024 .f32 :=
  addf (mulf (mulf (mulf h (broadcastInDim S4x8192x1024 ![0, 1, 2] bcast_S4x8192x1_S4x8192x1024_0_1_2 (scaleR h))) (broadcastInDim S4x8192x1024 ![0, 1, 2] bcast_S1x1x1024_S4x8192x1024_0_1_2 (broadcastInDim S1x1x1024 ![2] bcast_S1024_S1x1x1024_2 g))) (broadcastInDim S4x8192x1024 ![0, 1, 2] bcast_S4x1x1024_S4x8192x1024_0_1_2 (addf (broadcastInDim S4x1x1024 ![] bcast_S_S4x1x1024 (constant S_ .f32 0x3F800000#32)) (extractStridedSlice S4x1x1024 ![0, 0, 4096] (modR md) slices_S4x1x6144_S4x1x1024_0_0_4096)))) (broadcastInDim S4x8192x1024 ![0, 1, 2] bcast_S4x1x1024_S4x8192x1024_0_1_2 (extractStridedSlice S4x1x1024 ![0, 0, 3072] (modR md) slices_S4x1x6144_S4x1x1024_0_0_3072))

/-- The up projection. -/
def upR (u : FVec Ideal S4x8192x1024 .f32) (w : FVec Ideal S1024x5632 .f32) : FVec Ideal S4x8192x5632 .f32 :=
  Host.dotGeneral dot_S4x8192x1024_S1024x5632_S4x8192x5632_2_0_01_1_n_n none u w

/-- A projection with a zero row before each sequence and one after it. -/
def padR (x : FVec Ideal S4x8192x5632 .f32) : FVec Ideal S4x8194x5632 .f32 :=
  pad S4x8194x5632 ![0, 1, 0] ![0, 1, 0] ![0, 0, 0] x (sitofp .f32 (constantI S_ 32 0#32) : FVec Ideal S_ .f32) pads_S4x8192x5632_S4x8194x5632_000_110_000 h_S_

/-- The convolution of three taps along the sequence. -/
def convR (x : FVec Ideal S4x8194x5632 .f32) (cw : FVec Ideal S3x5632 .f32) : FVec Ideal S4x8192x5632 .f32 :=
  addf (addf (mulf (extractStridedSlice S4x8192x5632 ![0, 0, 0] x slices_S4x8194x5632_S4x8192x5632_0_0_0) (broadcastInDim S4x8192x5632 ![0, 1, 2] bcast_S1x1x5632_S4x8192x5632_0_1_2 (broadcastInDim S1x1x5632 ![2] bcast_S5632_S1x1x5632_2 (shapeCast S5632 (extractStridedSlice S1x5632 ![0, 0] cw slices_S3x5632_S1x5632_0_0 : FVec Ideal S1x5632 .f32) shapeCasts_S1x5632_S5632)))) (mulf (extractStridedSlice S4x8192x5632 ![0, 1, 0] x slices_S4x8194x5632_S4x8192x5632_0_1_0) (broadcastInDim S4x8192x5632 ![0, 1, 2] bcast_S1x1x5632_S4x8192x5632_0_1_2 (broadcastInDim S1x1x5632 ![2] bcast_S5632_S1x1x5632_2 (shapeCast S5632 (extractStridedSlice S1x5632 ![1, 0] cw slices_S3x5632_S1x5632_1_0 : FVec Ideal S1x5632 .f32) shapeCasts_S1x5632_S5632))))) (mulf (extractStridedSlice S4x8192x5632 ![0, 2, 0] x slices_S4x8194x5632_S4x8192x5632_0_2_0) (broadcastInDim S4x8192x5632 ![0, 1, 2] bcast_S1x1x5632_S4x8192x5632_0_1_2 (broadcastInDim S1x1x5632 ![2] bcast_S5632_S1x1x5632_2 (shapeCast S5632 (extractStridedSlice S1x5632 ![2, 0] cw slices_S3x5632_S1x5632_2_0 : FVec Ideal S1x5632 .f32) shapeCasts_S1x5632_S5632))))

/-- A value times its logistic function. -/
def siluR (x : FVec Ideal S4x8192x2816 .f32) : FVec Ideal S4x8192x2816 .f32 :=
  mulf x (Host.divf (broadcastInDim S4x8192x2816 ![] bcast_S_S4x8192x2816 (constant S_ .f32 0x3F800000#32)) (addf (broadcastInDim S4x8192x2816 ![] bcast_S_S4x8192x2816 (constant S_ .f32 0x3F800000#32)) (Host.exp (Host.negf x))))

/-- The gated activation: the first half of the features through its activation, times the second half. -/
def actR (x : FVec Ideal S4x8192x5632 .f32) : FVec Ideal S4x8192x2816 .f32 :=
  mulf (siluR (extractStridedSlice S4x8192x2816 ![0, 0, 0] x slices_S4x8192x5632_S4x8192x2816_0_0_0)) (extractStridedSlice S4x8192x2816 ![0, 0, 2816] x slices_S4x8192x5632_S4x8192x2816_0_0_2816)

/-- The down projection, scaled by the gate and added to the input. -/
def downR (h : FVec Ideal S4x8192x1024 .f32) (md : FVec Ideal S4x6144 .f32) (a : FVec Ideal S4x8192x2816 .f32)
    (w : FVec Ideal S2816x1024 .f32) : FVec Ideal S32768x1024 .f32 :=
  shapeCast S32768x1024 (addf h (mulf (broadcastInDim S4x8192x1024 ![0, 1, 2] bcast_S4x1x1024_S4x8192x1024_0_1_2 (extractStridedSlice S4x1x1024 ![0, 0, 5120] (modR md) slices_S4x1x6144_S4x1x1024_0_0_5120)) (Host.dotGeneral dot_S4x8192x2816_S2816x1024_S4x8192x1024_2_0_01_1_n_n none a w)) : FVec Ideal S4x8192x1024 .f32) shapeCasts_S4x8192x1024_S32768x1024

/-- The reference's result is the down projection of its gated convolution. -/
theorem result_eq (m : (ℓ : Loc nD τ sig) → Buf (Elt Ideal) ℓ) (c : Dev nD) :
    Value.res_out0 m c = downR (m ((c.tc : Thread nD τ).loc main_arg0)) (m ((c.tc : Thread nD τ).loc main_arg2))
      (actR (convR (padR (upR (normR (m ((c.tc : Thread nD τ).loc main_arg0)) (m ((c.tc : Thread nD τ).loc main_arg1)) (m ((c.tc : Thread nD τ).loc main_arg2)))
        (m ((c.tc : Thread nD τ).loc main_arg3)))) (m ((c.tc : Thread nD τ).loc main_arg4)))) (m ((c.tc : Thread nD τ).loc main_arg5)) := rfl

end Cert.Reference2Ideal.Ffn

end
-- ==== Proof.Ffn.RefAt.lean ====
module

public import proofs.«01_k».proof.Proof.Ffn.RefTerm

@[expose] public section

set_option maxRecDepth 16384

noncomputable section

open Idealize.ShloMosaic Idealize.ShloMosaic.TcCoe Idealize.SL.Sem
open Idealize.ShloMosaic.Pipeline (Dat)

namespace Cert.Reference2Ideal.Ffn

open Cert.Reference2Ideal Cert.Reference2Ideal.Gen

/-- The modulation at an element. -/
theorem modR_at (md : FVec Ideal S4x6144 .f32) (b : Fin 4) (k : Fin 6144) : modR md (ix3 b 0 k) = md (ix2 b k) := by
  pointwise [modR]

/-- The up projection at an element. -/
theorem upR_at (u : FVec Ideal S4x8192x1024 .f32) (w : FVec Ideal S1024x5632 .f32) (b : Fin 4) (p : Fin 8192) (f : Fin 5632) :
    upR u w (ix3 b p f) = ∑ k, u (ix3 b p k) * w (ix2 k f) := by
  pointwise [upR]

/-- A padded projection at an element. -/
theorem padR_at (x : FVec Ideal S4x8192x5632 .f32) (b : Fin 4) (p : Fin 8194) (f : Fin 5632) :
    padR x (ix3 b p f) = if h : 1 ≤ p.val ∧ p.val ≤ 8192 then x (ix3 b ⟨p.val - 1, by omega⟩ f) else 0 := by
  pointwise [padR]
  have e : (FloatOps.sitofp FTy.f32 0#32 : Ideal FTy.f32) = (0 : EReal) := by simp [FloatOps.sitofp]
  by_cases h : 1 ≤ p.val ∧ p.val ≤ 8192
  · rw [dif_pos h, dif_pos ⟨h.1, by omega⟩]
  · rw [dif_neg h, dif_neg (by omega)]
    exact e

/-- The convolution at an element. -/
theorem convR_at (x : FVec Ideal S4x8194x5632 .f32) (cw : FVec Ideal S3x5632 .f32) (b : Fin 4) (p : Fin 8192) (f : Fin 5632) :
    convR x cw (ix3 b p f) = x (ix3 b ⟨p.val, by omega⟩ f) * cw (ix2 0 f) + x (ix3 b ⟨1 + p.val, by omega⟩ f) * cw (ix2 1 f)
      + x (ix3 b ⟨2 + p.val, by omega⟩ f) * cw (ix2 2 f) := by
  pointwise [convR]

/-- The activation at an element. -/
theorem actR_at (x : FVec Ideal S4x8192x5632 .f32) (b : Fin 4) (p : Fin 8192) (f : Fin 2816) :
    actR x (ix3 b p f) = x (ix3 b p ⟨f.val, by omega⟩) * Ideal.div (Ideal.ofBits .f32 0x3F800000#32) (Ideal.ofBits .f32 0x3F800000#32 + Ideal.exp (-x (ix3 b p ⟨f.val, by omega⟩)))
      * x (ix3 b p ⟨2816 + f.val, by omega⟩) := by
  pointwise [actR, siluR]

/-- The result at an element. -/
theorem downR_at (h : FVec Ideal S4x8192x1024 .f32) (md : FVec Ideal S4x6144 .f32) (a : FVec Ideal S4x8192x2816 .f32)
    (w : FVec Ideal S2816x1024 .f32) (b : Fin 4) (p : Fin 8192) (d : Fin 1024) (i : Fin 32768) (hi : i.val = b.val * 8192 + p.val) :
    downR h md a w (ix2 i d) = h (ix3 b p d) + md (ix2 b ⟨5120 + d.val, by omega⟩) * ∑ f, a (ix3 b p f) * w (ix2 f d) := by
  have e1 : i.val / 8192 = b.val := by omega
  have e2 : i.val % 8192 = p.val := by omega
  pointwise [downR, modR]
  simp only [e1, e2, Fin.eta]

/-- The scale of a row. -/
theorem scaleR_at (h : FVec Ideal S4x8192x1024 .f32) (b : Fin 4) (p : Fin 8192) :
    scaleR h (ix3 b p 0) = Ideal.rsqrt (Ideal.div (∑ k, h (ix3 b p k) * h (ix3 b p k)) (Ideal.ofBits .f32 0x44800000#32) + Ideal.ofBits .f32 0x358637BD#32) := by
  pointwise [scaleR]

/-- A normalised and modulated element. -/
theorem normR_at (h : FVec Ideal S4x8192x1024 .f32) (g : FVec Ideal S1024 .f32) (md : FVec Ideal S4x6144 .f32) (b : Fin 4) (p : Fin 8192) (k : Fin 1024) :
    normR h g md (ix3 b p k) = h (ix3 b p k) * scaleR h (ix3 b p 0) * g (ix1 k)
      * (Ideal.ofBits .f32 0x3F800000#32 + md (ix2 b ⟨4096 + k.val, by omega⟩)) + md (ix2 b ⟨3072 + k.val, by omega⟩) := by
  pointwise [normR, modR]

end Cert.Reference2Ideal.Ffn

end
-- ==== Proof.Ffn.Silu.lean ====
module

public import Idealize.ShloMosaic.PureOps.Ideal
public import Idealize.ShloMosaic.PureOps.Ideal.Laws
public import proofs.«01_k».proof.Proof.Att.Row

@[expose] public section

noncomputable section

open Idealize.ShloMosaic

namespace Ffn

/-- The word of one half is one half. -/
theorem half_word : Ideal.ofBits .f32 0x3F000000#32 = ((1 / 2 : ℝ) : EReal) := by
  simp [Ideal.ofBits, Ideal.ieee]
  try rw [← EReal.coe_mul]
  try exact congrArg _ (by norm_num)

/-- The word of 1024 is 1024. -/
theorem size_word : Ideal.ofBits .f32 0x44800000#32 = ((1024 : ℝ) : EReal) := by
  simp [Ideal.ofBits, Ideal.ieee]
  try rw [← EReal.coe_mul]
  try exact congrArg _ (by norm_num)

/-- The word added below the root is a positive number. -/
theorem eps_word : ∃ e : ℝ, 0 < e ∧ Ideal.ofBits .f32 0x358637BD#32 = (e : EReal) := by
  refine ⟨8796093 * (2 : ℝ) ^ (-43 : ℤ), by positivity, ?_⟩
  simp [Ideal.ofBits, Ideal.ieee]
  try rw [← EReal.coe_mul]
  try exact congrArg _ (by norm_num)

/-- The logistic function by the hyperbolic tangent of half its argument. -/
theorem logistic_tanh (g : ℝ) : 1 / 2 * g + 1 / 2 * g * Real.tanh (1 / 2 * g) = g * (1 * (1 + Real.exp (-g))⁻¹) := by
  have e1 : Real.exp (-g) = Real.exp (-(1 / 2 * g)) * Real.exp (-(1 / 2 * g)) := by rw [← Real.exp_add]; ring_nf
  have e2 : Real.exp (1 / 2 * g) * Real.exp (-(1 / 2 * g)) = 1 := by rw [← Real.exp_add]; simp
  rw [Real.tanh_eq_sinh_div_cosh, Real.sinh_eq, Real.cosh_eq, e1]
  have p1 := Real.exp_pos (1 / 2 * g)
  have p2 := Real.exp_pos (-(1 / 2 * g))
  revert e2 p1 p2
  generalize Real.exp (1 / 2 * g) = x
  generalize Real.exp (-(1 / 2 * g)) = y
  intro e2 p1 p2
  have n1 : x + y ≠ 0 := by positivity
  have n2 : 1 + y * y ≠ 0 := by positivity
  field_simp
  have : x = 1 / y := by field_simp; linarith
  subst this
  field_simp
  ring

/-- The activation of a number: half of it plus half of it times the tangent of half of it, or it times its logistic function. -/
theorem silu_eq (x : EReal) (h : ∃ g : ℝ, x = g) :
    Ideal.ofBits .f32 0x3F000000#32 * x + Ideal.ofBits .f32 0x3F000000#32 * x * Ideal.tanh (Ideal.ofBits .f32 0x3F000000#32 * x)
      = x * Ideal.div (Ideal.ofBits .f32 0x3F800000#32) (Ideal.ofBits .f32 0x3F800000#32 + Ideal.exp (-x)) := by
  obtain ⟨g, rfl⟩ := h
  rw [half_word, Ideal.ofBits_one_f32, ← EReal.coe_mul, Ideal.tanh_coe, ← EReal.coe_mul, ← EReal.coe_add, logistic_tanh,
    ← EReal.coe_neg, Ideal.exp_coe, ← EReal.coe_one, ← EReal.coe_add, Ideal.div_coe (by positivity), ← EReal.coe_mul, ← EReal.coe_mul]
  simp only [one_div]

/-- The scale of a row of numbers is a number. -/
theorem scale_real (h : Fin 1024 → EReal) (hh : ∀ k, ∃ x : ℝ, h k = x) :
    ∃ s : ℝ, Ideal.rsqrt (Ideal.div (∑ k, h k * h k) (Ideal.ofBits .f32 0x44800000#32) + Ideal.ofBits .f32 0x358637BD#32) = (s : EReal) := by
  choose x hx using hh
  obtain ⟨e, he, ee⟩ := eps_word
  simp only [hx, ← EReal.coe_mul]
  rw [_root_.Att.sum_real, size_word, ee]
  have hs : 0 ≤ ∑ k, x k * x k := Finset.sum_nonneg fun k _ => mul_self_nonneg _
  rw [Ideal.div_coe (by norm_num), ← EReal.coe_mul, ← EReal.coe_add]
  have hp : 0 < (∑ k, x k * x k) * (1 / 1024) + e := by positivity
  revert hp
  generalize (∑ k, x k * x k) * (1 / 1024) + e = y
  intro hp
  refine ⟨(Real.sqrt y)⁻¹, ?_⟩
  show (if y < 0 then (⊥ : EReal) else if y = 0 then ⊤ else ((Real.sqrt y)⁻¹ : ℝ)) = _
  rw [if_neg (not_lt.mpr hp.le), if_neg hp.ne']

/-- A sum of two numbers is a number. -/
theorem real_add {x y : EReal} (hx : ∃ a : ℝ, x = a) (hy : ∃ a : ℝ, y = a) : ∃ a : ℝ, x + y = a := by
  obtain ⟨a, rfl⟩ := hx
  obtain ⟨b, rfl⟩ := hy
  exact ⟨a + b, (EReal.coe_add a b).symm⟩

/-- A product of two numbers is a number. -/
theorem real_mul {x y : EReal} (hx : ∃ a : ℝ, x = a) (hy : ∃ a : ℝ, y = a) : ∃ a : ℝ, x * y = a := by
  obtain ⟨a, rfl⟩ := hx
  obtain ⟨b, rfl⟩ := hy
  exact ⟨a * b, (EReal.coe_mul a b).symm⟩

/-- A sum of numbers is a number. -/
theorem real_sum {n : ℕ} (f : Fin n → EReal) (h : ∀ k, ∃ a : ℝ, f k = a) : ∃ a : ℝ, ∑ k, f k = a := by
  choose g hg using h
  simp only [hg]
  exact ⟨_, _root_.Att.sum_real g⟩

end Ffn

end
-- ==== Proof.Ffn.Equation.lean ====
module

public import proofs.«01_k».proof.Proof.Ffn.Out
public import proofs.«01_k».proof.Proof.Ffn.RefAt
public import proofs.«01_k».proof.Proof.Ffn.Silu

@[expose] public section

set_option maxRecDepth 16384

noncomputable section

open Idealize.ShloMosaic Idealize.ShloMosaic.TcCoe Idealize.SL.Sem
open Idealize.ShloMosaic.Pipeline (Dat)

namespace Cert.Kernel2Ideal.Ffn

open Cert.Kernel2Ideal Cert.Kernel2Ideal.Gen

variable (m : (ℓ : Loc nD τ sig) → Buf (Elt Ideal) ℓ)

/-- A row a step reads is the residual stream's row, where its position lies in the sequence. -/
theorem rows_at (c : Dev nD) (t : Fin cfg0.N) (ρ : Fin 528) (k : Fin 1024) (b : Fin 4) (p : Fin 8192) (hb : b.val = t.val / 16)
    (hp : p.val + 8 = t.val % 16 * 512 + ρ.val) :
    rowsK (iblk m c 1 t) (iblk m c 0 t) (iblk m c 2 t) ρ k = hArg m c (ix3 b p k) := by
  have hN : cfg0.N = 64 := by decide
  have ht : t.val < 64 := hN ▸ t.isLt
  have hρ := ρ.isLt
  have hpl := p.isLt
  have hm : t.val = b.val * 16 + t.val % 16 := by omega
  obtain ⟨i, hi⟩ : ∃ i : Fin 32768, i.val = b.val * 8192 + p.val := ⟨⟨b.val * 8192 + p.val, by omega⟩, rfl⟩
  rw [← host_h m c b p i k hi]
  unfold rowsK
  by_cases h1 : ρ.val < 8
  · rw [dif_pos h1]
    exact blk_p m c t ⟨ρ.val, h1⟩ k i (by show i.val = (64 * t.val - 1) * 8 + ρ.val; omega)
  · rw [dif_neg h1]
    by_cases h2 : ρ.val - 8 < 512
    · rw [dif_pos h2]
      exact blk_h m c t ⟨ρ.val - 8, h2⟩ k i (by show i.val = t.val * 512 + (ρ.val - 8); omega)
    · rw [dif_neg h2]
      exact blk_n m c t ⟨ρ.val - 8 - 512, by omega⟩ k i (by
        show i.val = min (64 * (t.val + 1)) 4095 * 8 + (ρ.val - 8 - 512)
        have : min (64 * (t.val + 1)) 4095 = 64 * (t.val + 1) := min_eq_left (by omega)
        rw [this]
        omega)

open Cert.Reference2Ideal.Ffn in
/-- A normalised row of a step is the reference's, where its position lies in the sequence. -/
theorem u_in (c : Dev nD) (t : Fin cfg0.N) (ρ : Fin 528) (k : Fin 1024) (b : Fin 4) (p : Fin 8192) (hb : b.val = t.val / 16)
    (hp : p.val + 8 = t.val % 16 * 512 + ρ.val) :
    uBlk m c t (ix2 ρ k) = normR (hArg m c) (nArg m c) (dArg m c) (ix3 b p k) := by
  have hpl := p.isLt
  unfold uBlk
  rw [len_val, pos_val, pay5_at ⟨t.val % 16, by omega⟩, if_pos (by show 8 ≤ t.val % 16 * 512 + ρ.val ∧ t.val % 16 * 512 + ρ.val < 8200; omega)]
  refine (pay4_at _ _ _ _ _ ρ k).trans ?_
  simp only [fun x => rows_at m c t ρ x b p hb hp]
  rw [normR_at, scaleR_at]
  have e1 : ∀ q : Fin 6144, dBlk m c t (ix3 0 0 q) = dArg m c (ix2 b q) := fun q =>
    (blk_d m c t 0 0 q ⟨8 + b.val, by omega⟩ (by show 8 + b.val = 8 + t.val / 16; omega)).trans (host_d m c b q)
  have e2 : (iblk m c 3 t : FVec Ideal S1x1024 .f32) (ix2 0 k) = nArg m c (ix1 k) := (blk_g m c t 0 k).trans (host_n m c k)
  exact congr (congrArg _ (congr (congrArg _ (congrArg _ e2)) (congrArg _ (e1 _)))) (e1 _)

/-- A row of a step is zero where its position lies outside the sequence. -/
theorem u_out (c : Dev nD) (t : Fin cfg0.N) (ρ : Fin 528) (k : Fin 1024) (h : ¬ (8 ≤ t.val % 16 * 512 + ρ.val ∧ t.val % 16 * 512 + ρ.val < 8200)) :
    uBlk m c t (ix2 ρ k) = 0 := by
  unfold uBlk
  rw [len_val, pos_val, pay5_at ⟨t.val % 16, by omega⟩, if_neg h]

open Cert.Reference2Ideal.Ffn in
/-- The up projection of a step's row is the reference's padded projection. -/
theorem up_eq (c : Dev nD) (t : Fin cfg0.N) (ρ : Fin 528) (f : Fin 5632) (b : Fin 4) (p : Fin 8194) (hb : b.val = t.val / 16)
    (hp : p.val + 7 = t.val % 16 * 512 + ρ.val) :
    (∑ k : Fin 1024, uBlk m c t (ix2 ρ k) * (iblk m c 5 t : FVec Ideal S1024x5632 .bf16) (ix2 k f))
      = padR (upR (normR (hArg m c) (nArg m c) (dArg m c)) (uArg m c)) (ix3 b p f) := by
  have hw : ∀ k : Fin 1024, (iblk m c 5 t : FVec Ideal S1024x5632 .bf16) (ix2 k f) = uArg m c (ix2 k f) := fun k =>
    (blk_u m c t k f).trans (host_u m c k f)
  rw [padR_at]
  by_cases h : 1 ≤ p.val ∧ p.val ≤ 8192
  · rw [dif_pos h, upR_at]
    refine Finset.sum_congr rfl fun k _ => ?_
    rw [hw, u_in m c t ρ k b ⟨p.val - 1, by omega⟩ hb (by show p.val - 1 + 8 = _; omega)]
  · rw [dif_neg h]
    refine Finset.sum_eq_zero fun k _ => ?_
    rw [u_out m c t ρ k (by omega), zero_mul]

open Cert.Reference2Ideal.Ffn in
/-- The convolution of a step is the reference's. -/
theorem conv_eq (c : Dev nD) (t : Fin cfg0.N) (r : Fin 512) (f : Fin 5632) (b : Fin 4) (p : Fin 8192) (hb : b.val = t.val / 16)
    (hp : p.val = t.val % 16 * 512 + r.val) :
    convK (uBlk m c t) (iblk m c 5 t) (iblk m c 6 t) r f
      = convR (padR (upR (normR (hArg m c) (nArg m c) (dArg m c)) (uArg m c))) (cArg m c) (ix3 b p f) := by
  have hc : ∀ k : Fin 3, (iblk m c 6 t : FVec Ideal S3x5632 .f32) (ix2 k f) = cArg m c (ix2 k f) := fun k =>
    (blk_c m c t k f).trans (host_c m c k f)
  unfold convK
  rw [convR_at, up_eq m c t ⟨7 + r.val, by omega⟩ f b ⟨p.val, by omega⟩ hb (by show p.val + 7 = _ + (7 + r.val); omega),
    up_eq m c t ⟨8 + r.val, by omega⟩ f b ⟨1 + p.val, by omega⟩ hb (by show 1 + p.val + 7 = _ + (8 + r.val); omega),
    up_eq m c t ⟨9 + r.val, by omega⟩ f b ⟨2 + p.val, by omega⟩ hb (by show 2 + p.val + 7 = _ + (9 + r.val); omega), hc, hc, hc]

open Cert.Reference2Ideal.Ffn in
/-- The reference's convolution of numbers is a number. -/
theorem conv_real (h : FVec Ideal Cert.Reference2Ideal.S4x8192x1024 .f32) (g : FVec Ideal Cert.Reference2Ideal.S1024 .f32)
    (md : FVec Ideal Cert.Reference2Ideal.S4x6144 .f32) (wu : FVec Ideal Cert.Reference2Ideal.S1024x5632 .f32) (cw : FVec Ideal Cert.Reference2Ideal.S3x5632 .f32)
    (rh : ∀ i, ∃ x : ℝ, h i = x) (rg : ∀ i, ∃ x : ℝ, g i = x) (rm : ∀ i, ∃ x : ℝ, md i = x) (ru : ∀ i, ∃ x : ℝ, wu i = x) (rc : ∀ i, ∃ x : ℝ, cw i = x)
    (b : Fin 4) (p : Fin 8192) (f : Fin 5632) : ∃ x : ℝ, convR (padR (upR (normR h g md) wu)) cw (ix3 b p f) = x := by
  have hn : ∀ (p : Fin 8192) (k : Fin 1024), ∃ x : ℝ, normR h g md (ix3 b p k) = x := fun p k => by
    rw [normR_at, scaleR_at]
    exact _root_.Ffn.real_add (_root_.Ffn.real_mul (_root_.Ffn.real_mul (_root_.Ffn.real_mul (rh _) (_root_.Ffn.scale_real _ fun x => rh _)) (rg _))
      (_root_.Ffn.real_add ⟨1, Ideal.ofBits_one_f32⟩ (rm _))) (rm _)
  have hp : ∀ p : Fin 8194, ∃ x : ℝ, padR (upR (normR h g md) wu) (ix3 b p f) = x := fun p => by
    rw [padR_at]
    split
    · rw [upR_at]
      exact _root_.Ffn.real_sum _ fun k => _root_.Ffn.real_mul (hn _ k) (ru _)
    · exact ⟨0, rfl⟩
  rw [convR_at]
  exact _root_.Ffn.real_add (_root_.Ffn.real_add (_root_.Ffn.real_mul (hp _) (rc _)) (_root_.Ffn.real_mul (hp _) (rc _))) (_root_.Ffn.real_mul (hp _) (rc _))

open Cert.Reference2Ideal.Ffn in
/-- The block written at a step holds the reference's rows. -/
theorem equation (c : Dev nD) (h : FVec Ideal Cert.Reference2Ideal.S4x8192x1024 .f32) (g : FVec Ideal Cert.Reference2Ideal.S1024 .f32)
    (md : FVec Ideal Cert.Reference2Ideal.S4x6144 .f32) (wu : FVec Ideal Cert.Reference2Ideal.S1024x5632 .f32) (cw : FVec Ideal Cert.Reference2Ideal.S3x5632 .f32)
    (wd : FVec Ideal Cert.Reference2Ideal.S2816x1024 .f32)
    (eh : m ((c.tc : Thread nD τ).loc main_arg0) = h) (eg : m ((c.tc : Thread nD τ).loc main_arg1) = g) (em : m ((c.tc : Thread nD τ).loc main_arg2) = md)
    (eu : m ((c.tc : Thread nD τ).loc main_arg3) = wu) (ec : m ((c.tc : Thread nD τ).loc main_arg4) = cw) (ed : m ((c.tc : Thread nD τ).loc main_arg5) = wd)
    (rh : ∀ i, ∃ x : ℝ, h i = x) (rg : ∀ i, ∃ x : ℝ, g i = x) (rm : ∀ i, ∃ x : ℝ, md i = x) (ru : ∀ i, ∃ x : ℝ, wu i = x) (rc : ∀ i, ∃ x : ℝ, cw i = x)
    (t : Fin cfg0.N) (r : Fin 512) (d : Fin 1024) (i : Fin 32768) (hi : i.val = t.val * 512 + r.val) :
    outsAt0 m c t (ix2 r d) = downR h md (actR (convR (padR (upR (normR h g md) wu)) cw)) wd (ix2 i d) := by
  have hN : cfg0.N = 64 := by decide
  have ht : t.val < 64 := hN ▸ t.isLt
  have hr := r.isLt
  obtain ⟨b, hb⟩ : ∃ b : Fin 4, b.val = t.val / 16 := ⟨⟨t.val / 16, by omega⟩, rfl⟩
  obtain ⟨p, hp⟩ : ∃ p : Fin 8192, p.val = t.val % 16 * 512 + r.val := ⟨⟨t.val % 16 * 512 + r.val, by omega⟩, rfl⟩
  have hip : i.val = b.val * 8192 + p.val := by omega
  rw [blk_out m c t r d, downR_at h md _ wd b p d i hip]
  have e0 : hBlk m c t (ix2 r d) = h (ix3 b p d) := (blk_h m c t r d i hi).trans ((host_h m c b p i d hip).trans (congrFun eh _))
  have e1 : ∀ q : Fin 6144, dBlk m c t (ix3 0 0 q) = md (ix2 b q) := fun q =>
    (blk_d m c t 0 0 q ⟨8 + b.val, by omega⟩ (by show 8 + b.val = 8 + t.val / 16; omega)).trans ((host_d m c b q).trans (congrFun em _))
  have e2 : ∀ f : Fin 2816, wBlk m c t (ix2 f d) = wd (ix2 f d) := fun f => (blk_w m c t f d).trans ((host_w m c f d).trans (congrFun ed _))
  have e3 : ∀ f : Fin 2816, actK (uBlk m c t) (iblk m c 5 t) (iblk m c 6 t) (ix2 r f) = actR (convR (padR (upR (normR h g md) wu)) cw) (ix3 b p f) := fun f => by
    rw [actR_at]
    have k : ∀ q : Fin 5632, convK (uBlk m c t) (iblk m c 5 t) (iblk m c 6 t) r q = convR (padR (upR (normR h g md) wu)) cw (ix3 b p q) := fun q => by
      rw [← eh, ← eg, ← em, ← eu, ← ec]
      exact conv_eq m c t r q b p hb hp
    show gated (convK _ _ _ r ⟨f.val, by omega⟩) (convK _ _ _ r ⟨2816 + f.val, by omega⟩) = _
    rw [k, k]
    unfold gated
    rw [_root_.Ffn.silu_eq _ (conv_real h g md wu cw rh rg rm ru rc b p _)]
  rw [e0, e1]
  simp only [e2, e3]

end Cert.Kernel2Ideal.Ffn

end
-- ==== Proof.First.Chunk.lean ====
module

public import proofs.«01_k».proof.Proof.Gen.Kernel3Ideal.Value
public import Idealize.ShloMosaic.Lib.Pipeline.ReadBack
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Kernel3Ideal.Ffn

open Cert.Kernel3Ideal Cert.Kernel3Ideal.Gen

/-- The up projection's values at 272 rows of 256 features. -/
def upF (u : FVec Ideal S272x1024 .bf16) (w : Vec Ideal S1024x256 .bf16) : FVec Ideal S1x272x256 .f32 := k0_pay18 u w

/-- The sum of three rows, each times its tap. -/
def convF (w : Vec Ideal S3x256 .f32) (a b c : Vec Ideal S1x256x256 .f32) : FVec Ideal S256x256 .f32 := k0_pay15 w a b c

/-- A block of 256 features: the gate's activation times the value. -/
def chunkF (wg : Vec Ideal S3x256 .f32) (a b c : Vec Ideal S1x256x256 .f32) (wv : Vec Ideal S3x256 .f32)
    (a' b' c' : Vec Ideal S1x256x256 .f32) : FVec Ideal S256x256 .bf16 := k0_pay1 (convF wg a b c) (convF wv a' b' c')

variable (u : FVec Ideal S272x1024 .bf16) (w : Vec Ideal S1024x256 .bf16)
variable (p q : BitVec 32) (v : FVec Ideal S272x1024 .f32) (z : BitVec 32)

/-- The printed pieces of the up projection are one function. -/
theorem up6 : k0_pay6 p q v z w = upF (k0_pay5 p q v z) w := rfl
@[inherit_doc up6] theorem up7 : k0_pay7 p q v z w = upF (k0_pay5 p q v z) w := rfl
@[inherit_doc up6] theorem up13 : k0_pay13 (k0_pay12 u w) = upF u w := rfl
@[inherit_doc up6] theorem up14 : k0_pay14 u w = upF u w := rfl
@[inherit_doc up6] theorem up18 : k0_pay18 u w = upF u w := rfl
@[inherit_doc up6] theorem up19 : k0_pay19 u w = upF u w := rfl
@[inherit_doc up6] theorem up24 : k0_pay24 u w = upF u w := rfl
@[inherit_doc up6] theorem up25 : k0_pay25 u w = upF u w := rfl
@[inherit_doc up6] theorem up28 : k0_pay28 u w = upF u w := rfl
@[inherit_doc up6] theorem up29 : k0_pay29 u w = upF u w := rfl
@[inherit_doc up6] theorem up35 : k0_pay35 u w = upF u w := rfl
@[inherit_doc up6] theorem up36 : k0_pay36 u w = upF u w := rfl
@[inherit_doc up6] theorem up40 : k0_pay40 u w = upF u w := rfl
@[inherit_doc up6] theorem up41 : k0_pay41 u w = upF u w := rfl
@[inherit_doc up6] theorem up44 : k0_pay44 u w = upF u w := rfl
@[inherit_doc up6] theorem up46 : k0_pay46 u (k0_pay45 w) (constant S272x256 .f32 0x00000000#32) = upF u w := rfl
@[inherit_doc up6] theorem up50 : k0_pay50 u w = upF u w := rfl
@[inherit_doc up6] theorem up51 : k0_pay51 u w = upF u w := rfl
@[inherit_doc up6] theorem up54 : k0_pay54 u w = upF u w := rfl
@[inherit_doc up6] theorem up55 : k0_pay55 u w = upF u w := rfl
@[inherit_doc up6] theorem up58 : k0_pay58 u w = upF u w := rfl
@[inherit_doc up6] theorem up60 : k0_pay60 (k0_pay59 u w) = upF u w := rfl

variable (wg wv : Vec Ideal S3x256 .f32) (a b c a' b' c' : Vec Ideal S1x256x256 .f32)

/-- The printed pieces of the gated activation are one function. -/
theorem ch0 : k0_pay11 wg (k0_pay8 wg a) (k0_pay9 b) (k0_pay10 wg) c wv a' b' c' = chunkF wg a b c wv a' b' c' := rfl
@[inherit_doc ch0] theorem ch1 : k0_pay17 (k0_pay15 wg a b c) wv (k0_pay16 wv a') b' c' = chunkF wg a b c wv a' b' c' := rfl
@[inherit_doc ch0] theorem ch2 : k0_pay23 (k0_pay20 wv a' b' c') (k0_pay21 wg a b c) (k0_pay22 wg a b c) = chunkF wg a b c wv a' b' c' := rfl
@[inherit_doc ch0] theorem ch3 : k0_pay27 wg (k0_pay26 wg a b) c wv a' b' c' = chunkF wg a b c wv a' b' c' := rfl
@[inherit_doc ch0] theorem ch4 : k0_pay34 (k0_pay30 wg a b c) wv (k0_pay31 wv a') (k0_pay32 b') (k0_pay33 wv) c' = chunkF wg a b c wv a' b' c' := rfl
@[inherit_doc ch0] theorem ch5 : k0_pay39 (k0_pay38 wg (k0_pay37 a) b c wv a' b' c') = chunkF wg a b c wv a' b' c' := rfl
@[inherit_doc ch0] theorem ch6 : k0_pay43 (k0_pay42 wg a b c) wv a' b' c' = chunkF wg a b c wv a' b' c' := rfl
@[inherit_doc ch0] theorem ch7 : k0_pay49 (k0_pay47 wg a b c) wv (k0_pay48 wv a' b') c' = chunkF wg a b c wv a' b' c' := rfl
@[inherit_doc ch0] theorem ch8 : k0_pay53 wg (k0_pay52 wg a) b c wv a' b' c' = chunkF wg a b c wv a' b' c' := rfl
@[inherit_doc ch0] theorem ch9 : k0_pay57 (k0_pay56 wg a b c) wv a' b' c' = chunkF wg a b c wv a' b' c' := rfl
@[inherit_doc ch0] theorem ch10 : k0_pay1 (k0_pay61 wg a b c) (k0_pay62 wv a' b' c') = chunkF wg a b c wv a' b' c' := rfl

/-- The three-tap sum at an element. -/
theorem convF_at (r : Fin 256) (j : Fin 256) : convF wg a b c (ix2 r j)
    = a (ix3 0 r j) * wg (ix2 0 j) + b (ix3 0 r j) * wg (ix2 1 j) + c (ix3 0 r j) * wg (ix2 2 j) := by
  pointwise [convF, k0_pay15]

/-- The up projection at an element: a row times a column. -/
theorem upF_at (r : Fin 272) (j : Fin 256) : upF u w (ix3 0 r j) = ∑ k, u (ix2 r k) * w (ix2 k j) := by
  pointwise [upF, k0_pay18]

/-- The gated activation: half the gate plus half the gate times the tangent of half the gate, times the value. -/
def gated (g x : EReal) : EReal :=
  (Ideal.ofBits .f32 0x3F000000#32 * g + Ideal.ofBits .f32 0x3F000000#32 * g * Ideal.tanh (Ideal.ofBits .f32 0x3F000000#32 * g)) * x

/-- A block's element from the two three-tap sums. -/
theorem pay1_at (g x : FVec Ideal S256x256 .f32) (r : Fin 256) (j : Fin 256) :
    k0_pay1 g x (ix2 r j) = gated (g (ix2 r j)) (x (ix2 r j)) := by
  pointwise [k0_pay1, gated]

/-- The rows of a projection from a given row on. -/
def upRows (f : FVec Ideal S1x272x256 .f32) (o : ℕ) (h : o + 256 ≤ 272) : Vec Ideal S1x256x256 .f32 :=
  fun j => f (ix3 0 ⟨o + (j 1).val, by have : (j 1).val < 256 := (j 1).isLt; omega⟩ (j 2))

/-- A read of the slot written last is the rows written there. -/
theorem read_hi {s o : ℕ} {i1 : ∀ a, ![s, 0, 0] a + ![1, 272, 256] a ≤ S4x272x256.size a}
    {i2 : ∀ a, ![s, o, 0] a + ![1, 256, 256] a ≤ S4x272x256.size a} (ho : o + 256 ≤ 272) (f : FVec Ideal S1x272x256 .f32)
    (L : List (View.Piece (Elt Ideal) S4x272x256 .f32)) :
    (View.whole cc0_scratch0).readCov (⟨Rect.unit ![s, 0, 0] ![1, 272, 256] i1, f⟩ :: L) (Rect.unit ![s, o, 0] ![1, 256, 256] i2).toLoadRect
      = upRows f o ho := by
  rw [View.readCov_eq_canon']
  funext j
  have hj : (j 1).val < 256 := (j 1).isLt
  have h0 : (j 0).val < 1 := (j 0).isLt
  refine Eq.trans (congrArg _ ?_) (View.canon_cons_emb (Rect.unit ![s, 0, 0] ![1, 272, 256] i1) f L
    (ix3 0 ⟨o + (j 1).val, by omega⟩ (j 2)))
  funext a
  apply Fin.ext
  match a with
  | ⟨0, _⟩ => show s + 1 * (j 0).val = s + 1 * 0; omega
  | ⟨1, _⟩ => show o + 1 * (j 1).val = 0 + 1 * (o + (j 1).val); omega
  | ⟨2, _⟩ => rfl

/-- A read of the slot written last but one. -/
theorem read_lo {s s' o : ℕ} {i0 : ∀ a, ![s', 0, 0] a + ![1, 272, 256] a ≤ S4x272x256.size a}
    {i1 : ∀ a, ![s, 0, 0] a + ![1, 272, 256] a ≤ S4x272x256.size a}
    {i2 : ∀ a, ![s, o, 0] a + ![1, 256, 256] a ≤ S4x272x256.size a} (ho : o + 256 ≤ 272) (hd : LoadRect.disj (Rect.unit (s := S4x272x256) ![s', 0, 0] ![1, 272, 256] i0) (Rect.unit ![s, o, 0] ![1, 256, 256] i2).toLoadRect = true)
    (g f : FVec Ideal S1x272x256 .f32)
    (L : List (View.Piece (Elt Ideal) S4x272x256 .f32)) :
    (View.whole cc0_scratch0).readCov (⟨Rect.unit ![s', 0, 0] ![1, 272, 256] i0, g⟩ :: ⟨Rect.unit ![s, 0, 0] ![1, 272, 256] i1, f⟩ :: L)
        (Rect.unit ![s, o, 0] ![1, 256, 256] i2).toLoadRect
      = upRows f o ho := by
  refine Eq.trans ?_ (read_hi (i1 := i1) (i2 := i2) ho f L)
  exact View.readCov_skip _ _ _ _ _ hd

/-- A read of the gate's slot 0 from row 7 on. -/
theorem read_lo_0_7 {i0 : ∀ a, ![1, 0, 0] a + ![1, 272, 256] a ≤ S4x272x256.size a}
    {i1 : ∀ a, ![0, 0, 0] a + ![1, 272, 256] a ≤ S4x272x256.size a}
    {i2 : ∀ a, ![0, 7, 0] a + ![1, 256, 256] a ≤ S4x272x256.size a} (g f : FVec Ideal S1x272x256 .f32)
    (L : List (View.Piece (Elt Ideal) S4x272x256 .f32)) :
    (View.whole cc0_scratch0).readCov (⟨Rect.unit ![1, 0, 0] ![1, 272, 256] i0, g⟩ :: ⟨Rect.unit ![0, 0, 0] ![1, 272, 256] i1, f⟩ :: L)
        (Rect.unit ![0, 7, 0] ![1, 256, 256] i2).toLoadRect
      = upRows f 7 (by decide) := read_lo _ (by rfl) g f L

/-- A read of the value's slot 1 from row 7 on. -/
theorem read_hi_1_7 {i1 : ∀ a, ![1, 0, 0] a + ![1, 272, 256] a ≤ S4x272x256.size a}
    {i2 : ∀ a, ![1, 7, 0] a + ![1, 256, 256] a ≤ S4x272x256.size a} (f : FVec Ideal S1x272x256 .f32)
    (L : List (View.Piece (Elt Ideal) S4x272x256 .f32)) :
    (View.whole cc0_scratch0).readCov (⟨Rect.unit ![1, 0, 0] ![1, 272, 256] i1, f⟩ :: L)
        (Rect.unit ![1, 7, 0] ![1, 256, 256] i2).toLoadRect
      = upRows f 7 (by decide) := read_hi _ f L

/-- A read of the gate's slot 0 from row 8 on. -/
theorem read_lo_0_8 {i0 : ∀ a, ![1, 0, 0] a + ![1, 272, 256] a ≤ S4x272x256.size a}
    {i1 : ∀ a, ![0, 0, 0] a + ![1, 272, 256] a ≤ S4x272x256.size a}
    {i2 : ∀ a, ![0, 8, 0] a + ![1, 256, 256] a ≤ S4x272x256.size a} (g f : FVec Ideal S1x272x256 .f32)
    (L : List (View.Piece (Elt Ideal) S4x272x256 .f32)) :
    (View.whole cc0_scratch0).readCov (⟨Rect.unit ![1, 0, 0] ![1, 272, 256] i0, g⟩ :: ⟨Rect.unit ![0, 0, 0] ![1, 272, 256] i1, f⟩ :: L)
        (Rect.unit ![0, 8, 0] ![1, 256, 256] i2).toLoadRect
      = upRows f 8 (by decide) := read_lo _ (by rfl) g f L

/-- A read of the value's slot 1 from row 8 on. -/
theorem read_hi_1_8 {i1 : ∀ a, ![1, 0, 0] a + ![1, 272, 256] a ≤ S4x272x256.size a}
    {i2 : ∀ a, ![1, 8, 0] a + ![1, 256, 256] a ≤ S4x272x256.size a} (f : FVec Ideal S1x272x256 .f32)
    (L : List (View.Piece (Elt Ideal) S4x272x256 .f32)) :
    (View.whole cc0_scratch0).readCov (⟨Rect.unit ![1, 0, 0] ![1, 272, 256] i1, f⟩ :: L)
        (Rect.unit ![1, 8, 0] ![1, 256, 256] i2).toLoadRect
      = upRows f 8 (by decide) := read_hi _ f L

/-- A read of the gate's slot 0 from row 9 on. -/
theorem read_lo_0_9 {i0 : ∀ a, ![1, 0, 0] a + ![1, 272, 256] a ≤ S4x272x256.size a}
    {i1 : ∀ a, ![0, 0, 0] a + ![1, 272, 256] a ≤ S4x272x256.size a}
    {i2 : ∀ a, ![0, 9, 0] a + ![1, 256, 256] a ≤ S4x272x256.size a} (g f : FVec Ideal S1x272x256 .f32)
    (L : List (View.Piece (Elt Ideal) S4x272x256 .f32)) :
    (View.whole cc0_scratch0).readCov (⟨Rect.unit ![1, 0, 0] ![1, 272, 256] i0, g⟩ :: ⟨Rect.unit ![0, 0, 0] ![1, 272, 256] i1, f⟩ :: L)
        (Rect.unit ![0, 9, 0] ![1, 256, 256] i2).toLoadRect
      = upRows f 9 (by decide) := read_lo _ (by rfl) g f L

/-- A read of the value's slot 1 from row 9 on. -/
theorem read_hi_1_9 {i1 : ∀ a, ![1, 0, 0] a + ![1, 272, 256] a ≤ S4x272x256.size a}
    {i2 : ∀ a, ![1, 9, 0] a + ![1, 256, 256] a ≤ S4x272x256.size a} (f : FVec Ideal S1x272x256 .f32)
    (L : List (View.Piece (Elt Ideal) S4x272x256 .f32)) :
    (View.whole cc0_scratch0).readCov (⟨Rect.unit ![1, 0, 0] ![1, 272, 256] i1, f⟩ :: L)
        (Rect.unit ![1, 9, 0] ![1, 256, 256] i2).toLoadRect
      = upRows f 9 (by decide) := read_hi _ f L

/-- A read of the gate's slot 2 from row 7 on. -/
theorem read_lo_2_7 {i0 : ∀ a, ![3, 0, 0] a + ![1, 272, 256] a ≤ S4x272x256.size a}
    {i1 : ∀ a, ![2, 0, 0] a + ![1, 272, 256] a ≤ S4x272x256.size a}
    {i2 : ∀ a, ![2, 7, 0] a + ![1, 256, 256] a ≤ S4x272x256.size a} (g f : FVec Ideal S1x272x256 .f32)
    (L : List (View.Piece (Elt Ideal) S4x272x256 .f32)) :
    (View.whole cc0_scratch0).readCov (⟨Rect.unit ![3, 0, 0] ![1, 272, 256] i0, g⟩ :: ⟨Rect.unit ![2, 0, 0] ![1, 272, 256] i1, f⟩ :: L)
        (Rect.unit ![2, 7, 0] ![1, 256, 256] i2).toLoadRect
      = upRows f 7 (by decide) := read_lo _ (by rfl) g f L

/-- A read of the value's slot 3 from row 7 on. -/
theorem read_hi_3_7 {i1 : ∀ a, ![3, 0, 0] a + ![1, 272, 256] a ≤ S4x272x256.size a}
    {i2 : ∀ a, ![3, 7, 0] a + ![1, 256, 256] a ≤ S4x272x256.size a} (f : FVec Ideal S1x272x256 .f32)
    (L : List (View.Piece (Elt Ideal) S4x272x256 .f32)) :
    (View.whole cc0_scratch0).readCov (⟨Rect.unit ![3, 0, 0] ![1, 272, 256] i1, f⟩ :: L)
        (Rect.unit ![3, 7, 0] ![1, 256, 256] i2).toLoadRect
      = upRows f 7 (by decide) := read_hi _ f L

/-- A read of the gate's slot 2 from row 8 on. -/
theorem read_lo_2_8 {i0 : ∀ a, ![3, 0, 0] a + ![1, 272, 256] a ≤ S4x272x256.size a}
    {i1 : ∀ a, ![2, 0, 0] a + ![1, 272, 256] a ≤ S4x272x256.size a}
    {i2 : ∀ a, ![2, 8, 0] a + ![1, 256, 256] a ≤ S4x272x256.size a} (g f : FVec Ideal S1x272x256 .f32)
    (L : List (View.Piece (Elt Ideal) S4x272x256 .f32)) :
    (View.whole cc0_scratch0).readCov (⟨Rect.unit ![3, 0, 0] ![1, 272, 256] i0, g⟩ :: ⟨Rect.unit ![2, 0, 0] ![1, 272, 256] i1, f⟩ :: L)
        (Rect.unit ![2, 8, 0] ![1, 256, 256] i2).toLoadRect
      = upRows f 8 (by decide) := read_lo _ (by rfl) g f L

/-- A read of the value's slot 3 from row 8 on. -/
theorem read_hi_3_8 {i1 : ∀ a, ![3, 0, 0] a + ![1, 272, 256] a ≤ S4x272x256.size a}
    {i2 : ∀ a, ![3, 8, 0] a + ![1, 256, 256] a ≤ S4x272x256.size a} (f : FVec Ideal S1x272x256 .f32)
    (L : List (View.Piece (Elt Ideal) S4x272x256 .f32)) :
    (View.whole cc0_scratch0).readCov (⟨Rect.unit ![3, 0, 0] ![1, 272, 256] i1, f⟩ :: L)
        (Rect.unit ![3, 8, 0] ![1, 256, 256] i2).toLoadRect
      = upRows f 8 (by decide) := read_hi _ f L

/-- A read of the gate's slot 2 from row 9 on. -/
theorem read_lo_2_9 {i0 : ∀ a, ![3, 0, 0] a + ![1, 272, 256] a ≤ S4x272x256.size a}
    {i1 : ∀ a, ![2, 0, 0] a + ![1, 272, 256] a ≤ S4x272x256.size a}
    {i2 : ∀ a, ![2, 9, 0] a + ![1, 256, 256] a ≤ S4x272x256.size a} (g f : FVec Ideal S1x272x256 .f32)
    (L : List (View.Piece (Elt Ideal) S4x272x256 .f32)) :
    (View.whole cc0_scratch0).readCov (⟨Rect.unit ![3, 0, 0] ![1, 272, 256] i0, g⟩ :: ⟨Rect.unit ![2, 0, 0] ![1, 272, 256] i1, f⟩ :: L)
        (Rect.unit ![2, 9, 0] ![1, 256, 256] i2).toLoadRect
      = upRows f 9 (by decide) := read_lo _ (by rfl) g f L

/-- A read of the value's slot 3 from row 9 on. -/
theorem read_hi_3_9 {i1 : ∀ a, ![3, 0, 0] a + ![1, 272, 256] a ≤ S4x272x256.size a}
    {i2 : ∀ a, ![3, 9, 0] a + ![1, 256, 256] a ≤ S4x272x256.size a} (f : FVec Ideal S1x272x256 .f32)
    (L : List (View.Piece (Elt Ideal) S4x272x256 .f32)) :
    (View.whole cc0_scratch0).readCov (⟨Rect.unit ![3, 0, 0] ![1, 272, 256] i1, f⟩ :: L)
        (Rect.unit ![3, 9, 0] ![1, 256, 256] i2).toLoadRect
      = upRows f 9 (by decide) := read_hi _ f L

end Cert.Kernel3Ideal.Ffn

end
-- ==== Proof.First.Block.lean ====
module

public import proofs.«01_k».proof.Proof.Gen.Kernel3Ideal.Value
public import Idealize.ShloMosaic.Lib.Pipeline.ValueKit
public import Idealize.ShloMosaic.Lib.Pointwise
public import Idealize.ShloMosaic.Lib.Claim
public import Idealize.ShloMosaic.Lib.Tactic.CleanTypes

@[expose] public section

set_option maxRecDepth 16384

noncomputable section

open Idealize.ShloMosaic Idealize.ShloMosaic.TcCoe Idealize.SL.Sem
open Idealize.ShloMosaic.Pipeline (Dat)

namespace Cert.Kernel3Ideal.Ffn

open Cert.Kernel3Ideal Cert.Kernel3Ideal.Gen

variable (m : (ℓ : Loc nD τ sig) → Buf (Elt Ideal) ℓ)

/-- The latents' residual stream of the memory. -/
abbrev hArg (c : Dev nD) : FVec Ideal S4x8192x1024 .f32 := m ((c.tc : Thread nD τ).loc main_arg0)
/-- The context's residual stream of the memory. -/
abbrev gArg (c : Dev nD) : FVec Ideal S4x256x1024 .f32 := m ((c.tc : Thread nD τ).loc main_arg1)
/-- The norm's weight of the memory. -/
abbrev nArg (c : Dev nD) : FVec Ideal S1024 .f32 := m ((c.tc : Thread nD τ).loc main_arg2)
/-- The latents' modulation of the memory. -/
abbrev dArg (c : Dev nD) : FVec Ideal S4x6144 .f32 := m ((c.tc : Thread nD τ).loc main_arg3)
/-- The context's modulation of the memory. -/
abbrev eArg (c : Dev nD) : FVec Ideal S6144 .f32 := m ((c.tc : Thread nD τ).loc main_arg4)
/-- The up projection's weight of the memory. -/
abbrev uArg (c : Dev nD) : FVec Ideal S1024x5632 .f32 := m ((c.tc : Thread nD τ).loc main_arg5)
/-- The taps of the memory. -/
abbrev cArg (c : Dev nD) : FVec Ideal S3x5632 .f32 := m ((c.tc : Thread nD τ).loc main_arg6)
/-- The down projection's weight of the memory. -/
abbrev wArg (c : Dev nD) : FVec Ideal S2816x1024 .f32 := m ((c.tc : Thread nD τ).loc main_arg7)

/-- The rows of latents and context in one array. -/
def rowsOf (h : FVec Ideal S4x8192x1024 .f32) (g : FVec Ideal S4x256x1024 .f32) : FVec Ideal S33792x1024 .f32 :=
  concatenate S33792x1024 0 [⟨S32768x1024, shapeCast S32768x1024 h shapeCasts_S4x8192x1024_S32768x1024⟩,
    ⟨S1024x1024, shapeCast S1024x1024 g shapeCasts_S4x256x1024_S1024x1024⟩] concatenates_S32768x1024_S1024x1024_S33792x1024_d0

/-- A row of the latents. -/
theorem rowsOf_lat (h : FVec Ideal S4x8192x1024 .f32) (g : FVec Ideal S4x256x1024 .f32) (b : Fin 4) (p : Fin 8192) (i : Fin 33792) (k : Fin 1024)
    (hi : i.val = b.val * 8192 + p.val) : rowsOf h g (ix2 i k) = h (ix3 b p k) := by
  have h1 : i.val < 32768 := by omega
  have e1 : i.val / 8192 = b.val := by omega
  have e2 : i.val % 8192 = p.val := by omega
  pointwise [rowsOf]
  rw [dif_pos h1]
  exact congrArg h (by funext a; apply Fin.ext; match a with | ⟨0, _⟩ => exact e1 | ⟨1, _⟩ => exact e2 | ⟨2, _⟩ => rfl)

/-- A row of the context. -/
theorem rowsOf_ctx (h : FVec Ideal S4x8192x1024 .f32) (g : FVec Ideal S4x256x1024 .f32) (b : Fin 4) (p : Fin 256) (i : Fin 33792) (k : Fin 1024)
    (hi : i.val = 32768 + (b.val * 256 + p.val)) : rowsOf h g (ix2 i k) = g (ix3 b p k) := by
  have h1 : ¬ i.val < 32768 := by omega
  have e1 : (i.val - 32768) / 256 = b.val := by omega
  have e2 : (i.val - 32768) % 256 = p.val := by omega
  pointwise [rowsOf]
  rw [dif_neg h1]
  exact congrArg g (by funext a; apply Fin.ext; match a with | ⟨0, _⟩ => exact e1 | ⟨1, _⟩ => exact e2 | ⟨2, _⟩ => rfl)

/-- The rows as the kernel gets them. -/
theorem host_h (c : Dev nD) : V m c main_v6 = rowsOf (hArg m c) (gArg m c) := by
  simp only [V, hostOps0, hostOps0_1, hostOps0_2, List.flatten_cons, List.flatten_nil, List.append_nil, List.cons_append, List.nil_append]
  entry_read
  rfl

/-- The norm's weight as one row. -/
theorem host_n (c : Dev nD) (k : Fin 1024) : V m c main_v7 (ix2 0 k) = nArg m c (ix1 k) := by
  simp only [V, hostOps0, hostOps0_1, hostOps0_2, List.flatten_cons, List.flatten_nil, List.append_nil, List.cons_append, List.nil_append]
  entry_read
  clean_types
  pointwise []

/-- The modulation's rows in one array, padded. -/
def modOf (x : FVec Ideal S4x6144 .f32) (y : FVec Ideal S6144 .f32) : FVec Ideal S16x1x6144 .f32 :=
  shapeCast S16x1x6144 (pad S16x6144 ![0, 0] ![11, 0] ![0, 0]
    (concatenate S5x6144 0 [⟨S4x6144, x⟩, ⟨S1x6144, shapeCast S1x6144 y shapeCasts_S6144_S1x6144⟩] concatenates_S4x6144_S1x6144_S5x6144_d0 : FVec Ideal S5x6144 .f32)
    (sitofp .f32 (constantI S_ 32 0#32) : FVec Ideal S_ .f32) pads_S5x6144_S16x6144_0110_000 h_S_ : FVec Ideal S16x6144 .f32) shapeCasts_S16x6144_S16x1x6144

/-- The first rows of the padded modulation are the latents'. -/
theorem modOf_lat (x : FVec Ideal S4x6144 .f32) (y : FVec Ideal S6144 .f32) (b : Fin 4) (k : Fin 6144) :
    modOf x y (ix3 ⟨b.val, by omega⟩ 0 k) = x (ix2 b k) := by
  pointwise [modOf]
  exact dif_pos (by omega)

/-- The fifth row of the padded modulation is the context's. -/
theorem modOf_ctx (x : FVec Ideal S4x6144 .f32) (y : FVec Ideal S6144 .f32) (k : Fin 6144) :
    modOf x y (ix3 4 0 k) = y (ix1 k) := by
  pointwise [modOf]

/-- The modulation as the kernel gets it. -/
theorem host_d (c : Dev nD) : V m c main_v3 = modOf (dArg m c) (eArg m c) := by
  simp only [V, hostOps0, hostOps0_1, hostOps0_2, List.flatten_cons, List.flatten_nil, List.append_nil, List.cons_append, List.nil_append]
  entry_read
  rfl

/-- The up projection's weight. -/
theorem host_u (c : Dev nD) (k : Fin 1024) (f : Fin 5632) : V m c main_v8 (ix2 k f) = uArg m c (ix2 k f) := by
  simp only [V, hostOps0, hostOps0_1, hostOps0_2, List.flatten_cons, List.flatten_nil, List.append_nil, List.cons_append, List.nil_append]
  entry_read
  rfl

/-- The down projection's weight. -/
theorem host_w (c : Dev nD) (f : Fin 2816) (k : Fin 1024) : V m c main_v9 (ix2 f k) = wArg m c (ix2 f k) := by
  simp only [V, hostOps0, hostOps0_1, hostOps0_2, List.flatten_cons, List.flatten_nil, List.append_nil, List.cons_append, List.nil_append]
  entry_read
  rfl

/-- The taps. -/
theorem host_c (c : Dev nD) (k : Fin 3) (f : Fin 5632) : V m c main_arg6 (ix2 k f) = cArg m c (ix2 k f) := by
  simp only [V, hostOps0, hostOps0_1, hostOps0_2, List.flatten_cons, List.flatten_nil, List.append_nil, List.cons_append, List.nil_append]
  entry_read
  rfl

/-- The blocks' places at a grid point. -/
theorem idx_val : ∀ t : Fin cfg0.N, win0_0.index t = ![t.val, 0]
    ∧ win0_1.index t = ![32 * t.val - 1, 0]
    ∧ win0_2.index t = ![min (32 * (t.val + 1)) 4223, 0]
    ∧ win0_3.index t = ![0, 0]
    ∧ win0_4.index t = ![min (t.val / 32) 4, 0, 0]
    ∧ win0_5.index t = ![0, 0]
    ∧ win0_6.index t = ![0, 0]
    ∧ win0_7.index t = ![0, 0]
    ∧ win0_8.index t = ![t.val, 0] :=
  (by decide +kernel : ∀ t : Fin grid0.N, _)

/-- The block of rows. -/
theorem blk_h (c : Dev nD) (t : Fin cfg0.N) (r : Fin 256) (k : Fin 1024) (i : Fin 33792) (hi : i.val = t.val * 256 + r.val) :
    iblk m c 0 t (ix2 r k) = V m c main_v6 (ix2 i k) := by
  unfold iblk
  generalize V m c main_v6 = A
  blk_ext [idx_val t]
/-- The eight rows before the block (of the first block, its own). -/
theorem blk_p (c : Dev nD) (t : Fin cfg0.N) (r : Fin 8) (k : Fin 1024) (i : Fin 33792) (hi : i.val = (32 * t.val - 1) * 8 + r.val) :
    iblk m c 1 t (ix2 r k) = V m c main_v6 (ix2 i k) := by
  unfold iblk
  generalize V m c main_v6 = A
  rw [View.read]
  refine (cast_eq _ _).trans (congrArg A ?_)
  funext a
  apply Fin.ext
  refine (win0_1.rect_emb_val t (ix2 r k) a rfl).trans ?_
  rw [(idx_val t).2.1]
  match a with
  | ⟨0, _⟩ => exact hi.symm
  | ⟨1, _⟩ => exact (Nat.zero_mul 1024).symm ▸ Nat.zero_add k.val
/-- The eight rows after the block (of the last block, the last eight). -/
theorem blk_n (c : Dev nD) (t : Fin cfg0.N) (r : Fin 8) (k : Fin 1024) (i : Fin 33792) (hi : i.val = min (32 * (t.val + 1)) 4223 * 8 + r.val) :
    iblk m c 2 t (ix2 r k) = V m c main_v6 (ix2 i k) := by
  unfold iblk
  generalize V m c main_v6 = A
  blk_ext [idx_val t]
/-- The norm's weight, whole. -/
theorem blk_g (c : Dev nD) (t : Fin cfg0.N) (z : Fin 1) (k : Fin 1024) : iblk m c 3 t (ix2 z k) = V m c main_v7 (ix2 z k) := by
  unfold iblk
  generalize V m c main_v7 = A
  blk_ext [idx_val t]
/-- The modulation of the block's sequence. -/
theorem blk_d (c : Dev nD) (t : Fin cfg0.N) (z y : Fin 1) (k : Fin 6144) (i : Fin 16) (hi : i.val = min (t.val / 32) 4) :
    iblk m c 4 t (ix3 z y k) = V m c main_v3 (ix3 i y k) := by
  unfold iblk
  generalize V m c main_v3 = A
  blk_ext [idx_val t]
/-- The up projection's weight, whole. -/
theorem blk_u (c : Dev nD) (t : Fin cfg0.N) (k : Fin 1024) (f : Fin 5632) : iblk m c 5 t (ix2 k f) = V m c main_v8 (ix2 k f) := by
  unfold iblk
  generalize V m c main_v8 = A
  blk_ext [idx_val t]
/-- The taps, whole. -/
theorem blk_c (c : Dev nD) (t : Fin cfg0.N) (k : Fin 3) (f : Fin 5632) : iblk m c 6 t (ix2 k f) = V m c main_arg6 (ix2 k f) := by
  unfold iblk
  generalize V m c main_arg6 = A
  blk_ext [idx_val t]
/-- The down projection's weight, whole. -/
theorem blk_w (c : Dev nD) (t : Fin cfg0.N) (f : Fin 2816) (k : Fin 1024) : iblk m c 7 t (ix2 f k) = V m c main_v9 (ix2 f k) := by
  unfold iblk
  generalize V m c main_v9 = A
  blk_ext [idx_val t]

/-- An array every block of which is written from the rows of `W` is `W`. -/
theorem array_of_blocks (c : Dev nD) (W : FVec Ideal S33792x1024 .f32)
    (h : ∀ (t : Fin cfg0.N) (r : Fin 256) (j : Fin 1024) (i : Fin 33792), i.val = t.val * 256 + r.val → outsAt0 m c t (ix2 r j) = W (ix2 i j)) :
    (dats m 0 c).arrAt 8 cfg0.N = W := by
  refine (dats m 0 c).arrAt_eq_of_covers 8 _ (by decide +kernel) fun t hf y => ?_
  blk_simp
  rw [after0_8]
  have ht : t.val < 132 := t.isLt
  obtain ⟨r, j, rfl⟩ : ∃ r j, y = ix2 r j := ⟨y 0, y 1, by funext a; match a with | ⟨0, _⟩ => rfl | ⟨1, _⟩ => rfl⟩
  have hr : r.val < 256 := r.isLt
  refine (h t r j ⟨t.val * 256 + r.val, by omega⟩ rfl).trans (congrArg W ?_)
  have e := (idx_val t).2.2.2.2.2.2.2.2
  blk_ext [e]

end Cert.Kernel3Ideal.Ffn

end
-- ==== Proof.First.Norm.lean ====
module

public import proofs.«01_k».proof.Proof.Gen.Kernel3Ideal.Value
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Kernel3Ideal.Ffn

open Cert.Kernel3Ideal Cert.Kernel3Ideal.Gen

/-- The 272 rows a step reads: eight before its block, its block, eight after. -/
def rowsK (xp : FVec Ideal S8x1024 .f32) (xh : FVec Ideal S256x1024 .f32) (xn : FVec Ideal S8x1024 .f32) (r : Fin 272) (k : Fin 1024) : EReal :=
  if h1 : r.val < 8 then xp (ix2 ⟨r.val, h1⟩ k)
  else if h2 : r.val - 8 < 256 then xh (ix2 ⟨r.val - 8, h2⟩ k) else xn (ix2 ⟨r.val - 8 - 256, by omega⟩ k)

/-- A normalised and modulated row, of the rows a step reads. -/
theorem pay4_at (xd : Vec Ideal S1x1x6144 .f32) (xp : FVec Ideal S8x1024 .f32) (xh : FVec Ideal S256x1024 .f32) (xn : FVec Ideal S8x1024 .f32)
    (xg : FVec Ideal S1x1024 .f32) (r : Fin 272) (k : Fin 1024) :
    k0_pay4 (F := Ideal) xd xp xh xn xg (ix2 r k) = rowsK xp xh xn r k
      * Ideal.rsqrt (Ideal.div (∑ x, rowsK xp xh xn r x * rowsK xp xh xn r x) (Ideal.ofBits .f32 0x44800000#32) + Ideal.ofBits .f32 0x358637BD#32)
      * xg (ix2 0 k) * (Ideal.ofBits .f32 0x3F800000#32 + xd (ix3 0 0 ⟨4096 + k.val, by omega⟩)) + xd (ix3 0 0 ⟨3072 + k.val, by omega⟩) := by
  pointwise [k0_pay4, k0_pay3, rowsK]

/-- The length of a step's sequence: 8192 of a long one, 256 of a context. -/
def lenK (t : Fin cfg0.N) : BitVec 32 := Scalar.select (Scalar.cmpi .slt (BitVec.ofNat 32 (grid0.coords t 0).val) 128#32) 8192#32 256#32

/-- The position of a step's first row in its sequence. -/
def posK (t : Fin cfg0.N) : BitVec 32 := Scalar.remsi
  (Scalar.subi (Scalar.muli (BitVec.ofNat 32 (grid0.coords t 0).val) 256#32)
    (Scalar.select (Scalar.cmpi .slt (BitVec.ofNat 32 (grid0.coords t 0).val) 128#32) 0#32 32768#32)) (lenK t)

/-- The length of the sequence of a step. -/
def lenN (t : ℕ) : ℕ := if t < 128 then 8192 else 256

/-- A step's first position, as a number. -/
def posN (t : ℕ) : ℕ := if t < 128 then t % 32 * 256 else 0

/-- The length is the number. -/
theorem len_val : ∀ t : Fin cfg0.N, lenK t = BitVec.ofNat 32 (lenN t.val) := (by decide +kernel : ∀ t : Fin grid0.N, _)

/-- A step's first position. -/
theorem pos_val : ∀ t : Fin cfg0.N, posK t = BitVec.ofNat 32 (posN t.val) := (by decide +kernel : ∀ t : Fin grid0.N, _)

/-- The bit of a row: its position lies in the sequence. -/
theorem bit_val : ∀ (t : Fin 132) (r : Fin 272),
    Scalar.andi (Scalar.cmpi .sge (Scalar.addi (Scalar.subi (BitVec.ofNat 32 (posN t.val)) 8#32) (BitVec.ofNat 32 r.val)) 0#32)
      (Scalar.cmpi .slt (Scalar.addi (Scalar.subi (BitVec.ofNat 32 (posN t.val)) 8#32) (BitVec.ofNat 32 r.val)) (BitVec.ofNat 32 (lenN t.val)))
      = if 8 ≤ posN t.val + r.val ∧ posN t.val + r.val < lenN t.val + 8 then 1#1 else 0#1 := by
  decide +kernel

/-- A row outside the sequence is zero. -/
theorem pay5_at (t : Fin 132) (v : FVec Ideal S272x1024 .f32) (r : Fin 272) (k : Fin 1024) :
    k0_pay5 (F := Ideal) (BitVec.ofNat 32 (lenN t.val)) (BitVec.ofNat 32 (posN t.val)) v 8#32 (ix2 r k)
      = if 8 ≤ posN t.val + r.val ∧ posN t.val + r.val < lenN t.val + 8 then v (ix2 r k) else 0 := by
  have h := bit_val t r
  revert h
  generalize BitVec.ofNat 32 (posN t.val) = q
  generalize BitVec.ofNat 32 (lenN t.val) = l
  intro h
  pointwise [k0_pay5]
  refine (congrArg (fun w => Scalar.select w (v (ix2 r k)) (0 : EReal)) h).trans ?_
  split
  · rfl
  · rfl

end Cert.Kernel3Ideal.Ffn

end
-- ==== Proof.First.Out.lean ====
module

public import proofs.«01_k».proof.Proof.First.Chunk
public import proofs.«01_k».proof.Proof.First.Block
public import proofs.«01_k».proof.Proof.First.Norm

@[expose] public section

set_option maxRecDepth 16384

noncomputable section

open Idealize.ShloMosaic Idealize.ShloMosaic.TcCoe Idealize.SL.Sem
open Idealize.ShloMosaic.Pipeline (Dat)

namespace Cert.Kernel3Ideal.Ffn

open Cert.Kernel3Ideal Cert.Kernel3Ideal.Gen

/-- The convolution of the up projection at a row of the block. -/
def convK (u : FVec Ideal S272x1024 .bf16) (xu : FVec Ideal S1024x5632 .bf16) (xc : FVec Ideal S3x5632 .f32) (r : Fin 256) (f : Fin 5632) : EReal :=
  (∑ k : Fin 1024, u (ix2 ⟨7 + r.val, by omega⟩ k) * xu (ix2 k f)) * xc (ix2 0 f)
    + (∑ k : Fin 1024, u (ix2 ⟨8 + r.val, by omega⟩ k) * xu (ix2 k f)) * xc (ix2 1 f)
    + (∑ k : Fin 1024, u (ix2 ⟨9 + r.val, by omega⟩ k) * xu (ix2 k f)) * xc (ix2 2 f)

/-- The gated activation at a row of the block. -/
def actK (u : FVec Ideal S272x1024 .bf16) (xu : FVec Ideal S1024x5632 .bf16) (xc : FVec Ideal S3x5632 .f32) : FVec Ideal S256x2816 .bf16 := fun i =>
  gated (convK u xu xc (i 0) ⟨(i 1).val, by have : (i 1).val < 2816 := (i 1).isLt; omega⟩)
    (convK u xu xc (i 0) ⟨2816 + (i 1).val, by have : (i 1).val < 2816 := (i 1).isLt; omega⟩)

/-- The result at an element, from the gated activation. -/
theorem pay2_at (xd : Vec Ideal S1x1x6144 .f32) (a : Vec Ideal S256x2816 .bf16) (xw : Vec Ideal S2816x1024 .bf16) (xh : Vec Ideal S256x1024 .f32)
    (r : Fin 256) (d : Fin 1024) :
    k0_pay2 (F := Ideal) (k0_pay3 xd) a xw xh (ix2 r d)
      = xh (ix2 r d) + xd (ix3 0 0 ⟨5120 + d.val, by omega⟩) * ∑ f, a (ix2 r f) * xw (ix2 f d) := by
  pointwise [k0_pay2, k0_pay3]

/-- The same, for any array equal to the gated activation on the row. -/
theorem pay2_of (xd : Vec Ideal S1x1x6144 .f32) (a a' : Vec Ideal S256x2816 .bf16) (xw : Vec Ideal S2816x1024 .bf16) (xh : Vec Ideal S256x1024 .f32)
    (r : Fin 256) (d : Fin 1024) (h : ∀ f, a (ix2 r f) = a' (ix2 r f)) :
    k0_pay2 (F := Ideal) (k0_pay3 xd) a xw xh (ix2 r d)
      = xh (ix2 r d) + xd (ix3 0 0 ⟨5120 + d.val, by omega⟩) * ∑ f, a' (ix2 r f) * xw (ix2 f d) := by
  rw [pay2_at]
  simp only [h]

/-- Three taps of 256 features. -/
abbrev ldC (xc : FVec Ideal S3x5632 .f32) (q : ℕ) (i : ∀ a, ![0, q] a + ![3, 256] a ≤ S3x5632.size a) : Vec Ideal S3x256 .f32 :=
  View.ld (Val := Elt Ideal) (e' := .f32) xc (Rect.unit (s := S3x5632) ![0, q] ![3, 256] i)

/-- The up projection's weight of 256 features. -/
abbrev ldU (xu : FVec Ideal S1024x5632 .bf16) (q : ℕ) (i : ∀ a, ![0, q] a + ![1024, 256] a ≤ S1024x5632.size a) : Vec Ideal S1024x256 .bf16 :=
  View.ld (Val := Elt Ideal) (e' := .bf16) xu (Rect.unit (s := S1024x5632) ![0, q] ![1024, 256] i)

/-- A block of 256 features of the gated activation. -/
theorem chunk_at (u : FVec Ideal S272x1024 .bf16) (xu : FVec Ideal S1024x5632 .bf16) (xc : FVec Ideal S3x5632 .f32) (o : ℕ) (ho : o + 256 ≤ 2816)
    (i1 : ∀ a, ![0, o] a + ![3, 256] a ≤ S3x5632.size a) (i2 : ∀ a, ![0, 2816 + o] a + ![3, 256] a ≤ S3x5632.size a)
    (i3 : ∀ a, ![0, o] a + ![1024, 256] a ≤ S1024x5632.size a) (i4 : ∀ a, ![0, 2816 + o] a + ![1024, 256] a ≤ S1024x5632.size a)
    {a b c a' b' c' : Vec Ideal S1x256x256 .f32}
    (ha : a = upRows (upF u (ldU xu o i3)) 7 (by decide))
    (hb : b = upRows (upF u (ldU xu o i3)) 8 (by decide))
    (hc : c = upRows (upF u (ldU xu o i3)) 9 (by decide))
    (ha' : a' = upRows (upF u (ldU xu (2816 + o) i4)) 7 (by decide))
    (hb' : b' = upRows (upF u (ldU xu (2816 + o) i4)) 8 (by decide))
    (hc' : c' = upRows (upF u (ldU xu (2816 + o) i4)) 9 (by decide))
    (x : S256x256.Idx) :
    chunkF (ldC xc o i1) a b c (ldC xc (2816 + o) i2) a' b' c' x
      = actK u xu xc (ix2 (x 0) ⟨o + (x 1).val, by have : (x 1).val < 256 := (x 1).isLt; omega⟩) := by
  subst ha hb hc ha' hb' hc'
  obtain ⟨r, j, rfl⟩ : ∃ r j, x = ix2 r j := ⟨x 0, x 1, by funext a; match a with | ⟨0, _⟩ => rfl | ⟨1, _⟩ => rfl⟩
  have hj : j.val < 256 := j.isLt
  have hW : ∀ (q : ℕ) (hq : q + 256 ≤ 5632) (i : ∀ a, ![0, q] a + ![1024, 256] a ≤ S1024x5632.size a) (k : Fin 1024),
      ldU xu q i (ix2 k j) = xu (ix2 k ⟨q + j.val, by omega⟩) := by
    intro q hq i k
    refine congrArg xu ?_
    funext a; apply Fin.ext
    match a with
    | ⟨0, _⟩ => show 0 + 1 * k.val = k.val; omega
    | ⟨1, _⟩ => show q + 1 * j.val = q + j.val; omega
  have hC : ∀ (q : ℕ) (hq : q + 256 ≤ 5632) (i : ∀ a, ![0, q] a + ![3, 256] a ≤ S3x5632.size a) (k : Fin 3),
      ldC xc q i (ix2 k j) = xc (ix2 k ⟨q + j.val, by omega⟩) := by
    intro q hq i k
    refine congrArg xc ?_
    funext a; apply Fin.ext
    match a with
    | ⟨0, _⟩ => show 0 + 1 * k.val = k.val; omega
    | ⟨1, _⟩ => show q + 1 * j.val = q + j.val; omega
  have hR : ∀ (w : Vec Ideal S1024x256 .bf16) (s : ℕ) (hs : s + 256 ≤ 272), upRows (upF u w) s hs (ix3 0 r j)
      = ∑ k, u (ix2 ⟨s + r.val, by omega⟩ k) * w (ix2 k j) := fun w s hs => upF_at u w ⟨s + r.val, by omega⟩ j
  unfold chunkF
  rw [pay1_at, convF_at, convF_at]
  simp only [hR, hW o (by omega) i3, hW (2816 + o) (by omega) i4, hC o (by omega) i1, hC (2816 + o) (by omega) i2]
  unfold actK convK
  refine congr (congrArg _ rfl) ?_
  simp only [Nat.add_assoc]
  rfl

variable (m : (ℓ : Loc nD τ sig) → Buf (Elt Ideal) ℓ)

/-- The normalised rows of a step. -/
def uBlk (c : Dev nD) (t : Fin cfg0.N) : FVec Ideal S272x1024 .bf16 :=
  k0_pay5 (lenK t) (posK t) (k0_pay4 (iblk m c 4 t) (iblk m c 1 t) (iblk m c 0 t) (iblk m c 2 t) (iblk m c 3 t)) 8#32

/-- The block of rows at a step. -/
abbrev hBlk (c : Dev nD) (t : Fin cfg0.N) : FVec Ideal S256x1024 .f32 := iblk m c 0 t
/-- The modulation at a step. -/
abbrev dBlk (c : Dev nD) (t : Fin cfg0.N) : FVec Ideal S1x1x6144 .f32 := iblk m c 4 t
/-- The down projection's weight at a step. -/
abbrev wBlk (c : Dev nD) (t : Fin cfg0.N) : FVec Ideal S2816x1024 .bf16 := iblk m c 7 t

/-- The place of a block's element among all features. -/
theorem emb_chunk (x : S256x256.Idx) (o : ℕ) (ho : o + (x 1).val < 2816) (i : ∀ a, ![0, o] a + ![256, 256] a ≤ S256x2816.size a) :
    (ix2 (x 0) ⟨o + (x 1).val, ho⟩ : S256x2816.Idx) = (Rect.unit (s := S256x2816) ![0, o] ![256, 256] i).emb x := by
  funext a; apply Fin.ext
  match a with
  | ⟨0, _⟩ => show (x 0).val = 0 + 1 * (x 0).val; omega
  | ⟨1, _⟩ => show o + (x 1).val = o + 1 * (x 1).val; omega

/-- Pieces of one array that tile the buffer are read back as that array. -/
theorem act_read (G : FVec Ideal S256x2816 .bf16) (L : List (View.Piece (Elt Ideal) S256x2816 .bf16)) (hL : View.PiecesOf G L)
    (ht : View.Piece.tiledL L ![256, 256] = true) (i : ∀ a, ![0, 0] a + ![256, 2816] a ≤ S256x2816.size a) (r : Fin 256) (f : Fin 2816) :
    (View.whole cc0_scratch1).readCov L (Rect.unit (s := S256x2816) ![0, 0] ![256, 2816] i).toLoadRect (ix2 r f) = G (ix2 r f) := by
  rw [View.readCov_eq_canon']
  refine (View.canon_apply_of_pieces G L hL.mem _ (View.cover_of_tiledL L ![256, 256] ht _)).trans (congrArg G ?_)
  funext a; apply Fin.ext
  match a with
  | ⟨0, _⟩ => show 0 + 1 * r.val = r.val; omega
  | ⟨1, _⟩ => show 0 + 1 * f.val = f.val; omega

set_option maxHeartbeats 2000000 in
/-- The block a grid point computes. -/
theorem blk_out (c : Dev nD) (t : Fin cfg0.N) (r : Fin 256) (d : Fin 1024) : outsAt0 m c t (ix2 r d)
    = hBlk m c t (ix2 r d) + dBlk m c t (ix3 0 0 ⟨5120 + d.val, by omega⟩)
      * ∑ f, actK (uBlk m c t) (iblk m c 5 t) (iblk m c 6 t) (ix2 r f) * wBlk m c t (ix2 f d) := by
  unfold outsAt0
  frame_out
  refine pay2_of _ _ _ _ _ r d fun f => ?_
  unfold uBlk lenK posK lenK
  generalize iblk m c 0 t = x0
  generalize iblk m c 1 t = x1
  generalize iblk m c 2 t = x2
  generalize iblk m c 3 t = x3
  generalize iblk m c 4 t = x4
  generalize iblk m c 5 t = x5
  generalize iblk m c 6 t = x6
  generalize iblk m c 7 t = x7
  generalize Scalar.select (Scalar.cmpi .slt (BitVec.ofNat 32 (grid0.coords t 0).val) 128#32) 8192#32 256#32 = l
  generalize Scalar.remsi _ l = q
  simp only [up6, up7]
  generalize k0_pay5 (F := Ideal) l q (k0_pay4 x4 x1 x0 x2 x3) 8#32 = u
  refine act_read _ _ ?_ (by sl_kernel_rfl) _ r f
  refine ⟨?_, ?_, ?_, ?_, ?_, ?_, ?_, ?_, ?_, ?_, ?_, trivial⟩
  · intro x
    exact (congrFun (ch10 _ _ _ _ _ _ _ _) x).trans ((chunk_at u x5 x6 2560 (by decide) _ _ _ _ (read_lo_0_7 _ _ _) (read_lo_0_8 _ _ _) (read_lo_0_9 _ _ _) (read_hi_1_7 _ _) (read_hi_1_8 _ _) (read_hi_1_9 _ _) x).trans (congrArg _ (emb_chunk x 2560 _ (by decide))))
  · intro x
    exact (congrFun (ch9 _ _ _ _ _ _ _ _) x).trans ((chunk_at u x5 x6 2304 (by decide) _ _ _ _ (read_lo_2_7 _ _ _) (read_lo_2_8 _ _ _) (read_lo_2_9 _ _ _) (read_hi_3_7 _ _) (read_hi_3_8 _ _) (read_hi_3_9 _ _) x).trans (congrArg _ (emb_chunk x 2304 _ (by decide))))
  · intro x
    exact (congrFun (ch8 _ _ _ _ _ _ _ _) x).trans ((chunk_at u x5 x6 2048 (by decide) _ _ _ _ (read_lo_0_7 _ _ _) (read_lo_0_8 _ _ _) (read_lo_0_9 _ _ _) (read_hi_1_7 _ _) (read_hi_1_8 _ _) (read_hi_1_9 _ _) x).trans (congrArg _ (emb_chunk x 2048 _ (by decide))))
  · intro x
    exact (congrFun (ch7 _ _ _ _ _ _ _ _) x).trans ((chunk_at u x5 x6 1792 (by decide) _ _ _ _ (read_lo_2_7 _ _ _) (read_lo_2_8 _ _ _) (read_lo_2_9 _ _ _) (read_hi_3_7 _ _) (read_hi_3_8 _ _) (read_hi_3_9 _ _) x).trans (congrArg _ (emb_chunk x 1792 _ (by decide))))
  · intro x
    exact (congrFun (ch6 _ _ _ _ _ _ _ _) x).trans ((chunk_at u x5 x6 1536 (by decide) _ _ _ _ (read_lo_0_7 _ _ _) (read_lo_0_8 _ _ _) (read_lo_0_9 _ _ _) (read_hi_1_7 _ _) (read_hi_1_8 _ _) (read_hi_1_9 _ _) x).trans (congrArg _ (emb_chunk x 1536 _ (by decide))))
  · intro x
    exact (congrFun (ch5 _ _ _ _ _ _ _ _) x).trans ((chunk_at u x5 x6 1280 (by decide) _ _ _ _ (read_lo_2_7 _ _ _) (read_lo_2_8 _ _ _) (read_lo_2_9 _ _ _) (read_hi_3_7 _ _) (read_hi_3_8 _ _) (read_hi_3_9 _ _) x).trans (congrArg _ (emb_chunk x 1280 _ (by decide))))
  · intro x
    exact (congrFun (ch4 _ _ _ _ _ _ _ _) x).trans ((chunk_at u x5 x6 1024 (by decide) _ _ _ _ (read_lo_0_7 _ _ _) (read_lo_0_8 _ _ _) (read_lo_0_9 _ _ _) (read_hi_1_7 _ _) (read_hi_1_8 _ _) (read_hi_1_9 _ _) x).trans (congrArg _ (emb_chunk x 1024 _ (by decide))))
  · intro x
    exact (congrFun (ch3 _ _ _ _ _ _ _ _) x).trans ((chunk_at u x5 x6 768 (by decide) _ _ _ _ (read_lo_2_7 _ _ _) (read_lo_2_8 _ _ _) (read_lo_2_9 _ _ _) (read_hi_3_7 _ _) (read_hi_3_8 _ _) (read_hi_3_9 _ _) x).trans (congrArg _ (emb_chunk x 768 _ (by decide))))
  · intro x
    exact (congrFun (ch2 _ _ _ _ _ _ _ _) x).trans ((chunk_at u x5 x6 512 (by decide) _ _ _ _ (read_lo_0_7 _ _ _) (read_lo_0_8 _ _ _) (read_lo_0_9 _ _ _) (read_hi_1_7 _ _) (read_hi_1_8 _ _) (read_hi_1_9 _ _) x).trans (congrArg _ (emb_chunk x 512 _ (by decide))))
  · intro x
    exact (congrFun (ch1 _ _ _ _ _ _ _ _) x).trans ((chunk_at u x5 x6 256 (by decide) _ _ _ _ (read_lo_2_7 _ _ _) (read_lo_2_8 _ _ _) (read_lo_2_9 _ _ _) (read_hi_3_7 _ _) (read_hi_3_8 _ _) (read_hi_3_9 _ _) x).trans (congrArg _ (emb_chunk x 256 _ (by decide))))
  · intro x
    exact (congrFun (ch0 _ _ _ _ _ _ _ _) x).trans ((chunk_at u x5 x6 0 (by decide) _ _ _ _ (read_lo_0_7 _ _ _) (read_lo_0_8 _ _ _) (read_lo_0_9 _ _ _) (read_hi_1_7 _ _) (read_hi_1_8 _ _) (read_hi_1_9 _ _) x).trans (congrArg _ (emb_chunk x 0 _ (by decide))))

end Cert.Kernel3Ideal.Ffn

end
-- ==== Proof.First.RefRun.lean ====
module

public import proofs.«01_k».proof.Proof.Gen.Reference3Ideal
public import Idealize.ShloMosaic.Lib.StableHlo.Run

@[expose] public section

noncomputable section

namespace Cert.Reference3Ideal.Value

open Cert.Reference3Ideal Cert.Reference3Ideal.Gen Idealize.ShloMosaic Idealize.ShloMosaic.TcCoe Idealize.SL.Sem Idealize.ShloMosaic.StableHlo

variable {F : FTy → Type} [FloatOps F]

/-- The function of the operation that writes `main_v116`, named. It packs its operands into a list of dependent pairs
    whose shapes a later argument's type mentions, so `simp` cannot rewrite an operand where it stands; applied by
    name, the operands are plain arguments, which `run`'s simp pass rewrites before the name unfolds. -/
def fn_main_v116 : (⟨S32768x1024, .f32⟩ : BufTy).Contents (Elt F) → (⟨S1024x1024, .f32⟩ : BufTy).Contents (Elt F) → (⟨S33792x1024, .f32⟩ : BufTy).Contents (Elt F) :=
  (fun a b => concatenate S33792x1024 0 [⟨S32768x1024, a⟩, ⟨S1024x1024, b⟩] concatenates_S32768x1024_S1024x1024_S33792x1024_d0)

set_option maxHeartbeats 8000000 in
set_option maxRecDepth 8192 in
/-- @main's 145 operations, in order (a called function's operations stand in its call's place, spelt `TRef.…`). -/
abbrev ops : List (HloOp τ sig (Elt F)) :=
  [ unary main_arg3 main_v0 (broadcastInDim S4x1x6144 ![0, 2] bcast_S4x6144_S4x1x6144_0_2 : (⟨S4x6144, .f32⟩ : BufTy).Contents (Elt F) → (⟨S4x1x6144, .f32⟩ : BufTy).Contents (Elt F)),
    unary main_v0 main_v1 ((extractStridedSlice S4x1x1024 ![0, 0, 0] · slices_S4x1x6144_S4x1x1024_0_0_0) : (⟨S4x1x6144, .f32⟩ : BufTy).Contents (Elt F) → (⟨S4x1x1024, .f32⟩ : BufTy).Contents (Elt F)),
    unary main_v0 main_v2 ((extractStridedSlice S4x1x1024 ![0, 0, 1024] · slices_S4x1x6144_S4x1x1024_0_0_1024) : (⟨S4x1x6144, .f32⟩ : BufTy).Contents (Elt F) → (⟨S4x1x1024, .f32⟩ : BufTy).Contents (Elt F)),
    unary main_v0 main_v3 ((extractStridedSlice S4x1x1024 ![0, 0, 2048] · slices_S4x1x6144_S4x1x1024_0_0_2048) : (⟨S4x1x6144, .f32⟩ : BufTy).Contents (Elt F) → (⟨S4x1x1024, .f32⟩ : BufTy).Contents (Elt F)),
    unary main_v0 main_v4 ((extractStridedSlice S4x1x1024 ![0, 0, 3072] · slices_S4x1x6144_S4x1x1024_0_0_3072) : (⟨S4x1x6144, .f32⟩ : BufTy).Contents (Elt F) → (⟨S4x1x1024, .f32⟩ : BufTy).Contents (Elt F)),
    unary main_v0 main_v5 ((extractStridedSlice S4x1x1024 ![0, 0, 4096] · slices_S4x1x6144_S4x1x1024_0_0_4096) : (⟨S4x1x6144, .f32⟩ : BufTy).Contents (Elt F) → (⟨S4x1x1024, .f32⟩ : BufTy).Contents (Elt F)),
    unary main_v0 main_v6 ((extractStridedSlice S4x1x1024 ![0, 0, 5120] · slices_S4x1x6144_S4x1x1024_0_0_5120) : (⟨S4x1x6144, .f32⟩ : BufTy).Contents (Elt F) → (⟨S4x1x1024, .f32⟩ : BufTy).Contents (Elt F)),
    unary main_arg4 main_v7 ((extractStridedSlice S1024 ![0] · slices_S6144_S1024_0) : (⟨S6144, .f32⟩ : BufTy).Contents (Elt F) → (⟨S1024, .f32⟩ : BufTy).Contents (Elt F)),
    unary main_arg4 main_v8 ((extractStridedSlice S1024 ![1024] · slices_S6144_S1024_1024) : (⟨S6144, .f32⟩ : BufTy).Contents (Elt F) → (⟨S1024, .f32⟩ : BufTy).Contents (Elt F)),
    unary main_arg4 main_v9 ((extractStridedSlice S1024 ![2048] · slices_S6144_S1024_2048) : (⟨S6144, .f32⟩ : BufTy).Contents (Elt F) → (⟨S1024, .f32⟩ : BufTy).Contents (Elt F)),
    unary main_arg4 main_v10 ((extractStridedSlice S1024 ![3072] · slices_S6144_S1024_3072) : (⟨S6144, .f32⟩ : BufTy).Contents (Elt F) → (⟨S1024, .f32⟩ : BufTy).Contents (Elt F)),
    unary main_arg4 main_v11 ((extractStridedSlice S1024 ![4096] · slices_S6144_S1024_4096) : (⟨S6144, .f32⟩ : BufTy).Contents (Elt F) → (⟨S1024, .f32⟩ : BufTy).Contents (Elt F)),
    unary main_arg4 main_v12 ((extractStridedSlice S1024 ![5120] · slices_S6144_S1024_5120) : (⟨S6144, .f32⟩ : BufTy).Contents (Elt F) → (⟨S1024, .f32⟩ : BufTy).Contents (Elt F)),
    binary main_arg0 main_arg0 main_v13 (mulf : (⟨S4x8192x1024, .f32⟩ : BufTy).Contents (Elt F) → (⟨S4x8192x1024, .f32⟩ : BufTy).Contents (Elt F) → (⟨S4x8192x1024, .f32⟩ : BufTy).Contents (Elt F)),
    nullary main_cst (constant S_ .f32 0x00000000#32),
    binary main_v13 main_cst main_v14 ((fun x v => Host.reduceAdd x v reducesTo_S4x8192x1024_S4x8192_d2 h_S_) : (⟨S4x8192x1024, .f32⟩ : BufTy).Contents (Elt F) → (⟨S_, .f32⟩ : BufTy).Contents (Elt F) → (⟨S4x8192, .f32⟩ : BufTy).Contents (Elt F)),
    unary main_v14 main_v15 (broadcastInDim S4x8192x1 ![0, 1] bcast_S4x8192_S4x8192x1_0_1 : (⟨S4x8192, .f32⟩ : BufTy).Contents (Elt F) → (⟨S4x8192x1, .f32⟩ : BufTy).Contents (Elt F)),
    nullary main_cst_0 (constant S_ .f32 0x44800000#32),
    unary main_cst_0 main_v16 (broadcastInDim S4x8192x1 ![] bcast_S_S4x8192x1 : (⟨S_, .f32⟩ : BufTy).Contents (Elt F) → (⟨S4x8192x1, .f32⟩ : BufTy).Contents (Elt F)),
    binary main_v15 main_v16 main_v17 (Host.divf : (⟨S4x8192x1, .f32⟩ : BufTy).Contents (Elt F) → (⟨S4x8192x1, .f32⟩ : BufTy).Contents (Elt F) → (⟨S4x8192x1, .f32⟩ : BufTy).Contents (Elt F)),
    nullary main_cst_1 (constant S_ .f32 0x358637BD#32),
    unary main_cst_1 main_v18 (broadcastInDim S4x8192x1 ![] bcast_S_S4x8192x1 : (⟨S_, .f32⟩ : BufTy).Contents (Elt F) → (⟨S4x8192x1, .f32⟩ : BufTy).Contents (Elt F)),
    binary main_v17 main_v18 main_v19 (addf : (⟨S4x8192x1, .f32⟩ : BufTy).Contents (Elt F) → (⟨S4x8192x1, .f32⟩ : BufTy).Contents (Elt F) → (⟨S4x8192x1, .f32⟩ : BufTy).Contents (Elt F)),
    unary main_v19 main_v20 (Host.rsqrt : (⟨S4x8192x1, .f32⟩ : BufTy).Contents (Elt F) → (⟨S4x8192x1, .f32⟩ : BufTy).Contents (Elt F)),
    unary main_v20 main_v21 (broadcastInDim S4x8192x1024 ![0, 1, 2] bcast_S4x8192x1_S4x8192x1024_0_1_2 : (⟨S4x8192x1, .f32⟩ : BufTy).Contents (Elt F) → (⟨S4x8192x1024, .f32⟩ : BufTy).Contents (Elt F)),
    binary main_arg0 main_v21 main_v22 (mulf : (⟨S4x8192x1024, .f32⟩ : BufTy).Contents (Elt F) → (⟨S4x8192x1024, .f32⟩ : BufTy).Contents (Elt F) → (⟨S4x8192x1024, .f32⟩ : BufTy).Contents (Elt F)),
    unary main_arg2 main_v23 (broadcastInDim S1x1x1024 ![2] bcast_S1024_S1x1x1024_2 : (⟨S1024, .f32⟩ : BufTy).Contents (Elt F) → (⟨S1x1x1024, .f32⟩ : BufTy).Contents (Elt F)),
    unary main_v23 main_v24 (broadcastInDim S4x8192x1024 ![0, 1, 2] bcast_S1x1x1024_S4x8192x1024_0_1_2 : (⟨S1x1x1024, .f32⟩ : BufTy).Contents (Elt F) → (⟨S4x8192x1024, .f32⟩ : BufTy).Contents (Elt F)),
    binary main_v22 main_v24 main_v25 (mulf : (⟨S4x8192x1024, .f32⟩ : BufTy).Contents (Elt F) → (⟨S4x8192x1024, .f32⟩ : BufTy).Contents (Elt F) → (⟨S4x8192x1024, .f32⟩ : BufTy).Contents (Elt F)),
    nullary main_cst_2 (constant S_ .f32 0x3F800000#32),
    unary main_cst_2 main_v26 (broadcastInDim S4x1x1024 ![] bcast_S_S4x1x1024 : (⟨S_, .f32⟩ : BufTy).Contents (Elt F) → (⟨S4x1x1024, .f32⟩ : BufTy).Contents (Elt F)),
    binary main_v26 main_v5 main_v27 (addf : (⟨S4x1x1024, .f32⟩ : BufTy).Contents (Elt F) → (⟨S4x1x1024, .f32⟩ : BufTy).Contents (Elt F) → (⟨S4x1x1024, .f32⟩ : BufTy).Contents (Elt F)),
    unary main_v27 main_v28 (broadcastInDim S4x8192x1024 ![0, 1, 2] bcast_S4x1x1024_S4x8192x1024_0_1_2 : (⟨S4x1x1024, .f32⟩ : BufTy).Contents (Elt F) → (⟨S4x8192x1024, .f32⟩ : BufTy).Contents (Elt F)),
    binary main_v25 main_v28 main_v29 (mulf : (⟨S4x8192x1024, .f32⟩ : BufTy).Contents (Elt F) → (⟨S4x8192x1024, .f32⟩ : BufTy).Contents (Elt F) → (⟨S4x8192x1024, .f32⟩ : BufTy).Contents (Elt F)),
    unary main_v4 main_v30 (broadcastInDim S4x8192x1024 ![0, 1, 2] bcast_S4x1x1024_S4x8192x1024_0_1_2 : (⟨S4x1x1024, .f32⟩ : BufTy).Contents (Elt F) → (⟨S4x8192x1024, .f32⟩ : BufTy).Contents (Elt F)),
    binary main_v29 main_v30 main_v31 (addf : (⟨S4x8192x1024, .f32⟩ : BufTy).Contents (Elt F) → (⟨S4x8192x1024, .f32⟩ : BufTy).Contents (Elt F) → (⟨S4x8192x1024, .f32⟩ : BufTy).Contents (Elt F)),
    binary main_v31 main_arg5 main_v32 ((fun l r => Host.dotGeneral dot_S4x8192x1024_S1024x5632_S4x8192x5632_2_0_01_1_n_n none l r) : (⟨S4x8192x1024, .f32⟩ : BufTy).Contents (Elt F) → (⟨S1024x5632, .f32⟩ : BufTy).Contents (Elt F) → (⟨S4x8192x5632, .f32⟩ : BufTy).Contents (Elt F)),
    nullary main_c (constantI S_ 32 0#32),
    TRef.unary (TRef.of (T := ⟨S_, .i32⟩) main_c) (TRef.of (T := ⟨S_, .f32⟩) main_call0_v0) (sitofp .f32),
    TRef.binary (TRef.of (T := ⟨S4x8192x5632, .f32⟩) main_v32) (TRef.of (T := ⟨S_, .f32⟩) main_call0_v0) (TRef.of (T := ⟨S4x8194x5632, .f32⟩) main_v33) (fun x v => pad S4x8194x5632 ![0, 1, 0] ![0, 1, 0] ![0, 0, 0] x v pads_S4x8192x5632_S4x8194x5632_000_110_000 h_S_),
    unary main_v33 main_v34 ((extractStridedSlice S4x8192x5632 ![0, 0, 0] · slices_S4x8194x5632_S4x8192x5632_0_0_0) : (⟨S4x8194x5632, .f32⟩ : BufTy).Contents (Elt F) → (⟨S4x8192x5632, .f32⟩ : BufTy).Contents (Elt F)),
    unary main_arg6 main_v35 ((extractStridedSlice S1x5632 ![0, 0] · slices_S3x5632_S1x5632_0_0) : (⟨S3x5632, .f32⟩ : BufTy).Contents (Elt F) → (⟨S1x5632, .f32⟩ : BufTy).Contents (Elt F)),
    reshape main_v35 main_v36 (rfl : (.f32 : EltTy) = .f32) shapeCasts_S1x5632_S5632,
    unary main_v36 main_v37 (broadcastInDim S1x1x5632 ![2] bcast_S5632_S1x1x5632_2 : (⟨S5632, .f32⟩ : BufTy).Contents (Elt F) → (⟨S1x1x5632, .f32⟩ : BufTy).Contents (Elt F)),
    unary main_v37 main_v38 (broadcastInDim S4x8192x5632 ![0, 1, 2] bcast_S1x1x5632_S4x8192x5632_0_1_2 : (⟨S1x1x5632, .f32⟩ : BufTy).Contents (Elt F) → (⟨S4x8192x5632, .f32⟩ : BufTy).Contents (Elt F)),
    binary main_v34 main_v38 main_v39 (mulf : (⟨S4x8192x5632, .f32⟩ : BufTy).Contents (Elt F) → (⟨S4x8192x5632, .f32⟩ : BufTy).Contents (Elt F) → (⟨S4x8192x5632, .f32⟩ : BufTy).Contents (Elt F)),
    unary main_v33 main_v40 ((extractStridedSlice S4x8192x5632 ![0, 1, 0] · slices_S4x8194x5632_S4x8192x5632_0_1_0) : (⟨S4x8194x5632, .f32⟩ : BufTy).Contents (Elt F) → (⟨S4x8192x5632, .f32⟩ : BufTy).Contents (Elt F)),
    unary main_arg6 main_v41 ((extractStridedSlice S1x5632 ![1, 0] · slices_S3x5632_S1x5632_1_0) : (⟨S3x5632, .f32⟩ : BufTy).Contents (Elt F) → (⟨S1x5632, .f32⟩ : BufTy).Contents (Elt F)),
    reshape main_v41 main_v42 (rfl : (.f32 : EltTy) = .f32) shapeCasts_S1x5632_S5632,
    unary main_v42 main_v43 (broadcastInDim S1x1x5632 ![2] bcast_S5632_S1x1x5632_2 : (⟨S5632, .f32⟩ : BufTy).Contents (Elt F) → (⟨S1x1x5632, .f32⟩ : BufTy).Contents (Elt F)),
    unary main_v43 main_v44 (broadcastInDim S4x8192x5632 ![0, 1, 2] bcast_S1x1x5632_S4x8192x5632_0_1_2 : (⟨S1x1x5632, .f32⟩ : BufTy).Contents (Elt F) → (⟨S4x8192x5632, .f32⟩ : BufTy).Contents (Elt F)),
    binary main_v40 main_v44 main_v45 (mulf : (⟨S4x8192x5632, .f32⟩ : BufTy).Contents (Elt F) → (⟨S4x8192x5632, .f32⟩ : BufTy).Contents (Elt F) → (⟨S4x8192x5632, .f32⟩ : BufTy).Contents (Elt F)),
    binary main_v39 main_v45 main_v46 (addf : (⟨S4x8192x5632, .f32⟩ : BufTy).Contents (Elt F) → (⟨S4x8192x5632, .f32⟩ : BufTy).Contents (Elt F) → (⟨S4x8192x5632, .f32⟩ : BufTy).Contents (Elt F)),
    unary main_v33 main_v47 ((extractStridedSlice S4x8192x5632 ![0, 2, 0] · slices_S4x8194x5632_S4x8192x5632_0_2_0) : (⟨S4x8194x5632, .f32⟩ : BufTy).Contents (Elt F) → (⟨S4x8192x5632, .f32⟩ : BufTy).Contents (Elt F)),
    unary main_arg6 main_v48 ((extractStridedSlice S1x5632 ![2, 0] · slices_S3x5632_S1x5632_2_0) : (⟨S3x5632, .f32⟩ : BufTy).Contents (Elt F) → (⟨S1x5632, .f32⟩ : BufTy).Contents (Elt F)),
    reshape main_v48 main_v49 (rfl : (.f32 : EltTy) = .f32) shapeCasts_S1x5632_S5632,
    unary main_v49 main_v50 (broadcastInDim S1x1x5632 ![2] bcast_S5632_S1x1x5632_2 : (⟨S5632, .f32⟩ : BufTy).Contents (Elt F) → (⟨S1x1x5632, .f32⟩ : BufTy).Contents (Elt F)),
    unary main_v50 main_v51 (broadcastInDim S4x8192x5632 ![0, 1, 2] bcast_S1x1x5632_S4x8192x5632_0_1_2 : (⟨S1x1x5632, .f32⟩ : BufTy).Contents (Elt F) → (⟨S4x8192x5632, .f32⟩ : BufTy).Contents (Elt F)),
    binary main_v47 main_v51 main_v52 (mulf : (⟨S4x8192x5632, .f32⟩ : BufTy).Contents (Elt F) → (⟨S4x8192x5632, .f32⟩ : BufTy).Contents (Elt F) → (⟨S4x8192x5632, .f32⟩ : BufTy).Contents (Elt F)),
    binary main_v46 main_v52 main_v53 (addf : (⟨S4x8192x5632, .f32⟩ : BufTy).Contents (Elt F) → (⟨S4x8192x5632, .f32⟩ : BufTy).Contents (Elt F) → (⟨S4x8192x5632, .f32⟩ : BufTy).Contents (Elt F)),
    unary main_v53 main_v54 ((extractStridedSlice S4x8192x2816 ![0, 0, 0] · slices_S4x8192x5632_S4x8192x2816_0_0_0) : (⟨S4x8192x5632, .f32⟩ : BufTy).Contents (Elt F) → (⟨S4x8192x2816, .f32⟩ : BufTy).Contents (Elt F)),
    unary main_v53 main_v55 ((extractStridedSlice S4x8192x2816 ![0, 0, 2816] · slices_S4x8192x5632_S4x8192x2816_0_0_2816) : (⟨S4x8192x5632, .f32⟩ : BufTy).Contents (Elt F) → (⟨S4x8192x2816, .f32⟩ : BufTy).Contents (Elt F)),
    TRef.unary (TRef.of (T := ⟨S4x8192x2816, .f32⟩) main_v54) (TRef.of (T := ⟨S4x8192x2816, .f32⟩) main_call1_v0) Host.negf,
    TRef.unary (TRef.of (T := ⟨S4x8192x2816, .f32⟩) main_call1_v0) (TRef.of (T := ⟨S4x8192x2816, .f32⟩) main_call1_v1) Host.exp,
    TRef.nullary (TRef.of (T := ⟨S_, .f32⟩) main_call1_cst) (constant S_ .f32 0x3F800000#32),
    TRef.unary (TRef.of (T := ⟨S_, .f32⟩) main_call1_cst) (TRef.of (T := ⟨S4x8192x2816, .f32⟩) main_call1_v2) (broadcastInDim S4x8192x2816 ![] bcast_S_S4x8192x2816),
    TRef.binary (TRef.of (T := ⟨S4x8192x2816, .f32⟩) main_call1_v2) (TRef.of (T := ⟨S4x8192x2816, .f32⟩) main_call1_v1) (TRef.of (T := ⟨S4x8192x2816, .f32⟩) main_call1_v3) addf,
    TRef.nullary (TRef.of (T := ⟨S_, .f32⟩) main_call1_cst_0) (constant S_ .f32 0x3F800000#32),
    TRef.unary (TRef.of (T := ⟨S_, .f32⟩) main_call1_cst_0) (TRef.of (T := ⟨S4x8192x2816, .f32⟩) main_call1_v4) (broadcastInDim S4x8192x2816 ![] bcast_S_S4x8192x2816),
    TRef.binary (TRef.of (T := ⟨S4x8192x2816, .f32⟩) main_call1_v4) (TRef.of (T := ⟨S4x8192x2816, .f32⟩) main_call1_v3) (TRef.of (T := ⟨S4x8192x2816, .f32⟩) main_call1_v5) Host.divf,
    TRef.binary (TRef.of (T := ⟨S4x8192x2816, .f32⟩) main_v54) (TRef.of (T := ⟨S4x8192x2816, .f32⟩) main_call1_v5) (TRef.of (T := ⟨S4x8192x2816, .f32⟩) main_v56) mulf,
    binary main_v56 main_v55 main_v57 (mulf : (⟨S4x8192x2816, .f32⟩ : BufTy).Contents (Elt F) → (⟨S4x8192x2816, .f32⟩ : BufTy).Contents (Elt F) → (⟨S4x8192x2816, .f32⟩ : BufTy).Contents (Elt F)),
    binary main_v57 main_arg7 main_v58 ((fun l r => Host.dotGeneral dot_S4x8192x2816_S2816x1024_S4x8192x1024_2_0_01_1_n_n none l r) : (⟨S4x8192x2816, .f32⟩ : BufTy).Contents (Elt F) → (⟨S2816x1024, .f32⟩ : BufTy).Contents (Elt F) → (⟨S4x8192x1024, .f32⟩ : BufTy).Contents (Elt F)),
    unary main_v6 main_v59 (broadcastInDim S4x8192x1024 ![0, 1, 2] bcast_S4x1x1024_S4x8192x1024_0_1_2 : (⟨S4x1x1024, .f32⟩ : BufTy).Contents (Elt F) → (⟨S4x8192x1024, .f32⟩ : BufTy).Contents (Elt F)),
    binary main_v59 main_v58 main_v60 (mulf : (⟨S4x8192x1024, .f32⟩ : BufTy).Contents (Elt F) → (⟨S4x8192x1024, .f32⟩ : BufTy).Contents (Elt F) → (⟨S4x8192x1024, .f32⟩ : BufTy).Contents (Elt F)),
    binary main_arg0 main_v60 main_v61 (addf : (⟨S4x8192x1024, .f32⟩ : BufTy).Contents (Elt F) → (⟨S4x8192x1024, .f32⟩ : BufTy).Contents (Elt F) → (⟨S4x8192x1024, .f32⟩ : BufTy).Contents (Elt F)),
    binary main_arg1 main_arg1 main_v62 (mulf : (⟨S4x256x1024, .f32⟩ : BufTy).Contents (Elt F) → (⟨S4x256x1024, .f32⟩ : BufTy).Contents (Elt F) → (⟨S4x256x1024, .f32⟩ : BufTy).Contents (Elt F)),
    nullary main_cst_3 (constant S_ .f32 0x00000000#32),
    binary main_v62 main_cst_3 main_v63 ((fun x v => Host.reduceAdd x v reducesTo_S4x256x1024_S4x256_d2 h_S_) : (⟨S4x256x1024, .f32⟩ : BufTy).Contents (Elt F) → (⟨S_, .f32⟩ : BufTy).Contents (Elt F) → (⟨S4x256, .f32⟩ : BufTy).Contents (Elt F)),
    unary main_v63 main_v64 (broadcastInDim S4x256x1 ![0, 1] bcast_S4x256_S4x256x1_0_1 : (⟨S4x256, .f32⟩ : BufTy).Contents (Elt F) → (⟨S4x256x1, .f32⟩ : BufTy).Contents (Elt F)),
    nullary main_cst_4 (constant S_ .f32 0x44800000#32),
    unary main_cst_4 main_v65 (broadcastInDim S4x256x1 ![] bcast_S_S4x256x1 : (⟨S_, .f32⟩ : BufTy).Contents (Elt F) → (⟨S4x256x1, .f32⟩ : BufTy).Contents (Elt F)),
    binary main_v64 main_v65 main_v66 (Host.divf : (⟨S4x256x1, .f32⟩ : BufTy).Contents (Elt F) → (⟨S4x256x1, .f32⟩ : BufTy).Contents (Elt F) → (⟨S4x256x1, .f32⟩ : BufTy).Contents (Elt F)),
    nullary main_cst_5 (constant S_ .f32 0x358637BD#32),
    unary main_cst_5 main_v67 (broadcastInDim S4x256x1 ![] bcast_S_S4x256x1 : (⟨S_, .f32⟩ : BufTy).Contents (Elt F) → (⟨S4x256x1, .f32⟩ : BufTy).Contents (Elt F)),
    binary main_v66 main_v67 main_v68 (addf : (⟨S4x256x1, .f32⟩ : BufTy).Contents (Elt F) → (⟨S4x256x1, .f32⟩ : BufTy).Contents (Elt F) → (⟨S4x256x1, .f32⟩ : BufTy).Contents (Elt F)),
    unary main_v68 main_v69 (Host.rsqrt : (⟨S4x256x1, .f32⟩ : BufTy).Contents (Elt F) → (⟨S4x256x1, .f32⟩ : BufTy).Contents (Elt F)),
    unary main_v69 main_v70 (broadcastInDim S4x256x1024 ![0, 1, 2] bcast_S4x256x1_S4x256x1024_0_1_2 : (⟨S4x256x1, .f32⟩ : BufTy).Contents (Elt F) → (⟨S4x256x1024, .f32⟩ : BufTy).Contents (Elt F)),
    binary main_arg1 main_v70 main_v71 (mulf : (⟨S4x256x1024, .f32⟩ : BufTy).Contents (Elt F) → (⟨S4x256x1024, .f32⟩ : BufTy).Contents (Elt F) → (⟨S4x256x1024, .f32⟩ : BufTy).Contents (Elt F)),
    unary main_arg2 main_v72 (broadcastInDim S1x1x1024 ![2] bcast_S1024_S1x1x1024_2 : (⟨S1024, .f32⟩ : BufTy).Contents (Elt F) → (⟨S1x1x1024, .f32⟩ : BufTy).Contents (Elt F)),
    unary main_v72 main_v73 (broadcastInDim S4x256x1024 ![0, 1, 2] bcast_S1x1x1024_S4x256x1024_0_1_2 : (⟨S1x1x1024, .f32⟩ : BufTy).Contents (Elt F) → (⟨S4x256x1024, .f32⟩ : BufTy).Contents (Elt F)),
    binary main_v71 main_v73 main_v74 (mulf : (⟨S4x256x1024, .f32⟩ : BufTy).Contents (Elt F) → (⟨S4x256x1024, .f32⟩ : BufTy).Contents (Elt F) → (⟨S4x256x1024, .f32⟩ : BufTy).Contents (Elt F)),
    nullary main_cst_6 (constant S_ .f32 0x3F800000#32),
    unary main_cst_6 main_v75 (broadcastInDim S1024 ![] bcast_S_S1024 : (⟨S_, .f32⟩ : BufTy).Contents (Elt F) → (⟨S1024, .f32⟩ : BufTy).Contents (Elt F)),
    binary main_v75 main_v11 main_v76 (addf : (⟨S1024, .f32⟩ : BufTy).Contents (Elt F) → (⟨S1024, .f32⟩ : BufTy).Contents (Elt F) → (⟨S1024, .f32⟩ : BufTy).Contents (Elt F)),
    unary main_v76 main_v77 (broadcastInDim S1x1x1024 ![2] bcast_S1024_S1x1x1024_2 : (⟨S1024, .f32⟩ : BufTy).Contents (Elt F) → (⟨S1x1x1024, .f32⟩ : BufTy).Contents (Elt F)),
    unary main_v77 main_v78 (broadcastInDim S4x256x1024 ![0, 1, 2] bcast_S1x1x1024_S4x256x1024_0_1_2 : (⟨S1x1x1024, .f32⟩ : BufTy).Contents (Elt F) → (⟨S4x256x1024, .f32⟩ : BufTy).Contents (Elt F)),
    binary main_v74 main_v78 main_v79 (mulf : (⟨S4x256x1024, .f32⟩ : BufTy).Contents (Elt F) → (⟨S4x256x1024, .f32⟩ : BufTy).Contents (Elt F) → (⟨S4x256x1024, .f32⟩ : BufTy).Contents (Elt F)),
    unary main_v10 main_v80 (broadcastInDim S1x1x1024 ![2] bcast_S1024_S1x1x1024_2 : (⟨S1024, .f32⟩ : BufTy).Contents (Elt F) → (⟨S1x1x1024, .f32⟩ : BufTy).Contents (Elt F)),
    unary main_v80 main_v81 (broadcastInDim S4x256x1024 ![0, 1, 2] bcast_S1x1x1024_S4x256x1024_0_1_2 : (⟨S1x1x1024, .f32⟩ : BufTy).Contents (Elt F) → (⟨S4x256x1024, .f32⟩ : BufTy).Contents (Elt F)),
    binary main_v79 main_v81 main_v82 (addf : (⟨S4x256x1024, .f32⟩ : BufTy).Contents (Elt F) → (⟨S4x256x1024, .f32⟩ : BufTy).Contents (Elt F) → (⟨S4x256x1024, .f32⟩ : BufTy).Contents (Elt F)),
    binary main_v82 main_arg5 main_v83 ((fun l r => Host.dotGeneral dot_S4x256x1024_S1024x5632_S4x256x5632_2_0_01_1_n_n none l r) : (⟨S4x256x1024, .f32⟩ : BufTy).Contents (Elt F) → (⟨S1024x5632, .f32⟩ : BufTy).Contents (Elt F) → (⟨S4x256x5632, .f32⟩ : BufTy).Contents (Elt F)),
    nullary main_c_7 (constantI S_ 32 0#32),
    TRef.unary (TRef.of (T := ⟨S_, .i32⟩) main_c_7) (TRef.of (T := ⟨S_, .f32⟩) main_call2_v0) (sitofp .f32),
    TRef.binary (TRef.of (T := ⟨S4x256x5632, .f32⟩) main_v83) (TRef.of (T := ⟨S_, .f32⟩) main_call2_v0) (TRef.of (T := ⟨S4x258x5632, .f32⟩) main_v84) (fun x v => pad S4x258x5632 ![0, 1, 0] ![0, 1, 0] ![0, 0, 0] x v pads_S4x256x5632_S4x258x5632_000_110_000 h_S_),
    unary main_v84 main_v85 ((extractStridedSlice S4x256x5632 ![0, 0, 0] · slices_S4x258x5632_S4x256x5632_0_0_0) : (⟨S4x258x5632, .f32⟩ : BufTy).Contents (Elt F) → (⟨S4x256x5632, .f32⟩ : BufTy).Contents (Elt F)),
    unary main_arg6 main_v86 ((extractStridedSlice S1x5632 ![0, 0] · slices_S3x5632_S1x5632_0_0) : (⟨S3x5632, .f32⟩ : BufTy).Contents (Elt F) → (⟨S1x5632, .f32⟩ : BufTy).Contents (Elt F)),
    reshape main_v86 main_v87 (rfl : (.f32 : EltTy) = .f32) shapeCasts_S1x5632_S5632,
    unary main_v87 main_v88 (broadcastInDim S1x1x5632 ![2] bcast_S5632_S1x1x5632_2 : (⟨S5632, .f32⟩ : BufTy).Contents (Elt F) → (⟨S1x1x5632, .f32⟩ : BufTy).Contents (Elt F)),
    unary main_v88 main_v89 (broadcastInDim S4x256x5632 ![0, 1, 2] bcast_S1x1x5632_S4x256x5632_0_1_2 : (⟨S1x1x5632, .f32⟩ : BufTy).Contents (Elt F) → (⟨S4x256x5632, .f32⟩ : BufTy).Contents (Elt F)),
    binary main_v85 main_v89 main_v90 (mulf : (⟨S4x256x5632, .f32⟩ : BufTy).Contents (Elt F) → (⟨S4x256x5632, .f32⟩ : BufTy).Contents (Elt F) → (⟨S4x256x5632, .f32⟩ : BufTy).Contents (Elt F)),
    unary main_v84 main_v91 ((extractStridedSlice S4x256x5632 ![0, 1, 0] · slices_S4x258x5632_S4x256x5632_0_1_0) : (⟨S4x258x5632, .f32⟩ : BufTy).Contents (Elt F) → (⟨S4x256x5632, .f32⟩ : BufTy).Contents (Elt F)),
    unary main_arg6 main_v92 ((extractStridedSlice S1x5632 ![1, 0] · slices_S3x5632_S1x5632_1_0) : (⟨S3x5632, .f32⟩ : BufTy).Contents (Elt F) → (⟨S1x5632, .f32⟩ : BufTy).Contents (Elt F)),
    reshape main_v92 main_v93 (rfl : (.f32 : EltTy) = .f32) shapeCasts_S1x5632_S5632,
    unary main_v93 main_v94 (broadcastInDim S1x1x5632 ![2] bcast_S5632_S1x1x5632_2 : (⟨S5632, .f32⟩ : BufTy).Contents (Elt F) → (⟨S1x1x5632, .f32⟩ : BufTy).Contents (Elt F)),
    unary main_v94 main_v95 (broadcastInDim S4x256x5632 ![0, 1, 2] bcast_S1x1x5632_S4x256x5632_0_1_2 : (⟨S1x1x5632, .f32⟩ : BufTy).Contents (Elt F) → (⟨S4x256x5632, .f32⟩ : BufTy).Contents (Elt F)),
    binary main_v91 main_v95 main_v96 (mulf : (⟨S4x256x5632, .f32⟩ : BufTy).Contents (Elt F) → (⟨S4x256x5632, .f32⟩ : BufTy).Contents (Elt F) → (⟨S4x256x5632, .f32⟩ : BufTy).Contents (Elt F)),
    binary main_v90 main_v96 main_v97 (addf : (⟨S4x256x5632, .f32⟩ : BufTy).Contents (Elt F) → (⟨S4x256x5632, .f32⟩ : BufTy).Contents (Elt F) → (⟨S4x256x5632, .f32⟩ : BufTy).Contents (Elt F)),
    unary main_v84 main_v98 ((extractStridedSlice S4x256x5632 ![0, 2, 0] · slices_S4x258x5632_S4x256x5632_0_2_0) : (⟨S4x258x5632, .f32⟩ : BufTy).Contents (Elt F) → (⟨S4x256x5632, .f32⟩ : BufTy).Contents (Elt F)),
    unary main_arg6 main_v99 ((extractStridedSlice S1x5632 ![2, 0] · slices_S3x5632_S1x5632_2_0) : (⟨S3x5632, .f32⟩ : BufTy).Contents (Elt F) → (⟨S1x5632, .f32⟩ : BufTy).Contents (Elt F)),
    reshape main_v99 main_v100 (rfl : (.f32 : EltTy) = .f32) shapeCasts_S1x5632_S5632,
    unary main_v100 main_v101 (broadcastInDim S1x1x5632 ![2] bcast_S5632_S1x1x5632_2 : (⟨S5632, .f32⟩ : BufTy).Contents (Elt F) → (⟨S1x1x5632, .f32⟩ : BufTy).Contents (Elt F)),
    unary main_v101 main_v102 (broadcastInDim S4x256x5632 ![0, 1, 2] bcast_S1x1x5632_S4x256x5632_0_1_2 : (⟨S1x1x5632, .f32⟩ : BufTy).Contents (Elt F) → (⟨S4x256x5632, .f32⟩ : BufTy).Contents (Elt F)),
    binary main_v98 main_v102 main_v103 (mulf : (⟨S4x256x5632, .f32⟩ : BufTy).Contents (Elt F) → (⟨S4x256x5632, .f32⟩ : BufTy).Contents (Elt F) → (⟨S4x256x5632, .f32⟩ : BufTy).Contents (Elt F)),
    binary main_v97 main_v103 main_v104 (addf : (⟨S4x256x5632, .f32⟩ : BufTy).Contents (Elt F) → (⟨S4x256x5632, .f32⟩ : BufTy).Contents (Elt F) → (⟨S4x256x5632, .f32⟩ : BufTy).Contents (Elt F)),
    unary main_v104 main_v105 ((extractStridedSlice S4x256x2816 ![0, 0, 0] · slices_S4x256x5632_S4x256x2816_0_0_0) : (⟨S4x256x5632, .f32⟩ : BufTy).Contents (Elt F) → (⟨S4x256x2816, .f32⟩ : BufTy).Contents (Elt F)),
    unary main_v104 main_v106 ((extractStridedSlice S4x256x2816 ![0, 0, 2816] · slices_S4x256x5632_S4x256x2816_0_0_2816) : (⟨S4x256x5632, .f32⟩ : BufTy).Contents (Elt F) → (⟨S4x256x2816, .f32⟩ : BufTy).Contents (Elt F)),
    TRef.unary (TRef.of (T := ⟨S4x256x2816, .f32⟩) main_v105) (TRef.of (T := ⟨S4x256x2816, .f32⟩) main_call3_v0) Host.negf,
    TRef.unary (TRef.of (T := ⟨S4x256x2816, .f32⟩) main_call3_v0) (TRef.of (T := ⟨S4x256x2816, .f32⟩) main_call3_v1) Host.exp,
    TRef.nullary (TRef.of (T := ⟨S_, .f32⟩) main_call3_cst) (constant S_ .f32 0x3F800000#32),
    TRef.unary (TRef.of (T := ⟨S_, .f32⟩) main_call3_cst) (TRef.of (T := ⟨S4x256x2816, .f32⟩) main_call3_v2) (broadcastInDim S4x256x2816 ![] bcast_S_S4x256x2816),
    TRef.binary (TRef.of (T := ⟨S4x256x2816, .f32⟩) main_call3_v2) (TRef.of (T := ⟨S4x256x2816, .f32⟩) main_call3_v1) (TRef.of (T := ⟨S4x256x2816, .f32⟩) main_call3_v3) addf,
    TRef.nullary (TRef.of (T := ⟨S_, .f32⟩) main_call3_cst_0) (constant S_ .f32 0x3F800000#32),
    TRef.unary (TRef.of (T := ⟨S_, .f32⟩) main_call3_cst_0) (TRef.of (T := ⟨S4x256x2816, .f32⟩) main_call3_v4) (broadcastInDim S4x256x2816 ![] bcast_S_S4x256x2816),
    TRef.binary (TRef.of (T := ⟨S4x256x2816, .f32⟩) main_call3_v4) (TRef.of (T := ⟨S4x256x2816, .f32⟩) main_call3_v3) (TRef.of (T := ⟨S4x256x2816, .f32⟩) main_call3_v5) Host.divf,
    TRef.binary (TRef.of (T := ⟨S4x256x2816, .f32⟩) main_v105) (TRef.of (T := ⟨S4x256x2816, .f32⟩) main_call3_v5) (TRef.of (T := ⟨S4x256x2816, .f32⟩) main_v107) mulf,
    binary main_v107 main_v106 main_v108 (mulf : (⟨S4x256x2816, .f32⟩ : BufTy).Contents (Elt F) → (⟨S4x256x2816, .f32⟩ : BufTy).Contents (Elt F) → (⟨S4x256x2816, .f32⟩ : BufTy).Contents (Elt F)),
    binary main_v108 main_arg7 main_v109 ((fun l r => Host.dotGeneral dot_S4x256x2816_S2816x1024_S4x256x1024_2_0_01_1_n_n none l r) : (⟨S4x256x2816, .f32⟩ : BufTy).Contents (Elt F) → (⟨S2816x1024, .f32⟩ : BufTy).Contents (Elt F) → (⟨S4x256x1024, .f32⟩ : BufTy).Contents (Elt F)),
    unary main_v12 main_v110 (broadcastInDim S1x1x1024 ![2] bcast_S1024_S1x1x1024_2 : (⟨S1024, .f32⟩ : BufTy).Contents (Elt F) → (⟨S1x1x1024, .f32⟩ : BufTy).Contents (Elt F)),
    unary main_v110 main_v111 (broadcastInDim S4x256x1024 ![0, 1, 2] bcast_S1x1x1024_S4x256x1024_0_1_2 : (⟨S1x1x1024, .f32⟩ : BufTy).Contents (Elt F) → (⟨S4x256x1024, .f32⟩ : BufTy).Contents (Elt F)),
    binary main_v111 main_v109 main_v112 (mulf : (⟨S4x256x1024, .f32⟩ : BufTy).Contents (Elt F) → (⟨S4x256x1024, .f32⟩ : BufTy).Contents (Elt F) → (⟨S4x256x1024, .f32⟩ : BufTy).Contents (Elt F)),
    binary main_arg1 main_v112 main_v113 (addf : (⟨S4x256x1024, .f32⟩ : BufTy).Contents (Elt F) → (⟨S4x256x1024, .f32⟩ : BufTy).Contents (Elt F) → (⟨S4x256x1024, .f32⟩ : BufTy).Contents (Elt F)),
    reshape main_v61 main_v114 (rfl : (.f32 : EltTy) = .f32) shapeCasts_S4x8192x1024_S32768x1024,
    reshape main_v113 main_v115 (rfl : (.f32 : EltTy) = .f32) shapeCasts_S4x256x1024_S1024x1024,
    binary main_v114 main_v115 main_v116 (fn_main_v116 (F := F)) ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., binary_bufs_sub .., nullary_bufs_sub .., binary_bufs_sub .., unary_bufs_sub .., nullary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., unary_bufs_sub .., binary_bufs_sub .., unary_bufs_sub .., binary_bufs_sub .., binary_bufs_sub .., nullary_bufs_sub .., unary_bufs_sub .., binary_bufs_sub .., unary_bufs_sub .., unary_bufs_sub .., reshape_bufs_sub .., unary_bufs_sub .., unary_bufs_sub .., binary_bufs_sub .., unary_bufs_sub .., unary_bufs_sub .., reshape_bufs_sub .., unary_bufs_sub .., unary_bufs_sub .., binary_bufs_sub .., binary_bufs_sub .., unary_bufs_sub .., unary_bufs_sub .., reshape_bufs_sub .., unary_bufs_sub .., unary_bufs_sub .., binary_bufs_sub .., binary_bufs_sub .., unary_bufs_sub .., unary_bufs_sub .., unary_bufs_sub .., unary_bufs_sub .., nullary_bufs_sub .., unary_bufs_sub .., binary_bufs_sub .., nullary_bufs_sub .., unary_bufs_sub .., binary_bufs_sub .., binary_bufs_sub .., binary_bufs_sub .., binary_bufs_sub .., unary_bufs_sub .., binary_bufs_sub .., binary_bufs_sub .., binary_bufs_sub .., nullary_bufs_sub .., binary_bufs_sub .., unary_bufs_sub .., nullary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., binary_bufs_sub .., nullary_bufs_sub .., unary_bufs_sub .., binary_bufs_sub .., unary_bufs_sub .., unary_bufs_sub .., reshape_bufs_sub .., unary_bufs_sub .., unary_bufs_sub .., binary_bufs_sub .., unary_bufs_sub .., unary_bufs_sub .., reshape_bufs_sub .., unary_bufs_sub .., unary_bufs_sub .., binary_bufs_sub .., binary_bufs_sub .., unary_bufs_sub .., unary_bufs_sub .., reshape_bufs_sub .., unary_bufs_sub .., unary_bufs_sub .., binary_bufs_sub .., binary_bufs_sub .., unary_bufs_sub .., unary_bufs_sub .., unary_bufs_sub .., unary_bufs_sub .., nullary_bufs_sub .., unary_bufs_sub .., binary_bufs_sub .., nullary_bufs_sub .., unary_bufs_sub .., binary_bufs_sub .., binary_bufs_sub .., binary_bufs_sub .., binary_bufs_sub .., unary_bufs_sub .., unary_bufs_sub .., binary_bufs_sub .., binary_bufs_sub .., reshape_bufs_sub .., reshape_bufs_sub .., binary_bufs_sub ..⟩

set_option maxRecDepth 8192 in
/-- `main_v116`'s composed term of the arguments (named: it is long). -/
def res_main_v116 (m : (ℓ : Loc nD τ sig) → Buf (Elt F) ℓ) (c : Dev nD) : Buf (Elt F) ((c.tc : Thread nD τ).loc main_v116) :=
  concatenate S33792x1024 0 [⟨S32768x1024, (shapeCast _ (addf (m ((c.tc : Thread nD τ).loc main_arg0)) (mulf (broadcastInDim S4x8192x1024 ![0, 1, 2] bcast_S4x1x1024_S4x8192x1024_0_1_2 (extractStridedSlice S4x1x1024 ![0, 0, 5120] (broadcastInDim S4x1x6144 ![0, 2] bcast_S4x6144_S4x1x6144_0_2 (m ((c.tc : Thread nD τ).loc main_arg3))) slices_S4x1x6144_S4x1x1024_0_0_5120)) (Host.dotGeneral dot_S4x8192x2816_S2816x1024_S4x8192x1024_2_0_01_1_n_n none (mulf (mulf (extractStridedSlice S4x8192x2816 ![0, 0, 0] (addf (addf (mulf (extractStridedSlice S4x8192x5632 ![0, 0, 0] (pad S4x8194x5632 ![0, 1, 0] ![0, 1, 0] ![0, 0, 0] (Host.dotGeneral dot_S4x8192x1024_S1024x5632_S4x8192x5632_2_0_01_1_n_n none (addf (mulf (mulf (mulf (m ((c.tc : Thread nD τ).loc main_arg0)) (broadcastInDim S4x8192x1024 ![0, 1, 2] bcast_S4x8192x1_S4x8192x1024_0_1_2 (Host.rsqrt (addf (Host.divf (broadcastInDim S4x8192x1 ![0, 1] bcast_S4x8192_S4x8192x1_0_1 (Host.reduceAdd (mulf (m ((c.tc : Thread nD τ).loc main_arg0)) (m ((c.tc : Thread nD τ).loc main_arg0))) (constant S_ .f32 0x00000000#32) reducesTo_S4x8192x1024_S4x8192_d2 h_S_)) (broadcastInDim S4x8192x1 ![] bcast_S_S4x8192x1 (constant S_ .f32 0x44800000#32))) (broadcastInDim S4x8192x1 ![] bcast_S_S4x8192x1 (constant S_ .f32 0x358637BD#32)))))) (broadcastInDim S4x8192x1024 ![0, 1, 2] bcast_S1x1x1024_S4x8192x1024_0_1_2 (broadcastInDim S1x1x1024 ![2] bcast_S1024_S1x1x1024_2 (m ((c.tc : Thread nD τ).loc main_arg2))))) (broadcastInDim S4x8192x1024 ![0, 1, 2] bcast_S4x1x1024_S4x8192x1024_0_1_2 (addf (broadcastInDim S4x1x1024 ![] bcast_S_S4x1x1024 (constant S_ .f32 0x3F800000#32)) (extractStridedSlice S4x1x1024 ![0, 0, 4096] (broadcastInDim S4x1x6144 ![0, 2] bcast_S4x6144_S4x1x6144_0_2 (m ((c.tc : Thread nD τ).loc main_arg3))) slices_S4x1x6144_S4x1x1024_0_0_4096)))) (broadcastInDim S4x8192x1024 ![0, 1, 2] bcast_S4x1x1024_S4x8192x1024_0_1_2 (extractStridedSlice S4x1x1024 ![0, 0, 3072] (broadcastInDim S4x1x6144 ![0, 2] bcast_S4x6144_S4x1x6144_0_2 (m ((c.tc : Thread nD τ).loc main_arg3))) slices_S4x1x6144_S4x1x1024_0_0_3072))) (m ((c.tc : Thread nD τ).loc main_arg5))) (sitofp .f32 (constantI S_ 32 0#32)) pads_S4x8192x5632_S4x8194x5632_000_110_000 h_S_) slices_S4x8194x5632_S4x8192x5632_0_0_0) (broadcastInDim S4x8192x5632 ![0, 1, 2] bcast_S1x1x5632_S4x8192x5632_0_1_2 (broadcastInDim S1x1x5632 ![2] bcast_S5632_S1x1x5632_2 (shapeCast _ (extractStridedSlice S1x5632 ![0, 0] (m ((c.tc : Thread nD τ).loc main_arg6)) slices_S3x5632_S1x5632_0_0) shapeCasts_S1x5632_S5632)))) (mulf (extractStridedSlice S4x8192x5632 ![0, 1, 0] (pad S4x8194x5632 ![0, 1, 0] ![0, 1, 0] ![0, 0, 0] (Host.dotGeneral dot_S4x8192x1024_S1024x5632_S4x8192x5632_2_0_01_1_n_n none (addf (mulf (mulf (mulf (m ((c.tc : Thread nD τ).loc main_arg0)) (broadcastInDim S4x8192x1024 ![0, 1, 2] bcast_S4x8192x1_S4x8192x1024_0_1_2 (Host.rsqrt (addf (Host.divf (broadcastInDim S4x8192x1 ![0, 1] bcast_S4x8192_S4x8192x1_0_1 (Host.reduceAdd (mulf (m ((c.tc : Thread nD τ).loc main_arg0)) (m ((c.tc : Thread nD τ).loc main_arg0))) (constant S_ .f32 0x00000000#32) reducesTo_S4x8192x1024_S4x8192_d2 h_S_)) (broadcastInDim S4x8192x1 ![] bcast_S_S4x8192x1 (constant S_ .f32 0x44800000#32))) (broadcastInDim S4x8192x1 ![] bcast_S_S4x8192x1 (constant S_ .f32 0x358637BD#32)))))) (broadcastInDim S4x8192x1024 ![0, 1, 2] bcast_S1x1x1024_S4x8192x1024_0_1_2 (broadcastInDim S1x1x1024 ![2] bcast_S1024_S1x1x1024_2 (m ((c.tc : Thread nD τ).loc main_arg2))))) (broadcastInDim S4x8192x1024 ![0, 1, 2] bcast_S4x1x1024_S4x8192x1024_0_1_2 (addf (broadcastInDim S4x1x1024 ![] bcast_S_S4x1x1024 (constant S_ .f32 0x3F800000#32)) (extractStridedSlice S4x1x1024 ![0, 0, 4096] (broadcastInDim S4x1x6144 ![0, 2] bcast_S4x6144_S4x1x6144_0_2 (m ((c.tc : Thread nD τ).loc main_arg3))) slices_S4x1x6144_S4x1x1024_0_0_4096)))) (broadcastInDim S4x8192x1024 ![0, 1, 2] bcast_S4x1x1024_S4x8192x1024_0_1_2 (extractStridedSlice S4x1x1024 ![0, 0, 3072] (broadcastInDim S4x1x6144 ![0, 2] bcast_S4x6144_S4x1x6144_0_2 (m ((c.tc : Thread nD τ).loc main_arg3))) slices_S4x1x6144_S4x1x1024_0_0_3072))) (m ((c.tc : Thread nD τ).loc main_arg5))) (sitofp .f32 (constantI S_ 32 0#32)) pads_S4x8192x5632_S4x8194x5632_000_110_000 h_S_) slices_S4x8194x5632_S4x8192x5632_0_1_0) (broadcastInDim S4x8192x5632 ![0, 1, 2] bcast_S1x1x5632_S4x8192x5632_0_1_2 (broadcastInDim S1x1x5632 ![2] bcast_S5632_S1x1x5632_2 (shapeCast _ (extractStridedSlice S1x5632 ![1, 0] (m ((c.tc : Thread nD τ).loc main_arg6)) slices_S3x5632_S1x5632_1_0) shapeCasts_S1x5632_S5632))))) (mulf (extractStridedSlice S4x8192x5632 ![0, 2, 0] (pad S4x8194x5632 ![0, 1, 0] ![0, 1, 0] ![0, 0, 0] (Host.dotGeneral dot_S4x8192x1024_S1024x5632_S4x8192x5632_2_0_01_1_n_n none (addf (mulf (mulf (mulf (m ((c.tc : Thread nD τ).loc main_arg0)) (broadcastInDim S4x8192x1024 ![0, 1, 2] bcast_S4x8192x1_S4x8192x1024_0_1_2 (Host.rsqrt (addf (Host.divf (broadcastInDim S4x8192x1 ![0, 1] bcast_S4x8192_S4x8192x1_0_1 (Host.reduceAdd (mulf (m ((c.tc : Thread nD τ).loc main_arg0)) (m ((c.tc : Thread nD τ).loc main_arg0))) (constant S_ .f32 0x00000000#32) reducesTo_S4x8192x1024_S4x8192_d2 h_S_)) (broadcastInDim S4x8192x1 ![] bcast_S_S4x8192x1 (constant S_ .f32 0x44800000#32))) (broadcastInDim S4x8192x1 ![] bcast_S_S4x8192x1 (constant S_ .f32 0x358637BD#32)))))) (broadcastInDim S4x8192x1024 ![0, 1, 2] bcast_S1x1x1024_S4x8192x1024_0_1_2 (broadcastInDim S1x1x1024 ![2] bcast_S1024_S1x1x1024_2 (m ((c.tc : Thread nD τ).loc main_arg2))))) (broadcastInDim S4x8192x1024 ![0, 1, 2] bcast_S4x1x1024_S4x8192x1024_0_1_2 (addf (broadcastInDim S4x1x1024 ![] bcast_S_S4x1x1024 (constant S_ .f32 0x3F800000#32)) (extractStridedSlice S4x1x1024 ![0, 0, 4096] (broadcastInDim S4x1x6144 ![0, 2] bcast_S4x6144_S4x1x6144_0_2 (m ((c.tc : Thread nD τ).loc main_arg3))) slices_S4x1x6144_S4x1x1024_0_0_4096)))) (broadcastInDim S4x8192x1024 ![0, 1, 2] bcast_S4x1x1024_S4x8192x1024_0_1_2 (extractStridedSlice S4x1x1024 ![0, 0, 3072] (broadcastInDim S4x1x6144 ![0, 2] bcast_S4x6144_S4x1x6144_0_2 (m ((c.tc : Thread nD τ).loc main_arg3))) slices_S4x1x6144_S4x1x1024_0_0_3072))) (m ((c.tc : Thread nD τ).loc main_arg5))) (sitofp .f32 (constantI S_ 32 0#32)) pads_S4x8192x5632_S4x8194x5632_000_110_000 h_S_) slices_S4x8194x5632_S4x8192x5632_0_2_0) (broadcastInDim S4x8192x5632 ![0, 1, 2] bcast_S1x1x5632_S4x8192x5632_0_1_2 (broadcastInDim S1x1x5632 ![2] bcast_S5632_S1x1x5632_2 (shapeCast _ (extractStridedSlice S1x5632 ![2, 0] (m ((c.tc : Thread nD τ).loc main_arg6)) slices_S3x5632_S1x5632_2_0) shapeCasts_S1x5632_S5632))))) slices_S4x8192x5632_S4x8192x2816_0_0_0) (Host.divf (broadcastInDim S4x8192x2816 ![] bcast_S_S4x8192x2816 (constant S_ .f32 0x3F800000#32)) (addf (broadcastInDim S4x8192x2816 ![] bcast_S_S4x8192x2816 (constant S_ .f32 0x3F800000#32)) (Host.exp (Host.negf (extractStridedSlice S4x8192x2816 ![0, 0, 0] (addf (addf (mulf (extractStridedSlice S4x8192x5632 ![0, 0, 0] (pad S4x8194x5632 ![0, 1, 0] ![0, 1, 0] ![0, 0, 0] (Host.dotGeneral dot_S4x8192x1024_S1024x5632_S4x8192x5632_2_0_01_1_n_n none (addf (mulf (mulf (mulf (m ((c.tc : Thread nD τ).loc main_arg0)) (broadcastInDim S4x8192x1024 ![0, 1, 2] bcast_S4x8192x1_S4x8192x1024_0_1_2 (Host.rsqrt (addf (Host.divf (broadcastInDim S4x8192x1 ![0, 1] bcast_S4x8192_S4x8192x1_0_1 (Host.reduceAdd (mulf (m ((c.tc : Thread nD τ).loc main_arg0)) (m ((c.tc : Thread nD τ).loc main_arg0))) (constant S_ .f32 0x00000000#32) reducesTo_S4x8192x1024_S4x8192_d2 h_S_)) (broadcastInDim S4x8192x1 ![] bcast_S_S4x8192x1 (constant S_ .f32 0x44800000#32))) (broadcastInDim S4x8192x1 ![] bcast_S_S4x8192x1 (constant S_ .f32 0x358637BD#32)))))) (broadcastInDim S4x8192x1024 ![0, 1, 2] bcast_S1x1x1024_S4x8192x1024_0_1_2 (broadcastInDim S1x1x1024 ![2] bcast_S1024_S1x1x1024_2 (m ((c.tc : Thread nD τ).loc main_arg2))))) (broadcastInDim S4x8192x1024 ![0, 1, 2] bcast_S4x1x1024_S4x8192x1024_0_1_2 (addf (broadcastInDim S4x1x1024 ![] bcast_S_S4x1x1024 (constant S_ .f32 0x3F800000#32)) (extractStridedSlice S4x1x1024 ![0, 0, 4096] (broadcastInDim S4x1x6144 ![0, 2] bcast_S4x6144_S4x1x6144_0_2 (m ((c.tc : Thread nD τ).loc main_arg3))) slices_S4x1x6144_S4x1x1024_0_0_4096)))) (broadcastInDim S4x8192x1024 ![0, 1, 2] bcast_S4x1x1024_S4x8192x1024_0_1_2 (extractStridedSlice S4x1x1024 ![0, 0, 3072] (broadcastInDim S4x1x6144 ![0, 2] bcast_S4x6144_S4x1x6144_0_2 (m ((c.tc : Thread nD τ).loc main_arg3))) slices_S4x1x6144_S4x1x1024_0_0_3072))) (m ((c.tc : Thread nD τ).loc main_arg5))) (sitofp .f32 (constantI S_ 32 0#32)) pads_S4x8192x5632_S4x8194x5632_000_110_000 h_S_) slices_S4x8194x5632_S4x8192x5632_0_0_0) (broadcastInDim S4x8192x5632 ![0, 1, 2] bcast_S1x1x5632_S4x8192x5632_0_1_2 (broadcastInDim S1x1x5632 ![2] bcast_S5632_S1x1x5632_2 (shapeCast _ (extractStridedSlice S1x5632 ![0, 0] (m ((c.tc : Thread nD τ).loc main_arg6)) slices_S3x5632_S1x5632_0_0) shapeCasts_S1x5632_S5632)))) (mulf (extractStridedSlice S4x8192x5632 ![0, 1, 0] (pad S4x8194x5632 ![0, 1, 0] ![0, 1, 0] ![0, 0, 0] (Host.dotGeneral dot_S4x8192x1024_S1024x5632_S4x8192x5632_2_0_01_1_n_n none (addf (mulf (mulf (mulf (m ((c.tc : Thread nD τ).loc main_arg0)) (broadcastInDim S4x8192x1024 ![0, 1, 2] bcast_S4x8192x1_S4x8192x1024_0_1_2 (Host.rsqrt (addf (Host.divf (broadcastInDim S4x8192x1 ![0, 1] bcast_S4x8192_S4x8192x1_0_1 (Host.reduceAdd (mulf (m ((c.tc : Thread nD τ).loc main_arg0)) (m ((c.tc : Thread nD τ).loc main_arg0))) (constant S_ .f32 0x00000000#32) reducesTo_S4x8192x1024_S4x8192_d2 h_S_)) (broadcastInDim S4x8192x1 ![] bcast_S_S4x8192x1 (constant S_ .f32 0x44800000#32))) (broadcastInDim S4x8192x1 ![] bcast_S_S4x8192x1 (constant S_ .f32 0x358637BD#32)))))) (broadcastInDim S4x8192x1024 ![0, 1, 2] bcast_S1x1x1024_S4x8192x1024_0_1_2 (broadcastInDim S1x1x1024 ![2] bcast_S1024_S1x1x1024_2 (m ((c.tc : Thread nD τ).loc main_arg2))))) (broadcastInDim S4x8192x1024 ![0, 1, 2] bcast_S4x1x1024_S4x8192x1024_0_1_2 (addf (broadcastInDim S4x1x1024 ![] bcast_S_S4x1x1024 (constant S_ .f32 0x3F800000#32)) (extractStridedSlice S4x1x1024 ![0, 0, 4096] (broadcastInDim S4x1x6144 ![0, 2] bcast_S4x6144_S4x1x6144_0_2 (m ((c.tc : Thread nD τ).loc main_arg3))) slices_S4x1x6144_S4x1x1024_0_0_4096)))) (broadcastInDim S4x8192x1024 ![0, 1, 2] bcast_S4x1x1024_S4x8192x1024_0_1_2 (extractStridedSlice S4x1x1024 ![0, 0, 3072] (broadcastInDim S4x1x6144 ![0, 2] bcast_S4x6144_S4x1x6144_0_2 (m ((c.tc : Thread nD τ).loc main_arg3))) slices_S4x1x6144_S4x1x1024_0_0_3072))) (m ((c.tc : Thread nD τ).loc main_arg5))) (sitofp .f32 (constantI S_ 32 0#32)) pads_S4x8192x5632_S4x8194x5632_000_110_000 h_S_) slices_S4x8194x5632_S4x8192x5632_0_1_0) (broadcastInDim S4x8192x5632 ![0, 1, 2] bcast_S1x1x5632_S4x8192x5632_0_1_2 (broadcastInDim S1x1x5632 ![2] bcast_S5632_S1x1x5632_2 (shapeCast _ (extractStridedSlice S1x5632 ![1, 0] (m ((c.tc : Thread nD τ).loc main_arg6)) slices_S3x5632_S1x5632_1_0) shapeCasts_S1x5632_S5632))))) (mulf (extractStridedSlice S4x8192x5632 ![0, 2, 0] (pad S4x8194x5632 ![0, 1, 0] ![0, 1, 0] ![0, 0, 0] (Host.dotGeneral dot_S4x8192x1024_S1024x5632_S4x8192x5632_2_0_01_1_n_n none (addf (mulf (mulf (mulf (m ((c.tc : Thread nD τ).loc main_arg0)) (broadcastInDim S4x8192x1024 ![0, 1, 2] bcast_S4x8192x1_S4x8192x1024_0_1_2 (Host.rsqrt (addf (Host.divf (broadcastInDim S4x8192x1 ![0, 1] bcast_S4x8192_S4x8192x1_0_1 (Host.reduceAdd (mulf (m ((c.tc : Thread nD τ).loc main_arg0)) (m ((c.tc : Thread nD τ).loc main_arg0))) (constant S_ .f32 0x00000000#32) reducesTo_S4x8192x1024_S4x8192_d2 h_S_)) (broadcastInDim S4x8192x1 ![] bcast_S_S4x8192x1 (constant S_ .f32 0x44800000#32))) (broadcastInDim S4x8192x1 ![] bcast_S_S4x8192x1 (constant S_ .f32 0x358637BD#32)))))) (broadcastInDim S4x8192x1024 ![0, 1, 2] bcast_S1x1x1024_S4x8192x1024_0_1_2 (broadcastInDim S1x1x1024 ![2] bcast_S1024_S1x1x1024_2 (m ((c.tc : Thread nD τ).loc main_arg2))))) (broadcastInDim S4x8192x1024 ![0, 1, 2] bcast_S4x1x1024_S4x8192x1024_0_1_2 (addf (broadcastInDim S4x1x1024 ![] bcast_S_S4x1x1024 (constant S_ .f32 0x3F800000#32)) (extractStridedSlice S4x1x1024 ![0, 0, 4096] (broadcastInDim S4x1x6144 ![0, 2] bcast_S4x6144_S4x1x6144_0_2 (m ((c.tc : Thread nD τ).loc main_arg3))) slices_S4x1x6144_S4x1x1024_0_0_4096)))) (broadcastInDim S4x8192x1024 ![0, 1, 2] bcast_S4x1x1024_S4x8192x1024_0_1_2 (extractStridedSlice S4x1x1024 ![0, 0, 3072] (broadcastInDim S4x1x6144 ![0, 2] bcast_S4x6144_S4x1x6144_0_2 (m ((c.tc : Thread nD τ).loc main_arg3))) slices_S4x1x6144_S4x1x1024_0_0_3072))) (m ((c.tc : Thread nD τ).loc main_arg5))) (sitofp .f32 (constantI S_ 32 0#32)) pads_S4x8192x5632_S4x8194x5632_000_110_000 h_S_) slices_S4x8194x5632_S4x8192x5632_0_2_0) (broadcastInDim S4x8192x5632 ![0, 1, 2] bcast_S1x1x5632_S4x8192x5632_0_1_2 (broadcastInDim S1x1x5632 ![2] bcast_S5632_S1x1x5632_2 (shapeCast _ (extractStridedSlice S1x5632 ![2, 0] (m ((c.tc : Thread nD τ).loc main_arg6)) slices_S3x5632_S1x5632_2_0) shapeCasts_S1x5632_S5632))))) slices_S4x8192x5632_S4x8192x2816_0_0_0)))))) (extractStridedSlice S4x8192x2816 ![0, 0, 2816] (addf (addf (mulf (extractStridedSlice S4x8192x5632 ![0, 0, 0] (pad S4x8194x5632 ![0, 1, 0] ![0, 1, 0] ![0, 0, 0] (Host.dotGeneral dot_S4x8192x1024_S1024x5632_S4x8192x5632_2_0_01_1_n_n none (addf (mulf (mulf (mulf (m ((c.tc : Thread nD τ).loc main_arg0)) (broadcastInDim S4x8192x1024 ![0, 1, 2] bcast_S4x8192x1_S4x8192x1024_0_1_2 (Host.rsqrt (addf (Host.divf (broadcastInDim S4x8192x1 ![0, 1] bcast_S4x8192_S4x8192x1_0_1 (Host.reduceAdd (mulf (m ((c.tc : Thread nD τ).loc main_arg0)) (m ((c.tc : Thread nD τ).loc main_arg0))) (constant S_ .f32 0x00000000#32) reducesTo_S4x8192x1024_S4x8192_d2 h_S_)) (broadcastInDim S4x8192x1 ![] bcast_S_S4x8192x1 (constant S_ .f32 0x44800000#32))) (broadcastInDim S4x8192x1 ![] bcast_S_S4x8192x1 (constant S_ .f32 0x358637BD#32)))))) (broadcastInDim S4x8192x1024 ![0, 1, 2] bcast_S1x1x1024_S4x8192x1024_0_1_2 (broadcastInDim S1x1x1024 ![2] bcast_S1024_S1x1x1024_2 (m ((c.tc : Thread nD τ).loc main_arg2))))) (broadcastInDim S4x8192x1024 ![0, 1, 2] bcast_S4x1x1024_S4x8192x1024_0_1_2 (addf (broadcastInDim S4x1x1024 ![] bcast_S_S4x1x1024 (constant S_ .f32 0x3F800000#32)) (extractStridedSlice S4x1x1024 ![0, 0, 4096] (broadcastInDim S4x1x6144 ![0, 2] bcast_S4x6144_S4x1x6144_0_2 (m ((c.tc : Thread nD τ).loc main_arg3))) slices_S4x1x6144_S4x1x1024_0_0_4096)))) (broadcastInDim S4x8192x1024 ![0, 1, 2] bcast_S4x1x1024_S4x8192x1024_0_1_2 (extractStridedSlice S4x1x1024 ![0, 0, 3072] (broadcastInDim S4x1x6144 ![0, 2] bcast_S4x6144_S4x1x6144_0_2 (m ((c.tc : Thread nD τ).loc main_arg3))) slices_S4x1x6144_S4x1x1024_0_0_3072))) (m ((c.tc : Thread nD τ).loc main_arg5))) (sitofp .f32 (constantI S_ 32 0#32)) pads_S4x8192x5632_S4x8194x5632_000_110_000 h_S_) slices_S4x8194x5632_S4x8192x5632_0_0_0) (broadcastInDim S4x8192x5632 ![0, 1, 2] bcast_S1x1x5632_S4x8192x5632_0_1_2 (broadcastInDim S1x1x5632 ![2] bcast_S5632_S1x1x5632_2 (shapeCast _ (extractStridedSlice S1x5632 ![0, 0] (m ((c.tc : Thread nD τ).loc main_arg6)) slices_S3x5632_S1x5632_0_0) shapeCasts_S1x5632_S5632)))) (mulf (extractStridedSlice S4x8192x5632 ![0, 1, 0] (pad S4x8194x5632 ![0, 1, 0] ![0, 1, 0] ![0, 0, 0] (Host.dotGeneral dot_S4x8192x1024_S1024x5632_S4x8192x5632_2_0_01_1_n_n none (addf (mulf (mulf (mulf (m ((c.tc : Thread nD τ).loc main_arg0)) (broadcastInDim S4x8192x1024 ![0, 1, 2] bcast_S4x8192x1_S4x8192x1024_0_1_2 (Host.rsqrt (addf (Host.divf (broadcastInDim S4x8192x1 ![0, 1] bcast_S4x8192_S4x8192x1_0_1 (Host.reduceAdd (mulf (m ((c.tc : Thread nD τ).loc main_arg0)) (m ((c.tc : Thread nD τ).loc main_arg0))) (constant S_ .f32 0x00000000#32) reducesTo_S4x8192x1024_S4x8192_d2 h_S_)) (broadcastInDim S4x8192x1 ![] bcast_S_S4x8192x1 (constant S_ .f32 0x44800000#32))) (broadcastInDim S4x8192x1 ![] bcast_S_S4x8192x1 (constant S_ .f32 0x358637BD#32)))))) (broadcastInDim S4x8192x1024 ![0, 1, 2] bcast_S1x1x1024_S4x8192x1024_0_1_2 (broadcastInDim S1x1x1024 ![2] bcast_S1024_S1x1x1024_2 (m ((c.tc : Thread nD τ).loc main_arg2))))) (broadcastInDim S4x8192x1024 ![0, 1, 2] bcast_S4x1x1024_S4x8192x1024_0_1_2 (addf (broadcastInDim S4x1x1024 ![] bcast_S_S4x1x1024 (constant S_ .f32 0x3F800000#32)) (extractStridedSlice S4x1x1024 ![0, 0, 4096] (broadcastInDim S4x1x6144 ![0, 2] bcast_S4x6144_S4x1x6144_0_2 (m ((c.tc : Thread nD τ).loc main_arg3))) slices_S4x1x6144_S4x1x1024_0_0_4096)))) (broadcastInDim S4x8192x1024 ![0, 1, 2] bcast_S4x1x1024_S4x8192x1024_0_1_2 (extractStridedSlice S4x1x1024 ![0, 0, 3072] (broadcastInDim S4x1x6144 ![0, 2] bcast_S4x6144_S4x1x6144_0_2 (m ((c.tc : Thread nD τ).loc main_arg3))) slices_S4x1x6144_S4x1x1024_0_0_3072))) (m ((c.tc : Thread nD τ).loc main_arg5))) (sitofp .f32 (constantI S_ 32 0#32)) pads_S4x8192x5632_S4x8194x5632_000_110_000 h_S_) slices_S4x8194x5632_S4x8192x5632_0_1_0) (broadcastInDim S4x8192x5632 ![0, 1, 2] bcast_S1x1x5632_S4x8192x5632_0_1_2 (broadcastInDim S1x1x5632 ![2] bcast_S5632_S1x1x5632_2 (shapeCast _ (extractStridedSlice S1x5632 ![1, 0] (m ((c.tc : Thread nD τ).loc main_arg6)) slices_S3x5632_S1x5632_1_0) shapeCasts_S1x5632_S5632))))) (mulf (extractStridedSlice S4x8192x5632 ![0, 2, 0] (pad S4x8194x5632 ![0, 1, 0] ![0, 1, 0] ![0, 0, 0] (Host.dotGeneral dot_S4x8192x1024_S1024x5632_S4x8192x5632_2_0_01_1_n_n none (addf (mulf (mulf (mulf (m ((c.tc : Thread nD τ).loc main_arg0)) (broadcastInDim S4x8192x1024 ![0, 1, 2] bcast_S4x8192x1_S4x8192x1024_0_1_2 (Host.rsqrt (addf (Host.divf (broadcastInDim S4x8192x1 ![0, 1] bcast_S4x8192_S4x8192x1_0_1 (Host.reduceAdd (mulf (m ((c.tc : Thread nD τ).loc main_arg0)) (m ((c.tc : Thread nD τ).loc main_arg0))) (constant S_ .f32 0x00000000#32) reducesTo_S4x8192x1024_S4x8192_d2 h_S_)) (broadcastInDim S4x8192x1 ![] bcast_S_S4x8192x1 (constant S_ .f32 0x44800000#32))) (broadcastInDim S4x8192x1 ![] bcast_S_S4x8192x1 (constant S_ .f32 0x358637BD#32)))))) (broadcastInDim S4x8192x1024 ![0, 1, 2] bcast_S1x1x1024_S4x8192x1024_0_1_2 (broadcastInDim S1x1x1024 ![2] bcast_S1024_S1x1x1024_2 (m ((c.tc : Thread nD τ).loc main_arg2))))) (broadcastInDim S4x8192x1024 ![0, 1, 2] bcast_S4x1x1024_S4x8192x1024_0_1_2 (addf (broadcastInDim S4x1x1024 ![] bcast_S_S4x1x1024 (constant S_ .f32 0x3F800000#32)) (extractStridedSlice S4x1x1024 ![0, 0, 4096] (broadcastInDim S4x1x6144 ![0, 2] bcast_S4x6144_S4x1x6144_0_2 (m ((c.tc : Thread nD τ).loc main_arg3))) slices_S4x1x6144_S4x1x1024_0_0_4096)))) (broadcastInDim S4x8192x1024 ![0, 1, 2] bcast_S4x1x1024_S4x8192x1024_0_1_2 (extractStridedSlice S4x1x1024 ![0, 0, 3072] (broadcastInDim S4x1x6144 ![0, 2] bcast_S4x6144_S4x1x6144_0_2 (m ((c.tc : Thread nD τ).loc main_arg3))) slices_S4x1x6144_S4x1x1024_0_0_3072))) (m ((c.tc : Thread nD τ).loc main_arg5))) (sitofp .f32 (constantI S_ 32 0#32)) pads_S4x8192x5632_S4x8194x5632_000_110_000 h_S_) slices_S4x8194x5632_S4x8192x5632_0_2_0) (broadcastInDim S4x8192x5632 ![0, 1, 2] bcast_S1x1x5632_S4x8192x5632_0_1_2 (broadcastInDim S1x1x5632 ![2] bcast_S5632_S1x1x5632_2 (shapeCast _ (extractStridedSlice S1x5632 ![2, 0] (m ((c.tc : Thread nD τ).loc main_arg6)) slices_S3x5632_S1x5632_2_0) shapeCasts_S1x5632_S5632))))) slices_S4x8192x5632_S4x8192x2816_0_0_2816)) (m ((c.tc : Thread nD τ).loc main_arg7))))) shapeCasts_S4x8192x1024_S32768x1024)⟩, ⟨S1024x1024, (shapeCast _ (addf (m ((c.tc : Thread nD τ).loc main_arg1)) (mulf (broadcastInDim S4x256x1024 ![0, 1, 2] bcast_S1x1x1024_S4x256x1024_0_1_2 (broadcastInDim S1x1x1024 ![2] bcast_S1024_S1x1x1024_2 (extractStridedSlice S1024 ![5120] (m ((c.tc : Thread nD τ).loc main_arg4)) slices_S6144_S1024_5120))) (Host.dotGeneral dot_S4x256x2816_S2816x1024_S4x256x1024_2_0_01_1_n_n none (mulf (mulf (extractStridedSlice S4x256x2816 ![0, 0, 0] (addf (addf (mulf (extractStridedSlice S4x256x5632 ![0, 0, 0] (pad S4x258x5632 ![0, 1, 0] ![0, 1, 0] ![0, 0, 0] (Host.dotGeneral dot_S4x256x1024_S1024x5632_S4x256x5632_2_0_01_1_n_n none (addf (mulf (mulf (mulf (m ((c.tc : Thread nD τ).loc main_arg1)) (broadcastInDim S4x256x1024 ![0, 1, 2] bcast_S4x256x1_S4x256x1024_0_1_2 (Host.rsqrt (addf (Host.divf (broadcastInDim S4x256x1 ![0, 1] bcast_S4x256_S4x256x1_0_1 (Host.reduceAdd (mulf (m ((c.tc : Thread nD τ).loc main_arg1)) (m ((c.tc : Thread nD τ).loc main_arg1))) (constant S_ .f32 0x00000000#32) reducesTo_S4x256x1024_S4x256_d2 h_S_)) (broadcastInDim S4x256x1 ![] bcast_S_S4x256x1 (constant S_ .f32 0x44800000#32))) (broadcastInDim S4x256x1 ![] bcast_S_S4x256x1 (constant S_ .f32 0x358637BD#32)))))) (broadcastInDim S4x256x1024 ![0, 1, 2] bcast_S1x1x1024_S4x256x1024_0_1_2 (broadcastInDim S1x1x1024 ![2] bcast_S1024_S1x1x1024_2 (m ((c.tc : Thread nD τ).loc main_arg2))))) (broadcastInDim S4x256x1024 ![0, 1, 2] bcast_S1x1x1024_S4x256x1024_0_1_2 (broadcastInDim S1x1x1024 ![2] bcast_S1024_S1x1x1024_2 (addf (broadcastInDim S1024 ![] bcast_S_S1024 (constant S_ .f32 0x3F800000#32)) (extractStridedSlice S1024 ![4096] (m ((c.tc : Thread nD τ).loc main_arg4)) slices_S6144_S1024_4096))))) (broadcastInDim S4x256x1024 ![0, 1, 2] bcast_S1x1x1024_S4x256x1024_0_1_2 (broadcastInDim S1x1x1024 ![2] bcast_S1024_S1x1x1024_2 (extractStridedSlice S1024 ![3072] (m ((c.tc : Thread nD τ).loc main_arg4)) slices_S6144_S1024_3072)))) (m ((c.tc : Thread nD τ).loc main_arg5))) (sitofp .f32 (constantI S_ 32 0#32)) pads_S4x256x5632_S4x258x5632_000_110_000 h_S_) slices_S4x258x5632_S4x256x5632_0_0_0) (broadcastInDim S4x256x5632 ![0, 1, 2] bcast_S1x1x5632_S4x256x5632_0_1_2 (broadcastInDim S1x1x5632 ![2] bcast_S5632_S1x1x5632_2 (shapeCast _ (extractStridedSlice S1x5632 ![0, 0] (m ((c.tc : Thread nD τ).loc main_arg6)) slices_S3x5632_S1x5632_0_0) shapeCasts_S1x5632_S5632)))) (mulf (extractStridedSlice S4x256x5632 ![0, 1, 0] (pad S4x258x5632 ![0, 1, 0] ![0, 1, 0] ![0, 0, 0] (Host.dotGeneral dot_S4x256x1024_S1024x5632_S4x256x5632_2_0_01_1_n_n none (addf (mulf (mulf (mulf (m ((c.tc : Thread nD τ).loc main_arg1)) (broadcastInDim S4x256x1024 ![0, 1, 2] bcast_S4x256x1_S4x256x1024_0_1_2 (Host.rsqrt (addf (Host.divf (broadcastInDim S4x256x1 ![0, 1] bcast_S4x256_S4x256x1_0_1 (Host.reduceAdd (mulf (m ((c.tc : Thread nD τ).loc main_arg1)) (m ((c.tc : Thread nD τ).loc main_arg1))) (constant S_ .f32 0x00000000#32) reducesTo_S4x256x1024_S4x256_d2 h_S_)) (broadcastInDim S4x256x1 ![] bcast_S_S4x256x1 (constant S_ .f32 0x44800000#32))) (broadcastInDim S4x256x1 ![] bcast_S_S4x256x1 (constant S_ .f32 0x358637BD#32)))))) (broadcastInDim S4x256x1024 ![0, 1, 2] bcast_S1x1x1024_S4x256x1024_0_1_2 (broadcastInDim S1x1x1024 ![2] bcast_S1024_S1x1x1024_2 (m ((c.tc : Thread nD τ).loc main_arg2))))) (broadcastInDim S4x256x1024 ![0, 1, 2] bcast_S1x1x1024_S4x256x1024_0_1_2 (broadcastInDim S1x1x1024 ![2] bcast_S1024_S1x1x1024_2 (addf (broadcastInDim S1024 ![] bcast_S_S1024 (constant S_ .f32 0x3F800000#32)) (extractStridedSlice S1024 ![4096] (m ((c.tc : Thread nD τ).loc main_arg4)) slices_S6144_S1024_4096))))) (broadcastInDim S4x256x1024 ![0, 1, 2] bcast_S1x1x1024_S4x256x1024_0_1_2 (broadcastInDim S1x1x1024 ![2] bcast_S1024_S1x1x1024_2 (extractStridedSlice S1024 ![3072] (m ((c.tc : Thread nD τ).loc main_arg4)) slices_S6144_S1024_3072)))) (m ((c.tc : Thread nD τ).loc main_arg5))) (sitofp .f32 (constantI S_ 32 0#32)) pads_S4x256x5632_S4x258x5632_000_110_000 h_S_) slices_S4x258x5632_S4x256x5632_0_1_0) (broadcastInDim S4x256x5632 ![0, 1, 2] bcast_S1x1x5632_S4x256x5632_0_1_2 (broadcastInDim S1x1x5632 ![2] bcast_S5632_S1x1x5632_2 (shapeCast _ (extractStridedSlice S1x5632 ![1, 0] (m ((c.tc : Thread nD τ).loc main_arg6)) slices_S3x5632_S1x5632_1_0) shapeCasts_S1x5632_S5632))))) (mulf (extractStridedSlice S4x256x5632 ![0, 2, 0] (pad S4x258x5632 ![0, 1, 0] ![0, 1, 0] ![0, 0, 0] (Host.dotGeneral dot_S4x256x1024_S1024x5632_S4x256x5632_2_0_01_1_n_n none (addf (mulf (mulf (mulf (m ((c.tc : Thread nD τ).loc main_arg1)) (broadcastInDim S4x256x1024 ![0, 1, 2] bcast_S4x256x1_S4x256x1024_0_1_2 (Host.rsqrt (addf (Host.divf (broadcastInDim S4x256x1 ![0, 1] bcast_S4x256_S4x256x1_0_1 (Host.reduceAdd (mulf (m ((c.tc : Thread nD τ).loc main_arg1)) (m ((c.tc : Thread nD τ).loc main_arg1))) (constant S_ .f32 0x00000000#32) reducesTo_S4x256x1024_S4x256_d2 h_S_)) (broadcastInDim S4x256x1 ![] bcast_S_S4x256x1 (constant S_ .f32 0x44800000#32))) (broadcastInDim S4x256x1 ![] bcast_S_S4x256x1 (constant S_ .f32 0x358637BD#32)))))) (broadcastInDim S4x256x1024 ![0, 1, 2] bcast_S1x1x1024_S4x256x1024_0_1_2 (broadcastInDim S1x1x1024 ![2] bcast_S1024_S1x1x1024_2 (m ((c.tc : Thread nD τ).loc main_arg2))))) (broadcastInDim S4x256x1024 ![0, 1, 2] bcast_S1x1x1024_S4x256x1024_0_1_2 (broadcastInDim S1x1x1024 ![2] bcast_S1024_S1x1x1024_2 (addf (broadcastInDim S1024 ![] bcast_S_S1024 (constant S_ .f32 0x3F800000#32)) (extractStridedSlice S1024 ![4096] (m ((c.tc : Thread nD τ).loc main_arg4)) slices_S6144_S1024_4096))))) (broadcastInDim S4x256x1024 ![0, 1, 2] bcast_S1x1x1024_S4x256x1024_0_1_2 (broadcastInDim S1x1x1024 ![2] bcast_S1024_S1x1x1024_2 (extractStridedSlice S1024 ![3072] (m ((c.tc : Thread nD τ).loc main_arg4)) slices_S6144_S1024_3072)))) (m ((c.tc : Thread nD τ).loc main_arg5))) (sitofp .f32 (constantI S_ 32 0#32)) pads_S4x256x5632_S4x258x5632_000_110_000 h_S_) slices_S4x258x5632_S4x256x5632_0_2_0) (broadcastInDim S4x256x5632 ![0, 1, 2] bcast_S1x1x5632_S4x256x5632_0_1_2 (broadcastInDim S1x1x5632 ![2] bcast_S5632_S1x1x5632_2 (shapeCast _ (extractStridedSlice S1x5632 ![2, 0] (m ((c.tc : Thread nD τ).loc main_arg6)) slices_S3x5632_S1x5632_2_0) shapeCasts_S1x5632_S5632))))) slices_S4x256x5632_S4x256x2816_0_0_0) (Host.divf (broadcastInDim S4x256x2816 ![] bcast_S_S4x256x2816 (constant S_ .f32 0x3F800000#32)) (addf (broadcastInDim S4x256x2816 ![] bcast_S_S4x256x2816 (constant S_ .f32 0x3F800000#32)) (Host.exp (Host.negf (extractStridedSlice S4x256x2816 ![0, 0, 0] (addf (addf (mulf (extractStridedSlice S4x256x5632 ![0, 0, 0] (pad S4x258x5632 ![0, 1, 0] ![0, 1, 0] ![0, 0, 0] (Host.dotGeneral dot_S4x256x1024_S1024x5632_S4x256x5632_2_0_01_1_n_n none (addf (mulf (mulf (mulf (m ((c.tc : Thread nD τ).loc main_arg1)) (broadcastInDim S4x256x1024 ![0, 1, 2] bcast_S4x256x1_S4x256x1024_0_1_2 (Host.rsqrt (addf (Host.divf (broadcastInDim S4x256x1 ![0, 1] bcast_S4x256_S4x256x1_0_1 (Host.reduceAdd (mulf (m ((c.tc : Thread nD τ).loc main_arg1)) (m ((c.tc : Thread nD τ).loc main_arg1))) (constant S_ .f32 0x00000000#32) reducesTo_S4x256x1024_S4x256_d2 h_S_)) (broadcastInDim S4x256x1 ![] bcast_S_S4x256x1 (constant S_ .f32 0x44800000#32))) (broadcastInDim S4x256x1 ![] bcast_S_S4x256x1 (constant S_ .f32 0x358637BD#32)))))) (broadcastInDim S4x256x1024 ![0, 1, 2] bcast_S1x1x1024_S4x256x1024_0_1_2 (broadcastInDim S1x1x1024 ![2] bcast_S1024_S1x1x1024_2 (m ((c.tc : Thread nD τ).loc main_arg2))))) (broadcastInDim S4x256x1024 ![0, 1, 2] bcast_S1x1x1024_S4x256x1024_0_1_2 (broadcastInDim S1x1x1024 ![2] bcast_S1024_S1x1x1024_2 (addf (broadcastInDim S1024 ![] bcast_S_S1024 (constant S_ .f32 0x3F800000#32)) (extractStridedSlice S1024 ![4096] (m ((c.tc : Thread nD τ).loc main_arg4)) slices_S6144_S1024_4096))))) (broadcastInDim S4x256x1024 ![0, 1, 2] bcast_S1x1x1024_S4x256x1024_0_1_2 (broadcastInDim S1x1x1024 ![2] bcast_S1024_S1x1x1024_2 (extractStridedSlice S1024 ![3072] (m ((c.tc : Thread nD τ).loc main_arg4)) slices_S6144_S1024_3072)))) (m ((c.tc : Thread nD τ).loc main_arg5))) (sitofp .f32 (constantI S_ 32 0#32)) pads_S4x256x5632_S4x258x5632_000_110_000 h_S_) slices_S4x258x5632_S4x256x5632_0_0_0) (broadcastInDim S4x256x5632 ![0, 1, 2] bcast_S1x1x5632_S4x256x5632_0_1_2 (broadcastInDim S1x1x5632 ![2] bcast_S5632_S1x1x5632_2 (shapeCast _ (extractStridedSlice S1x5632 ![0, 0] (m ((c.tc : Thread nD τ).loc main_arg6)) slices_S3x5632_S1x5632_0_0) shapeCasts_S1x5632_S5632)))) (mulf (extractStridedSlice S4x256x5632 ![0, 1, 0] (pad S4x258x5632 ![0, 1, 0] ![0, 1, 0] ![0, 0, 0] (Host.dotGeneral dot_S4x256x1024_S1024x5632_S4x256x5632_2_0_01_1_n_n none (addf (mulf (mulf (mulf (m ((c.tc : Thread nD τ).loc main_arg1)) (broadcastInDim S4x256x1024 ![0, 1, 2] bcast_S4x256x1_S4x256x1024_0_1_2 (Host.rsqrt (addf (Host.divf (broadcastInDim S4x256x1 ![0, 1] bcast_S4x256_S4x256x1_0_1 (Host.reduceAdd (mulf (m ((c.tc : Thread nD τ).loc main_arg1)) (m ((c.tc : Thread nD τ).loc main_arg1))) (constant S_ .f32 0x00000000#32) reducesTo_S4x256x1024_S4x256_d2 h_S_)) (broadcastInDim S4x256x1 ![] bcast_S_S4x256x1 (constant S_ .f32 0x44800000#32))) (broadcastInDim S4x256x1 ![] bcast_S_S4x256x1 (constant S_ .f32 0x358637BD#32)))))) (broadcastInDim S4x256x1024 ![0, 1, 2] bcast_S1x1x1024_S4x256x1024_0_1_2 (broadcastInDim S1x1x1024 ![2] bcast_S1024_S1x1x1024_2 (m ((c.tc : Thread nD τ).loc main_arg2))))) (broadcastInDim S4x256x1024 ![0, 1, 2] bcast_S1x1x1024_S4x256x1024_0_1_2 (broadcastInDim S1x1x1024 ![2] bcast_S1024_S1x1x1024_2 (addf (broadcastInDim S1024 ![] bcast_S_S1024 (constant S_ .f32 0x3F800000#32)) (extractStridedSlice S1024 ![4096] (m ((c.tc : Thread nD τ).loc main_arg4)) slices_S6144_S1024_4096))))) (broadcastInDim S4x256x1024 ![0, 1, 2] bcast_S1x1x1024_S4x256x1024_0_1_2 (broadcastInDim S1x1x1024 ![2] bcast_S1024_S1x1x1024_2 (extractStridedSlice S1024 ![3072] (m ((c.tc : Thread nD τ).loc main_arg4)) slices_S6144_S1024_3072)))) (m ((c.tc : Thread nD τ).loc main_arg5))) (sitofp .f32 (constantI S_ 32 0#32)) pads_S4x256x5632_S4x258x5632_000_110_000 h_S_) slices_S4x258x5632_S4x256x5632_0_1_0) (broadcastInDim S4x256x5632 ![0, 1, 2] bcast_S1x1x5632_S4x256x5632_0_1_2 (broadcastInDim S1x1x5632 ![2] bcast_S5632_S1x1x5632_2 (shapeCast _ (extractStridedSlice S1x5632 ![1, 0] (m ((c.tc : Thread nD τ).loc main_arg6)) slices_S3x5632_S1x5632_1_0) shapeCasts_S1x5632_S5632))))) (mulf (extractStridedSlice S4x256x5632 ![0, 2, 0] (pad S4x258x5632 ![0, 1, 0] ![0, 1, 0] ![0, 0, 0] (Host.dotGeneral dot_S4x256x1024_S1024x5632_S4x256x5632_2_0_01_1_n_n none (addf (mulf (mulf (mulf (m ((c.tc : Thread nD τ).loc main_arg1)) (broadcastInDim S4x256x1024 ![0, 1, 2] bcast_S4x256x1_S4x256x1024_0_1_2 (Host.rsqrt (addf (Host.divf (broadcastInDim S4x256x1 ![0, 1] bcast_S4x256_S4x256x1_0_1 (Host.reduceAdd (mulf (m ((c.tc : Thread nD τ).loc main_arg1)) (m ((c.tc : Thread nD τ).loc main_arg1))) (constant S_ .f32 0x00000000#32) reducesTo_S4x256x1024_S4x256_d2 h_S_)) (broadcastInDim S4x256x1 ![] bcast_S_S4x256x1 (constant S_ .f32 0x44800000#32))) (broadcastInDim S4x256x1 ![] bcast_S_S4x256x1 (constant S_ .f32 0x358637BD#32)))))) (broadcastInDim S4x256x1024 ![0, 1, 2] bcast_S1x1x1024_S4x256x1024_0_1_2 (broadcastInDim S1x1x1024 ![2] bcast_S1024_S1x1x1024_2 (m ((c.tc : Thread nD τ).loc main_arg2))))) (broadcastInDim S4x256x1024 ![0, 1, 2] bcast_S1x1x1024_S4x256x1024_0_1_2 (broadcastInDim S1x1x1024 ![2] bcast_S1024_S1x1x1024_2 (addf (broadcastInDim S1024 ![] bcast_S_S1024 (constant S_ .f32 0x3F800000#32)) (extractStridedSlice S1024 ![4096] (m ((c.tc : Thread nD τ).loc main_arg4)) slices_S6144_S1024_4096))))) (broadcastInDim S4x256x1024 ![0, 1, 2] bcast_S1x1x1024_S4x256x1024_0_1_2 (broadcastInDim S1x1x1024 ![2] bcast_S1024_S1x1x1024_2 (extractStridedSlice S1024 ![3072] (m ((c.tc : Thread nD τ).loc main_arg4)) slices_S6144_S1024_3072)))) (m ((c.tc : Thread nD τ).loc main_arg5))) (sitofp .f32 (constantI S_ 32 0#32)) pads_S4x256x5632_S4x258x5632_000_110_000 h_S_) slices_S4x258x5632_S4x256x5632_0_2_0) (broadcastInDim S4x256x5632 ![0, 1, 2] bcast_S1x1x5632_S4x256x5632_0_1_2 (broadcastInDim S1x1x5632 ![2] bcast_S5632_S1x1x5632_2 (shapeCast _ (extractStridedSlice S1x5632 ![2, 0] (m ((c.tc : Thread nD τ).loc main_arg6)) slices_S3x5632_S1x5632_2_0) shapeCasts_S1x5632_S5632))))) slices_S4x256x5632_S4x256x2816_0_0_0)))))) (extractStridedSlice S4x256x2816 ![0, 0, 2816] (addf (addf (mulf (extractStridedSlice S4x256x5632 ![0, 0, 0] (pad S4x258x5632 ![0, 1, 0] ![0, 1, 0] ![0, 0, 0] (Host.dotGeneral dot_S4x256x1024_S1024x5632_S4x256x5632_2_0_01_1_n_n none (addf (mulf (mulf (mulf (m ((c.tc : Thread nD τ).loc main_arg1)) (broadcastInDim S4x256x1024 ![0, 1, 2] bcast_S4x256x1_S4x256x1024_0_1_2 (Host.rsqrt (addf (Host.divf (broadcastInDim S4x256x1 ![0, 1] bcast_S4x256_S4x256x1_0_1 (Host.reduceAdd (mulf (m ((c.tc : Thread nD τ).loc main_arg1)) (m ((c.tc : Thread nD τ).loc main_arg1))) (constant S_ .f32 0x00000000#32) reducesTo_S4x256x1024_S4x256_d2 h_S_)) (broadcastInDim S4x256x1 ![] bcast_S_S4x256x1 (constant S_ .f32 0x44800000#32))) (broadcastInDim S4x256x1 ![] bcast_S_S4x256x1 (constant S_ .f32 0x358637BD#32)))))) (broadcastInDim S4x256x1024 ![0, 1, 2] bcast_S1x1x1024_S4x256x1024_0_1_2 (broadcastInDim S1x1x1024 ![2] bcast_S1024_S1x1x1024_2 (m ((c.tc : Thread nD τ).loc main_arg2))))) (broadcastInDim S4x256x1024 ![0, 1, 2] bcast_S1x1x1024_S4x256x1024_0_1_2 (broadcastInDim S1x1x1024 ![2] bcast_S1024_S1x1x1024_2 (addf (broadcastInDim S1024 ![] bcast_S_S1024 (constant S_ .f32 0x3F800000#32)) (extractStridedSlice S1024 ![4096] (m ((c.tc : Thread nD τ).loc main_arg4)) slices_S6144_S1024_4096))))) (broadcastInDim S4x256x1024 ![0, 1, 2] bcast_S1x1x1024_S4x256x1024_0_1_2 (broadcastInDim S1x1x1024 ![2] bcast_S1024_S1x1x1024_2 (extractStridedSlice S1024 ![3072] (m ((c.tc : Thread nD τ).loc main_arg4)) slices_S6144_S1024_3072)))) (m ((c.tc : Thread nD τ).loc main_arg5))) (sitofp .f32 (constantI S_ 32 0#32)) pads_S4x256x5632_S4x258x5632_000_110_000 h_S_) slices_S4x258x5632_S4x256x5632_0_0_0) (broadcastInDim S4x256x5632 ![0, 1, 2] bcast_S1x1x5632_S4x256x5632_0_1_2 (broadcastInDim S1x1x5632 ![2] bcast_S5632_S1x1x5632_2 (shapeCast _ (extractStridedSlice S1x5632 ![0, 0] (m ((c.tc : Thread nD τ).loc main_arg6)) slices_S3x5632_S1x5632_0_0) shapeCasts_S1x5632_S5632)))) (mulf (extractStridedSlice S4x256x5632 ![0, 1, 0] (pad S4x258x5632 ![0, 1, 0] ![0, 1, 0] ![0, 0, 0] (Host.dotGeneral dot_S4x256x1024_S1024x5632_S4x256x5632_2_0_01_1_n_n none (addf (mulf (mulf (mulf (m ((c.tc : Thread nD τ).loc main_arg1)) (broadcastInDim S4x256x1024 ![0, 1, 2] bcast_S4x256x1_S4x256x1024_0_1_2 (Host.rsqrt (addf (Host.divf (broadcastInDim S4x256x1 ![0, 1] bcast_S4x256_S4x256x1_0_1 (Host.reduceAdd (mulf (m ((c.tc : Thread nD τ).loc main_arg1)) (m ((c.tc : Thread nD τ).loc main_arg1))) (constant S_ .f32 0x00000000#32) reducesTo_S4x256x1024_S4x256_d2 h_S_)) (broadcastInDim S4x256x1 ![] bcast_S_S4x256x1 (constant S_ .f32 0x44800000#32))) (broadcastInDim S4x256x1 ![] bcast_S_S4x256x1 (constant S_ .f32 0x358637BD#32)))))) (broadcastInDim S4x256x1024 ![0, 1, 2] bcast_S1x1x1024_S4x256x1024_0_1_2 (broadcastInDim S1x1x1024 ![2] bcast_S1024_S1x1x1024_2 (m ((c.tc : Thread nD τ).loc main_arg2))))) (broadcastInDim S4x256x1024 ![0, 1, 2] bcast_S1x1x1024_S4x256x1024_0_1_2 (broadcastInDim S1x1x1024 ![2] bcast_S1024_S1x1x1024_2 (addf (broadcastInDim S1024 ![] bcast_S_S1024 (constant S_ .f32 0x3F800000#32)) (extractStridedSlice S1024 ![4096] (m ((c.tc : Thread nD τ).loc main_arg4)) slices_S6144_S1024_4096))))) (broadcastInDim S4x256x1024 ![0, 1, 2] bcast_S1x1x1024_S4x256x1024_0_1_2 (broadcastInDim S1x1x1024 ![2] bcast_S1024_S1x1x1024_2 (extractStridedSlice S1024 ![3072] (m ((c.tc : Thread nD τ).loc main_arg4)) slices_S6144_S1024_3072)))) (m ((c.tc : Thread nD τ).loc main_arg5))) (sitofp .f32 (constantI S_ 32 0#32)) pads_S4x256x5632_S4x258x5632_000_110_000 h_S_) slices_S4x258x5632_S4x256x5632_0_1_0) (broadcastInDim S4x256x5632 ![0, 1, 2] bcast_S1x1x5632_S4x256x5632_0_1_2 (broadcastInDim S1x1x5632 ![2] bcast_S5632_S1x1x5632_2 (shapeCast _ (extractStridedSlice S1x5632 ![1, 0] (m ((c.tc : Thread nD τ).loc main_arg6)) slices_S3x5632_S1x5632_1_0) shapeCasts_S1x5632_S5632))))) (mulf (extractStridedSlice S4x256x5632 ![0, 2, 0] (pad S4x258x5632 ![0, 1, 0] ![0, 1, 0] ![0, 0, 0] (Host.dotGeneral dot_S4x256x1024_S1024x5632_S4x256x5632_2_0_01_1_n_n none (addf (mulf (mulf (mulf (m ((c.tc : Thread nD τ).loc main_arg1)) (broadcastInDim S4x256x1024 ![0, 1, 2] bcast_S4x256x1_S4x256x1024_0_1_2 (Host.rsqrt (addf (Host.divf (broadcastInDim S4x256x1 ![0, 1] bcast_S4x256_S4x256x1_0_1 (Host.reduceAdd (mulf (m ((c.tc : Thread nD τ).loc main_arg1)) (m ((c.tc : Thread nD τ).loc main_arg1))) (constant S_ .f32 0x00000000#32) reducesTo_S4x256x1024_S4x256_d2 h_S_)) (broadcastInDim S4x256x1 ![] bcast_S_S4x256x1 (constant S_ .f32 0x44800000#32))) (broadcastInDim S4x256x1 ![] bcast_S_S4x256x1 (constant S_ .f32 0x358637BD#32)))))) (broadcastInDim S4x256x1024 ![0, 1, 2] bcast_S1x1x1024_S4x256x1024_0_1_2 (broadcastInDim S1x1x1024 ![2] bcast_S1024_S1x1x1024_2 (m ((c.tc : Thread nD τ).loc main_arg2))))) (broadcastInDim S4x256x1024 ![0, 1, 2] bcast_S1x1x1024_S4x256x1024_0_1_2 (broadcastInDim S1x1x1024 ![2] bcast_S1024_S1x1x1024_2 (addf (broadcastInDim S1024 ![] bcast_S_S1024 (constant S_ .f32 0x3F800000#32)) (extractStridedSlice S1024 ![4096] (m ((c.tc : Thread nD τ).loc main_arg4)) slices_S6144_S1024_4096))))) (broadcastInDim S4x256x1024 ![0, 1, 2] bcast_S1x1x1024_S4x256x1024_0_1_2 (broadcastInDim S1x1x1024 ![2] bcast_S1024_S1x1x1024_2 (extractStridedSlice S1024 ![3072] (m ((c.tc : Thread nD τ).loc main_arg4)) slices_S6144_S1024_3072)))) (m ((c.tc : Thread nD τ).loc main_arg5))) (sitofp .f32 (constantI S_ 32 0#32)) pads_S4x256x5632_S4x258x5632_000_110_000 h_S_) slices_S4x258x5632_S4x256x5632_0_2_0) (broadcastInDim S4x256x5632 ![0, 1, 2] bcast_S1x1x5632_S4x256x5632_0_1_2 (broadcastInDim S1x1x5632 ![2] bcast_S5632_S1x1x5632_2 (shapeCast _ (extractStridedSlice S1x5632 ![2, 0] (m ((c.tc : Thread nD τ).loc main_arg6)) slices_S3x5632_S1x5632_2_0) shapeCasts_S1x5632_S5632))))) slices_S4x256x5632_S4x256x2816_0_0_2816)) (m ((c.tc : Thread nD τ).loc main_arg7))))) shapeCasts_S4x256x1024_S1024x1024)⟩] concatenates_S32768x1024_S1024x1024_S33792x1024_d0

/-- `res_main_v116` by its position among the values @main returns, 0 counting from 0: the name for hand proofs to cite, since
    a re-print renumbers `main_v116`. An abbreviation: it unfolds to the `res_main_v116` that `run` states. -/
abbrev res_out0 (m : (ℓ : Loc nD τ sig) → Buf (Elt F) ℓ) (c : Dev nD) : Buf (Elt F) ((c.tc : Thread nD τ).loc main_v116) := res_main_v116 m c

set_option maxRecDepth 8192 in
set_option maxHeartbeats 58000000 in
/-- On every device, for any float values, from any memory with zero counters: every weakly fair execution of
    @main terminates with each result at the operations' composed term of the arguments and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v116) = res_main_v116 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c main_v116).trans (by simp only [ops, TRef.binary, TRef.nullary, TRef.unary, TRef.toBuf, TRef.ofBuf, cast_eq]; after_results_simp <;> rfl <;> (unfold res_main_v116; rfl)),
      (h c main_arg0).trans (by simp only [ops, TRef.binary, TRef.nullary, TRef.unary, TRef.toBuf, TRef.ofBuf, cast_eq]; after_results_simp <;> rfl),
      (h c main_arg1).trans (by simp only [ops, TRef.binary, TRef.nullary, TRef.unary, TRef.toBuf, TRef.ofBuf, cast_eq]; after_results_simp <;> rfl),
      (h c main_arg2).trans (by simp only [ops, TRef.binary, TRef.nullary, TRef.unary, TRef.toBuf, TRef.ofBuf, cast_eq]; after_results_simp <;> rfl),
      (h c main_arg3).trans (by simp only [ops, TRef.binary, TRef.nullary, TRef.unary, TRef.toBuf, TRef.ofBuf, cast_eq]; after_results_simp <;> rfl),
      (h c main_arg4).trans (by simp only [ops, TRef.binary, TRef.nullary, TRef.unary, TRef.toBuf, TRef.ofBuf, cast_eq]; after_results_simp <;> rfl),
      (h c main_arg5).trans (by simp only [ops, TRef.binary, TRef.nullary, TRef.unary, TRef.toBuf, TRef.ofBuf, cast_eq]; after_results_simp <;> rfl),
      (h c main_arg6).trans (by simp only [ops, TRef.binary, TRef.nullary, TRef.unary, TRef.toBuf, TRef.ofBuf, cast_eq]; after_results_simp <;> rfl),
      (h c main_arg7).trans (by simp only [ops, TRef.binary, TRef.nullary, TRef.unary, TRef.toBuf, TRef.ofBuf, cast_eq]; after_results_simp <;> rfl)⟩)
    (run_seq scopedRefs_eq scopedSems_eq defs main (fun _ => ops) main_eq (fun _ => ops_sub) m ρ)

end Cert.Reference3Ideal.Value

end
-- ==== Proof.First.CtxTerm.lean ====
module

public import proofs.«01_k».proof.Proof.First.RefRun
public import proofs.«01_k».proof.Proof.Ffn.RefTerm
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Reference3Ideal.Ffn

open Cert.Reference3Ideal Cert.Reference3Ideal.Gen

/-- The reciprocal root of the mean square of each row. -/
def scaleC (h : FVec Ideal S4x256x1024 .f32) : FVec Ideal S4x256x1 .f32 :=
  Host.rsqrt (addf (Host.divf (broadcastInDim S4x256x1 ![0, 1] bcast_S4x256_S4x256x1_0_1 (Host.reduceAdd (mulf h h) (constant S_ .f32 0x00000000#32) reducesTo_S4x256x1024_S4x256_d2 h_S_)) (broadcastInDim S4x256x1 ![] bcast_S_S4x256x1 (constant S_ .f32 0x44800000#32))) (broadcastInDim S4x256x1 ![] bcast_S_S4x256x1 (constant S_ .f32 0x358637BD#32)))

/-- The normalised and modulated rows. -/
def normC (h : FVec Ideal S4x256x1024 .f32) (g : FVec Ideal S1024 .f32) (md : FVec Ideal S6144 .f32) : FVec Ideal S4x256x1024 .f32 :=
  addf (mulf (mulf (mulf h (broadcastInDim S4x256x1024 ![0, 1, 2] bcast_S4x256x1_S4x256x1024_0_1_2 (scaleC h))) (broadcastInDim S4x256x1024 ![0, 1, 2] bcast_S1x1x1024_S4x256x1024_0_1_2 (broadcastInDim S1x1x1024 ![2] bcast_S1024_S1x1x1024_2 g))) (broadcastInDim S4x256x1024 ![0, 1, 2] bcast_S1x1x1024_S4x256x1024_0_1_2 (broadcastInDim S1x1x1024 ![2] bcast_S1024_S1x1x1024_2 (addf (broadcastInDim S1024 ![] bcast_S_S1024 (constant S_ .f32 0x3F800000#32)) (extractStridedSlice S1024 ![4096] md slices_S6144_S1024_4096))))) (broadcastInDim S4x256x1024 ![0, 1, 2] bcast_S1x1x1024_S4x256x1024_0_1_2 (broadcastInDim S1x1x1024 ![2] bcast_S1024_S1x1x1024_2 (extractStridedSlice S1024 ![3072] md slices_S6144_S1024_3072)))

/-- The up projection. -/
def upC (u : FVec Ideal S4x256x1024 .f32) (w : FVec Ideal S1024x5632 .f32) : FVec Ideal S4x256x5632 .f32 :=
  Host.dotGeneral dot_S4x256x1024_S1024x5632_S4x256x5632_2_0_01_1_n_n none u w

/-- A projection with a zero row before each sequence and one after it. -/
def padC (x : FVec Ideal S4x256x5632 .f32) : FVec Ideal S4x258x5632 .f32 :=
  pad S4x258x5632 ![0, 1, 0] ![0, 1, 0] ![0, 0, 0] x (sitofp .f32 (constantI S_ 32 0#32) : FVec Ideal S_ .f32) pads_S4x256x5632_S4x258x5632_000_110_000 h_S_

/-- The convolution of three taps along the sequence. -/
def convC (x : FVec Ideal S4x258x5632 .f32) (cw : FVec Ideal S3x5632 .f32) : FVec Ideal S4x256x5632 .f32 :=
  addf (addf (mulf (extractStridedSlice S4x256x5632 ![0, 0, 0] x slices_S4x258x5632_S4x256x5632_0_0_0) (broadcastInDim S4x256x5632 ![0, 1, 2] bcast_S1x1x5632_S4x256x5632_0_1_2 (broadcastInDim S1x1x5632 ![2] bcast_S5632_S1x1x5632_2 (shapeCast S5632 (extractStridedSlice S1x5632 ![0, 0] cw slices_S3x5632_S1x5632_0_0 : FVec Ideal S1x5632 .f32) shapeCasts_S1x5632_S5632)))) (mulf (extractStridedSlice S4x256x5632 ![0, 1, 0] x slices_S4x258x5632_S4x256x5632_0_1_0) (broadcastInDim S4x256x5632 ![0, 1, 2] bcast_S1x1x5632_S4x256x5632_0_1_2 (broadcastInDim S1x1x5632 ![2] bcast_S5632_S1x1x5632_2 (shapeCast S5632 (extractStridedSlice S1x5632 ![1, 0] cw slices_S3x5632_S1x5632_1_0 : FVec Ideal S1x5632 .f32) shapeCasts_S1x5632_S5632))))) (mulf (extractStridedSlice S4x256x5632 ![0, 2, 0] x slices_S4x258x5632_S4x256x5632_0_2_0) (broadcastInDim S4x256x5632 ![0, 1, 2] bcast_S1x1x5632_S4x256x5632_0_1_2 (broadcastInDim S1x1x5632 ![2] bcast_S5632_S1x1x5632_2 (shapeCast S5632 (extractStridedSlice S1x5632 ![2, 0] cw slices_S3x5632_S1x5632_2_0 : FVec Ideal S1x5632 .f32) shapeCasts_S1x5632_S5632))))

/-- A value times its logistic function. -/
def siluC (x : FVec Ideal S4x256x2816 .f32) : FVec Ideal S4x256x2816 .f32 :=
  mulf x (Host.divf (broadcastInDim S4x256x2816 ![] bcast_S_S4x256x2816 (constant S_ .f32 0x3F800000#32)) (addf (broadcastInDim S4x256x2816 ![] bcast_S_S4x256x2816 (constant S_ .f32 0x3F800000#32)) (Host.exp (Host.negf x))))

/-- The gated activation: the first half of the features through its activation, times the second half. -/
def actC (x : FVec Ideal S4x256x5632 .f32) : FVec Ideal S4x256x2816 .f32 :=
  mulf (siluC (extractStridedSlice S4x256x2816 ![0, 0, 0] x slices_S4x256x5632_S4x256x2816_0_0_0)) (extractStridedSlice S4x256x2816 ![0, 0, 2816] x slices_S4x256x5632_S4x256x2816_0_0_2816)

/-- The down projection, scaled by the gate and added to the input. -/
def downC (h : FVec Ideal S4x256x1024 .f32) (md : FVec Ideal S6144 .f32) (a : FVec Ideal S4x256x2816 .f32)
    (w : FVec Ideal S2816x1024 .f32) : FVec Ideal S1024x1024 .f32 :=
  shapeCast S1024x1024 (addf h (mulf (broadcastInDim S4x256x1024 ![0, 1, 2] bcast_S1x1x1024_S4x256x1024_0_1_2 (broadcastInDim S1x1x1024 ![2] bcast_S1024_S1x1x1024_2 (extractStridedSlice S1024 ![5120] md slices_S6144_S1024_5120))) (Host.dotGeneral dot_S4x256x2816_S2816x1024_S4x256x1024_2_0_01_1_n_n none a w)) : FVec Ideal S4x256x1024 .f32) shapeCasts_S4x256x1024_S1024x1024

/-- The latents' rows followed by the context's. -/
def joinC (x : FVec Ideal S32768x1024 .f32) (y : FVec Ideal S1024x1024 .f32) : FVec Ideal S33792x1024 .f32 :=
  concatenate S33792x1024 0 [⟨S32768x1024, x⟩, ⟨S1024x1024, y⟩] concatenates_S32768x1024_S1024x1024_S33792x1024_d0

/-- The reference's result is the latents' rows followed by the context's. -/
theorem result_eq (m : (ℓ : Loc nD τ sig) → Buf (Elt Ideal) ℓ) (c : Dev nD) :
    Value.res_out0 m c = joinC
      (Cert.Reference2Ideal.Ffn.downR (m ((c.tc : Thread nD τ).loc main_arg0)) (m ((c.tc : Thread nD τ).loc main_arg3)) (Cert.Reference2Ideal.Ffn.actR (Cert.Reference2Ideal.Ffn.convR
        (Cert.Reference2Ideal.Ffn.padR (Cert.Reference2Ideal.Ffn.upR (Cert.Reference2Ideal.Ffn.normR (m ((c.tc : Thread nD τ).loc main_arg0)) (m ((c.tc : Thread nD τ).loc main_arg2)) (m ((c.tc : Thread nD τ).loc main_arg3))) (m ((c.tc : Thread nD τ).loc main_arg5)))) (m ((c.tc : Thread nD τ).loc main_arg6)))) (m ((c.tc : Thread nD τ).loc main_arg7)))
      (downC (m ((c.tc : Thread nD τ).loc main_arg1)) (m ((c.tc : Thread nD τ).loc main_arg4)) (actC (convC (padC (upC (normC (m ((c.tc : Thread nD τ).loc main_arg1)) (m ((c.tc : Thread nD τ).loc main_arg2)) (m ((c.tc : Thread nD τ).loc main_arg4))) (m ((c.tc : Thread nD τ).loc main_arg5)))) (m ((c.tc : Thread nD τ).loc main_arg6)))) (m ((c.tc : Thread nD τ).loc main_arg7))) := rfl

end Cert.Reference3Ideal.Ffn

end
-- ==== Proof.First.CtxAt.lean ====
module

public import proofs.«01_k».proof.Proof.First.CtxTerm

@[expose] public section

set_option maxRecDepth 16384

noncomputable section

open Idealize.ShloMosaic Idealize.ShloMosaic.TcCoe Idealize.SL.Sem
open Idealize.ShloMosaic.Pipeline (Dat)

namespace Cert.Reference3Ideal.Ffn

open Cert.Reference3Ideal Cert.Reference3Ideal.Gen

/-- The up projection at an element. -/
theorem upC_at (u : FVec Ideal S4x256x1024 .f32) (w : FVec Ideal S1024x5632 .f32) (b : Fin 4) (p : Fin 256) (f : Fin 5632) :
    upC u w (ix3 b p f) = ∑ k, u (ix3 b p k) * w (ix2 k f) := by
  pointwise [upC]

/-- A padded projection at an element. -/
theorem padC_at (x : FVec Ideal S4x256x5632 .f32) (b : Fin 4) (p : Fin 258) (f : Fin 5632) :
    padC x (ix3 b p f) = if h : 1 ≤ p.val ∧ p.val ≤ 256 then x (ix3 b ⟨p.val - 1, by omega⟩ f) else 0 := by
  pointwise [padC]
  have e : (FloatOps.sitofp FTy.f32 0#32 : Ideal FTy.f32) = (0 : EReal) := by simp [FloatOps.sitofp]
  by_cases h : 1 ≤ p.val ∧ p.val ≤ 256
  · rw [dif_pos h, dif_pos ⟨h.1, by omega⟩]
  · rw [dif_neg h, dif_neg (by omega)]
    exact e

/-- The convolution at an element. -/
theorem convC_at (x : FVec Ideal S4x258x5632 .f32) (cw : FVec Ideal S3x5632 .f32) (b : Fin 4) (p : Fin 256) (f : Fin 5632) :
    convC x cw (ix3 b p f) = x (ix3 b ⟨p.val, by omega⟩ f) * cw (ix2 0 f) + x (ix3 b ⟨1 + p.val, by omega⟩ f) * cw (ix2 1 f)
      + x (ix3 b ⟨2 + p.val, by omega⟩ f) * cw (ix2 2 f) := by
  pointwise [convC]

/-- The activation at an element. -/
theorem actC_at (x : FVec Ideal S4x256x5632 .f32) (b : Fin 4) (p : Fin 256) (f : Fin 2816) :
    actC x (ix3 b p f) = x (ix3 b p ⟨f.val, by omega⟩) * Ideal.div (Ideal.ofBits .f32 0x3F800000#32) (Ideal.ofBits .f32 0x3F800000#32 + Ideal.exp (-x (ix3 b p ⟨f.val, by omega⟩)))
      * x (ix3 b p ⟨2816 + f.val, by omega⟩) := by
  pointwise [actC, siluC]

/-- The result at an element. -/
theorem downC_at (h : FVec Ideal S4x256x1024 .f32) (md : FVec Ideal S6144 .f32) (a : FVec Ideal S4x256x2816 .f32)
    (w : FVec Ideal S2816x1024 .f32) (b : Fin 4) (p : Fin 256) (d : Fin 1024) (i : Fin 1024) (hi : i.val = b.val * 256 + p.val) :
    downC h md a w (ix2 i d) = h (ix3 b p d) + md (ix1 ⟨5120 + d.val, by omega⟩) * ∑ f, a (ix3 b p f) * w (ix2 f d) := by
  have e1 : i.val / 256 = b.val := by omega
  have e2 : i.val % 256 = p.val := by omega
  pointwise [downC]
  simp only [e1, e2, Fin.eta]

/-- The scale of a row. -/
theorem scaleC_at (h : FVec Ideal S4x256x1024 .f32) (b : Fin 4) (p : Fin 256) :
    scaleC h (ix3 b p 0) = Ideal.rsqrt (Ideal.div (∑ k, h (ix3 b p k) * h (ix3 b p k)) (Ideal.ofBits .f32 0x44800000#32) + Ideal.ofBits .f32 0x358637BD#32) := by
  pointwise [scaleC]

/-- A normalised and modulated element. -/
theorem normC_at (h : FVec Ideal S4x256x1024 .f32) (g : FVec Ideal S1024 .f32) (md : FVec Ideal S6144 .f32) (b : Fin 4) (p : Fin 256) (k : Fin 1024) :
    normC h g md (ix3 b p k) = h (ix3 b p k) * scaleC h (ix3 b p 0) * g (ix1 k)
      * (Ideal.ofBits .f32 0x3F800000#32 + md (ix1 ⟨4096 + k.val, by omega⟩)) + md (ix1 ⟨3072 + k.val, by omega⟩) := by
  pointwise [normC]

/-- A latent's row of the joined array. -/
theorem joinC_lat (x : FVec Ideal S32768x1024 .f32) (y : FVec Ideal S1024x1024 .f32) (i : Fin 33792) (d : Fin 1024) (h : i.val < 32768) :
    joinC x y (ix2 i d) = x (ix2 ⟨i.val, h⟩ d) := by
  pointwise [joinC]
  exact dif_pos h

/-- A context's row of the joined array. -/
theorem joinC_ctx (x : FVec Ideal S32768x1024 .f32) (y : FVec Ideal S1024x1024 .f32) (i : Fin 33792) (d : Fin 1024) (h : ¬ i.val < 32768) :
    joinC x y (ix2 i d) = y (ix2 ⟨i.val - 32768, by omega⟩ d) := by
  pointwise [joinC]
  exact dif_neg h

end Cert.Reference3Ideal.Ffn

end
-- ==== Proof.First.Equation.lean ====
module

public import proofs.«01_k».proof.Proof.First.Out
public import proofs.«01_k».proof.Proof.First.CtxAt
public import proofs.«01_k».proof.Proof.Ffn.Equation

@[expose] public section

set_option maxRecDepth 16384

noncomputable section

open Idealize.ShloMosaic Idealize.ShloMosaic.TcCoe Idealize.SL.Sem
open Idealize.ShloMosaic.Pipeline (Dat)

namespace Cert.Kernel3Ideal.Ffn

open Cert.Kernel3Ideal Cert.Kernel3Ideal.Gen

variable (m : (ℓ : Loc nD τ sig) → Buf (Elt Ideal) ℓ)

/-- A row of the latents that a step reads is the residual stream's row, where its position lies in the sequence. -/
theorem rows_lat (c : Dev nD) (t : Fin cfg0.N) (ρ : Fin 272) (k : Fin 1024) (b : Fin 4) (p : Fin 8192) (hb : b.val = t.val / 32)
    (hp : p.val + 8 = t.val % 32 * 256 + ρ.val) :
    rowsK (iblk m c 1 t) (iblk m c 0 t) (iblk m c 2 t) ρ k = hArg m c (ix3 b p k) := by
  have hN : cfg0.N = 132 := by decide
  have ht : t.val < 132 := hN ▸ t.isLt
  have hρ := ρ.isLt
  have hpl := p.isLt
  have hm : t.val = b.val * 32 + t.val % 32 := by omega
  obtain ⟨i, hi⟩ : ∃ i : Fin 33792, i.val = b.val * 8192 + p.val := ⟨⟨b.val * 8192 + p.val, by omega⟩, rfl⟩
  rw [← rowsOf_lat (hArg m c) (gArg m c) b p i k hi, ← host_h m c]
  unfold rowsK
  by_cases h1 : ρ.val < 8
  · rw [dif_pos h1]
    exact blk_p m c t ⟨ρ.val, h1⟩ k i (by show i.val = (32 * t.val - 1) * 8 + ρ.val; omega)
  · rw [dif_neg h1]
    by_cases h2 : ρ.val - 8 < 256
    · rw [dif_pos h2]
      exact blk_h m c t ⟨ρ.val - 8, h2⟩ k i (by show i.val = t.val * 256 + (ρ.val - 8); omega)
    · rw [dif_neg h2]
      exact blk_n m c t ⟨ρ.val - 8 - 256, by omega⟩ k i (by
        show i.val = min (32 * (t.val + 1)) 4223 * 8 + (ρ.val - 8 - 256)
        have : min (32 * (t.val + 1)) 4223 = 32 * (t.val + 1) := min_eq_left (by omega)
        rw [this]
        omega)

/-- A row of the context that a step reads is the residual stream's row, where its position lies in the sequence. -/
theorem rows_ctx (c : Dev nD) (t : Fin cfg0.N) (ρ : Fin 272) (k : Fin 1024) (b : Fin 4) (p : Fin 256) (hb : 128 + b.val = t.val)
    (hp : p.val + 8 = ρ.val) :
    rowsK (iblk m c 1 t) (iblk m c 0 t) (iblk m c 2 t) ρ k = gArg m c (ix3 b p k) := by
  have hpl := p.isLt
  obtain ⟨i, hi⟩ : ∃ i : Fin 33792, i.val = 32768 + (b.val * 256 + p.val) := ⟨⟨32768 + (b.val * 256 + p.val), by omega⟩, rfl⟩
  rw [← rowsOf_ctx (hArg m c) (gArg m c) b p i k hi, ← host_h m c]
  unfold rowsK
  rw [dif_neg (by omega), dif_pos (by omega)]
  exact blk_h m c t ⟨ρ.val - 8, by omega⟩ k i (by show i.val = t.val * 256 + (ρ.val - 8); omega)

/-- The modulation of a step of the latents. -/
theorem mod_lat (c : Dev nD) (t : Fin cfg0.N) (b : Fin 4) (hb : b.val = t.val / 32) (q : Fin 6144) :
    dBlk m c t (ix3 0 0 q) = dArg m c (ix2 b q) :=
  (blk_d m c t 0 0 q ⟨b.val, by omega⟩ (by show b.val = min (t.val / 32) 4; rw [min_eq_left (by omega)]; exact hb)).trans
    ((congrFun (host_d m c) _).trans (modOf_lat _ _ b q))

/-- The modulation of a step of the context. -/
theorem mod_ctx (c : Dev nD) (t : Fin cfg0.N) (h : 128 ≤ t.val) (q : Fin 6144) :
    dBlk m c t (ix3 0 0 q) = eArg m c (ix1 q) :=
  (blk_d m c t 0 0 q 4 (by show 4 = min (t.val / 32) 4; rw [min_eq_right (by omega)])).trans
    ((congrFun (host_d m c) _).trans (modOf_ctx _ _ q))

/-- A row of a step is its normalised row, or zero where its position lies outside the sequence. -/
theorem u_at (c : Dev nD) (t : Fin cfg0.N) (ρ : Fin 272) (k : Fin 1024) : uBlk m c t (ix2 ρ k)
    = if 8 ≤ posN t.val + ρ.val ∧ posN t.val + ρ.val < lenN t.val + 8 then
        k0_pay4 (F := Ideal) (iblk m c 4 t) (iblk m c 1 t) (iblk m c 0 t) (iblk m c 2 t) (iblk m c 3 t) (ix2 ρ k) else 0 := by
  have hN : cfg0.N = 132 := by decide
  unfold uBlk
  rw [len_val, pos_val]
  exact pay5_at ⟨t.val, hN ▸ t.isLt⟩ _ ρ k

open Cert.Reference2Ideal.Ffn in
/-- A normalised row of a step of the latents is the reference's, where its position lies in the sequence. -/
theorem u_in_lat (c : Dev nD) (t : Fin cfg0.N) (ρ : Fin 272) (k : Fin 1024) (b : Fin 4) (p : Fin 8192) (ht : t.val < 128) (hb : b.val = t.val / 32)
    (hp : p.val + 8 = t.val % 32 * 256 + ρ.val) :
    uBlk m c t (ix2 ρ k) = normR (hArg m c) (nArg m c) (dArg m c) (ix3 b p k) := by
  have hpl := p.isLt
  rw [u_at, show posN t.val = t.val % 32 * 256 from if_pos ht, show lenN t.val = 8192 from if_pos ht, if_pos (by omega)]
  refine (pay4_at _ _ _ _ _ ρ k).trans ?_
  simp only [fun x => rows_lat m c t ρ x b p hb hp]
  rw [normR_at, scaleR_at]
  have e1 : ∀ q : Fin 6144, dBlk m c t (ix3 0 0 q) = dArg m c (ix2 b q) := mod_lat m c t b hb
  have e2 : (iblk m c 3 t : FVec Ideal S1x1024 .f32) (ix2 0 k) = nArg m c (ix1 k) := (blk_g m c t 0 k).trans (host_n m c k)
  exact congr (congrArg _ (congr (congrArg _ (congrArg _ e2)) (congrArg _ (e1 _)))) (e1 _)

open Cert.Reference2Ideal.Ffn in
/-- The up projection of a step's row of the latents is the reference's padded projection. -/
theorem up_lat (c : Dev nD) (t : Fin cfg0.N) (ρ : Fin 272) (f : Fin 5632) (b : Fin 4) (p : Fin 8194) (ht : t.val < 128) (hb : b.val = t.val / 32)
    (hp : p.val + 7 = t.val % 32 * 256 + ρ.val) :
    (∑ k : Fin 1024, uBlk m c t (ix2 ρ k) * (iblk m c 5 t : FVec Ideal S1024x5632 .bf16) (ix2 k f))
      = padR (upR (normR (hArg m c) (nArg m c) (dArg m c)) (uArg m c)) (ix3 b p f) := by
  have hw : ∀ k : Fin 1024, (iblk m c 5 t : FVec Ideal S1024x5632 .bf16) (ix2 k f) = uArg m c (ix2 k f) := fun k =>
    (blk_u m c t k f).trans (host_u m c k f)
  rw [padR_at]
  by_cases h : 1 ≤ p.val ∧ p.val ≤ 8192
  · rw [dif_pos h, upR_at]
    refine Finset.sum_congr rfl fun k _ => ?_
    rw [hw, u_in_lat m c t ρ k b ⟨p.val - 1, by omega⟩ ht hb (by show p.val - 1 + 8 = _; omega)]
  · rw [dif_neg h]
    refine Finset.sum_eq_zero fun k _ => ?_
    rw [u_at, show posN t.val = t.val % 32 * 256 from if_pos ht, show lenN t.val = 8192 from if_pos ht, if_neg (by omega), zero_mul]

open Cert.Reference2Ideal.Ffn in
/-- The convolution of a step of the latents is the reference's. -/
theorem conv_lat (c : Dev nD) (t : Fin cfg0.N) (r : Fin 256) (f : Fin 5632) (b : Fin 4) (p : Fin 8192) (ht : t.val < 128) (hb : b.val = t.val / 32)
    (hp : p.val = t.val % 32 * 256 + r.val) :
    convK (uBlk m c t) (iblk m c 5 t) (iblk m c 6 t) r f
      = convR (padR (upR (normR (hArg m c) (nArg m c) (dArg m c)) (uArg m c))) (cArg m c) (ix3 b p f) := by
  have hc : ∀ k : Fin 3, (iblk m c 6 t : FVec Ideal S3x5632 .f32) (ix2 k f) = cArg m c (ix2 k f) := fun k =>
    (blk_c m c t k f).trans (host_c m c k f)
  unfold convK
  rw [convR_at, up_lat m c t ⟨7 + r.val, by omega⟩ f b ⟨p.val, by omega⟩ ht hb (by show p.val + 7 = _ + (7 + r.val); omega),
    up_lat m c t ⟨8 + r.val, by omega⟩ f b ⟨1 + p.val, by omega⟩ ht hb (by show 1 + p.val + 7 = _ + (8 + r.val); omega),
    up_lat m c t ⟨9 + r.val, by omega⟩ f b ⟨2 + p.val, by omega⟩ ht hb (by show 2 + p.val + 7 = _ + (9 + r.val); omega), hc, hc, hc]

open Cert.Reference3Ideal.Ffn in
/-- A normalised row of a step of the context is the reference's, where its position lies in the sequence. -/
theorem u_in_ctx (c : Dev nD) (t : Fin cfg0.N) (ρ : Fin 272) (k : Fin 1024) (b : Fin 4) (p : Fin 256) (hb : 128 + b.val = t.val)
    (hp : p.val + 8 = 0 + ρ.val) :
    uBlk m c t (ix2 ρ k) = normC (gArg m c) (nArg m c) (eArg m c) (ix3 b p k) := by
  have hpl := p.isLt
  rw [u_at, show posN t.val = 0 from if_neg (by omega), show lenN t.val = 256 from if_neg (by omega), if_pos (by omega)]
  refine (pay4_at _ _ _ _ _ ρ k).trans ?_
  simp only [fun x => rows_ctx m c t ρ x b p hb (by omega)]
  rw [normC_at, scaleC_at]
  have e1 : ∀ q : Fin 6144, dBlk m c t (ix3 0 0 q) = eArg m c (ix1 q) := mod_ctx m c t (by omega)
  have e2 : (iblk m c 3 t : FVec Ideal S1x1024 .f32) (ix2 0 k) = nArg m c (ix1 k) := (blk_g m c t 0 k).trans (host_n m c k)
  exact congr (congrArg _ (congr (congrArg _ (congrArg _ e2)) (congrArg _ (e1 _)))) (e1 _)

open Cert.Reference3Ideal.Ffn in
/-- The up projection of a step's row of the context is the reference's padded projection. -/
theorem up_ctx (c : Dev nD) (t : Fin cfg0.N) (ρ : Fin 272) (f : Fin 5632) (b : Fin 4) (p : Fin 258) (hb : 128 + b.val = t.val)
    (hp : p.val + 7 = 0 + ρ.val) :
    (∑ k : Fin 1024, uBlk m c t (ix2 ρ k) * (iblk m c 5 t : FVec Ideal S1024x5632 .bf16) (ix2 k f))
      = padC (upC (normC (gArg m c) (nArg m c) (eArg m c)) (uArg m c)) (ix3 b p f) := by
  have hw : ∀ k : Fin 1024, (iblk m c 5 t : FVec Ideal S1024x5632 .bf16) (ix2 k f) = uArg m c (ix2 k f) := fun k =>
    (blk_u m c t k f).trans (host_u m c k f)
  rw [padC_at]
  by_cases h : 1 ≤ p.val ∧ p.val ≤ 256
  · rw [dif_pos h, upC_at]
    refine Finset.sum_congr rfl fun k _ => ?_
    rw [hw, u_in_ctx m c t ρ k b ⟨p.val - 1, by omega⟩ hb (by show p.val - 1 + 8 = _; omega)]
  · rw [dif_neg h]
    refine Finset.sum_eq_zero fun k _ => ?_
    rw [u_at, show posN t.val = 0 from if_neg (by omega), show lenN t.val = 256 from if_neg (by omega), if_neg (by omega), zero_mul]

open Cert.Reference3Ideal.Ffn in
/-- The convolution of a step of the context is the reference's. -/
theorem conv_ctx (c : Dev nD) (t : Fin cfg0.N) (r : Fin 256) (f : Fin 5632) (b : Fin 4) (p : Fin 256) (hb : 128 + b.val = t.val)
    (hp : p.val = 0 + r.val) :
    convK (uBlk m c t) (iblk m c 5 t) (iblk m c 6 t) r f
      = convC (padC (upC (normC (gArg m c) (nArg m c) (eArg m c)) (uArg m c))) (cArg m c) (ix3 b p f) := by
  have hc : ∀ k : Fin 3, (iblk m c 6 t : FVec Ideal S3x5632 .f32) (ix2 k f) = cArg m c (ix2 k f) := fun k =>
    (blk_c m c t k f).trans (host_c m c k f)
  unfold convK
  rw [convC_at, up_ctx m c t ⟨7 + r.val, by omega⟩ f b ⟨p.val, by omega⟩ hb (by show p.val + 7 = _ + (7 + r.val); omega),
    up_ctx m c t ⟨8 + r.val, by omega⟩ f b ⟨1 + p.val, by omega⟩ hb (by show 1 + p.val + 7 = _ + (8 + r.val); omega),
    up_ctx m c t ⟨9 + r.val, by omega⟩ f b ⟨2 + p.val, by omega⟩ hb (by show 2 + p.val + 7 = _ + (9 + r.val); omega), hc, hc, hc]

open Cert.Reference3Ideal.Ffn in
/-- The reference's convolution of the context's numbers is a number. -/
theorem real_ctx (h : FVec Ideal S4x256x1024 .f32) (g : FVec Ideal S1024 .f32)
    (md : FVec Ideal S6144 .f32) (wu : FVec Ideal S1024x5632 .f32) (cw : FVec Ideal S3x5632 .f32)
    (rh : ∀ i, ∃ x : ℝ, h i = x) (rg : ∀ i, ∃ x : ℝ, g i = x) (rm : ∀ i, ∃ x : ℝ, md i = x) (ru : ∀ i, ∃ x : ℝ, wu i = x) (rc : ∀ i, ∃ x : ℝ, cw i = x)
    (b : Fin 4) (p : Fin 256) (f : Fin 5632) : ∃ x : ℝ, convC (padC (upC (normC h g md) wu)) cw (ix3 b p f) = x := by
  have hn : ∀ (p : Fin 256) (k : Fin 1024), ∃ x : ℝ, normC h g md (ix3 b p k) = x := fun p k => by
    rw [normC_at, scaleC_at]
    exact _root_.Ffn.real_add (_root_.Ffn.real_mul (_root_.Ffn.real_mul (_root_.Ffn.real_mul (rh _) (_root_.Ffn.scale_real _ fun x => rh _)) (rg _))
      (_root_.Ffn.real_add ⟨1, Ideal.ofBits_one_f32⟩ (rm _))) (rm _)
  have hp : ∀ p : Fin 258, ∃ x : ℝ, padC (upC (normC h g md) wu) (ix3 b p f) = x := fun p => by
    rw [padC_at]
    split
    · rw [upC_at]
      exact _root_.Ffn.real_sum _ fun k => _root_.Ffn.real_mul (hn _ k) (ru _)
    · exact ⟨0, rfl⟩
  rw [convC_at]
  exact _root_.Ffn.real_add (_root_.Ffn.real_add (_root_.Ffn.real_mul (hp _) (rc _)) (_root_.Ffn.real_mul (hp _) (rc _))) (_root_.Ffn.real_mul (hp _) (rc _))

open Cert.Reference2Ideal.Ffn in
/-- The block written at a step of the latents holds the reference's rows. -/
theorem block_lat (c : Dev nD)
    (rh : ∀ i, ∃ x : ℝ, hArg m c i = x) (rg : ∀ i, ∃ x : ℝ, nArg m c i = x) (rm : ∀ i, ∃ x : ℝ, dArg m c i = x) (ru : ∀ i, ∃ x : ℝ, uArg m c i = x) (rc : ∀ i, ∃ x : ℝ, cArg m c i = x)
    (t : Fin cfg0.N) (r : Fin 256) (d : Fin 1024) (b : Fin 4) (p : Fin 8192) (i : Fin 32768) (ht : t.val < 128) (hb : b.val = t.val / 32) (hp : p.val = t.val % 32 * 256 + r.val) (hi : i.val = b.val * 8192 + p.val) :
    outsAt0 m c t (ix2 r d) = downR (hArg m c) (dArg m c) (actR (convR (padR (upR (normR (hArg m c) (nArg m c) (dArg m c)) (uArg m c))) (cArg m c))) (wArg m c) (ix2 i d) := by
  have hr := r.isLt
  have hbl := b.isLt
  obtain ⟨j, hj⟩ : ∃ j : Fin 33792, j.val = t.val * 256 + r.val := ⟨⟨t.val * 256 + r.val, by omega⟩, rfl⟩
  rw [blk_out m c t r d, downR_at _ _ _ _ b p d i hi]
  have e0 : hBlk m c t (ix2 r d) = hArg m c (ix3 b p d) := (blk_h m c t r d j hj).trans
    ((congrFun (host_h m c) _).trans (rowsOf_lat _ _ b p j d (by omega)))
  have e1 : ∀ q : Fin 6144, dBlk m c t (ix3 0 0 q) = dArg m c (ix2 b q) := mod_lat m c t b hb
  have e2 : ∀ f : Fin 2816, wBlk m c t (ix2 f d) = wArg m c (ix2 f d) := fun f => (blk_w m c t f d).trans (host_w m c f d)
  have e3 : ∀ f : Fin 2816, actK (uBlk m c t) (iblk m c 5 t) (iblk m c 6 t) (ix2 r f)
      = actR (convR (padR (upR (normR (hArg m c) (nArg m c) (dArg m c)) (uArg m c))) (cArg m c)) (ix3 b p f) := fun f => by
    rw [actR_at]
    have k : ∀ q : Fin 5632, convK (uBlk m c t) (iblk m c 5 t) (iblk m c 6 t) r q = convR (padR (upR (normR (hArg m c) (nArg m c) (dArg m c)) (uArg m c))) (cArg m c) (ix3 b p q) :=
      fun q => conv_lat m c t r q b p ht hb hp
    show gated (convK _ _ _ r ⟨f.val, by omega⟩) (convK _ _ _ r ⟨2816 + f.val, by omega⟩) = _
    rw [k, k]
    unfold gated
    rw [_root_.Ffn.silu_eq _ (Cert.Kernel2Ideal.Ffn.conv_real _ _ _ _ _ rh rg rm ru rc b p _)]
  rw [e0, e1]
  simp only [e2, e3]

open Cert.Reference3Ideal.Ffn in
/-- The block written at a step of the context holds the reference's rows. -/
theorem block_ctx (c : Dev nD)
    (rh : ∀ i, ∃ x : ℝ, gArg m c i = x) (rg : ∀ i, ∃ x : ℝ, nArg m c i = x) (rm : ∀ i, ∃ x : ℝ, eArg m c i = x) (ru : ∀ i, ∃ x : ℝ, uArg m c i = x) (rc : ∀ i, ∃ x : ℝ, cArg m c i = x)
    (t : Fin cfg0.N) (r : Fin 256) (d : Fin 1024) (b : Fin 4) (p : Fin 256) (i : Fin 1024) (hb : 128 + b.val = t.val) (hp : p.val = 0 + r.val) (hi : i.val = b.val * 256 + p.val) :
    outsAt0 m c t (ix2 r d) = downC (gArg m c) (eArg m c) (actC (convC (padC (upC (normC (gArg m c) (nArg m c) (eArg m c)) (uArg m c))) (cArg m c))) (wArg m c) (ix2 i d) := by
  have hr := r.isLt
  have hbl := b.isLt
  obtain ⟨j, hj⟩ : ∃ j : Fin 33792, j.val = t.val * 256 + r.val := ⟨⟨t.val * 256 + r.val, by omega⟩, rfl⟩
  rw [blk_out m c t r d, downC_at _ _ _ _ b p d i hi]
  have e0 : hBlk m c t (ix2 r d) = gArg m c (ix3 b p d) := (blk_h m c t r d j hj).trans
    ((congrFun (host_h m c) _).trans (rowsOf_ctx _ _ b p j d (by omega)))
  have e1 : ∀ q : Fin 6144, dBlk m c t (ix3 0 0 q) = eArg m c (ix1 q) := mod_ctx m c t (by omega)
  have e2 : ∀ f : Fin 2816, wBlk m c t (ix2 f d) = wArg m c (ix2 f d) := fun f => (blk_w m c t f d).trans (host_w m c f d)
  have e3 : ∀ f : Fin 2816, actK (uBlk m c t) (iblk m c 5 t) (iblk m c 6 t) (ix2 r f)
      = actC (convC (padC (upC (normC (gArg m c) (nArg m c) (eArg m c)) (uArg m c))) (cArg m c)) (ix3 b p f) := fun f => by
    rw [actC_at]
    have k : ∀ q : Fin 5632, convK (uBlk m c t) (iblk m c 5 t) (iblk m c 6 t) r q = convC (padC (upC (normC (gArg m c) (nArg m c) (eArg m c)) (uArg m c))) (cArg m c) (ix3 b p q) :=
      fun q => conv_ctx m c t r q b p hb hp
    show gated (convK _ _ _ r ⟨f.val, by omega⟩) (convK _ _ _ r ⟨2816 + f.val, by omega⟩) = _
    rw [k, k]
    unfold gated
    rw [_root_.Ffn.silu_eq _ (real_ctx _ _ _ _ _ rh rg rm ru rc b p _)]
  rw [e0, e1]
  simp only [e2, e3]

open Cert.Reference2Ideal.Ffn Cert.Reference3Ideal.Ffn in
/-- The block written at a step holds the reference's rows. -/
theorem equation (c : Dev nD) (h : FVec Ideal S4x8192x1024 .f32) (hc : FVec Ideal S4x256x1024 .f32) (g : FVec Ideal S1024 .f32)
    (md : FVec Ideal S4x6144 .f32) (mc : FVec Ideal S6144 .f32) (wu : FVec Ideal S1024x5632 .f32) (cw : FVec Ideal S3x5632 .f32)
    (wd : FVec Ideal S2816x1024 .f32)
    (eh : hArg m c = h) (eh' : gArg m c = hc) (eg : nArg m c = g) (em : dArg m c = md) (em' : eArg m c = mc)
    (eu : uArg m c = wu) (ec : cArg m c = cw) (ed : wArg m c = wd)
    (rh : ∀ i, ∃ x : ℝ, h i = x) (rh' : ∀ i, ∃ x : ℝ, hc i = x) (rg : ∀ i, ∃ x : ℝ, g i = x) (rm : ∀ i, ∃ x : ℝ, md i = x) (rm' : ∀ i, ∃ x : ℝ, mc i = x)
    (ru : ∀ i, ∃ x : ℝ, wu i = x) (rc : ∀ i, ∃ x : ℝ, cw i = x)
    (t : Fin cfg0.N) (r : Fin 256) (d : Fin 1024) (i : Fin 33792) (hi : i.val = t.val * 256 + r.val) :
    outsAt0 m c t (ix2 r d) = joinC (downR h md (actR (convR (padR (upR (normR h g md) wu)) cw)) wd)
      (downC hc mc (actC (convC (padC (upC (normC hc g mc) wu)) cw)) wd) (ix2 i d) := by
  subst eh eh' eg em em' eu ec ed
  have hN : cfg0.N = 132 := by decide
  have ht : t.val < 132 := hN ▸ t.isLt
  have hr := r.isLt
  by_cases h1 : t.val < 128
  · rw [joinC_lat _ _ i d (by omega)]
    exact block_lat m c rh rg rm ru rc t r d ⟨t.val / 32, by omega⟩ ⟨t.val % 32 * 256 + r.val, by omega⟩ _ h1 rfl rfl
      (by show i.val = t.val / 32 * 8192 + (t.val % 32 * 256 + r.val); omega)
  · rw [joinC_ctx _ _ i d (by omega)]
    exact block_ctx m c rh' rg rm' ru rc t r d ⟨t.val - 128, by omega⟩ ⟨r.val, hr⟩ _ (by show 128 + (t.val - 128) = t.val; omega)
      (by show r.val = 0 + r.val; omega) (by show i.val - 32768 = (t.val - 128) * 256 + r.val; omega)

end Cert.Kernel3Ideal.Ffn

end
-- ==== Proof.Inp.Block.lean ====
module

public import proofs.«01_k».proof.Proof.Gen.Kernel4Ideal.Value
public import Idealize.ShloMosaic.Lib.Pipeline.ValueKit
public import Idealize.ShloMosaic.Lib.Pointwise
public import Idealize.ShloMosaic.Lib.Claim
public import Idealize.ShloMosaic.Lib.Tactic.CleanTypes

@[expose] public section

set_option maxRecDepth 16384

noncomputable section

open Idealize.ShloMosaic Idealize.ShloMosaic.TcCoe Idealize.SL.Sem
open Idealize.ShloMosaic.Pipeline (Dat)

namespace Cert.Kernel4Ideal.Inp

open Cert.Kernel4Ideal Cert.Kernel4Ideal.Gen

variable (m : (ℓ : Loc nD τ sig) → Buf (Elt Ideal) ℓ)

/-- The latents of the memory. -/
abbrev hArg (c : Dev nD) : FVec Ideal S4x8192x1024 .f32 := m ((c.tc : Thread nD τ).loc main_arg0)
/-- The context of the memory. -/
abbrev gArg (c : Dev nD) : FVec Ideal S4x256x1024 .f32 := m ((c.tc : Thread nD τ).loc main_arg1)
/-- The norm's weight of the memory. -/
abbrev nArg (c : Dev nD) : FVec Ideal S1024 .f32 := m ((c.tc : Thread nD τ).loc main_arg2)
/-- The latents' modulation of the memory. -/
abbrev dArg (c : Dev nD) : FVec Ideal S4x6144 .f32 := m ((c.tc : Thread nD τ).loc main_arg3)
/-- The context's modulation of the memory. -/
abbrev eArg (c : Dev nD) : FVec Ideal S6144 .f32 := m ((c.tc : Thread nD τ).loc main_arg4)
/-- The projection's weight of the memory. -/
abbrev wArg (c : Dev nD) : FVec Ideal S1024x1024 .f32 := m ((c.tc : Thread nD τ).loc main_arg5)

/-- A row of the latents as the kernel gets it. -/
theorem host_h (c : Dev nD) (b : Fin 4) (p : Fin 8192) (i : Fin 32768) (k : Fin 1024) (hi : i.val = b.val * 8192 + p.val) :
    V m c main_v4 (ix2 i k) = hArg m c (ix3 b p k) := by
  have e1 : i.val / 8192 = b.val := by omega
  have e2 : i.val % 8192 = p.val := by omega
  simp only [V, hostOps0, hostOps0_1, hostOps0_2, List.flatten_cons, List.flatten_nil, List.append_nil, List.cons_append, List.nil_append]
  entry_read
  clean_types
  pointwise []
  simp only [e1, e2, Fin.eta]

/-- A row of the context as the kernel gets it. -/
theorem host_g (c : Dev nD) (b : Fin 4) (p : Fin 256) (i : Fin 1024) (k : Fin 1024) (hi : i.val = b.val * 256 + p.val) :
    V m c main_v5 (ix2 i k) = gArg m c (ix3 b p k) := by
  have e1 : i.val / 256 = b.val := by omega
  have e2 : i.val % 256 = p.val := by omega
  simp only [V, hostOps0, hostOps0_1, hostOps0_2, List.flatten_cons, List.flatten_nil, List.append_nil, List.cons_append, List.nil_append]
  entry_read
  clean_types
  pointwise []
  simp only [e1, e2, Fin.eta]

/-- The norm's weight as one row. -/
theorem host_n (c : Dev nD) (k : Fin 1024) : V m c main_v6 (ix2 0 k) = nArg m c (ix1 k) := by
  simp only [V, hostOps0, hostOps0_1, hostOps0_2, List.flatten_cons, List.flatten_nil, List.append_nil, List.cons_append, List.nil_append]
  entry_read
  clean_types
  pointwise []

/-- The modulation's rows in one array, padded. -/
def modOf (x : FVec Ideal S4x6144 .f32) (y : FVec Ideal S6144 .f32) : FVec Ideal S16x1x6144 .f32 :=
  shapeCast S16x1x6144 (pad S16x6144 ![0, 0] ![11, 0] ![0, 0]
    (concatenate S5x6144 0 [⟨S4x6144, x⟩, ⟨S1x6144, shapeCast S1x6144 y shapeCasts_S6144_S1x6144⟩] concatenates_S4x6144_S1x6144_S5x6144_d0 : FVec Ideal S5x6144 .f32)
    (sitofp .f32 (constantI S_ 32 0#32) : FVec Ideal S_ .f32) pads_S5x6144_S16x6144_0110_000 h_S_ : FVec Ideal S16x6144 .f32) shapeCasts_S16x6144_S16x1x6144

/-- The first rows of the padded modulation are the latents'. -/
theorem modOf_lat (x : FVec Ideal S4x6144 .f32) (y : FVec Ideal S6144 .f32) (b : Fin 4) (k : Fin 6144) :
    modOf x y (ix3 ⟨b.val, by omega⟩ 0 k) = x (ix2 b k) := by
  pointwise [modOf]
  exact dif_pos (by omega)

/-- The fifth row of the padded modulation is the context's. -/
theorem modOf_ctx (x : FVec Ideal S4x6144 .f32) (y : FVec Ideal S6144 .f32) (k : Fin 6144) :
    modOf x y (ix3 4 0 k) = y (ix1 k) := by
  pointwise [modOf]

/-- The modulation as the kernel gets it. -/
theorem host_d (c : Dev nD) : V m c main_v3 = modOf (dArg m c) (eArg m c) := by
  simp only [V, hostOps0, hostOps0_1, hostOps0_2, List.flatten_cons, List.flatten_nil, List.append_nil, List.cons_append, List.nil_append]
  entry_read
  rfl

/-- The projection's weight. -/
theorem host_w (c : Dev nD) (k d : Fin 1024) : V m c main_v7 (ix2 k d) = wArg m c (ix2 k d) := by
  simp only [V, hostOps0, hostOps0_1, hostOps0_2, List.flatten_cons, List.flatten_nil, List.append_nil, List.cons_append, List.nil_append]
  entry_read
  rfl

/-- The blocks' places at a grid point. -/
theorem idx_val : ∀ t : Fin cfg0.N, win0_0.index t = ![min t.val 63, 0]
    ∧ win0_1.index t = ![t.val - 64, 0]
    ∧ win0_2.index t = ![0, 0]
    ∧ win0_3.index t = ![min (t.val / 16) 4, 0, 0]
    ∧ win0_4.index t = ![0, 0]
    ∧ win0_5.index t = ![t.val, 0] :=
  (by decide +kernel : ∀ t : Fin grid0.N, _)

/-- The block of the latents' rows. -/
theorem blk_h (c : Dev nD) (t : Fin cfg0.N) (r : Fin 512) (k : Fin 1024) (i : Fin 32768) (hi : i.val = min t.val 63 * 512 + r.val) :
    iblk m c 0 t (ix2 r k) = V m c main_v4 (ix2 i k) := by
  unfold iblk
  generalize V m c main_v4 = A
  blk_ext [idx_val t]

/-- The block of the context's rows. -/
theorem blk_x (c : Dev nD) (t : Fin cfg0.N) (r : Fin 512) (k : Fin 1024) (i : Fin 1024) (hi : i.val = (t.val - 64) * 512 + r.val) :
    iblk m c 1 t (ix2 r k) = V m c main_v5 (ix2 i k) := by
  unfold iblk
  generalize V m c main_v5 = A
  rw [View.read]
  refine (cast_eq _ _).trans (congrArg A ?_)
  funext a
  apply Fin.ext
  refine (win0_1.rect_emb_val t (ix2 r k) a rfl).trans ?_
  rw [(idx_val t).2.1]
  match a with
  | ⟨0, _⟩ => exact hi.symm
  | ⟨1, _⟩ => exact (Nat.zero_mul 1024).symm ▸ Nat.zero_add k.val

/-- The norm's weight, whole. -/
theorem blk_g (c : Dev nD) (t : Fin cfg0.N) (z : Fin 1) (k : Fin 1024) : iblk m c 2 t (ix2 z k) = V m c main_v6 (ix2 z k) := by
  unfold iblk
  generalize V m c main_v6 = A
  blk_ext [idx_val t]

/-- The modulation of the block's rows. -/
theorem blk_d (c : Dev nD) (t : Fin cfg0.N) (z y : Fin 1) (k : Fin 6144) (i : Fin 16) (hi : i.val = min (t.val / 16) 4) :
    iblk m c 3 t (ix3 z y k) = V m c main_v3 (ix3 i y k) := by
  unfold iblk
  generalize V m c main_v3 = A
  blk_ext [idx_val t]

/-- The projection's weight, whole. -/
theorem blk_w (c : Dev nD) (t : Fin cfg0.N) (k d : Fin 1024) : iblk m c 4 t (ix2 k d) = V m c main_v7 (ix2 k d) := by
  unfold iblk
  generalize V m c main_v7 = A
  blk_ext [idx_val t]

/-- The block that a step writes. -/
abbrev outBlk (c : Dev nD) (t : Fin cfg0.N) : FVec Ideal S512x1024 .f32 :=
  out0_5 (grid0.coords t) (iblk m c 0 t) (iblk m c 1 t) (iblk m c 2 t) (iblk m c 3 t) (iblk m c 4 t)

/-- An array every block of which is written from the rows of `W` is `W`. -/
theorem array_of_blocks (c : Dev nD) (W : FVec Ideal S33792x1024 .f32)
    (h : ∀ (t : Fin cfg0.N) (r : Fin 512) (j : Fin 1024) (i : Fin 33792), i.val = t.val * 512 + r.val → outBlk m c t (ix2 r j) = W (ix2 i j)) :
    (dats m 0 c).arrAt 5 cfg0.N = W := by
  refine (dats m 0 c).arrAt_eq_of_covers 5 _ (by decide +kernel) fun t hf y => ?_
  blk_simp
  rw [after0_5]
  have ht : t.val < 66 := t.isLt
  obtain ⟨r, j, rfl⟩ : ∃ r j, y = ix2 r j := ⟨y 0, y 1, by funext a; match a with | ⟨0, _⟩ => rfl | ⟨1, _⟩ => rfl⟩
  have hr : r.val < 512 := r.isLt
  refine (h t r j ⟨t.val * 512 + r.val, by omega⟩ rfl).trans (congrArg W ?_)
  have e := (idx_val t).2.2.2.2.2
  blk_ext [e]

end Cert.Kernel4Ideal.Inp

end
-- ==== Proof.Inp.RefAt.lean ====
module

public import proofs.«01_k».proof.Proof.Gen.Reference4Ideal.Run
public import proofs.«01_k».proof.Proof.Ffn.RefAt
public import proofs.«01_k».proof.Proof.First.CtxAt
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Reference4Ideal.Inp

open Cert.Reference4Ideal Cert.Reference4Ideal.Gen

/-- The normalised and modulated rows of the latents. -/
def normL (h : FVec Ideal S4x8192x1024 .f32) (g : FVec Ideal S1024 .f32) (md : FVec Ideal S4x6144 .f32) : FVec Ideal S4x8192x1024 .f32 :=
  addf (mulf (mulf (mulf h (broadcastInDim S4x8192x1024 ![0, 1, 2] bcast_S4x8192x1_S4x8192x1024_0_1_2 (Cert.Reference2Ideal.Ffn.scaleR h))) (broadcastInDim S4x8192x1024 ![0, 1, 2] bcast_S1x1x1024_S4x8192x1024_0_1_2 (broadcastInDim S1x1x1024 ![2] bcast_S1024_S1x1x1024_2 g))) (broadcastInDim S4x8192x1024 ![0, 1, 2] bcast_S4x1x1024_S4x8192x1024_0_1_2 (addf (broadcastInDim S4x1x1024 ![] bcast_S_S4x1x1024 (constant S_ .f32 0x3F800000#32)) (extractStridedSlice S4x1x1024 ![0, 0, 1024] (Cert.Reference2Ideal.Ffn.modR md) slices_S4x1x6144_S4x1x1024_0_0_1024)))) (broadcastInDim S4x8192x1024 ![0, 1, 2] bcast_S4x1x1024_S4x8192x1024_0_1_2 (extractStridedSlice S4x1x1024 ![0, 0, 0] (Cert.Reference2Ideal.Ffn.modR md) slices_S4x1x6144_S4x1x1024_0_0_0))

/-- The normalised and modulated rows of the context. -/
def normX (h : FVec Ideal S4x256x1024 .f32) (g : FVec Ideal S1024 .f32) (md : FVec Ideal S6144 .f32) : FVec Ideal S4x256x1024 .f32 :=
  addf (mulf (mulf (mulf h (broadcastInDim S4x256x1024 ![0, 1, 2] bcast_S4x256x1_S4x256x1024_0_1_2 (Cert.Reference3Ideal.Ffn.scaleC h))) (broadcastInDim S4x256x1024 ![0, 1, 2] bcast_S1x1x1024_S4x256x1024_0_1_2 (broadcastInDim S1x1x1024 ![2] bcast_S1024_S1x1x1024_2 g))) (broadcastInDim S4x256x1024 ![0, 1, 2] bcast_S1x1x1024_S4x256x1024_0_1_2 (broadcastInDim S1x1x1024 ![2] bcast_S1024_S1x1x1024_2 (addf (broadcastInDim S1024 ![] bcast_S_S1024 (constant S_ .f32 0x3F800000#32)) (extractStridedSlice S1024 ![1024] md slices_S6144_S1024_1024))))) (broadcastInDim S4x256x1024 ![0, 1, 2] bcast_S1x1x1024_S4x256x1024_0_1_2 (broadcastInDim S1x1x1024 ![2] bcast_S1024_S1x1x1024_2 (extractStridedSlice S1024 ![0] md slices_S6144_S1024_0)))

/-- The projection of the latents' rows. -/
def projL (u : FVec Ideal S4x8192x1024 .f32) (w : FVec Ideal S1024x1024 .f32) : FVec Ideal S32768x1024 .f32 :=
  shapeCast S32768x1024 (Host.dotGeneral dot_S4x8192x1024_S1024x1024_S4x8192x1024_2_0_01_1_n_n none u w : FVec Ideal S4x8192x1024 .f32) shapeCasts_S4x8192x1024_S32768x1024

/-- The projection of the context's rows. -/
def projX (u : FVec Ideal S4x256x1024 .f32) (w : FVec Ideal S1024x1024 .f32) : FVec Ideal S1024x1024 .f32 :=
  shapeCast S1024x1024 (Host.dotGeneral dot_S4x256x1024_S1024x1024_S4x256x1024_2_0_01_1_n_n none u w : FVec Ideal S4x256x1024 .f32) shapeCasts_S4x256x1024_S1024x1024

/-- The reference's result: the projections of the latents' rows followed by those of the context's. -/
def resR (h : FVec Ideal S4x8192x1024 .f32) (hc : FVec Ideal S4x256x1024 .f32) (g : FVec Ideal S1024 .f32) (md : FVec Ideal S4x6144 .f32)
    (mc : FVec Ideal S6144 .f32) (w : FVec Ideal S1024x1024 .f32) : FVec Ideal S33792x1024 .f32 :=
  Cert.Reference3Ideal.Ffn.joinC (projL (normL h g md) w) (projX (normX hc g mc) w)

/-- A projected row of the latents. -/
theorem projL_at (u : FVec Ideal S4x8192x1024 .f32) (w : FVec Ideal S1024x1024 .f32) (b : Fin 4) (p : Fin 8192) (d : Fin 1024) (i : Fin 32768)
    (hi : i.val = b.val * 8192 + p.val) : projL u w (ix2 i d) = ∑ k, u (ix3 b p k) * w (ix2 k d) := by
  have e1 : i.val / 8192 = b.val := by omega
  have e2 : i.val % 8192 = p.val := by omega
  pointwise [projL]
  simp only [e1, e2, Fin.eta]

/-- A projected row of the context. -/
theorem projX_at (u : FVec Ideal S4x256x1024 .f32) (w : FVec Ideal S1024x1024 .f32) (b : Fin 4) (p : Fin 256) (d : Fin 1024) (i : Fin 1024)
    (hi : i.val = b.val * 256 + p.val) : projX u w (ix2 i d) = ∑ k, u (ix3 b p k) * w (ix2 k d) := by
  have e1 : i.val / 256 = b.val := by omega
  have e2 : i.val % 256 = p.val := by omega
  pointwise [projX]
  simp only [e1, e2, Fin.eta]

/-- A normalised and modulated element of the latents. -/
theorem normL_at (h : FVec Ideal S4x8192x1024 .f32) (g : FVec Ideal S1024 .f32) (md : FVec Ideal S4x6144 .f32) (b : Fin 4) (p : Fin 8192) (k : Fin 1024) :
    normL h g md (ix3 b p k) = h (ix3 b p k) * Cert.Reference2Ideal.Ffn.scaleR h (ix3 b p 0) * g (ix1 k)
      * (Ideal.ofBits .f32 0x3F800000#32 + md (ix2 b ⟨1024 + k.val, by omega⟩)) + md (ix2 b ⟨k.val, by omega⟩) := by
  pointwise [normL, Cert.Reference2Ideal.Ffn.modR]

/-- A normalised and modulated element of the context. -/
theorem normX_at (h : FVec Ideal S4x256x1024 .f32) (g : FVec Ideal S1024 .f32) (md : FVec Ideal S6144 .f32) (b : Fin 4) (p : Fin 256) (k : Fin 1024) :
    normX h g md (ix3 b p k) = h (ix3 b p k) * Cert.Reference3Ideal.Ffn.scaleC h (ix3 b p 0) * g (ix1 k)
      * (Ideal.ofBits .f32 0x3F800000#32 + md (ix1 ⟨1024 + k.val, by omega⟩)) + md (ix1 ⟨k.val, by omega⟩) := by
  pointwise [normX]

end Cert.Reference4Ideal.Inp

end
-- ==== Proof.Inp.Equation.lean ====
module

public import proofs.«01_k».proof.Proof.Inp.Block
public import proofs.«01_k».proof.Proof.Inp.RefAt

@[expose] public section

set_option maxRecDepth 16384

noncomputable section

open Idealize.ShloMosaic Idealize.ShloMosaic.TcCoe Idealize.SL.Sem
open Idealize.ShloMosaic.Pipeline (Dat)

namespace Cert.Kernel4Ideal.Inp

open Cert.Kernel4Ideal Cert.Kernel4Ideal.Gen

/-- A projected row of a step, of the rows `X` that it picks. -/
def rowK (X : Fin 1024 → EReal) (xd : Vec Ideal S1x1x6144 .f32) (xg : Vec Ideal S1x1024 .f32) (xw : Vec Ideal S1024x1024 .bf16) (d : Fin 1024) : EReal :=
  ∑ k : Fin 1024, (X k * Ideal.rsqrt (Ideal.div (∑ x, X x * X x) (Ideal.ofBits .f32 0x44800000#32) + Ideal.ofBits .f32 0x358637BD#32)
    * xg (ix2 0 k) * (Ideal.ofBits .f32 0x3F800000#32 + xd (ix3 0 0 ⟨1024 + k.val, by omega⟩)) + xd (ix3 0 0 ⟨k.val, by omega⟩)) * xw (ix2 k d)

/-- The choice on a set bit. -/
theorem select_one {α : Type} (x y : α) : Scalar.select 1#1 x y = x := if_pos rfl

/-- The choice on a clear bit. -/
theorem select_zero {α : Type} (x y : α) : Scalar.select 0#1 x y = y := if_neg (by decide)

/-- A step of the latents projects the latents' rows. -/
theorem pay_lat (i : grid0.Coords) (hi : Scalar.cmpi .slt (BitVec.ofNat 32 (i 0).val) 64#32 = 1#1) (xd : Vec Ideal S1x1x6144 .f32) (xh xc : Vec Ideal S512x1024 .f32) (xg : Vec Ideal S1x1024 .f32) (xw : Vec Ideal S1024x1024 .bf16) (r : Fin 512) (d : Fin 1024) :
    k0_pay1 (F := Ideal) i xd xh xc xg xw (ix2 r d) = rowK (fun k => xh (ix2 r k)) xd xg xw d := by
  unfold k0_pay1
  simp only [hi, select_one]
  pointwise [rowK]

/-- A step of the context projects the context's rows. -/
theorem pay_ctx (i : grid0.Coords) (hi : Scalar.cmpi .slt (BitVec.ofNat 32 (i 0).val) 64#32 = 0#1) (xd : Vec Ideal S1x1x6144 .f32) (xh xc : Vec Ideal S512x1024 .f32) (xg : Vec Ideal S1x1024 .f32) (xw : Vec Ideal S1024x1024 .bf16) (r : Fin 512) (d : Fin 1024) :
    k0_pay1 (F := Ideal) i xd xh xc xg xw (ix2 r d) = rowK (fun k => xc (ix2 r k)) xd xg xw d := by
  unfold k0_pay1
  simp only [hi, select_zero]
  pointwise [rowK]

/-- Which steps work on the latents. -/
theorem step_val : ∀ t : Fin cfg0.N, Scalar.cmpi .slt (BitVec.ofNat 32 (grid0.coords t 0).val) 64#32 = if t.val < 64 then 1#1 else 0#1 :=
  (by decide +kernel : ∀ t : Fin grid0.N, _)

variable (m : (ℓ : Loc nD τ sig) → Buf (Elt Ideal) ℓ)

/-- The block that a step writes is its payload. -/
theorem out_at (c : Dev nD) (t : Fin cfg0.N) : outBlk m c t = k0_pay1 (grid0.coords t) (iblk m c 3 t) (iblk m c 0 t) (iblk m c 1 t) (iblk m c 2 t) (iblk m c 4 t) := by
  unfold outBlk out0_5
  generalize iblk m c 0 t = x0
  generalize iblk m c 1 t = x1
  generalize iblk m c 2 t = x2
  generalize iblk m c 3 t = x3
  generalize iblk m c 4 t = x4
  frame_out

open Cert.Reference4Ideal.Inp in
/-- The block written at a step holds the reference's rows. -/
theorem equation (c : Dev nD) (t : Fin cfg0.N) (r : Fin 512) (d : Fin 1024) (i : Fin 33792) (hi : i.val = t.val * 512 + r.val) :
    outBlk m c t (ix2 r d) = resR (hArg m c) (gArg m c) (nArg m c) (dArg m c) (eArg m c) (wArg m c) (ix2 i d) := by
  have hN : cfg0.N = 66 := by decide
  have ht : t.val < 66 := hN ▸ t.isLt
  have hr := r.isLt
  have hs := step_val t
  have eg : ∀ k : Fin 1024, (iblk m c 2 t : FVec Ideal S1x1024 .f32) (ix2 0 k) = nArg m c (ix1 k) := fun k => (blk_g m c t 0 k).trans (host_n m c k)
  have ew : ∀ k : Fin 1024, (iblk m c 4 t : FVec Ideal S1024x1024 .bf16) (ix2 k d) = wArg m c (ix2 k d) := fun k => (blk_w m c t k d).trans (host_w m c k d)
  rw [out_at]
  unfold resR
  by_cases h1 : t.val < 64
  · rw [if_pos h1] at hs
    rw [pay_lat _ hs]
    obtain ⟨b, hb⟩ : ∃ b : Fin 4, b.val = t.val / 16 := ⟨⟨t.val / 16, by omega⟩, rfl⟩
    obtain ⟨p, hp⟩ : ∃ p : Fin 8192, p.val = t.val % 16 * 512 + r.val := ⟨⟨t.val % 16 * 512 + r.val, by omega⟩, rfl⟩
    have hj : i.val = b.val * 8192 + p.val := by omega
    rw [Cert.Reference3Ideal.Ffn.joinC_lat _ _ i d (by omega), projL_at _ _ b p d ⟨i.val, by omega⟩ hj]
    have eh : ∀ k : Fin 1024, (iblk m c 0 t : FVec Ideal S512x1024 .f32) (ix2 r k) = hArg m c (ix3 b p k) := fun k =>
      (blk_h m c t r k ⟨i.val, by omega⟩ (by show i.val = min t.val 63 * 512 + r.val; rw [min_eq_left (by omega)]; exact hi)).trans (host_h m c b p ⟨i.val, by omega⟩ k hj)
    have ed : ∀ q : Fin 6144, (iblk m c 3 t : FVec Ideal S1x1x6144 .f32) (ix3 0 0 q) = dArg m c (ix2 b q) := fun q =>
      (blk_d m c t 0 0 q ⟨b.val, by omega⟩ (by show b.val = min (t.val / 16) 4; rw [min_eq_left (by omega)]; exact hb)).trans
        ((congrFun (host_d m c) _).trans (modOf_lat _ _ b q))
    unfold rowK
    refine Finset.sum_congr rfl fun k _ => ?_
    rw [normL_at, Cert.Reference2Ideal.Ffn.scaleR_at]
    simp only [eh]
    rw [ed, ed, eg, ew]
  · rw [if_neg h1] at hs
    rw [pay_ctx _ hs]
    obtain ⟨b, hb⟩ : ∃ b : Fin 4, b.val = ((t.val - 64) * 512 + r.val) / 256 := ⟨⟨((t.val - 64) * 512 + r.val) / 256, by omega⟩, rfl⟩
    obtain ⟨p, hp⟩ : ∃ p : Fin 256, p.val = ((t.val - 64) * 512 + r.val) % 256 := ⟨⟨((t.val - 64) * 512 + r.val) % 256, by omega⟩, rfl⟩
    have hj : i.val - 32768 = b.val * 256 + p.val := by omega
    rw [Cert.Reference3Ideal.Ffn.joinC_ctx _ _ i d (by omega), projX_at _ _ b p d ⟨i.val - 32768, by omega⟩ hj]
    have eh : ∀ k : Fin 1024, (iblk m c 1 t : FVec Ideal S512x1024 .f32) (ix2 r k) = gArg m c (ix3 b p k) := fun k =>
      (blk_x m c t r k ⟨i.val - 32768, by omega⟩ (by show i.val - 32768 = (t.val - 64) * 512 + r.val; omega)).trans (host_g m c b p ⟨i.val - 32768, by omega⟩ k hj)
    have ed : ∀ q : Fin 6144, (iblk m c 3 t : FVec Ideal S1x1x6144 .f32) (ix3 0 0 q) = eArg m c (ix1 q) := fun q =>
      (blk_d m c t 0 0 q 4 (by show 4 = min (t.val / 16) 4; rw [min_eq_right (by omega)])).trans
        ((congrFun (host_d m c) _).trans (modOf_ctx _ _ q))
    unfold rowK
    refine Finset.sum_congr rfl fun k _ => ?_
    rw [normX_at, Cert.Reference3Ideal.Ffn.scaleC_at]
    simp only [eh]
    rw [ed, ed, eg, ew]

end Cert.Kernel4Ideal.Inp

end
-- ==== Proof.Proj.Block.lean ====
module

public import proofs.«01_k».proof.Proof.Gen.Kernel5Ideal.Value
public import proofs.«01_k».proof.Proof.First.CtxAt
public import Idealize.ShloMosaic.Lib.Pipeline.ValueKit
public import Idealize.ShloMosaic.Lib.Pointwise
public import Idealize.ShloMosaic.Lib.Claim
public import Idealize.ShloMosaic.Lib.Tactic.CleanTypes

@[expose] public section

set_option maxRecDepth 16384

noncomputable section

open Idealize.ShloMosaic Idealize.ShloMosaic.TcCoe Idealize.SL.Sem
open Idealize.ShloMosaic.Pipeline (Dat)

namespace Cert.Kernel5Ideal.Proj

open Cert.Kernel5Ideal Cert.Kernel5Ideal.Gen

variable (m : (ℓ : Loc nD τ sig) → Buf (Elt Ideal) ℓ)

/-- The latents of the memory. -/
abbrev hArg (c : Dev nD) : FVec Ideal S4x8192x1024 .f32 := m ((c.tc : Thread nD τ).loc main_arg0)
/-- The context of the memory. -/
abbrev gArg (c : Dev nD) : FVec Ideal S4x256x1024 .f32 := m ((c.tc : Thread nD τ).loc main_arg1)
/-- The norm's weight of the memory. -/
abbrev nArg (c : Dev nD) : FVec Ideal S1024 .f32 := m ((c.tc : Thread nD τ).loc main_arg2)
/-- The latents' modulation of the memory. -/
abbrev dArg (c : Dev nD) : FVec Ideal S4x6144 .f32 := m ((c.tc : Thread nD τ).loc main_arg3)
/-- The context's modulation of the memory. -/
abbrev eArg (c : Dev nD) : FVec Ideal S6144 .f32 := m ((c.tc : Thread nD τ).loc main_arg4)
/-- The projection's weight of the memory. -/
abbrev wArg (c : Dev nD) : FVec Ideal S1024x2560 .f32 := m ((c.tc : Thread nD τ).loc main_arg5)

/-- The latents, one row per position. -/
def rowsL (x : FVec Ideal S4x8192x1024 .f32) : FVec Ideal S32768x1024 .f32 := shapeCast S32768x1024 x shapeCasts_S4x8192x1024_S32768x1024

/-- The context, one row per position. -/
def rowsX (x : FVec Ideal S4x256x1024 .f32) : FVec Ideal S1024x1024 .f32 := shapeCast S1024x1024 x shapeCasts_S4x256x1024_S1024x1024

/-- A row of the latents. -/
theorem rowsL_at (x : FVec Ideal S4x8192x1024 .f32) (b : Fin 4) (p : Fin 8192) (i : Fin 32768) (k : Fin 1024) (hi : i.val = b.val * 8192 + p.val) :
    rowsL x (ix2 i k) = x (ix3 b p k) := by
  have e1 : i.val / 8192 = b.val := by omega
  have e2 : i.val % 8192 = p.val := by omega
  pointwise [rowsL]
  simp only [e1, e2, Fin.eta]

/-- A row of the context. -/
theorem rowsX_at (x : FVec Ideal S4x256x1024 .f32) (b : Fin 4) (p : Fin 256) (i : Fin 1024) (k : Fin 1024) (hi : i.val = b.val * 256 + p.val) :
    rowsX x (ix2 i k) = x (ix3 b p k) := by
  have e1 : i.val / 256 = b.val := by omega
  have e2 : i.val % 256 = p.val := by omega
  pointwise [rowsX]
  simp only [e1, e2, Fin.eta]

/-- The rows as the kernel gets them: the latents' followed by the context's. -/
theorem host_h (c : Dev nD) : V m c main_v6 = Cert.Reference3Ideal.Ffn.joinC (rowsL (hArg m c)) (rowsX (gArg m c)) := by
  simp only [V, hostOps0, hostOps0_1, hostOps0_2, List.flatten_cons, List.flatten_nil, List.append_nil, List.cons_append, List.nil_append]
  entry_read
  rfl

/-- The norm's weight as one row. -/
theorem host_n (c : Dev nD) (k : Fin 1024) : V m c main_v57 (ix2 0 k) = nArg m c (ix1 k) := by
  simp only [V, hostOps0, hostOps0_1, hostOps0_2, List.flatten_cons, List.flatten_nil, List.append_nil, List.cons_append, List.nil_append]
  entry_read
  clean_types
  pointwise []

/-- The modulation's rows in one array, padded before and after. -/
def modOf (x : FVec Ideal S4x6144 .f32) (y : FVec Ideal S6144 .f32) : FVec Ideal S16x1x6144 .f32 :=
  shapeCast S16x1x6144 (pad S16x6144 ![8, 0] ![3, 0] ![0, 0]
    (concatenate S5x6144 0 [⟨S4x6144, x⟩, ⟨S1x6144, shapeCast S1x6144 y shapeCasts_S6144_S1x6144⟩] concatenates_S4x6144_S1x6144_S5x6144_d0 : FVec Ideal S5x6144 .f32)
    (sitofp .f32 (constantI S_ 32 0#32) : FVec Ideal S_ .f32) pads_S5x6144_S16x6144_830_000 h_S_ : FVec Ideal S16x6144 .f32) shapeCasts_S16x6144_S16x1x6144

/-- The rows of the padded modulation from the ninth on are the latents'. -/
theorem modOf_lat (x : FVec Ideal S4x6144 .f32) (y : FVec Ideal S6144 .f32) (b : Fin 4) (k : Fin 6144) :
    modOf x y (ix3 ⟨8 + b.val, by omega⟩ 0 k) = x (ix2 b k) := by
  have hb := b.isLt
  match b with
  | ⟨0, _⟩ => pointwise [modOf]
  | ⟨1, _⟩ => pointwise [modOf]
  | ⟨2, _⟩ => pointwise [modOf]
  | ⟨3, _⟩ => pointwise [modOf]

/-- The thirteenth row of the padded modulation is the context's. -/
theorem modOf_ctx (x : FVec Ideal S4x6144 .f32) (y : FVec Ideal S6144 .f32) (k : Fin 6144) :
    modOf x y (ix3 12 0 k) = y (ix1 k) := by
  pointwise [modOf]

/-- The modulation as the kernel gets it. -/
theorem host_d (c : Dev nD) : V m c main_v3 = modOf (dArg m c) (eArg m c) := by
  simp only [V, hostOps0, hostOps0_1, hostOps0_2, List.flatten_cons, List.flatten_nil, List.append_nil, List.cons_append, List.nil_append]
  entry_read
  rfl

/-- The projection's weight. -/
theorem host_w (c : Dev nD) (k : Fin 1024) (d : Fin 2560) : V m c main_v58 (ix2 k d) = wArg m c (ix2 k d) := by
  simp only [V, hostOps0, hostOps0_1, hostOps0_2, List.flatten_cons, List.flatten_nil, List.append_nil, List.cons_append, List.nil_append]
  entry_read
  rfl

/-- The blocks' places at a grid point. -/
theorem idx_val : ∀ t : Fin cfg0.N, win0_0.index t = ![t.val, 0]
    ∧ win0_1.index t = ![0, 0]
    ∧ win0_2.index t = ![8 + min (t.val / 16) 4, 0, 0]
    ∧ win0_3.index t = ![0, 0]
    ∧ win0_11.index t = ![t.val, 0]
    ∧ win0_12.index t = ![t.val, 0]
    ∧ win0_13.index t = ![t.val, 0] :=
  (by decide +kernel : ∀ t : Fin grid0.N, _)

/-- The block of the rows. -/
theorem blk_h (c : Dev nD) (t : Fin cfg0.N) (r : Fin 512) (k : Fin 1024) (i : Fin 33792) (hi : i.val = t.val * 512 + r.val) :
    iblk m c 0 t (ix2 r k) = V m c main_v6 (ix2 i k) := by
  unfold iblk
  generalize V m c main_v6 = A
  blk_ext [idx_val t]

/-- The norm's weight, whole. -/
theorem blk_g (c : Dev nD) (t : Fin cfg0.N) (z : Fin 1) (k : Fin 1024) : iblk m c 1 t (ix2 z k) = V m c main_v57 (ix2 z k) := by
  unfold iblk
  generalize V m c main_v57 = A
  blk_ext [idx_val t]

/-- The modulation of the block's rows. -/
theorem blk_d (c : Dev nD) (t : Fin cfg0.N) (z y : Fin 1) (k : Fin 6144) (i : Fin 16) (hi : i.val = 8 + min (t.val / 16) 4) :
    iblk m c 2 t (ix3 z y k) = V m c main_v3 (ix3 i y k) := by
  unfold iblk
  generalize V m c main_v3 = A
  blk_ext [idx_val t]

/-- The projection's weight, whole. -/
theorem blk_w (c : Dev nD) (t : Fin cfg0.N) (k : Fin 1024) (d : Fin 2560) : iblk m c 3 t (ix2 k d) = V m c main_v58 (ix2 k d) := by
  unfold iblk
  generalize V m c main_v58 = A
  blk_ext [idx_val t]

/-- The block of the values that a step writes. -/
abbrev out11 (c : Dev nD) (t : Fin cfg0.N) : FVec Ideal S512x128 .bf16 :=
  out0_11 (iblk m c 0 t) (iblk m c 1 t) (iblk m c 2 t) (iblk m c 3 t) (iblk m c 4 t) (iblk m c 5 t) (iblk m c 6 t) (iblk m c 7 t) (iblk m c 8 t)

/-- An array of the values every block of which is written from the rows of `W` is `W`. -/
theorem array11_of_blocks (c : Dev nD) (W : FVec Ideal S33792x128 .bf16)
    (h : ∀ (t : Fin cfg0.N) (r : Fin 512) (j : Fin 128) (i : Fin 33792), i.val = t.val * 512 + r.val → out11 m c t (ix2 r j) = W (ix2 i j)) :
    (dats m 0 c).arrAt 11 cfg0.N = W := by
  refine (dats m 0 c).arrAt_eq_of_covers 11 _ (by decide +kernel) fun t hf y => ?_
  blk_simp
  rw [after0_11]
  have ht : t.val < 66 := t.isLt
  obtain ⟨r, j, rfl⟩ : ∃ r j, y = ix2 r j := ⟨y 0, y 1, by funext a; match a with | ⟨0, _⟩ => rfl | ⟨1, _⟩ => rfl⟩
  have hr : r.val < 512 := r.isLt
  refine (h t r j ⟨t.val * 512 + r.val, by omega⟩ rfl).trans (congrArg W ?_)
  have e := (idx_val t).2.2.2.2.1
  blk_ext [e]

/-- The block of the recurrence inputs that a step writes. -/
abbrev out12 (c : Dev nD) (t : Fin cfg0.N) : FVec Ideal S512x1536 .f32 :=
  out0_12 (iblk m c 0 t) (iblk m c 1 t) (iblk m c 2 t) (iblk m c 3 t) (iblk m c 4 t) (iblk m c 5 t) (iblk m c 6 t) (iblk m c 7 t) (iblk m c 8 t)

/-- An array of the recurrence inputs every block of which is written from the rows of `W` is `W`. -/
theorem array12_of_blocks (c : Dev nD) (W : FVec Ideal S33792x1536 .f32)
    (h : ∀ (t : Fin cfg0.N) (r : Fin 512) (j : Fin 1536) (i : Fin 33792), i.val = t.val * 512 + r.val → out12 m c t (ix2 r j) = W (ix2 i j)) :
    (dats m 0 c).arrAt 12 cfg0.N = W := by
  refine (dats m 0 c).arrAt_eq_of_covers 12 _ (by decide +kernel) fun t hf y => ?_
  blk_simp
  rw [after0_12]
  have ht : t.val < 66 := t.isLt
  obtain ⟨r, j, rfl⟩ : ∃ r j, y = ix2 r j := ⟨y 0, y 1, by funext a; match a with | ⟨0, _⟩ => rfl | ⟨1, _⟩ => rfl⟩
  have hr : r.val < 512 := r.isLt
  refine (h t r j ⟨t.val * 512 + r.val, by omega⟩ rfl).trans (congrArg W ?_)
  have e := (idx_val t).2.2.2.2.2.1
  blk_ext [e]

/-- The block of the low-rank inputs that a step writes. -/
abbrev out13 (c : Dev nD) (t : Fin cfg0.N) : FVec Ideal S512x256 .f32 :=
  out0_13 (iblk m c 0 t) (iblk m c 1 t) (iblk m c 2 t) (iblk m c 3 t) (iblk m c 4 t) (iblk m c 5 t) (iblk m c 6 t) (iblk m c 7 t) (iblk m c 8 t)

/-- An array of the low-rank inputs every block of which is written from the rows of `W` is `W`. -/
theorem array13_of_blocks (c : Dev nD) (W : FVec Ideal S33792x256 .f32)
    (h : ∀ (t : Fin cfg0.N) (r : Fin 512) (j : Fin 256) (i : Fin 33792), i.val = t.val * 512 + r.val → out13 m c t (ix2 r j) = W (ix2 i j)) :
    (dats m 0 c).arrAt 13 cfg0.N = W := by
  refine (dats m 0 c).arrAt_eq_of_covers 13 _ (by decide +kernel) fun t hf y => ?_
  blk_simp
  rw [after0_13]
  have ht : t.val < 66 := t.isLt
  obtain ⟨r, j, rfl⟩ : ∃ r j, y = ix2 r j := ⟨y 0, y 1, by funext a; match a with | ⟨0, _⟩ => rfl | ⟨1, _⟩ => rfl⟩
  have hr : r.val < 512 := r.isLt
  refine (h t r j ⟨t.val * 512 + r.val, by omega⟩ rfl).trans (congrArg W ?_)
  have e := (idx_val t).2.2.2.2.2.2
  blk_ext [e]

end Cert.Kernel5Ideal.Proj

end
-- ==== Proof.Proj.RefAt.lean ====
module

public import proofs.«01_k».proof.Proof.Gen.Reference5Ideal
public import proofs.«01_k».proof.Proof.Inp.RefAt

@[expose] public section

set_option maxRecDepth 16384

noncomputable section

open Idealize.ShloMosaic Idealize.ShloMosaic.TcCoe Idealize.SL.Sem
open Idealize.ShloMosaic.Pipeline (Dat)

namespace Cert.Reference5Ideal.Proj

open Cert.Reference5Ideal Cert.Reference5Ideal.Gen

/-- The latents' projected rows. -/
def projL (h : FVec Ideal S4x8192x1024 .f32) (g : FVec Ideal S1024 .f32) (md : FVec Ideal S4x6144 .f32) (w : FVec Ideal S1024x2560 .f32) : FVec Ideal S4x8192x2560 .f32 :=
  Host.dotGeneral dot_S4x8192x1024_S1024x2560_S4x8192x2560_2_0_01_1_n_n none (Cert.Reference4Ideal.Inp.normL h g md) w

/-- The context's projected rows. -/
def projX (h : FVec Ideal S4x256x1024 .f32) (g : FVec Ideal S1024 .f32) (mc : FVec Ideal S6144 .f32) (w : FVec Ideal S1024x2560 .f32) : FVec Ideal S4x256x2560 .f32 :=
  Host.dotGeneral dot_S4x256x1024_S1024x2560_S4x256x2560_2_0_01_1_n_n none (Cert.Reference4Ideal.Inp.normX h g mc) w

/-- An element of the latents' projected rows. -/
theorem projL_at (h : FVec Ideal S4x8192x1024 .f32) (g : FVec Ideal S1024 .f32) (md : FVec Ideal S4x6144 .f32) (w : FVec Ideal S1024x2560 .f32) (b : Fin 4) (p : Fin 8192) (d : Fin 2560) :
    projL h g md w (ix3 b p d) = ∑ k, Cert.Reference4Ideal.Inp.normL h g md (ix3 b p k) * w (ix2 k d) := by
  unfold projL
  generalize Cert.Reference4Ideal.Inp.normL h g md = u
  pointwise []

/-- An element of the context's projected rows. -/
theorem projX_at (h : FVec Ideal S4x256x1024 .f32) (g : FVec Ideal S1024 .f32) (mc : FVec Ideal S6144 .f32) (w : FVec Ideal S1024x2560 .f32) (b : Fin 4) (p : Fin 256) (d : Fin 2560) :
    projX h g mc w (ix3 b p d) = ∑ k, Cert.Reference4Ideal.Inp.normX h g mc (ix3 b p k) * w (ix2 k d) := by
  unfold projX
  generalize Cert.Reference4Ideal.Inp.normX h g mc = u
  pointwise []

/-- The 128 columns from 640 on of the latents' projected rows. -/
def lat640 (z : FVec Ideal S4x8192x2560 .f32) : FVec Ideal S32768x128 .f32 :=
  shapeCast S32768x128 (extractStridedSlice S4x8192x128 ![0, 0, 640] z slices_S4x8192x2560_S4x8192x128_0_0_640 : FVec Ideal S4x8192x128 .f32) shapeCasts_S4x8192x128_S32768x128

/-- The 128 columns from 640 on of the context's projected rows. -/
def ctx640 (z : FVec Ideal S4x256x2560 .f32) : FVec Ideal S1024x128 .f32 :=
  shapeCast S1024x128 (extractStridedSlice S4x256x128 ![0, 0, 640] z slices_S4x256x2560_S4x256x128_0_0_640 : FVec Ideal S4x256x128 .f32) shapeCasts_S4x256x128_S1024x128

/-- The latents' rows followed by the context's, 128 columns of each. -/
def join128 (x : FVec Ideal S32768x128 .f32) (y : FVec Ideal S1024x128 .f32) : FVec Ideal S33792x128 .f32 :=
  concatenate S33792x128 0 [⟨S32768x128, x⟩, ⟨S1024x128, y⟩] concatenates_S32768x128_S1024x128_S33792x128_d0

/-- The 128 columns from 640 on of all projected rows. -/
def cols640 (z : FVec Ideal S4x8192x2560 .f32) (zc : FVec Ideal S4x256x2560 .f32) : FVec Ideal S33792x128 .f32 :=
  join128 (lat640 z) (ctx640 zc)

/-- An element of the latents' 128 columns from 640 on. -/
theorem lat640_at (z : FVec Ideal S4x8192x2560 .f32) (b : Fin 4) (p : Fin 8192) (i : Fin 32768) (j : Fin 128)
    (hi : i.val = b.val * 8192 + p.val) : lat640 z (ix2 i j) = z (ix3 b p ⟨640 + j.val, by omega⟩) := by
  have e1 : i.val / 8192 = b.val := by omega
  have e2 : i.val % 8192 = p.val := by omega
  pointwise [lat640]
  simp only [e1, e2, Fin.eta]

/-- An element of the context's 128 columns from 640 on. -/
theorem ctx640_at (z : FVec Ideal S4x256x2560 .f32) (b : Fin 4) (p : Fin 256) (i : Fin 1024) (j : Fin 128)
    (hi : i.val = b.val * 256 + p.val) : ctx640 z (ix2 i j) = z (ix3 b p ⟨640 + j.val, by omega⟩) := by
  have e1 : i.val / 256 = b.val := by omega
  have e2 : i.val % 256 = p.val := by omega
  pointwise [ctx640]
  simp only [e1, e2, Fin.eta]

/-- A latent's row of the joined array of 128 columns. -/
theorem join128_lat (x : FVec Ideal S32768x128 .f32) (y : FVec Ideal S1024x128 .f32) (i : Fin 33792) (d : Fin 128) (h : i.val < 32768) :
    join128 x y (ix2 i d) = x (ix2 ⟨i.val, h⟩ d) := by
  pointwise [join128]
  exact dif_pos h

/-- A context's row of the joined array of 128 columns. -/
theorem join128_ctx (x : FVec Ideal S32768x128 .f32) (y : FVec Ideal S1024x128 .f32) (i : Fin 33792) (d : Fin 128) (h : ¬ i.val < 32768) :
    join128 x y (ix2 i d) = y (ix2 ⟨i.val - 32768, by omega⟩ d) := by
  pointwise [join128]
  exact dif_neg h

/-- The latents' rows of the 128 columns from 640 on. -/
theorem cols640_lat (z : FVec Ideal S4x8192x2560 .f32) (zc : FVec Ideal S4x256x2560 .f32) (b : Fin 4) (p : Fin 8192) (i : Fin 33792) (j : Fin 128)
    (hi : i.val = b.val * 8192 + p.val) : cols640 z zc (ix2 i j) = z (ix3 b p ⟨640 + j.val, by omega⟩) :=
  (join128_lat _ _ i j (by omega)).trans (lat640_at z b p ⟨i.val, by omega⟩ j hi)

/-- The context's rows of the 128 columns from 640 on. -/
theorem cols640_ctx (z : FVec Ideal S4x8192x2560 .f32) (zc : FVec Ideal S4x256x2560 .f32) (b : Fin 4) (p : Fin 256) (i : Fin 33792) (j : Fin 128)
    (hi : i.val = 32768 + b.val * 256 + p.val) : cols640 z zc (ix2 i j) = zc (ix3 b p ⟨640 + j.val, by omega⟩) :=
  (join128_ctx _ _ i j (by omega)).trans (ctx640_at zc b p ⟨i.val - 32768, by omega⟩ j (by show i.val - 32768 = _; omega))

/-- The 1536 columns from 768 on of the latents' projected rows. -/
def lat768 (z : FVec Ideal S4x8192x2560 .f32) : FVec Ideal S32768x1536 .f32 :=
  shapeCast S32768x1536 (extractStridedSlice S4x8192x1536 ![0, 0, 768] z slices_S4x8192x2560_S4x8192x1536_0_0_768 : FVec Ideal S4x8192x1536 .f32) shapeCasts_S4x8192x1536_S32768x1536

/-- The 1536 columns from 768 on of the context's projected rows. -/
def ctx768 (z : FVec Ideal S4x256x2560 .f32) : FVec Ideal S1024x1536 .f32 :=
  shapeCast S1024x1536 (extractStridedSlice S4x256x1536 ![0, 0, 768] z slices_S4x256x2560_S4x256x1536_0_0_768 : FVec Ideal S4x256x1536 .f32) shapeCasts_S4x256x1536_S1024x1536

/-- The latents' rows followed by the context's, 1536 columns of each. -/
def join1536 (x : FVec Ideal S32768x1536 .f32) (y : FVec Ideal S1024x1536 .f32) : FVec Ideal S33792x1536 .f32 :=
  concatenate S33792x1536 0 [⟨S32768x1536, x⟩, ⟨S1024x1536, y⟩] concatenates_S32768x1536_S1024x1536_S33792x1536_d0

/-- The 1536 columns from 768 on of all projected rows. -/
def cols768 (z : FVec Ideal S4x8192x2560 .f32) (zc : FVec Ideal S4x256x2560 .f32) : FVec Ideal S33792x1536 .f32 :=
  join1536 (lat768 z) (ctx768 zc)

/-- An element of the latents' 1536 columns from 768 on. -/
theorem lat768_at (z : FVec Ideal S4x8192x2560 .f32) (b : Fin 4) (p : Fin 8192) (i : Fin 32768) (j : Fin 1536)
    (hi : i.val = b.val * 8192 + p.val) : lat768 z (ix2 i j) = z (ix3 b p ⟨768 + j.val, by omega⟩) := by
  have e1 : i.val / 8192 = b.val := by omega
  have e2 : i.val % 8192 = p.val := by omega
  pointwise [lat768]
  simp only [e1, e2, Fin.eta]

/-- An element of the context's 1536 columns from 768 on. -/
theorem ctx768_at (z : FVec Ideal S4x256x2560 .f32) (b : Fin 4) (p : Fin 256) (i : Fin 1024) (j : Fin 1536)
    (hi : i.val = b.val * 256 + p.val) : ctx768 z (ix2 i j) = z (ix3 b p ⟨768 + j.val, by omega⟩) := by
  have e1 : i.val / 256 = b.val := by omega
  have e2 : i.val % 256 = p.val := by omega
  pointwise [ctx768]
  simp only [e1, e2, Fin.eta]

/-- A latent's row of the joined array of 1536 columns. -/
theorem join1536_lat (x : FVec Ideal S32768x1536 .f32) (y : FVec Ideal S1024x1536 .f32) (i : Fin 33792) (d : Fin 1536) (h : i.val < 32768) :
    join1536 x y (ix2 i d) = x (ix2 ⟨i.val, h⟩ d) := by
  pointwise [join1536]
  exact dif_pos h

/-- A context's row of the joined array of 1536 columns. -/
theorem join1536_ctx (x : FVec Ideal S32768x1536 .f32) (y : FVec Ideal S1024x1536 .f32) (i : Fin 33792) (d : Fin 1536) (h : ¬ i.val < 32768) :
    join1536 x y (ix2 i d) = y (ix2 ⟨i.val - 32768, by omega⟩ d) := by
  pointwise [join1536]
  exact dif_neg h

/-- The latents' rows of the 1536 columns from 768 on. -/
theorem cols768_lat (z : FVec Ideal S4x8192x2560 .f32) (zc : FVec Ideal S4x256x2560 .f32) (b : Fin 4) (p : Fin 8192) (i : Fin 33792) (j : Fin 1536)
    (hi : i.val = b.val * 8192 + p.val) : cols768 z zc (ix2 i j) = z (ix3 b p ⟨768 + j.val, by omega⟩) :=
  (join1536_lat _ _ i j (by omega)).trans (lat768_at z b p ⟨i.val, by omega⟩ j hi)

/-- The context's rows of the 1536 columns from 768 on. -/
theorem cols768_ctx (z : FVec Ideal S4x8192x2560 .f32) (zc : FVec Ideal S4x256x2560 .f32) (b : Fin 4) (p : Fin 256) (i : Fin 33792) (j : Fin 1536)
    (hi : i.val = 32768 + b.val * 256 + p.val) : cols768 z zc (ix2 i j) = zc (ix3 b p ⟨768 + j.val, by omega⟩) :=
  (join1536_ctx _ _ i j (by omega)).trans (ctx768_at zc b p ⟨i.val - 32768, by omega⟩ j (by show i.val - 32768 = _; omega))

/-- The 256 columns from 2304 on of the latents' projected rows. -/
def lat2304 (z : FVec Ideal S4x8192x2560 .f32) : FVec Ideal S32768x256 .f32 :=
  shapeCast S32768x256 (extractStridedSlice S4x8192x256 ![0, 0, 2304] z slices_S4x8192x2560_S4x8192x256_0_0_2304 : FVec Ideal S4x8192x256 .f32) shapeCasts_S4x8192x256_S32768x256

/-- The 256 columns from 2304 on of the context's projected rows. -/
def ctx2304 (z : FVec Ideal S4x256x2560 .f32) : FVec Ideal S1024x256 .f32 :=
  shapeCast S1024x256 (extractStridedSlice S4x256x256 ![0, 0, 2304] z slices_S4x256x2560_S4x256x256_0_0_2304 : FVec Ideal S4x256x256 .f32) shapeCasts_S4x256x256_S1024x256

/-- The latents' rows followed by the context's, 256 columns of each. -/
def join256 (x : FVec Ideal S32768x256 .f32) (y : FVec Ideal S1024x256 .f32) : FVec Ideal S33792x256 .f32 :=
  concatenate S33792x256 0 [⟨S32768x256, x⟩, ⟨S1024x256, y⟩] concatenates_S32768x256_S1024x256_S33792x256_d0

/-- The 256 columns from 2304 on of all projected rows. -/
def cols2304 (z : FVec Ideal S4x8192x2560 .f32) (zc : FVec Ideal S4x256x2560 .f32) : FVec Ideal S33792x256 .f32 :=
  join256 (lat2304 z) (ctx2304 zc)

/-- An element of the latents' 256 columns from 2304 on. -/
theorem lat2304_at (z : FVec Ideal S4x8192x2560 .f32) (b : Fin 4) (p : Fin 8192) (i : Fin 32768) (j : Fin 256)
    (hi : i.val = b.val * 8192 + p.val) : lat2304 z (ix2 i j) = z (ix3 b p ⟨2304 + j.val, by omega⟩) := by
  have e1 : i.val / 8192 = b.val := by omega
  have e2 : i.val % 8192 = p.val := by omega
  pointwise [lat2304]
  simp only [e1, e2, Fin.eta]

/-- An element of the context's 256 columns from 2304 on. -/
theorem ctx2304_at (z : FVec Ideal S4x256x2560 .f32) (b : Fin 4) (p : Fin 256) (i : Fin 1024) (j : Fin 256)
    (hi : i.val = b.val * 256 + p.val) : ctx2304 z (ix2 i j) = z (ix3 b p ⟨2304 + j.val, by omega⟩) := by
  have e1 : i.val / 256 = b.val := by omega
  have e2 : i.val % 256 = p.val := by omega
  pointwise [ctx2304]
  simp only [e1, e2, Fin.eta]

/-- A latent's row of the joined array of 256 columns. -/
theorem join256_lat (x : FVec Ideal S32768x256 .f32) (y : FVec Ideal S1024x256 .f32) (i : Fin 33792) (d : Fin 256) (h : i.val < 32768) :
    join256 x y (ix2 i d) = x (ix2 ⟨i.val, h⟩ d) := by
  pointwise [join256]
  exact dif_pos h

/-- A context's row of the joined array of 256 columns. -/
theorem join256_ctx (x : FVec Ideal S32768x256 .f32) (y : FVec Ideal S1024x256 .f32) (i : Fin 33792) (d : Fin 256) (h : ¬ i.val < 32768) :
    join256 x y (ix2 i d) = y (ix2 ⟨i.val - 32768, by omega⟩ d) := by
  pointwise [join256]
  exact dif_neg h

/-- The latents' rows of the 256 columns from 2304 on. -/
theorem cols2304_lat (z : FVec Ideal S4x8192x2560 .f32) (zc : FVec Ideal S4x256x2560 .f32) (b : Fin 4) (p : Fin 8192) (i : Fin 33792) (j : Fin 256)
    (hi : i.val = b.val * 8192 + p.val) : cols2304 z zc (ix2 i j) = z (ix3 b p ⟨2304 + j.val, by omega⟩) :=
  (join256_lat _ _ i j (by omega)).trans (lat2304_at z b p ⟨i.val, by omega⟩ j hi)

/-- The context's rows of the 256 columns from 2304 on. -/
theorem cols2304_ctx (z : FVec Ideal S4x8192x2560 .f32) (zc : FVec Ideal S4x256x2560 .f32) (b : Fin 4) (p : Fin 256) (i : Fin 33792) (j : Fin 256)
    (hi : i.val = 32768 + b.val * 256 + p.val) : cols2304 z zc (ix2 i j) = zc (ix3 b p ⟨2304 + j.val, by omega⟩) :=
  (join256_ctx _ _ i j (by omega)).trans (ctx2304_at zc b p ⟨i.val - 32768, by omega⟩ j (by show i.val - 32768 = _; omega))

end Cert.Reference5Ideal.Proj

end
-- ==== Proof.Proj.Equation.lean ====
module

public import proofs.«01_k».proof.Proof.Proj.Block
public import proofs.«01_k».proof.Proof.Proj.RefAt

@[expose] public section

set_option maxRecDepth 16384

noncomputable section

open Idealize.ShloMosaic Idealize.ShloMosaic.TcCoe Idealize.SL.Sem
open Idealize.ShloMosaic.Pipeline (Dat)

namespace Cert.Kernel5Ideal.Proj

open Cert.Kernel5Ideal Cert.Kernel5Ideal.Gen

/-- A normalised and modulated element of a step's row. -/
def normK (xh : Vec Ideal S512x1024 .f32) (xg : Vec Ideal S1x1024 .f32) (xd : Vec Ideal S1x1x6144 .f32) (r : Fin 512) (k : Fin 1024) : EReal :=
  xh (ix2 r k) * Ideal.rsqrt (Ideal.div (∑ x, xh (ix2 r x) * xh (ix2 r x)) (Ideal.ofBits .f32 0x44800000#32) + Ideal.ofBits .f32 0x358637BD#32)
    * xg (ix2 0 k) * (Ideal.ofBits .f32 0x3F800000#32 + xd (ix3 0 0 ⟨1024 + k.val, by omega⟩)) + xd (ix3 0 0 ⟨k.val, by omega⟩)

/-- The normalised rows of a step. -/
theorem pay1_at (xd : Vec Ideal S1x1x6144 .f32) (xh : Vec Ideal S512x1024 .f32) (xg : Vec Ideal S1x1024 .f32) (r : Fin 512) (k : Fin 1024) :
    k0_pay1 (F := Ideal) xd xh xg (ix2 r k) = normK xh xg xd r k := by
  pointwise [k0_pay1, normK]

/-- A projected element of a step. -/
def rowK (xh : Vec Ideal S512x1024 .f32) (xg : Vec Ideal S1x1024 .f32) (xd : Vec Ideal S1x1x6144 .f32) (xw : Vec Ideal S1024x2560 .bf16) (r : Fin 512) (d : Fin 2560) : EReal :=
  ∑ k : Fin 1024, normK xh xg xd r k * xw (ix2 k d)

/-- The columns of the weight from 768 on. -/
theorem ld768 (xw : Vec Ideal S1024x2560 .bf16) (k : Fin 1024) (j : Fin 1536) :
    (View.ld (Val := Elt Ideal) (e' := .bf16) xw r0_3 : Vec Ideal S1024x1536 .bf16) (ix2 k j) = xw (ix2 k ⟨768 + j.val, by omega⟩) := by
  refine congrArg xw ?_
  funext a; apply Fin.ext
  match a with
  | ⟨0, _⟩ => show 0 + 1 * k.val = k.val; omega
  | ⟨1, _⟩ => show 768 + 1 * j.val = 768 + j.val; omega

/-- The columns of the weight from 2304 on. -/
theorem ld2304 (xw : Vec Ideal S1024x2560 .bf16) (k : Fin 1024) (j : Fin 256) :
    (View.ld (Val := Elt Ideal) (e' := .bf16) xw r0_5 : Vec Ideal S1024x256 .bf16) (ix2 k j) = xw (ix2 k ⟨2304 + j.val, by omega⟩) := by
  refine congrArg xw ?_
  funext a; apply Fin.ext
  match a with
  | ⟨0, _⟩ => show 0 + 1 * k.val = k.val; omega
  | ⟨1, _⟩ => show 2304 + 1 * j.val = 2304 + j.val; omega

/-- The first 768 columns of the weight. -/
theorem ld0 (xw : Vec Ideal S1024x2560 .bf16) (k : Fin 1024) (j : Fin 768) :
    (View.ld (Val := Elt Ideal) (e' := .bf16) xw r0_7 : Vec Ideal S1024x768 .bf16) (ix2 k j) = xw (ix2 k ⟨j.val, by omega⟩) := by
  refine congrArg xw ?_
  funext a; apply Fin.ext
  match a with
  | ⟨0, _⟩ => show 0 + 1 * k.val = k.val; omega
  | ⟨1, _⟩ => show 0 + 1 * j.val = j.val; omega

/-- The recurrence inputs of a step. -/
theorem pay2_at (xd : Vec Ideal S1x1x6144 .f32) (xh : Vec Ideal S512x1024 .f32) (xg : Vec Ideal S1x1024 .f32) (w : Vec Ideal S1024x1536 .bf16) (r : Fin 512) (j : Fin 1536) :
    k0_pay2 (F := Ideal) xd xh xg w (ix2 r j) = ∑ k : Fin 1024, k0_pay1 (F := Ideal) xd xh xg (ix2 r k) * w (ix2 k j) := by
  unfold k0_pay2
  generalize k0_pay1 (F := Ideal) xd xh xg = u
  pointwise []

/-- The low-rank inputs of a step. -/
theorem pay3_at (xd : Vec Ideal S1x1x6144 .f32) (xh : Vec Ideal S512x1024 .f32) (xg : Vec Ideal S1x1024 .f32) (w : Vec Ideal S1024x256 .bf16) (r : Fin 512) (j : Fin 256) :
    k0_pay3 (F := Ideal) xd xh xg w (ix2 r j) = ∑ k : Fin 1024, k0_pay1 (F := Ideal) xd xh xg (ix2 r k) * w (ix2 k j) := by
  unfold k0_pay3
  generalize k0_pay1 (F := Ideal) xd xh xg = u
  pointwise []

/-- The values of a step. -/
theorem pay11_at (u : FVec Ideal S512x1024 .bf16) (w : Vec Ideal S1024x768 .bf16) (r : Fin 512) (j : Fin 128) :
    k0_pay11 (F := Ideal) (k0_pay4 u w) (ix2 r j) = ∑ k : Fin 1024, u (ix2 r k) * w (ix2 k ⟨640 + j.val, by omega⟩) := by
  pointwise [k0_pay11, k0_pay4]

variable (m : (ℓ : Loc nD τ sig) → Buf (Elt Ideal) ℓ)

/-- A projected element of a grid point. -/
abbrev rowT (c : Dev nD) (t : Fin cfg0.N) (r : Fin 512) (d : Fin 2560) : EReal :=
  rowK (iblk m c 0 t) (iblk m c 1 t) (iblk m c 2 t) (iblk m c 3 t) r d

/-- The block of values that a step writes. -/
theorem out11_at (c : Dev nD) (t : Fin cfg0.N) (r : Fin 512) (j : Fin 128) : out11 m c t (ix2 r j) = rowT m c t r ⟨640 + j.val, by omega⟩ := by
  unfold out11 rowT
  generalize iblk m c 0 t = x0
  generalize iblk m c 1 t = x1
  generalize iblk m c 2 t = x2
  generalize iblk m c 3 t = x3
  generalize iblk m c 4 t = x4
  generalize iblk m c 5 t = x5
  generalize iblk m c 6 t = x6
  generalize iblk m c 7 t = x7
  generalize iblk m c 8 t = x8
  have e : out0_11 (F := Ideal) x0 x1 x2 x3 x4 x5 x6 x7 x8 = k0_pay11 (k0_pay4 (k0_pay1 x2 x0 x1) (View.ld x3 r0_7)) := by
    unfold_out out0_11
    frame_out
    rfl
  refine (congrFun e _).trans ((pay11_at _ _ r j).trans ?_)
  exact Finset.sum_congr rfl fun k _ => congr (congrArg _ (pay1_at x2 x0 x1 r k)) (ld0 x3 k ⟨640 + j.val, by omega⟩)

/-- The block of recurrence inputs that a step writes. -/
theorem out12_at (c : Dev nD) (t : Fin cfg0.N) (r : Fin 512) (j : Fin 1536) : out12 m c t (ix2 r j) = rowT m c t r ⟨768 + j.val, by omega⟩ := by
  unfold out12 rowT
  generalize iblk m c 0 t = x0
  generalize iblk m c 1 t = x1
  generalize iblk m c 2 t = x2
  generalize iblk m c 3 t = x3
  generalize iblk m c 4 t = x4
  generalize iblk m c 5 t = x5
  generalize iblk m c 6 t = x6
  generalize iblk m c 7 t = x7
  generalize iblk m c 8 t = x8
  have e : out0_12 (F := Ideal) x0 x1 x2 x3 x4 x5 x6 x7 x8 = k0_pay2 x2 x0 x1 (View.ld x3 r0_3) := by
    unfold_out out0_12
    frame_out
    rfl
  refine (congrFun e _).trans ((pay2_at _ _ _ _ r j).trans ?_)
  exact Finset.sum_congr rfl fun k _ => congr (congrArg _ (pay1_at x2 x0 x1 r k)) (ld768 x3 k j)

/-- The block of low-rank inputs that a step writes. -/
theorem out13_at (c : Dev nD) (t : Fin cfg0.N) (r : Fin 512) (j : Fin 256) : out13 m c t (ix2 r j) = rowT m c t r ⟨2304 + j.val, by omega⟩ := by
  unfold out13 rowT
  generalize iblk m c 0 t = x0
  generalize iblk m c 1 t = x1
  generalize iblk m c 2 t = x2
  generalize iblk m c 3 t = x3
  generalize iblk m c 4 t = x4
  generalize iblk m c 5 t = x5
  generalize iblk m c 6 t = x6
  generalize iblk m c 7 t = x7
  generalize iblk m c 8 t = x8
  have e : out0_13 (F := Ideal) x0 x1 x2 x3 x4 x5 x6 x7 x8 = k0_pay3 x2 x0 x1 (View.ld x3 r0_5) := by
    unfold_out out0_13
    frame_out
    rfl
  refine (congrFun e _).trans ((pay3_at _ _ _ _ r j).trans ?_)
  exact Finset.sum_congr rfl fun k _ => congr (congrArg _ (pay1_at x2 x0 x1 r k)) (ld2304 x3 k j)

open Cert.Reference5Ideal.Proj in
/-- A projected element of a grid point of the latents is the reference's. -/
theorem rowT_lat (c : Dev nD) (t : Fin cfg0.N) (r : Fin 512) (d : Fin 2560) (b : Fin 4) (p : Fin 8192) (i : Fin 33792)
    (hi : i.val = t.val * 512 + r.val) (hj : i.val = b.val * 8192 + p.val) (hb : b.val = t.val / 16) :
    rowT m c t r d = projL (hArg m c) (nArg m c) (dArg m c) (wArg m c) (ix3 b p d) := by
  have eg : ∀ k : Fin 1024, (iblk m c 1 t : FVec Ideal S1x1024 .f32) (ix2 0 k) = nArg m c (ix1 k) := fun k => (blk_g m c t 0 k).trans (host_n m c k)
  have ew : ∀ k : Fin 1024, (iblk m c 3 t : FVec Ideal S1024x2560 .bf16) (ix2 k d) = wArg m c (ix2 k d) := fun k => (blk_w m c t k d).trans (host_w m c k d)
  have eh : ∀ k : Fin 1024, (iblk m c 0 t : FVec Ideal S512x1024 .f32) (ix2 r k) = hArg m c (ix3 b p k) := fun k =>
    (blk_h m c t r k i hi).trans ((congrFun (host_h m c) _).trans ((Cert.Reference3Ideal.Ffn.joinC_lat _ _ i k (by omega)).trans
      (rowsL_at _ b p ⟨i.val, by omega⟩ k hj)))
  have ed : ∀ q : Fin 6144, (iblk m c 2 t : FVec Ideal S1x1x6144 .f32) (ix3 0 0 q) = dArg m c (ix2 b q) := fun q =>
    (blk_d m c t 0 0 q ⟨8 + b.val, by omega⟩ (by show 8 + b.val = 8 + min (t.val / 16) 4; rw [min_eq_left (by omega), hb])).trans
      ((congrFun (host_d m c) _).trans (modOf_lat _ _ b q))
  rw [projL_at]
  unfold rowT rowK normK
  refine Finset.sum_congr rfl fun k _ => ?_
  rw [Cert.Reference4Ideal.Inp.normL_at, Cert.Reference2Ideal.Ffn.scaleR_at]
  simp only [eh]
  rw [ed, ed, eg, ew]

open Cert.Reference5Ideal.Proj in
/-- A projected element of a grid point of the context is the reference's. -/
theorem rowT_ctx (c : Dev nD) (t : Fin cfg0.N) (r : Fin 512) (d : Fin 2560) (b : Fin 4) (p : Fin 256) (i : Fin 33792)
    (hi : i.val = t.val * 512 + r.val) (hj : i.val = 32768 + b.val * 256 + p.val) (ht : ¬ t.val < 64) :
    rowT m c t r d = projX (gArg m c) (nArg m c) (eArg m c) (wArg m c) (ix3 b p d) := by
  have eg : ∀ k : Fin 1024, (iblk m c 1 t : FVec Ideal S1x1024 .f32) (ix2 0 k) = nArg m c (ix1 k) := fun k => (blk_g m c t 0 k).trans (host_n m c k)
  have ew : ∀ k : Fin 1024, (iblk m c 3 t : FVec Ideal S1024x2560 .bf16) (ix2 k d) = wArg m c (ix2 k d) := fun k => (blk_w m c t k d).trans (host_w m c k d)
  have eh : ∀ k : Fin 1024, (iblk m c 0 t : FVec Ideal S512x1024 .f32) (ix2 r k) = gArg m c (ix3 b p k) := fun k =>
    (blk_h m c t r k i hi).trans ((congrFun (host_h m c) _).trans ((Cert.Reference3Ideal.Ffn.joinC_ctx _ _ i k (by omega)).trans
      (rowsX_at _ b p ⟨i.val - 32768, by omega⟩ k (by show i.val - 32768 = _; omega))))
  have ed : ∀ q : Fin 6144, (iblk m c 2 t : FVec Ideal S1x1x6144 .f32) (ix3 0 0 q) = eArg m c (ix1 q) := fun q =>
    (blk_d m c t 0 0 q 12 (by show 12 = 8 + min (t.val / 16) 4; rw [min_eq_right (by omega)])).trans
      ((congrFun (host_d m c) _).trans (modOf_ctx _ _ q))
  rw [projX_at]
  unfold rowT rowK normK
  refine Finset.sum_congr rfl fun k _ => ?_
  rw [Cert.Reference4Ideal.Inp.normX_at, Cert.Reference3Ideal.Ffn.scaleC_at]
  simp only [eh]
  rw [ed, ed, eg, ew]

open Cert.Reference5Ideal.Proj in
/-- The block of the values written at a step holds the reference's rows. -/
theorem equation11 (c : Dev nD) (t : Fin cfg0.N) (r : Fin 512) (j : Fin 128) (i : Fin 33792) (hi : i.val = t.val * 512 + r.val) :
    out11 m c t (ix2 r j) = cols640 (projL (hArg m c) (nArg m c) (dArg m c) (wArg m c)) (projX (gArg m c) (nArg m c) (eArg m c) (wArg m c)) (ix2 i j) := by
  have hN : cfg0.N = 66 := by decide
  have ht : t.val < 66 := hN ▸ t.isLt
  have hr := r.isLt
  refine (out11_at m c t r j).trans ?_
  by_cases h1 : t.val < 64
  · obtain ⟨b, hb⟩ : ∃ b : Fin 4, b.val = t.val / 16 := ⟨⟨t.val / 16, by omega⟩, rfl⟩
    obtain ⟨p, hp⟩ : ∃ p : Fin 8192, p.val = t.val % 16 * 512 + r.val := ⟨⟨t.val % 16 * 512 + r.val, by omega⟩, rfl⟩
    have hj : i.val = b.val * 8192 + p.val := by omega
    exact (rowT_lat m c t r _ b p i hi hj hb).trans (cols640_lat _ _ b p i j hj).symm
  · obtain ⟨b, hb⟩ : ∃ b : Fin 4, b.val = ((t.val - 64) * 512 + r.val) / 256 := ⟨⟨((t.val - 64) * 512 + r.val) / 256, by omega⟩, rfl⟩
    obtain ⟨p, hp⟩ : ∃ p : Fin 256, p.val = ((t.val - 64) * 512 + r.val) % 256 := ⟨⟨((t.val - 64) * 512 + r.val) % 256, by omega⟩, rfl⟩
    have hj : i.val = 32768 + b.val * 256 + p.val := by omega
    exact (rowT_ctx m c t r _ b p i hi hj h1).trans (cols640_ctx _ _ b p i j hj).symm

open Cert.Reference5Ideal.Proj in
/-- The block of the recurrence inputs written at a step holds the reference's rows. -/
theorem equation12 (c : Dev nD) (t : Fin cfg0.N) (r : Fin 512) (j : Fin 1536) (i : Fin 33792) (hi : i.val = t.val * 512 + r.val) :
    out12 m c t (ix2 r j) = cols768 (projL (hArg m c) (nArg m c) (dArg m c) (wArg m c)) (projX (gArg m c) (nArg m c) (eArg m c) (wArg m c)) (ix2 i j) := by
  have hN : cfg0.N = 66 := by decide
  have ht : t.val < 66 := hN ▸ t.isLt
  have hr := r.isLt
  refine (out12_at m c t r j).trans ?_
  by_cases h1 : t.val < 64
  · obtain ⟨b, hb⟩ : ∃ b : Fin 4, b.val = t.val / 16 := ⟨⟨t.val / 16, by omega⟩, rfl⟩
    obtain ⟨p, hp⟩ : ∃ p : Fin 8192, p.val = t.val % 16 * 512 + r.val := ⟨⟨t.val % 16 * 512 + r.val, by omega⟩, rfl⟩
    have hj : i.val = b.val * 8192 + p.val := by omega
    exact (rowT_lat m c t r _ b p i hi hj hb).trans (cols768_lat _ _ b p i j hj).symm
  · obtain ⟨b, hb⟩ : ∃ b : Fin 4, b.val = ((t.val - 64) * 512 + r.val) / 256 := ⟨⟨((t.val - 64) * 512 + r.val) / 256, by omega⟩, rfl⟩
    obtain ⟨p, hp⟩ : ∃ p : Fin 256, p.val = ((t.val - 64) * 512 + r.val) % 256 := ⟨⟨((t.val - 64) * 512 + r.val) % 256, by omega⟩, rfl⟩
    have hj : i.val = 32768 + b.val * 256 + p.val := by omega
    exact (rowT_ctx m c t r _ b p i hi hj h1).trans (cols768_ctx _ _ b p i j hj).symm

open Cert.Reference5Ideal.Proj in
/-- The block of the low-rank inputs written at a step holds the reference's rows. -/
theorem equation13 (c : Dev nD) (t : Fin cfg0.N) (r : Fin 512) (j : Fin 256) (i : Fin 33792) (hi : i.val = t.val * 512 + r.val) :
    out13 m c t (ix2 r j) = cols2304 (projL (hArg m c) (nArg m c) (dArg m c) (wArg m c)) (projX (gArg m c) (nArg m c) (eArg m c) (wArg m c)) (ix2 i j) := by
  have hN : cfg0.N = 66 := by decide
  have ht : t.val < 66 := hN ▸ t.isLt
  have hr := r.isLt
  refine (out13_at m c t r j).trans ?_
  by_cases h1 : t.val < 64
  · obtain ⟨b, hb⟩ : ∃ b : Fin 4, b.val = t.val / 16 := ⟨⟨t.val / 16, by omega⟩, rfl⟩
    obtain ⟨p, hp⟩ : ∃ p : Fin 8192, p.val = t.val % 16 * 512 + r.val := ⟨⟨t.val % 16 * 512 + r.val, by omega⟩, rfl⟩
    have hj : i.val = b.val * 8192 + p.val := by omega
    exact (rowT_lat m c t r _ b p i hi hj hb).trans (cols2304_lat _ _ b p i j hj).symm
  · obtain ⟨b, hb⟩ : ∃ b : Fin 4, b.val = ((t.val - 64) * 512 + r.val) / 256 := ⟨⟨((t.val - 64) * 512 + r.val) / 256, by omega⟩, rfl⟩
    obtain ⟨p, hp⟩ : ∃ p : Fin 256, p.val = ((t.val - 64) * 512 + r.val) % 256 := ⟨⟨((t.val - 64) * 512 + r.val) % 256, by omega⟩, rfl⟩
    have hj : i.val = 32768 + b.val * 256 + p.val := by omega
    exact (rowT_ctx m c t r _ b p i hi hj h1).trans (cols2304_ctx _ _ b p i j hj).symm

end Cert.Kernel5Ideal.Proj

end
-- ==== Proof.Shared.Finite.lean ====
module

public import proofs.«01_k».proof.Defs
public import proofs.«01_k».proof.Proof.Gen.Pre_finite
public import proofs.«01_k».proof.Proof.Gen.Pre_finite2
public import proofs.«01_k».proof.Proof.Gen.Pre_finite3
public import Idealize.ShloMosaic.Lib.ReduceAll
public import Idealize.ShloMosaic.Lib.WordCmp
public import Idealize.ShloMosaic.PureOps.Ideal.Laws
public import Idealize.ShloMosaic.Lib.Pointwise

@[expose] public section

open Idealize.ShloMosaic Idealize.SL.Sem

namespace Finite

/-- An extended real whose magnitude is below plus infinity is a number. -/
theorem real_of_abs (x : EReal) (h : Ideal.cmp .olt (max x (-x)) (Ideal.ofBits .f32 0x7F800000#32) = 1#1) : ∃ y : ℝ, x = y := by
  have e : Ideal.ofBits .f32 0x7F800000#32 = ⊤ := by simp [Ideal.ofBits, Ideal.ieee]
  rw [e] at h
  induction x with
  | bot => exact absurd h (by simp [Ideal.cmp])
  | top => exact absurd h (by simp [Ideal.cmp])
  | coe y => exact ⟨y, rfl⟩

variable {s u : Shape} {axes : List (Fin s.rank)}

/-- If every element's magnitude is below plus infinity, every element is a number. -/
theorem real_of_all [Subsingleton u.Idx] (x : FVec Ideal s .f32) (y : FVec Ideal s .f32) (init : u.Idx → BitVec 1) (h : s.ReducesTo axes u) (hu : 0 < u.numel) (j : u.Idx)
    (hy : ∀ i, y i = Ideal.ofBits .f32 0x7F800000#32)
    (e : Host.reduce IntOp.andi (cmpf .olt (Host.absf x) y) init h hu j = 1#1) (i : s.Idx) : ∃ r : ℝ, x i = r := by
  have h1 := Host.reduce_andi_all (cmpf .olt (Host.absf x) y) init h hu j e i
  apply real_of_abs
  rw [← hy i]
  exact h1

instance : Subsingleton Cert.Pre_finite.S_.Idx := ⟨fun a b => funext fun k => k.elim0⟩

instance : Subsingleton Cert.Pre_finite2.S_.Idx := ⟨fun a b => funext fun k => k.elim0⟩

instance : Subsingleton Cert.Pre_finite3.S_.Idx := ⟨fun a b => funext fun k => k.elim0⟩

/-- The attention's precondition, read back: every element of every argument is a number. -/
theorem attention (q : FVec Ideal Cert.Pre_finite.S4x8192x8x64 .f32) (k v : FVec Ideal Cert.Pre_finite.S4x8192x2x64 .f32)
    (kc vc : FVec Ideal Cert.Pre_finite.S4x256x2x64 .f32) (sink : FVec Ideal Cert.Pre_finite.S8 .f32)
    (h : Cert.Pre_finite.fn (F := Ideal) q k v kc vc sink = fun _ => 1#1) :
    (∀ i, ∃ r : ℝ, q i = r) ∧ (∀ i, ∃ r : ℝ, k i = r) ∧ (∀ i, ∃ r : ℝ, v i = r) ∧ (∀ i, ∃ r : ℝ, kc i = r)
      ∧ (∀ i, ∃ r : ℝ, vc i = r) ∧ (∀ i, ∃ r : ℝ, sink i = r) := by
  have e := congrFun h (fun k => k.elim0)
  unfold Cert.Pre_finite.fn Cert.Pre_finite.fn_part1 at e
  have at_ : ∀ (x y : IVec Cert.Pre_finite.S_ 1) (i : Cert.Pre_finite.S_.Idx), andi x y i = IntOp.andi (x i) (y i) := fun _ _ _ => rfl
  simp only [at_, IntOp.andi_eq_one] at e
  obtain ⟨⟨⟨⟨⟨e0, e1⟩, e2⟩, e3⟩, e4⟩, e5⟩ := e
  exact ⟨fun i => real_of_all _ _ _ _ _ _ (fun _ => rfl) e0 i, fun i => real_of_all _ _ _ _ _ _ (fun _ => rfl) e1 i,
    fun i => real_of_all _ _ _ _ _ _ (fun _ => rfl) e2 i, fun i => real_of_all _ _ _ _ _ _ (fun _ => rfl) e3 i,
    fun i => real_of_all _ _ _ _ _ _ (fun _ => rfl) e4 i, fun i => real_of_all _ _ _ _ _ _ (fun _ => rfl) e5 i⟩

/-- The feed-forward part's precondition, read back: every element of every argument but the last weight is a number. -/
theorem feedForward (h : FVec Ideal Cert.Pre_finite2.S4x8192x1024 .f32) (g : FVec Ideal Cert.Pre_finite2.S1024 .f32)
    (md : FVec Ideal Cert.Pre_finite2.S4x6144 .f32) (wu : FVec Ideal Cert.Pre_finite2.S1024x5632 .f32) (cw : FVec Ideal Cert.Pre_finite2.S3x5632 .f32)
    (wd : FVec Ideal Cert.Pre_finite2.S2816x1024 .f32)
    (e : Cert.Pre_finite2.fn (F := Ideal) h g md wu cw wd = fun _ => 1#1) :
    (∀ i, ∃ r : ℝ, h i = r) ∧ (∀ i, ∃ r : ℝ, g i = r) ∧ (∀ i, ∃ r : ℝ, md i = r) ∧ (∀ i, ∃ r : ℝ, wu i = r)
      ∧ (∀ i, ∃ r : ℝ, cw i = r) := by
  have e := congrFun e (fun k => k.elim0)
  unfold Cert.Pre_finite2.fn Cert.Pre_finite2.fn_part1 at e
  have at_ : ∀ (x y : IVec Cert.Pre_finite2.S_ 1) (i : Cert.Pre_finite2.S_.Idx), andi x y i = IntOp.andi (x i) (y i) := fun _ _ _ => rfl
  simp only [at_, IntOp.andi_eq_one] at e
  obtain ⟨⟨⟨⟨e0, e1⟩, e2⟩, e3⟩, e4⟩ := e
  exact ⟨fun i => real_of_all _ _ _ _ _ _ (fun _ => rfl) e0 i, fun i => real_of_all _ _ _ _ _ _ (fun _ => rfl) e1 i,
    fun i => real_of_all _ _ _ _ _ _ (fun _ => rfl) e2 i, fun i => real_of_all _ _ _ _ _ _ (fun _ => rfl) e3 i,
    fun i => real_of_all _ _ _ _ _ _ (fun _ => rfl) e4 i⟩

/-- The precondition of the first layer's feed-forward part, read back: every element of every argument but the last weight is a number. -/
theorem feedForward3 (h : FVec Ideal Cert.Pre_finite3.S4x8192x1024 .f32) (hc : FVec Ideal Cert.Pre_finite3.S4x256x1024 .f32) (g : FVec Ideal Cert.Pre_finite3.S1024 .f32)
    (md : FVec Ideal Cert.Pre_finite3.S4x6144 .f32) (mc : FVec Ideal Cert.Pre_finite3.S6144 .f32) (wu : FVec Ideal Cert.Pre_finite3.S1024x5632 .f32) (cw : FVec Ideal Cert.Pre_finite3.S3x5632 .f32)
    (wd : FVec Ideal Cert.Pre_finite3.S2816x1024 .f32)
    (e : Cert.Pre_finite3.fn (F := Ideal) h hc g md mc wu cw wd = fun _ => 1#1) :
    (∀ i, ∃ r : ℝ, h i = r) ∧ (∀ i, ∃ r : ℝ, hc i = r) ∧ (∀ i, ∃ r : ℝ, g i = r) ∧ (∀ i, ∃ r : ℝ, md i = r) ∧ (∀ i, ∃ r : ℝ, mc i = r) ∧ (∀ i, ∃ r : ℝ, wu i = r)
      ∧ (∀ i, ∃ r : ℝ, cw i = r) := by
  have e := congrFun e (fun k => k.elim0)
  unfold Cert.Pre_finite3.fn Cert.Pre_finite3.fn_part1 at e
  have at_ : ∀ (x y : IVec Cert.Pre_finite3.S_ 1) (i : Cert.Pre_finite3.S_.Idx), andi x y i = IntOp.andi (x i) (y i) := fun _ _ _ => rfl
  simp only [at_, IntOp.andi_eq_one] at e
  obtain ⟨⟨⟨⟨⟨⟨e0, e1⟩, e2⟩, e3⟩, e4⟩, e5⟩, e6⟩ := e
  exact ⟨fun i => real_of_all _ _ _ _ _ _ (fun _ => rfl) e0 i, fun i => real_of_all _ _ _ _ _ _ (fun _ => rfl) e1 i,
    fun i => real_of_all _ _ _ _ _ _ (fun _ => rfl) e2 i, fun i => real_of_all _ _ _ _ _ _ (fun _ => rfl) e3 i,
    fun i => real_of_all _ _ _ _ _ _ (fun _ => rfl) e4 i, fun i => real_of_all _ _ _ _ _ _ (fun _ => rfl) e5 i,
    fun i => real_of_all _ _ _ _ _ _ (fun _ => rfl) e6 i⟩

end Finite

end
-- ==== Proof.lean ====
/- The claims about the window attention (`Kernel`) and the convolutional feed-forward part, as the second layer calls it (`Kernel2`) and as the first does (`Kernel3`), the first layer's input projection (`Kernel4`), and the second layer's input projection (`Kernel5`). -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.KernelIdeal.Value
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Kernel2Ideal.Value
public import proofs.«01_k».proof.Proof.Gen.Pre_finite
public import proofs.«01_k».proof.Proof.Gen.Pre_finite2
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Kernel3Ideal.Value
public import proofs.«01_k».proof.Proof.Gen.Pre_finite3
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Att.Array
public import proofs.«01_k».proof.Proof.Att.RefTerm
public import proofs.«01_k».proof.Proof.Ffn.Equation
public import proofs.«01_k».proof.Proof.Ffn.RefTerm
public import proofs.«01_k».proof.Proof.First.Equation
public import proofs.«01_k».proof.Proof.First.CtxTerm
public import proofs.«01_k».proof.Proof.First.RefRun
public import proofs.«01_k».proof.Proof.Inp.Equation
public import proofs.«01_k».proof.Proof.Proj.Equation
public import proofs.«01_k».proof.Proof.Shared.Finite
public import Idealize.ShloMosaic.Lib.Claim
public import Idealize.ShloMosaic.Adequacy
public import Idealize.ShloMosaic.Init

@[expose] public section

noncomputable section

namespace Cert.Proof

open Idealize.ShloMosaic Idealize.SL.Sem Cert.Kernel

/-- The attention's reference ends with its arguments unchanged and every counter at zero. -/
theorem frame_reference : Cert.quiescent_ReferenceIdeal := fun m g _ =>
  (θ_run _ _ _).mono (fun r h => ⟨fun c => (h c).2, sem_eq_zero_of_no_sems rfl r.2⟩)
    (Cert.ReferenceIdeal.Value.run m g)

/-- The feed-forward part's reference ends with its arguments unchanged and every counter at zero. -/
theorem frame_reference2 : Cert.quiescent_Reference2Ideal := fun m g _ =>
  (θ_run _ _ _).mono (fun r h => ⟨fun c => (h c).2, sem_eq_zero_of_no_sems rfl r.2⟩)
    (Cert.Reference2Ideal.Value.run m g)

/-- The reference of the first layer's feed-forward part ends with its arguments unchanged and every counter at zero. -/
theorem frame_reference3 : Cert.quiescent_Reference3Ideal := fun m g _ =>
  (θ_run _ _ _).mono (fun r h => ⟨fun c => (h c).2, sem_eq_zero_of_no_sems rfl r.2⟩)
    (Cert.Reference3Ideal.Value.run m g)

/-- The input projection's reference ends with its arguments unchanged and every counter at zero. -/
theorem frame_reference4 : Cert.quiescent_Reference4Ideal := fun m g _ =>
  (θ_run _ _ _).mono (fun r h => ⟨fun c => (h c).2, sem_eq_zero_of_no_sems rfl r.2⟩)
    (Cert.Reference4Ideal.Value.run m g)

/-- The reference of the second layer's input projection ends with its arguments unchanged and every counter at zero. -/
theorem frame_reference5 : Cert.quiescent_Reference5Ideal := fun m g _ =>
  (θ_run _ _ _).mono (fun r h => ⟨fun c => (h c).2.2.2, sem_eq_zero_of_no_sems rfl r.2⟩)
    (Cert.Reference5Ideal.Value.run m g)

/-- The attention's mask constant, -1e30, is named, and the ideal program reads it as minus infinity. -/
theorem preserves : Cert.preserves_Kernel_KernelIdeal :=
  IdealRules.named_const.statement Cert.KernelIdeal.κ "mask" .f32 0xF149F2CA#32 ⊥ rfl

/-- On finite arguments the idealized attention and its reference end with the same array. -/
theorem algebraic : Cert.algebraic_KernelIdeal_ReferenceIdeal_pre_finite := fun m g m' g' hpre hargs => by
  refine ⟨fun c => (Cert.KernelIdeal.Gen.dats m 0 c).arrAt 11 _, Cert.KernelIdeal.Value.run_blocks m g, ?_⟩
  refine (θ_run _ _ _).mono (fun r h c => ⟨(h c).1.trans ?_, (h c).2⟩) (Cert.ReferenceIdeal.Value.run m' g')
  obtain ⟨rq, rk, rv, rkc, rvc, rs⟩ := Finite.attention _ _ _ _ _ _ (hpre c)
  obtain ⟨eq, ek, ev, ekc, evc, es⟩ := hargs c
  refine (Cert.ReferenceIdeal.Att.result_eq m' c).trans ?_
  refine (Cert.KernelIdeal.Att.array_of_blocks m c _ fun t r j i hi =>
    Cert.KernelIdeal.Att.equation m c _ _ _ _ _ _ eq.symm ek.symm ev.symm ekc.symm evc.symm es.symm
      (by rw [eq]; exact rq) (by rw [ek]; exact rk) (by rw [ev]; exact rv) (by rw [ekc]; exact rkc) (by rw [evc]; exact rvc) (by rw [es]; exact rs) t r j i hi).symm

/-- Where every argument but the last weight is finite, the feed-forward part's ideal program and its reference end with the same array. -/
theorem algebraic2 : Cert.algebraic_Kernel2Ideal_Reference2Ideal_pre_finite2 := fun m g m' g' hpre hargs => by
  refine ⟨fun c => (Cert.Kernel2Ideal.Gen.dats m 0 c).arrAt 8 _, Cert.Kernel2Ideal.Value.run_blocks m g, ?_⟩
  refine (θ_run _ _ _).mono (fun r h c => ⟨(h c).1.trans ?_, (h c).2⟩) (Cert.Reference2Ideal.Value.run m' g')
  obtain ⟨rh, rg, rm, ru, rc⟩ := Finite.feedForward _ _ _ _ _ _ (hpre c)
  obtain ⟨eh, eg, em, eu, ec, ed⟩ := hargs c
  refine (Cert.Reference2Ideal.Ffn.result_eq m' c).trans ?_
  refine (Cert.Kernel2Ideal.Ffn.array_of_blocks m c _ fun t r j i hi =>
    Cert.Kernel2Ideal.Ffn.equation m c _ _ _ _ _ _ eh.symm eg.symm em.symm eu.symm ec.symm ed.symm
      (by rw [eh]; exact rh) (by rw [eg]; exact rg) (by rw [em]; exact rm) (by rw [eu]; exact ru) (by rw [ec]; exact rc) t r j i hi).symm

/-- Where every argument but the last weight is finite, the ideal program of the first layer's feed-forward part and its reference end with the same array. -/
theorem algebraic3 : Cert.algebraic_Kernel3Ideal_Reference3Ideal_pre_finite3 := fun m g m' g' hpre hargs => by
  refine ⟨fun c => (Cert.Kernel3Ideal.Gen.dats m 0 c).arrAt 8 _, Cert.Kernel3Ideal.Value.run_blocks m g, ?_⟩
  refine (θ_run _ _ _).mono (fun r h c => ⟨(h c).1.trans ?_, (h c).2⟩) (Cert.Reference3Ideal.Value.run m' g')
  obtain ⟨rh, rhc, rg, rm, rmc, ru, rc⟩ := Finite.feedForward3 _ _ _ _ _ _ _ _ (hpre c)
  obtain ⟨eh, ehc, eg, em, emc, eu, ec, ed⟩ := hargs c
  refine (Cert.Reference3Ideal.Ffn.result_eq m' c).trans ?_
  refine (Cert.Kernel3Ideal.Ffn.array_of_blocks m c _ fun t r j i hi =>
    Cert.Kernel3Ideal.Ffn.equation m c _ _ _ _ _ _ _ _ eh.symm ehc.symm eg.symm em.symm emc.symm eu.symm ec.symm ed.symm
      (by rw [eh]; exact rh) (by rw [ehc]; exact rhc) (by rw [eg]; exact rg) (by rw [em]; exact rm) (by rw [emc]; exact rmc) (by rw [eu]; exact ru) (by rw [ec]; exact rc) t r j i hi).symm

/-- On all arguments the ideal program of the first layer's input projection and its reference end with the same array. -/
theorem algebraic4 : Cert.algebraic_Kernel4Ideal_Reference4Ideal := fun m g m' g' _ hargs => by
  refine ⟨fun c => (Cert.Kernel4Ideal.Gen.dats m 0 c).arrAt 5 _, Cert.Kernel4Ideal.Value.run_blocks m g, ?_⟩
  refine (θ_run _ _ _).mono (fun r h c => ⟨(h c).1.trans ?_, (h c).2⟩) (Cert.Reference4Ideal.Value.run m' g')
  obtain ⟨eh, ehc, eg, em, emc, ew⟩ := hargs c
  rw [eh, ehc, eg, em, emc, ew]
  exact (Cert.Kernel4Ideal.Inp.array_of_blocks m c _ (Cert.Kernel4Ideal.Inp.equation m c)).symm

/-- On all arguments the second layer's input projection and its reference end with the same values, recurrence inputs and low-rank inputs. -/
theorem algebraic5 : Cert.algebraic_Kernel5Ideal_Reference5Ideal := fun m g m' g' _ hargs => by
  refine ⟨fun c => (Cert.Kernel5Ideal.Gen.dats m 0 c).arrAt 11 _, fun c => (Cert.Kernel5Ideal.Gen.dats m 0 c).arrAt 12 _, fun c => (Cert.Kernel5Ideal.Gen.dats m 0 c).arrAt 13 _,
    (θ_run _ _ _).mono (fun r h c => (h c).2.2) (Cert.Kernel5Ideal.Value.run_blocks m g), ?_⟩
  refine (θ_run _ _ _).mono (fun r h c => ⟨(h c).1.trans ?_, (h c).2.1.trans ?_, (h c).2.2.1.trans ?_, (h c).2.2.2⟩) (Cert.Reference5Ideal.Value.run m' g')
  all_goals obtain ⟨eh, ehc, eg, em, emc, ew, -, -⟩ := hargs c
  all_goals rw [eh, ehc, eg, em, emc, ew]
  · exact (Cert.Kernel5Ideal.Proj.array11_of_blocks m c _ (Cert.Kernel5Ideal.Proj.equation11 m c)).symm
  · exact (Cert.Kernel5Ideal.Proj.array12_of_blocks m c _ (Cert.Kernel5Ideal.Proj.equation12 m c)).symm
  · exact (Cert.Kernel5Ideal.Proj.array13_of_blocks m c _ (Cert.Kernel5Ideal.Proj.equation13 m c)).symm

/-- Every claim of the certificate. -/
theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Pre_finite.Gen.facts, Cert.Pre_finite2.Gen.facts, Cert.Pre_finite3.Gen.facts,
  fun m ρ _ => Cert.Kernel.Gen.frame m ρ,
  fun m ρ _ => Cert.KernelIdeal.Gen.frame m ρ,
  fun m ρ _ => Cert.KernelIdeal.Gen.frame m ρ,
  frame_reference,
  fun m ρ _ => frame_reference m ρ trivial,
  fun m ρ _ => Cert.Kernel2.Gen.frame m ρ,
  fun m ρ _ => Cert.Kernel2Ideal.Gen.frame m ρ,
  fun m ρ _ => Cert.Kernel2Ideal.Gen.frame m ρ,
  frame_reference2,
  fun m ρ _ => frame_reference2 m ρ trivial,
  fun m ρ _ => Cert.Kernel3.Gen.frame m ρ,
  fun m ρ _ => Cert.Kernel3Ideal.Gen.frame m ρ,
  fun m ρ _ => Cert.Kernel3Ideal.Gen.frame m ρ,
  frame_reference3,
  fun m ρ _ => frame_reference3 m ρ trivial,
  fun m ρ _ => Cert.Kernel4.Gen.frame m ρ,
  fun m ρ _ => Cert.Kernel4Ideal.Gen.frame m ρ,
  frame_reference4,
  fun m ρ _ => Cert.Kernel5.Gen.frame m ρ,
  fun m ρ _ => Cert.Kernel5Ideal.Gen.frame m ρ,
  frame_reference5,
  preserves,
  algebraic,
  trivial,
  algebraic2,
  trivial,
  algebraic3,
  trivial,
  algebraic4,
  trivial,
  algebraic5⟩

end Cert.Proof

end
